-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qkv_finite [hPre_qkv_finite : Cert.Pre_qkv_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qkv_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qkv_finite [hPre_qkv_finite : Cert.Pre_qkv_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qkv_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_qkv_finite [hKernelIdeal : Cert.KernelIdeal.Facts] [hPre_qkv_finite : Cert.Pre_qkv_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qkv_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_qkv_finite [hReferenceIdeal : Cert.ReferenceIdeal.Facts] [hPre_qkv_finite : Cert.Pre_qkv_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qkv_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal_pre_qkv_finite [hKernelIdeal : Cert.KernelIdeal.Facts] [hReferenceIdeal : Cert.ReferenceIdeal.Facts] [hPre_qkv_finite : Cert.Pre_qkv_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qkv_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)) (v3 : (c : Dev Cert.Kernel3Ideal.nD) → Buf (Elt Ideal) ((c.tc : Thread Cert.Kernel3Ideal.nD Cert.Kernel3Ideal.τ).loc Cert.Kernel3Ideal.main_v17_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_v17_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v235) = v0 c
          ∧ r.2.mem ((c.tc : Thread Cert.Reference3Ideal.nD Cert.Reference3Ideal.τ).loc Cert.Reference3Ideal.main_v236) = v1 c
          ∧ r.2.mem ((c.tc : Thread Cert.Reference3Ideal.nD Cert.Reference3Ideal.τ).loc Cert.Reference3Ideal.main_v234) = v2 c
          ∧ r.2.mem ((c.tc : Thread Cert.Reference3Ideal.nD Cert.Reference3Ideal.τ).loc Cert.Reference3Ideal.main_v238) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_qkv_finite : Cert.Pre_qkv_finite.Facts),
    quiescent_Kernel (hKernel := hKernel)
    ∧ quiescent_KernelIdeal (hKernelIdeal := hKernelIdeal)
    ∧ quiescent_KernelIdeal_pre_qkv_finite (hKernelIdeal := hKernelIdeal) (hPre_qkv_finite := hPre_qkv_finite)
    ∧ quiescent_ReferenceIdeal (hReferenceIdeal := hReferenceIdeal)
    ∧ quiescent_ReferenceIdeal_pre_qkv_finite (hReferenceIdeal := hReferenceIdeal) (hPre_qkv_finite := hPre_qkv_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_qkv_finite (hKernelIdeal := hKernelIdeal) (hReferenceIdeal := hReferenceIdeal) (hPre_qkv_finite := hPre_qkv_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_qkv_finite.lean ====
abbrev S4x4352x2048 : Shape := ⟨3, ![4, 4352, 2048]⟩
abbrev S1x2x4 : Shape := ⟨3, ![1, 2, 4]⟩
abbrev S1x128 : Shape := ⟨2, ![1, 128]⟩
abbrev S4x4352x1536 : Shape := ⟨3, ![4, 4352, 1536]⟩
abbrev S_ : Shape := ⟨0, ![]⟩

class Facts : Prop where
  slices_S4x4352x2048_S4x4352x1536_0_0_0 : S4x4352x2048.Slices ![0, 0, 0] S4x4352x1536
  bitsLt_bf16_f32 : FTy.bits .bf16 < FTy.bits .f32
  bcast_S_S4x4352x1536 : S_.BroadcastsInDim S4x4352x1536 (![] : Fin 0 → Fin S4x4352x1536.rank)

variable [Facts]

def fn {F : FTy → Type} [FloatOps F] (main_arg0 : FVec F S4x4352x2048 .bf16) (main_arg1 : FVec F S1x2x4 .f32) (main_arg2 : FVec F S1x128 .f32) : IVec S4x4352x1536 1 :=
  let main_v0 : FVec F S4x4352x1536 .bf16 := (extractStridedSlice S4x4352x1536 ![0, 0, 0] · slices_S4x4352x2048_S4x4352x1536_0_0_0) main_arg0
  let main_v1 : FVec F S4x4352x1536 .f32 := (extf .f32 · bitsLt_bf16_f32) main_v0
  let main_v2 : FVec F S4x4352x1536 .f32 := Host.absf main_v1
  let main_cst : FVec F S_ .f32 := constant S_ .f32 0x7F800000#32
  let main_v3 : FVec F S4x4352x1536 .f32 := broadcastInDim S4x4352x1536 ![] bcast_S_S4x4352x1536 main_cst
  let main_v4 : IVec S4x4352x1536 1 := cmpf .olt main_v2 main_v3
  main_v4
-- ==== Kernel.lean ====
abbrev S4x4352x2048 : Shape := ⟨3, ![4, 4352, 2048]⟩
abbrev S1x2x4 : Shape := ⟨3, ![1, 2, 4]⟩
abbrev S1x128 : Shape := ⟨2, ![1, 128]⟩
abbrev S2x4 : Shape := ⟨2, ![2, 4]⟩
abbrev S4x2 : Shape := ⟨2, ![4, 2]⟩
abbrev S4x2x1 : Shape := ⟨3, ![4, 2, 1]⟩
abbrev S4x2x128 : Shape := ⟨3, ![4, 2, 128]⟩
abbrev S4x4096x512 : Shape := ⟨3, ![4, 4096, 512]⟩
abbrev S1x4352x128 : Shape := ⟨3, ![1, 4352, 128]⟩
abbrev S1x2x128 : Shape := ⟨3, ![1, 2, 128]⟩
abbrev S1x4096x128 : Shape := ⟨3, ![1, 4096, 128]⟩
abbrev S8704x128 : Shape := ⟨2, ![8704, 128]⟩
abbrev S2x128 : Shape := ⟨2, ![2, 128]⟩
abbrev S128x128 : Shape := ⟨2, ![128, 128]⟩
abbrev S1x128x128 : Shape := ⟨3, ![1, 128, 128]⟩
abbrev S128x256 : Shape := ⟨2, ![128, 256]⟩
abbrev S256x128 : Shape := ⟨2, ![256, 128]⟩
abbrev S128 : Shape := ⟨1, ![128]⟩
abbrev S128x1 : Shape := ⟨2, ![128, 1]⟩

abbrev nBuf : Space → Nat
  | .hbm => 8
  | .vmem => 15
  | .smem => 0
  | _ => 0

abbrev bufTy : (tb : Table) → Fin (tcTables nBuf tb) → BufTy
  | .hbm, ⟨0, _⟩ => ⟨S4x4352x2048, .bf16⟩
  | .hbm, ⟨1, _⟩ => ⟨S1x2x4, .f32⟩
  | .hbm, ⟨2, _⟩ => ⟨S1x128, .f32⟩
  | .hbm, ⟨3, _⟩ => ⟨S2x4, .f32⟩
  | .hbm, ⟨4, _⟩ => ⟨S4x2, .f32⟩
  | .hbm, ⟨5, _⟩ => ⟨S4x2x1, .f32⟩
  | .hbm, ⟨6, _⟩ => ⟨S4x2x128, .f32⟩
  | .hbm, ⟨7, _⟩ => ⟨S4x4096x512, .bf16⟩
  | .local _ .vmem, ⟨0, _⟩ => ⟨S1x4352x128, .bf16⟩
  | .local _ .vmem, ⟨1, _⟩ => ⟨S1x4352x128, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x4352x128, .bf16⟩
  | .local _ .vmem, ⟨7, _⟩ => ⟨S1x4352x128, .bf16⟩
  | .local _ .vmem, ⟨8, _⟩ => ⟨S1x2x128, .f32⟩
  | .local _ .vmem, ⟨9, _⟩ => ⟨S1x2x128, .f32⟩
  | .local _ .vmem, ⟨10, _⟩ => ⟨S1x128, .f32⟩
  | .local _ .vmem, ⟨11, _⟩ => ⟨S1x4096x128, .bf16⟩
  | .local _ .vmem, ⟨12, _⟩ => ⟨S1x4096x128, .bf16⟩
  | .local _ .vmem, ⟨13, _⟩ => ⟨S8704x128, .f32⟩
  | .local _ .vmem, ⟨14, _⟩ => ⟨S8704x128, .bf16⟩
  | _, _ => ⟨S4x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c2_i32 : BitVec 32 := 2#32
  let v63 : BitVec 32 := Scalar.addi c0_i32 c2_i32
  let c1_i32 : BitVec 32 := 1#32
  ⟨c0_i32, v63, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32 : BitVec 32 := 17#32
  let v1763 : BitVec 32 := Scalar.muli arg11 c17_i32
  let c0_i32_929 : BitVec 32 := 0#32
  let v1764 : BitVec 32 := Scalar.addi v1763 c0_i32_929
  let c33_i32 : BitVec 32 := 33#32
  let v1765 : BitVec 32 := Scalar.minsi v1764 c33_i32
  let c128_i32 : BitVec 32 := 128#32
  let v1814 : BitVec 32 := Scalar.muli v1765 c128_i32
  v1814
def k0_off1 (k0_t1 : Fin k0_t1_loop.trips) (c0_i32_929 : BitVec 32) : Fin 3 → Nat :=
  let c0_964 : Index := 0#32
  let c0_i32 : BitVec 32 := 0#32
  let c1_i32 : BitVec 32 := 1#32
  let arg11 : BitVec 32 := Scf.iv c0_i32 c1_i32 k0_t1
  let c17_i32 : BitVec 32 := 17#32
  let v1763 : BitVec 32 := Scalar.muli arg11 c17_i32
  let v1764 : BitVec 32 := Scalar.addi v1763 c0_i32_929
  let c33_i32 : BitVec 32 := 33#32
  let v1765 : BitVec 32 := Scalar.minsi v1764 c33_i32
  let c128_i32 : BitVec 32 := 128#32
  let v1814 : BitVec 32 := Scalar.muli v1765 c128_i32
  let v1815 : BitVec 32 := v1814
  let v1816 : Index := Scalar.indexCast v1815
  let c0_965 : Index := 0#32
  ![0, v1816.toNat, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_930 : BitVec 32 := 17#32
  let v1766 : BitVec 32 := Scalar.muli arg11 c17_i32_930
  let c1_i32_931 : BitVec 32 := 1#32
  let v1767 : BitVec 32 := Scalar.addi v1766 c1_i32_931
  let c33_i32_932 : BitVec 32 := 33#32
  let v1768 : BitVec 32 := Scalar.minsi v1767 c33_i32_932
  let c128_i32_966 : BitVec 32 := 128#32
  let v1823 : BitVec 32 := Scalar.muli v1768 c128_i32_966
  v1823
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_933 : BitVec 32 := 17#32
  let v1769 : BitVec 32 := Scalar.muli arg11 c17_i32_933
  let c2_i32_934 : BitVec 32 := 2#32
  let v1770 : BitVec 32 := Scalar.addi v1769 c2_i32_934
  let c33_i32_935 : BitVec 32 := 33#32
  let v1771 : BitVec 32 := Scalar.minsi v1770 c33_i32_935
  let c128_i32_969 : BitVec 32 := 128#32
  let v1832 : BitVec 32 := Scalar.muli v1771 c128_i32_969
  v1832
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_936 : BitVec 32 := 17#32
  let v1772 : BitVec 32 := Scalar.muli arg11 c17_i32_936
  let c3_i32 : BitVec 32 := 3#32
  let v1773 : BitVec 32 := Scalar.addi v1772 c3_i32
  let c33_i32_937 : BitVec 32 := 33#32
  let v1774 : BitVec 32 := Scalar.minsi v1773 c33_i32_937
  let c128_i32_972 : BitVec 32 := 128#32
  let v1841 : BitVec 32 := Scalar.muli v1774 c128_i32_972
  v1841
def k0_mult5 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_938 : BitVec 32 := 17#32
  let v1775 : BitVec 32 := Scalar.muli arg11 c17_i32_938
  let c4_i32 : BitVec 32 := 4#32
  let v1776 : BitVec 32 := Scalar.addi v1775 c4_i32
  let c33_i32_939 : BitVec 32 := 33#32
  let v1777 : BitVec 32 := Scalar.minsi v1776 c33_i32_939
  let c128_i32_975 : BitVec 32 := 128#32
  let v1850 : BitVec 32 := Scalar.muli v1777 c128_i32_975
  v1850
def k0_mult6 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_940 : BitVec 32 := 17#32
  let v1778 : BitVec 32 := Scalar.muli arg11 c17_i32_940
  let c5_i32 : BitVec 32 := 5#32
  let v1779 : BitVec 32 := Scalar.addi v1778 c5_i32
  let c33_i32_941 : BitVec 32 := 33#32
  let v1780 : BitVec 32 := Scalar.minsi v1779 c33_i32_941
  let c128_i32_978 : BitVec 32 := 128#32
  let v1859 : BitVec 32 := Scalar.muli v1780 c128_i32_978
  v1859
def k0_mult7 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_942 : BitVec 32 := 17#32
  let v1781 : BitVec 32 := Scalar.muli arg11 c17_i32_942
  let c6_i32 : BitVec 32 := 6#32
  let v1782 : BitVec 32 := Scalar.addi v1781 c6_i32
  let c33_i32_943 : BitVec 32 := 33#32
  let v1783 : BitVec 32 := Scalar.minsi v1782 c33_i32_943
  let c128_i32_981 : BitVec 32 := 128#32
  let v1868 : BitVec 32 := Scalar.muli v1783 c128_i32_981
  v1868
def k0_mult8 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_944 : BitVec 32 := 17#32
  let v1784 : BitVec 32 := Scalar.muli arg11 c17_i32_944
  let c7_i32 : BitVec 32 := 7#32
  let v1785 : BitVec 32 := Scalar.addi v1784 c7_i32
  let c33_i32_945 : BitVec 32 := 33#32
  let v1786 : BitVec 32 := Scalar.minsi v1785 c33_i32_945
  let c128_i32_984 : BitVec 32 := 128#32
  let v1877 : BitVec 32 := Scalar.muli v1786 c128_i32_984
  v1877
def k0_mult9 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_946 : BitVec 32 := 17#32
  let v1787 : BitVec 32 := Scalar.muli arg11 c17_i32_946
  let c8_i32 : BitVec 32 := 8#32
  let v1788 : BitVec 32 := Scalar.addi v1787 c8_i32
  let c33_i32_947 : BitVec 32 := 33#32
  let v1789 : BitVec 32 := Scalar.minsi v1788 c33_i32_947
  let c128_i32_987 : BitVec 32 := 128#32
  let v1886 : BitVec 32 := Scalar.muli v1789 c128_i32_987
  v1886
def k0_mult10 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_948 : BitVec 32 := 17#32
  let v1790 : BitVec 32 := Scalar.muli arg11 c17_i32_948
  let c9_i32 : BitVec 32 := 9#32
  let v1791 : BitVec 32 := Scalar.addi v1790 c9_i32
  let c33_i32_949 : BitVec 32 := 33#32
  let v1792 : BitVec 32 := Scalar.minsi v1791 c33_i32_949
  let c128_i32_990 : BitVec 32 := 128#32
  let v1895 : BitVec 32 := Scalar.muli v1792 c128_i32_990
  v1895
def k0_mult11 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_950 : BitVec 32 := 17#32
  let v1793 : BitVec 32 := Scalar.muli arg11 c17_i32_950
  let c10_i32 : BitVec 32 := 10#32
  let v1794 : BitVec 32 := Scalar.addi v1793 c10_i32
  let c33_i32_951 : BitVec 32 := 33#32
  let v1795 : BitVec 32 := Scalar.minsi v1794 c33_i32_951
  let c128_i32_993 : BitVec 32 := 128#32
  let v1904 : BitVec 32 := Scalar.muli v1795 c128_i32_993
  v1904
def k0_mult12 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_952 : BitVec 32 := 17#32
  let v1796 : BitVec 32 := Scalar.muli arg11 c17_i32_952
  let c11_i32 : BitVec 32 := 11#32
  let v1797 : BitVec 32 := Scalar.addi v1796 c11_i32
  let c33_i32_953 : BitVec 32 := 33#32
  let v1798 : BitVec 32 := Scalar.minsi v1797 c33_i32_953
  let c128_i32_996 : BitVec 32 := 128#32
  let v1913 : BitVec 32 := Scalar.muli v1798 c128_i32_996
  v1913
def k0_mult13 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_954 : BitVec 32 := 17#32
  let v1799 : BitVec 32 := Scalar.muli arg11 c17_i32_954
  let c12_i32 : BitVec 32 := 12#32
  let v1800 : BitVec 32 := Scalar.addi v1799 c12_i32
  let c33_i32_955 : BitVec 32 := 33#32
  let v1801 : BitVec 32 := Scalar.minsi v1800 c33_i32_955
  let c128_i32_999 : BitVec 32 := 128#32
  let v1922 : BitVec 32 := Scalar.muli v1801 c128_i32_999
  v1922
def k0_mult14 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_956 : BitVec 32 := 17#32
  let v1802 : BitVec 32 := Scalar.muli arg11 c17_i32_956
  let c13_i32 : BitVec 32 := 13#32
  let v1803 : BitVec 32 := Scalar.addi v1802 c13_i32
  let c33_i32_957 : BitVec 32 := 33#32
  let v1804 : BitVec 32 := Scalar.minsi v1803 c33_i32_957
  let c128_i32_1002 : BitVec 32 := 128#32
  let v1931 : BitVec 32 := Scalar.muli v1804 c128_i32_1002
  v1931
def k0_mult15 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_958 : BitVec 32 := 17#32
  let v1805 : BitVec 32 := Scalar.muli arg11 c17_i32_958
  let c14_i32 : BitVec 32 := 14#32
  let v1806 : BitVec 32 := Scalar.addi v1805 c14_i32
  let c33_i32_959 : BitVec 32 := 33#32
  let v1807 : BitVec 32 := Scalar.minsi v1806 c33_i32_959
  let c128_i32_1005 : BitVec 32 := 128#32
  let v1940 : BitVec 32 := Scalar.muli v1807 c128_i32_1005
  v1940
def k0_mult16 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_960 : BitVec 32 := 17#32
  let v1808 : BitVec 32 := Scalar.muli arg11 c17_i32_960
  let c15_i32 : BitVec 32 := 15#32
  let v1809 : BitVec 32 := Scalar.addi v1808 c15_i32
  let c33_i32_961 : BitVec 32 := 33#32
  let v1810 : BitVec 32 := Scalar.minsi v1809 c33_i32_961
  let c128_i32_1008 : BitVec 32 := 128#32
  let v1949 : BitVec 32 := Scalar.muli v1810 c128_i32_1008
  v1949
def k0_mult17 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_962 : BitVec 32 := 17#32
  let v1811 : BitVec 32 := Scalar.muli arg11 c17_i32_962
  let c16_i32 : BitVec 32 := 16#32
  let v1812 : BitVec 32 := Scalar.addi v1811 c16_i32
  let c33_i32_963 : BitVec 32 := 33#32
  let v1813 : BitVec 32 := Scalar.minsi v1812 c33_i32_963
  let c128_i32_1011 : BitVec 32 := 128#32
  let v1958 : BitVec 32 := Scalar.muli v1813 c128_i32_1011
  v1958
def k0_mult18 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32 : BitVec 32 := 17#32
  let v1763 : BitVec 32 := Scalar.muli arg11 c17_i32
  let c0_i32_929 : BitVec 32 := 0#32
  let v1764 : BitVec 32 := Scalar.addi v1763 c0_i32_929
  let c33_i32 : BitVec 32 := 33#32
  let v1765 : BitVec 32 := Scalar.minsi v1764 c33_i32
  let c128_i32_1014 : BitVec 32 := 128#32
  let v1967 : BitVec 32 := Scalar.muli v1765 c128_i32_1014
  v1967
def k0_mult19 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_930 : BitVec 32 := 17#32
  let v1766 : BitVec 32 := Scalar.muli arg11 c17_i32_930
  let c1_i32_931 : BitVec 32 := 1#32
  let v1767 : BitVec 32 := Scalar.addi v1766 c1_i32_931
  let c33_i32_932 : BitVec 32 := 33#32
  let v1768 : BitVec 32 := Scalar.minsi v1767 c33_i32_932
  let c128_i32_1018 : BitVec 32 := 128#32
  let v1974 : BitVec 32 := Scalar.muli v1768 c128_i32_1018
  v1974
def k0_mult20 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_933 : BitVec 32 := 17#32
  let v1769 : BitVec 32 := Scalar.muli arg11 c17_i32_933
  let c2_i32_934 : BitVec 32 := 2#32
  let v1770 : BitVec 32 := Scalar.addi v1769 c2_i32_934
  let c33_i32_935 : BitVec 32 := 33#32
  let v1771 : BitVec 32 := Scalar.minsi v1770 c33_i32_935
  let c128_i32_1022 : BitVec 32 := 128#32
  let v1981 : BitVec 32 := Scalar.muli v1771 c128_i32_1022
  v1981
def k0_mult21 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_936 : BitVec 32 := 17#32
  let v1772 : BitVec 32 := Scalar.muli arg11 c17_i32_936
  let c3_i32 : BitVec 32 := 3#32
  let v1773 : BitVec 32 := Scalar.addi v1772 c3_i32
  let c33_i32_937 : BitVec 32 := 33#32
  let v1774 : BitVec 32 := Scalar.minsi v1773 c33_i32_937
  let c128_i32_1026 : BitVec 32 := 128#32
  let v1988 : BitVec 32 := Scalar.muli v1774 c128_i32_1026
  v1988
def k0_mult22 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_938 : BitVec 32 := 17#32
  let v1775 : BitVec 32 := Scalar.muli arg11 c17_i32_938
  let c4_i32 : BitVec 32 := 4#32
  let v1776 : BitVec 32 := Scalar.addi v1775 c4_i32
  let c33_i32_939 : BitVec 32 := 33#32
  let v1777 : BitVec 32 := Scalar.minsi v1776 c33_i32_939
  let c128_i32_1030 : BitVec 32 := 128#32
  let v1995 : BitVec 32 := Scalar.muli v1777 c128_i32_1030
  v1995
def k0_mult23 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_940 : BitVec 32 := 17#32
  let v1778 : BitVec 32 := Scalar.muli arg11 c17_i32_940
  let c5_i32 : BitVec 32 := 5#32
  let v1779 : BitVec 32 := Scalar.addi v1778 c5_i32
  let c33_i32_941 : BitVec 32 := 33#32
  let v1780 : BitVec 32 := Scalar.minsi v1779 c33_i32_941
  let c128_i32_1034 : BitVec 32 := 128#32
  let v2002 : BitVec 32 := Scalar.muli v1780 c128_i32_1034
  v2002
def k0_mult24 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_942 : BitVec 32 := 17#32
  let v1781 : BitVec 32 := Scalar.muli arg11 c17_i32_942
  let c6_i32 : BitVec 32 := 6#32
  let v1782 : BitVec 32 := Scalar.addi v1781 c6_i32
  let c33_i32_943 : BitVec 32 := 33#32
  let v1783 : BitVec 32 := Scalar.minsi v1782 c33_i32_943
  let c128_i32_1038 : BitVec 32 := 128#32
  let v2009 : BitVec 32 := Scalar.muli v1783 c128_i32_1038
  v2009
def k0_mult25 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_944 : BitVec 32 := 17#32
  let v1784 : BitVec 32 := Scalar.muli arg11 c17_i32_944
  let c7_i32 : BitVec 32 := 7#32
  let v1785 : BitVec 32 := Scalar.addi v1784 c7_i32
  let c33_i32_945 : BitVec 32 := 33#32
  let v1786 : BitVec 32 := Scalar.minsi v1785 c33_i32_945
  let c128_i32_1042 : BitVec 32 := 128#32
  let v2016 : BitVec 32 := Scalar.muli v1786 c128_i32_1042
  v2016
def k0_mult26 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_946 : BitVec 32 := 17#32
  let v1787 : BitVec 32 := Scalar.muli arg11 c17_i32_946
  let c8_i32 : BitVec 32 := 8#32
  let v1788 : BitVec 32 := Scalar.addi v1787 c8_i32
  let c33_i32_947 : BitVec 32 := 33#32
  let v1789 : BitVec 32 := Scalar.minsi v1788 c33_i32_947
  let c128_i32_1046 : BitVec 32 := 128#32
  let v2023 : BitVec 32 := Scalar.muli v1789 c128_i32_1046
  v2023
def k0_mult27 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_948 : BitVec 32 := 17#32
  let v1790 : BitVec 32 := Scalar.muli arg11 c17_i32_948
  let c9_i32 : BitVec 32 := 9#32
  let v1791 : BitVec 32 := Scalar.addi v1790 c9_i32
  let c33_i32_949 : BitVec 32 := 33#32
  let v1792 : BitVec 32 := Scalar.minsi v1791 c33_i32_949
  let c128_i32_1050 : BitVec 32 := 128#32
  let v2030 : BitVec 32 := Scalar.muli v1792 c128_i32_1050
  v2030
def k0_mult28 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_950 : BitVec 32 := 17#32
  let v1793 : BitVec 32 := Scalar.muli arg11 c17_i32_950
  let c10_i32 : BitVec 32 := 10#32
  let v1794 : BitVec 32 := Scalar.addi v1793 c10_i32
  let c33_i32_951 : BitVec 32 := 33#32
  let v1795 : BitVec 32 := Scalar.minsi v1794 c33_i32_951
  let c128_i32_1054 : BitVec 32 := 128#32
  let v2037 : BitVec 32 := Scalar.muli v1795 c128_i32_1054
  v2037
def k0_mult29 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_952 : BitVec 32 := 17#32
  let v1796 : BitVec 32 := Scalar.muli arg11 c17_i32_952
  let c11_i32 : BitVec 32 := 11#32
  let v1797 : BitVec 32 := Scalar.addi v1796 c11_i32
  let c33_i32_953 : BitVec 32 := 33#32
  let v1798 : BitVec 32 := Scalar.minsi v1797 c33_i32_953
  let c128_i32_1058 : BitVec 32 := 128#32
  let v2044 : BitVec 32 := Scalar.muli v1798 c128_i32_1058
  v2044
def k0_mult30 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_954 : BitVec 32 := 17#32
  let v1799 : BitVec 32 := Scalar.muli arg11 c17_i32_954
  let c12_i32 : BitVec 32 := 12#32
  let v1800 : BitVec 32 := Scalar.addi v1799 c12_i32
  let c33_i32_955 : BitVec 32 := 33#32
  let v1801 : BitVec 32 := Scalar.minsi v1800 c33_i32_955
  let c128_i32_1062 : BitVec 32 := 128#32
  let v2051 : BitVec 32 := Scalar.muli v1801 c128_i32_1062
  v2051
def k0_mult31 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_956 : BitVec 32 := 17#32
  let v1802 : BitVec 32 := Scalar.muli arg11 c17_i32_956
  let c13_i32 : BitVec 32 := 13#32
  let v1803 : BitVec 32 := Scalar.addi v1802 c13_i32
  let c33_i32_957 : BitVec 32 := 33#32
  let v1804 : BitVec 32 := Scalar.minsi v1803 c33_i32_957
  let c128_i32_1066 : BitVec 32 := 128#32
  let v2058 : BitVec 32 := Scalar.muli v1804 c128_i32_1066
  v2058
def k0_mult32 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_958 : BitVec 32 := 17#32
  let v1805 : BitVec 32 := Scalar.muli arg11 c17_i32_958
  let c14_i32 : BitVec 32 := 14#32
  let v1806 : BitVec 32 := Scalar.addi v1805 c14_i32
  let c33_i32_959 : BitVec 32 := 33#32
  let v1807 : BitVec 32 := Scalar.minsi v1806 c33_i32_959
  let c128_i32_1070 : BitVec 32 := 128#32
  let v2065 : BitVec 32 := Scalar.muli v1807 c128_i32_1070
  v2065
def k0_mult33 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_960 : BitVec 32 := 17#32
  let v1808 : BitVec 32 := Scalar.muli arg11 c17_i32_960
  let c15_i32 : BitVec 32 := 15#32
  let v1809 : BitVec 32 := Scalar.addi v1808 c15_i32
  let c33_i32_961 : BitVec 32 := 33#32
  let v1810 : BitVec 32 := Scalar.minsi v1809 c33_i32_961
  let c128_i32_1074 : BitVec 32 := 128#32
  let v2072 : BitVec 32 := Scalar.muli v1810 c128_i32_1074
  v2072
def k0_mult34 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_962 : BitVec 32 := 17#32
  let v1811 : BitVec 32 := Scalar.muli arg11 c17_i32_962
  let c16_i32 : BitVec 32 := 16#32
  let v1812 : BitVec 32 := Scalar.addi v1811 c16_i32
  let c33_i32_963 : BitVec 32 := 33#32
  let v1813 : BitVec 32 := Scalar.minsi v1812 c33_i32_963
  let c128_i32_1078 : BitVec 32 := 128#32
  let v2079 : BitVec 32 := Scalar.muli v1813 c128_i32_1078
  v2079
def k0_mult35 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32 : BitVec 32 := 17#32
  let v1763 : BitVec 32 := Scalar.muli arg11 c17_i32
  let c0_i32_929 : BitVec 32 := 0#32
  let v1764 : BitVec 32 := Scalar.addi v1763 c0_i32_929
  let c33_i32 : BitVec 32 := 33#32
  let v1765 : BitVec 32 := Scalar.minsi v1764 c33_i32
  let c256_i32 : BitVec 32 := 256#32
  let v2086 : BitVec 32 := Scalar.muli v1765 c256_i32
  v2086
def k0_off2 (k0_t1 : Fin k0_t1_loop.trips) (c0_i32_929 : BitVec 32) : Fin 2 → Nat :=
  let c0_i32 : BitVec 32 := 0#32
  let c1_i32 : BitVec 32 := 1#32
  let arg11 : BitVec 32 := Scf.iv c0_i32 c1_i32 k0_t1
  let c17_i32 : BitVec 32 := 17#32
  let v1763 : BitVec 32 := Scalar.muli arg11 c17_i32
  let v1764 : BitVec 32 := Scalar.addi v1763 c0_i32_929
  let c33_i32 : BitVec 32 := 33#32
  let v1765 : BitVec 32 := Scalar.minsi v1764 c33_i32
  let c256_i32 : BitVec 32 := 256#32
  let v2086 : BitVec 32 := Scalar.muli v1765 c256_i32
  let v2087 : BitVec 32 := v2086
  let v2088 : Index := Scalar.indexCast v2087
  let c0_1082 : Index := 0#32
  ![v2088.toNat, 0]
def k0_mult36 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_930 : BitVec 32 := 17#32
  let v1766 : BitVec 32 := Scalar.muli arg11 c17_i32_930
  let c1_i32_931 : BitVec 32 := 1#32
  let v1767 : BitVec 32 := Scalar.addi v1766 c1_i32_931
  let c33_i32_932 : BitVec 32 := 33#32
  let v1768 : BitVec 32 := Scalar.minsi v1767 c33_i32_932
  let c256_i32_1083 : BitVec 32 := 256#32
  let v2092 : BitVec 32 := Scalar.muli v1768 c256_i32_1083
  v2092
def k0_mult37 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_933 : BitVec 32 := 17#32
  let v1769 : BitVec 32 := Scalar.muli arg11 c17_i32_933
  let c2_i32_934 : BitVec 32 := 2#32
  let v1770 : BitVec 32 := Scalar.addi v1769 c2_i32_934
  let c33_i32_935 : BitVec 32 := 33#32
  let v1771 : BitVec 32 := Scalar.minsi v1770 c33_i32_935
  let c256_i32_1085 : BitVec 32 := 256#32
  let v2098 : BitVec 32 := Scalar.muli v1771 c256_i32_1085
  v2098
def k0_mult38 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_936 : BitVec 32 := 17#32
  let v1772 : BitVec 32 := Scalar.muli arg11 c17_i32_936
  let c3_i32 : BitVec 32 := 3#32
  let v1773 : BitVec 32 := Scalar.addi v1772 c3_i32
  let c33_i32_937 : BitVec 32 := 33#32
  let v1774 : BitVec 32 := Scalar.minsi v1773 c33_i32_937
  let c256_i32_1087 : BitVec 32 := 256#32
  let v2104 : BitVec 32 := Scalar.muli v1774 c256_i32_1087
  v2104
def k0_mult39 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_938 : BitVec 32 := 17#32
  let v1775 : BitVec 32 := Scalar.muli arg11 c17_i32_938
  let c4_i32 : BitVec 32 := 4#32
  let v1776 : BitVec 32 := Scalar.addi v1775 c4_i32
  let c33_i32_939 : BitVec 32 := 33#32
  let v1777 : BitVec 32 := Scalar.minsi v1776 c33_i32_939
  let c256_i32_1089 : BitVec 32 := 256#32
  let v2110 : BitVec 32 := Scalar.muli v1777 c256_i32_1089
  v2110
def k0_mult40 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_940 : BitVec 32 := 17#32
  let v1778 : BitVec 32 := Scalar.muli arg11 c17_i32_940
  let c5_i32 : BitVec 32 := 5#32
  let v1779 : BitVec 32 := Scalar.addi v1778 c5_i32
  let c33_i32_941 : BitVec 32 := 33#32
  let v1780 : BitVec 32 := Scalar.minsi v1779 c33_i32_941
  let c256_i32_1091 : BitVec 32 := 256#32
  let v2116 : BitVec 32 := Scalar.muli v1780 c256_i32_1091
  v2116
def k0_mult41 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_942 : BitVec 32 := 17#32
  let v1781 : BitVec 32 := Scalar.muli arg11 c17_i32_942
  let c6_i32 : BitVec 32 := 6#32
  let v1782 : BitVec 32 := Scalar.addi v1781 c6_i32
  let c33_i32_943 : BitVec 32 := 33#32
  let v1783 : BitVec 32 := Scalar.minsi v1782 c33_i32_943
  let c256_i32_1093 : BitVec 32 := 256#32
  let v2122 : BitVec 32 := Scalar.muli v1783 c256_i32_1093
  v2122
def k0_mult42 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_944 : BitVec 32 := 17#32
  let v1784 : BitVec 32 := Scalar.muli arg11 c17_i32_944
  let c7_i32 : BitVec 32 := 7#32
  let v1785 : BitVec 32 := Scalar.addi v1784 c7_i32
  let c33_i32_945 : BitVec 32 := 33#32
  let v1786 : BitVec 32 := Scalar.minsi v1785 c33_i32_945
  let c256_i32_1095 : BitVec 32 := 256#32
  let v2128 : BitVec 32 := Scalar.muli v1786 c256_i32_1095
  v2128
def k0_mult43 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_946 : BitVec 32 := 17#32
  let v1787 : BitVec 32 := Scalar.muli arg11 c17_i32_946
  let c8_i32 : BitVec 32 := 8#32
  let v1788 : BitVec 32 := Scalar.addi v1787 c8_i32
  let c33_i32_947 : BitVec 32 := 33#32
  let v1789 : BitVec 32 := Scalar.minsi v1788 c33_i32_947
  let c256_i32_1097 : BitVec 32 := 256#32
  let v2134 : BitVec 32 := Scalar.muli v1789 c256_i32_1097
  v2134
def k0_mult44 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_948 : BitVec 32 := 17#32
  let v1790 : BitVec 32 := Scalar.muli arg11 c17_i32_948
  let c9_i32 : BitVec 32 := 9#32
  let v1791 : BitVec 32 := Scalar.addi v1790 c9_i32
  let c33_i32_949 : BitVec 32 := 33#32
  let v1792 : BitVec 32 := Scalar.minsi v1791 c33_i32_949
  let c256_i32_1099 : BitVec 32 := 256#32
  let v2140 : BitVec 32 := Scalar.muli v1792 c256_i32_1099
  v2140
def k0_mult45 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_950 : BitVec 32 := 17#32
  let v1793 : BitVec 32 := Scalar.muli arg11 c17_i32_950
  let c10_i32 : BitVec 32 := 10#32
  let v1794 : BitVec 32 := Scalar.addi v1793 c10_i32
  let c33_i32_951 : BitVec 32 := 33#32
  let v1795 : BitVec 32 := Scalar.minsi v1794 c33_i32_951
  let c256_i32_1101 : BitVec 32 := 256#32
  let v2146 : BitVec 32 := Scalar.muli v1795 c256_i32_1101
  v2146
def k0_mult46 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_952 : BitVec 32 := 17#32
  let v1796 : BitVec 32 := Scalar.muli arg11 c17_i32_952
  let c11_i32 : BitVec 32 := 11#32
  let v1797 : BitVec 32 := Scalar.addi v1796 c11_i32
  let c33_i32_953 : BitVec 32 := 33#32
  let v1798 : BitVec 32 := Scalar.minsi v1797 c33_i32_953
  let c256_i32_1103 : BitVec 32 := 256#32
  let v2152 : BitVec 32 := Scalar.muli v1798 c256_i32_1103
  v2152
def k0_mult47 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_954 : BitVec 32 := 17#32
  let v1799 : BitVec 32 := Scalar.muli arg11 c17_i32_954
  let c12_i32 : BitVec 32 := 12#32
  let v1800 : BitVec 32 := Scalar.addi v1799 c12_i32
  let c33_i32_955 : BitVec 32 := 33#32
  let v1801 : BitVec 32 := Scalar.minsi v1800 c33_i32_955
  let c256_i32_1105 : BitVec 32 := 256#32
  let v2158 : BitVec 32 := Scalar.muli v1801 c256_i32_1105
  v2158
def k0_mult48 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_956 : BitVec 32 := 17#32
  let v1802 : BitVec 32 := Scalar.muli arg11 c17_i32_956
  let c13_i32 : BitVec 32 := 13#32
  let v1803 : BitVec 32 := Scalar.addi v1802 c13_i32
  let c33_i32_957 : BitVec 32 := 33#32
  let v1804 : BitVec 32 := Scalar.minsi v1803 c33_i32_957
  let c256_i32_1107 : BitVec 32 := 256#32
  let v2164 : BitVec 32 := Scalar.muli v1804 c256_i32_1107
  v2164
def k0_mult49 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_958 : BitVec 32 := 17#32
  let v1805 : BitVec 32 := Scalar.muli arg11 c17_i32_958
  let c14_i32 : BitVec 32 := 14#32
  let v1806 : BitVec 32 := Scalar.addi v1805 c14_i32
  let c33_i32_959 : BitVec 32 := 33#32
  let v1807 : BitVec 32 := Scalar.minsi v1806 c33_i32_959
  let c256_i32_1109 : BitVec 32 := 256#32
  let v2170 : BitVec 32 := Scalar.muli v1807 c256_i32_1109
  v2170
def k0_mult50 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_960 : BitVec 32 := 17#32
  let v1808 : BitVec 32 := Scalar.muli arg11 c17_i32_960
  let c15_i32 : BitVec 32 := 15#32
  let v1809 : BitVec 32 := Scalar.addi v1808 c15_i32
  let c33_i32_961 : BitVec 32 := 33#32
  let v1810 : BitVec 32 := Scalar.minsi v1809 c33_i32_961
  let c256_i32_1111 : BitVec 32 := 256#32
  let v2176 : BitVec 32 := Scalar.muli v1810 c256_i32_1111
  v2176
def k0_mult51 (k0_t1 : Fin k0_t1_loop.trips) : BitVec 32 :=
  let c0_i32 : BitVec 32 := 0#32
  let c1_i32 : BitVec 32 := 1#32
  let arg11 : BitVec 32 := Scf.iv c0_i32 c1_i32 k0_t1
  let c17_i32_962 : BitVec 32 := 17#32
  let v1811 : BitVec 32 := Scalar.muli arg11 c17_i32_962
  let c16_i32 : BitVec 32 := 16#32
  let v1812 : BitVec 32 := Scalar.addi v1811 c16_i32
  let c33_i32_963 : BitVec 32 := 33#32
  let v1813 : BitVec 32 := Scalar.minsi v1812 c33_i32_963
  let c256_i32_1113 : BitVec 32 := 256#32
  let v2182 : BitVec 32 := Scalar.muli v1813 c256_i32_1113
  v2182
@[reducible] def k0_t2_loop : Scf.Loop 32 :=
  let c0_i32_16 : BitVec 32 := 0#32
  let c34_i32 : BitVec 32 := 34#32
  let v65 : BitVec 32 := Scalar.addi c0_i32_16 c34_i32
  let c1_i32_17 : BitVec 32 := 1#32
  ⟨c0_i32_16, v65, c1_i32_17⟩
def k0_mult52 (k0_t2 : Fin k0_t2_loop.trips) : BitVec 32 :=
  let c0_i32_16 : BitVec 32 := 0#32
  let c1_i32_17 : BitVec 32 := 1#32
  let arg11 : BitVec 32 := Scf.iv c0_i32_16 c1_i32_17 k0_t2
  let c2_i32_929 : BitVec 32 := 2#32
  let v1764 : BitVec 32 := Scalar.muli arg11 c2_i32_929
  let c128_i32 : BitVec 32 := 128#32
  let v1765 : BitVec 32 := Scalar.muli v1764 c128_i32
  let c0_i32_930 : BitVec 32 := 0#32
  let v1766 : BitVec 32 := Scalar.addi v1765 c0_i32_930
  v1766
def k0_off3 (k0_t2 : Fin k0_t2_loop.trips) : Fin 2 → Nat :=
  let c0_i32_16 : BitVec 32 := 0#32
  let c1_i32_17 : BitVec 32 := 1#32
  let arg11 : BitVec 32 := Scf.iv c0_i32_16 c1_i32_17 k0_t2
  let c2_i32_929 : BitVec 32 := 2#32
  let v1764 : BitVec 32 := Scalar.muli arg11 c2_i32_929
  let c128_i32 : BitVec 32 := 128#32
  let v1765 : BitVec 32 := Scalar.muli v1764 c128_i32
  let c0_i32_930 : BitVec 32 := 0#32
  let v1766 : BitVec 32 := Scalar.addi v1765 c0_i32_930
  let v1767 : BitVec 32 := v1766
  let v1768 : Index := Scalar.indexCast v1767
  let c0_931 : Index := 0#32
  ![v1768.toNat, 0]
def k0_mult53 (k0_t2 : Fin k0_t2_loop.trips) : BitVec 32 :=
  let c0_i32_16 : BitVec 32 := 0#32
  let c1_i32_17 : BitVec 32 := 1#32
  let arg11 : BitVec 32 := Scf.iv c0_i32_16 c1_i32_17 k0_t2
  let c2_i32_932 : BitVec 32 := 2#32
  let v1774 : BitVec 32 := Scalar.muli arg11 c2_i32_932
  let c128_i32_933 : BitVec 32 := 128#32
  let v1775 : BitVec 32 := Scalar.muli v1774 c128_i32_933
  let c0_i32_934 : BitVec 32 := 0#32
  let v1776 : BitVec 32 := Scalar.addi v1775 c0_i32_934
  v1776
def k0_mult54 (k0_t2 : Fin k0_t2_loop.trips) : BitVec 32 :=
  let c0_i32_16 : BitVec 32 := 0#32
  let c1_i32_17 : BitVec 32 := 1#32
  let arg11 : BitVec 32 := Scf.iv c0_i32_16 c1_i32_17 k0_t2
  let c2_i32_936 : BitVec 32 := 2#32
  let v1781 : BitVec 1 := Scalar.cmpi .slt arg11 c2_i32_936
  let c1_i32_937 : BitVec 32 := 1#32
  let v1782 : BitVec 32 := Scalar.subi c1_i32_937 arg11
  let c35_i32 : BitVec 32 := 35#32
  let v1783 : BitVec 32 := Scalar.subi c35_i32 arg11
  let v1784 : BitVec 32 := Scalar.select v1781 v1782 v1783
  let c2_i32_938 : BitVec 32 := 2#32
  let v1786 : BitVec 32 := Scalar.muli v1784 c2_i32_938
  let c128_i32_939 : BitVec 32 := 128#32
  let v1787 : BitVec 32 := Scalar.muli v1786 c128_i32_939
  let c128_i32_940 : BitVec 32 := 128#32
  let v1788 : BitVec 32 := Scalar.addi v1787 c128_i32_940
  v1788
def k0_off4 (k0_t2 : Fin k0_t2_loop.trips) : Fin 2 → Nat :=
  let c0_i32_16 : BitVec 32 := 0#32
  let c1_i32_17 : BitVec 32 := 1#32
  let arg11 : BitVec 32 := Scf.iv c0_i32_16 c1_i32_17 k0_t2
  let c2_i32_936 : BitVec 32 := 2#32
  let v1781 : BitVec 1 := Scalar.cmpi .slt arg11 c2_i32_936
  let c1_i32_937 : BitVec 32 := 1#32
  let v1782 : BitVec 32 := Scalar.subi c1_i32_937 arg11
  let c35_i32 : BitVec 32 := 35#32
  let v1783 : BitVec 32 := Scalar.subi c35_i32 arg11
  let v1784 : BitVec 32 := Scalar.select v1781 v1782 v1783
  let c2_i32_938 : BitVec 32 := 2#32
  let v1786 : BitVec 32 := Scalar.muli v1784 c2_i32_938
  let c128_i32_939 : BitVec 32 := 128#32
  let v1787 : BitVec 32 := Scalar.muli v1786 c128_i32_939
  let c128_i32_940 : BitVec 32 := 128#32
  let v1788 : BitVec 32 := Scalar.addi v1787 c128_i32_940
  let v1789 : BitVec 32 := v1788
  let v1790 : Index := Scalar.indexCast v1789
  let c0_941 : Index := 0#32
  ![v1790.toNat, 0]
def k0_mult55 (k0_t2 : Fin k0_t2_loop.trips) : BitVec 32 :=
  let c0_i32_16 : BitVec 32 := 0#32
  let c1_i32_17 : BitVec 32 := 1#32
  let arg11 : BitVec 32 := Scf.iv c0_i32_16 c1_i32_17 k0_t2
  let c2_i32_936 : BitVec 32 := 2#32
  let v1781 : BitVec 1 := Scalar.cmpi .slt arg11 c2_i32_936
  let c1_i32_937 : BitVec 32 := 1#32
  let v1782 : BitVec 32 := Scalar.subi c1_i32_937 arg11
  let c35_i32 : BitVec 32 := 35#32
  let v1783 : BitVec 32 := Scalar.subi c35_i32 arg11
  let v1784 : BitVec 32 := Scalar.select v1781 v1782 v1783
  let c2_i32_942 : BitVec 32 := 2#32
  let v1796 : BitVec 32 := Scalar.muli v1784 c2_i32_942
  let c128_i32_943 : BitVec 32 := 128#32
  let v1797 : BitVec 32 := Scalar.muli v1796 c128_i32_943
  let c128_i32_944 : BitVec 32 := 128#32
  let v1798 : BitVec 32 := Scalar.addi v1797 c128_i32_944
  v1798
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4352x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x4352x2048 : Shape := ⟨3, ![4, 4352, 2048]⟩
abbrev S1x2x4 : Shape := ⟨3, ![1, 2, 4]⟩
abbrev S1x128 : Shape := ⟨2, ![1, 128]⟩
abbrev S4x4352x512 : Shape := ⟨3, ![4, 4352, 512]⟩
abbrev S4x4352x4x128 : Shape := ⟨4, ![4, 4352, 4, 128]⟩
abbrev S2x4 : Shape := ⟨2, ![2, 4]⟩
abbrev S_ : Shape := ⟨0, ![]⟩
abbrev S4x256x4x128 : Shape := ⟨4, ![4, 256, 4, 128]⟩
abbrev S4x4096x4x128 : Shape := ⟨4, ![4, 4096, 4, 128]⟩
abbrev S1x4x4352x4x128 : Shape := ⟨5, ![1, 4, 4352, 4, 128]⟩
abbrev S2x4x4352x4x128 : Shape := ⟨5, ![2, 4, 4352, 4, 128]⟩
abbrev S2x4x68x64x4x128 : Shape := ⟨6, ![2, 4, 68, 64, 4, 128]⟩
abbrev S2x68x4x4x64x128 : Shape := ⟨6, ![2, 68, 4, 4, 64, 128]⟩
abbrev S64 : Shape := ⟨1, ![64]⟩
abbrev S2x4x1 : Shape := ⟨3, ![2, 4, 1]⟩
abbrev S64x1 : Shape := ⟨2, ![64, 1]⟩
abbrev S1x64 : Shape := ⟨2, ![1, 64]⟩
abbrev S64x64 : Shape := ⟨2, ![64, 64]⟩
abbrev S2x4x1x1 : Shape := ⟨4, ![2, 4, 1, 1]⟩
abbrev S1x64x64 : Shape := ⟨3, ![1, 64, 64]⟩
abbrev S1x1x64x64 : Shape := ⟨4, ![1, 1, 64, 64]⟩
abbrev S2x4x64x64 : Shape := ⟨4, ![2, 4, 64, 64]⟩
abbrev S4x64x64 : Shape := ⟨3, ![4, 64, 64]⟩
abbrev S1x1x64 : Shape := ⟨3, ![1, 1, 64]⟩
abbrev S2x4x64 : Shape := ⟨3, ![2, 4, 64]⟩
abbrev S2x68x4x4x64x64 : Shape := ⟨6, ![2, 68, 4, 4, 64, 64]⟩
abbrev S2x1x1x4x64x64 : Shape := ⟨6, ![2, 1, 1, 4, 64, 64]⟩
abbrev S4x4x128x128 : Shape := ⟨4, ![4, 4, 128, 128]⟩
abbrev S2x4x4x128x128 : Shape := ⟨5, ![2, 4, 4, 128, 128]⟩
abbrev S68x2x4x4x64x128 : Shape := ⟨6, ![68, 2, 4, 4, 64, 128]⟩
abbrev S1x2x4x4x64x128 : Shape := ⟨6, ![1, 2, 4, 4, 64, 128]⟩
abbrev S2x4x4x64x128 : Shape := ⟨5, ![2, 4, 4, 64, 128]⟩
abbrev S2x4x64x1 : Shape := ⟨4, ![2, 4, 64, 1]⟩
abbrev S2x1x4x64x1 : Shape := ⟨5, ![2, 1, 4, 64, 1]⟩
abbrev S2x1x4x1x1 : Shape := ⟨5, ![2, 1, 4, 1, 1]⟩
abbrev S128 : Shape := ⟨1, ![128]⟩
abbrev S4x4352x4 : Shape := ⟨3, ![4, 4352, 4]⟩
abbrev S4x4352x4x1 : Shape := ⟨4, ![4, 4352, 4, 1]⟩
abbrev S1x1x1x128 : Shape := ⟨4, ![1, 1, 1, 128]⟩
abbrev S4x4096x512 : Shape := ⟨3, ![4, 4096, 512]⟩

abbrev nBuf : Space → Nat
  | .hbm => 232
  | .vmem => 0
  | .smem => 0
  | _ => 0

abbrev hbmTy0_0 (i : Nat) : BufTy := match i % 128 with
  | 0 => ⟨S4x4352x2048, .bf16⟩
  | 1 => ⟨S1x2x4, .f32⟩
  | 2 => ⟨S1x128, .f32⟩
  | 3 => ⟨S4x4352x2048, .f32⟩
  | 4 => ⟨S4x4352x512, .f32⟩
  | 5 => ⟨S4x4352x512, .f32⟩
  | 6 => ⟨S4x4352x512, .f32⟩
  | 7 => ⟨S4x4352x512, .f32⟩
  | 8 => ⟨S4x4352x4x128, .f32⟩
  | 9 => ⟨S4x4352x4x128, .f32⟩
  | 10 => ⟨S4x4352x4x128, .f32⟩
  | 11 => ⟨S4x4352x4x128, .f32⟩
  | 12 => ⟨S2x4, .f32⟩
  | 13 => ⟨S2x4, .f32⟩
  | 14 => ⟨S_, .f32⟩
  | 15 => ⟨S2x4, .f32⟩
  | 16 => ⟨S2x4, .f32⟩
  | 17 => ⟨S2x4, .f32⟩
  | 18 => ⟨S2x4, .f32⟩
  | 19 => ⟨S2x4, .i1⟩
  | 20 => ⟨S2x4, .f32⟩
  | 21 => ⟨S2x4, .f32⟩
  | 22 => ⟨S2x4, .f32⟩
  | 23 => ⟨S2x4, .f32⟩
  | 24 => ⟨S2x4, .f32⟩
  | 25 => ⟨S2x4, .f32⟩
  | 26 => ⟨S2x4, .f32⟩
  | 27 => ⟨S2x4, .f32⟩
  | 28 => ⟨S2x4, .f32⟩
  | 29 => ⟨S4x256x4x128, .f32⟩
  | 30 => ⟨S4x256x4x128, .f32⟩
  | 31 => ⟨S4x4096x4x128, .f32⟩
  | 32 => ⟨S4x4096x4x128, .f32⟩
  | 33 => ⟨S4x4352x4x128, .f32⟩
  | 34 => ⟨S1x4x4352x4x128, .f32⟩
  | 35 => ⟨S1x4x4352x4x128, .f32⟩
  | 36 => ⟨S2x4x4352x4x128, .f32⟩
  | 37 => ⟨S4x256x4x128, .f32⟩
  | 38 => ⟨S4x256x4x128, .f32⟩
  | 39 => ⟨S4x4096x4x128, .f32⟩
  | 40 => ⟨S4x4096x4x128, .f32⟩
  | 41 => ⟨S4x4352x4x128, .f32⟩
  | 42 => ⟨S1x4x4352x4x128, .f32⟩
  | 43 => ⟨S1x4x4352x4x128, .f32⟩
  | 44 => ⟨S2x4x4352x4x128, .f32⟩
  | 45 => ⟨S4x256x4x128, .f32⟩
  | 46 => ⟨S4x256x4x128, .f32⟩
  | 47 => ⟨S4x4096x4x128, .f32⟩
  | 48 => ⟨S4x4096x4x128, .f32⟩
  | 49 => ⟨S4x4352x4x128, .f32⟩
  | 50 => ⟨S1x4x4352x4x128, .f32⟩
  | 51 => ⟨S1x4x4352x4x128, .f32⟩
  | 52 => ⟨S2x4x4352x4x128, .f32⟩
  | 53 => ⟨S2x4x68x64x4x128, .f32⟩
  | 54 => ⟨S2x68x4x4x64x128, .f32⟩
  | 55 => ⟨S2x4x68x64x4x128, .f32⟩
  | 56 => ⟨S2x68x4x4x64x128, .f32⟩
  | 57 => ⟨S2x4x68x64x4x128, .f32⟩
  | 58 => ⟨S2x68x4x4x64x128, .f32⟩
  | 59 => ⟨S64, .f32⟩
  | 60 => ⟨S2x4x1, .f32⟩
  | 61 => ⟨S64x1, .f32⟩
  | 62 => ⟨S1x64, .f32⟩
  | 63 => ⟨S64x64, .f32⟩
  | 64 => ⟨S64x64, .f32⟩
  | 65 => ⟨S64x64, .f32⟩
  | 66 => ⟨S_, .f32⟩
  | 67 => ⟨S64x64, .f32⟩
  | 68 => ⟨S64x64, .i1⟩
  | 69 => ⟨S2x4x1x1, .f32⟩
  | 70 => ⟨S_, .f32⟩
  | 71 => ⟨S64x64, .f32⟩
  | 72 => ⟨S64x64, .f32⟩
  | 73 => ⟨S1x64x64, .f32⟩
  | 74 => ⟨S1x1x64x64, .f32⟩
  | 75 => ⟨S2x4x64x64, .f32⟩
  | 76 => ⟨S2x4x64x64, .f32⟩
  | 77 => ⟨S2x4x64x64, .f32⟩
  | 78 => ⟨S2x4x64x64, .f32⟩
  | 79 => ⟨S_, .f32⟩
  | 80 => ⟨S_, .f32⟩
  | 81 => ⟨S4x64x64, .i1⟩
  | 82 => ⟨S4x64x64, .f32⟩
  | 83 => ⟨S2x4x64x64, .i1⟩
  | 84 => ⟨S2x4x64x64, .f32⟩
  | 85 => ⟨S2x4x64x64, .f32⟩
  | 86 => ⟨S_, .f32⟩
  | 87 => ⟨S64, .f32⟩
  | 88 => ⟨S64, .f32⟩
  | 89 => ⟨S1x64, .f32⟩
  | 90 => ⟨S1x1x64, .f32⟩
  | 91 => ⟨S2x4x64, .f32⟩
  | 92 => ⟨S2x4x64, .f32⟩
  | 93 => ⟨S2x4x64, .f32⟩
  | 94 => ⟨S2x4x64, .f32⟩
  | 95 => ⟨S_, .f32⟩
  | 96 => ⟨S64, .f32⟩
  | 97 => ⟨S64, .f32⟩
  | 98 => ⟨S1x64, .f32⟩
  | 99 => ⟨S1x1x64, .f32⟩
  | 100 => ⟨S2x4x64, .f32⟩
  | 101 => ⟨S2x4x64, .f32⟩
  | 102 => ⟨S2x4x64, .f32⟩
  | 103 => ⟨S2x4x64, .f32⟩
  | 104 => ⟨S_, .f32⟩
  | 105 => ⟨S2x4x1, .f32⟩
  | 106 => ⟨S2x4x1, .f32⟩
  | 107 => ⟨S2x4x1, .f32⟩
  | 108 => ⟨S2x4x1x1, .f32⟩
  | 109 => ⟨S2x68x4x4x64x64, .f32⟩
  | 110 => ⟨S2x1x1x4x64x64, .f32⟩
  | 111 => ⟨S2x68x4x4x64x64, .f32⟩
  | 112 => ⟨S2x68x4x4x64x64, .f32⟩
  | 113 => ⟨S2x68x4x4x64x128, .f32⟩
  | 114 => ⟨S_, .f32⟩
  | 115 => ⟨S4x4x128x128, .f32⟩
  | 116 => ⟨S2x4x4x128x128, .f32⟩
  | 117 => ⟨S68x2x4x4x64x128, .f32⟩
  | 118 => ⟨S68x2x4x4x64x128, .f32⟩
  | 119 => ⟨S68x2x4x4x64x128, .f32⟩
  | 120 => ⟨S_, .f32⟩
  | 121 => ⟨S68x2x4x4x64x128, .f32⟩
  | 122 => ⟨S_, .i32⟩
  | 123 => ⟨S68x2x4x4x64x128, .f32⟩
  | 124 => ⟨S68x2x4x4x64x128, .f32⟩
  | 125 => ⟨S68x2x4x4x64x128, .f32⟩
  | 126 => ⟨S2x4x64, .f32⟩
  | 127 => ⟨S2x4x1x1, .f32⟩
  | _ => ⟨S4x4352x2048, .bf16⟩

abbrev hbmTy0_1 (i : Nat) : BufTy := match i % 128 with
  | 0 => ⟨S2x4x64, .f32⟩
  | 1 => ⟨S_, .i32⟩
  | 2 => ⟨S2x4x4x128x128, .f32⟩
  | 3 => ⟨S68x2x4x4x64x128, .f32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S1x2x4x4x64x128, .f32⟩
  | 12 => ⟨S2x4x4x64x128, .f32⟩
  | 13 => ⟨S_, .i32⟩
  | 14 => ⟨S_, .i32⟩
  | 15 => ⟨S_, .i32⟩
  | 16 => ⟨S_, .i32⟩
  | 17 => ⟨S_, .i32⟩
  | 18 => ⟨S1x2x4x4x64x128, .f32⟩
  | 19 => ⟨S2x4x4x64x128, .f32⟩
  | 20 => ⟨S_, .i32⟩
  | 21 => ⟨S_, .i32⟩
  | 22 => ⟨S_, .i32⟩
  | 23 => ⟨S_, .i32⟩
  | 24 => ⟨S_, .i32⟩
  | 25 => ⟨S1x2x4x4x64x128, .f32⟩
  | 26 => ⟨S2x4x4x64x128, .f32⟩
  | 27 => ⟨S2x4x64x1, .f32⟩
  | 28 => ⟨S2x1x4x64x1, .f32⟩
  | 29 => ⟨S2x4x4x64x128, .f32⟩
  | 30 => ⟨S2x4x4x64x128, .f32⟩
  | 31 => ⟨S2x4x4x64x128, .f32⟩
  | 32 => ⟨S2x1x4x1x1, .f32⟩
  | 33 => ⟨S2x4x4x128x128, .f32⟩
  | 34 => ⟨S2x4x4x128x128, .f32⟩
  | 35 => ⟨S2x4x64x1, .f32⟩
  | 36 => ⟨S2x1x4x64x1, .f32⟩
  | 37 => ⟨S2x4x4x64x128, .f32⟩
  | 38 => ⟨S2x4x4x64x128, .f32⟩
  | 39 => ⟨S2x4x4x128x128, .f32⟩
  | 40 => ⟨S2x4x4x128x128, .f32⟩
  | 41 => ⟨S1x2x4x4x64x128, .f32⟩
  | 42 => ⟨S_, .i32⟩
  | 43 => ⟨S_, .i32⟩
  | 44 => ⟨S_, .i32⟩
  | 45 => ⟨S_, .i32⟩
  | 46 => ⟨S_, .i32⟩
  | 47 => ⟨S68x2x4x4x64x128, .f32⟩
  | 48 => ⟨S_, .i32⟩
  | 49 => ⟨S_, .i32⟩
  | 50 => ⟨S2x68x4x4x64x128, .f32⟩
  | 51 => ⟨S2x68x4x4x64x128, .f32⟩
  | 52 => ⟨S2x4x68x64x4x128, .f32⟩
  | 53 => ⟨S2x4x4352x4x128, .f32⟩
  | 54 => ⟨S1x4x4352x4x128, .f32⟩
  | 55 => ⟨S4x4352x4x128, .f32⟩
  | 56 => ⟨S1x4x4352x4x128, .f32⟩
  | 57 => ⟨S4x4352x4x128, .f32⟩
  | 58 => ⟨S4x256x4x128, .f32⟩
  | 59 => ⟨S4x256x4x128, .f32⟩
  | 60 => ⟨S4x4096x4x128, .f32⟩
  | 61 => ⟨S4x4096x4x128, .f32⟩
  | 62 => ⟨S4x4352x4x128, .f32⟩
  | 63 => ⟨S4x4352x4x128, .f32⟩
  | 64 => ⟨S128, .f32⟩
  | 65 => ⟨S_, .f32⟩
  | 66 => ⟨S4x4352x4, .f32⟩
  | 67 => ⟨S4x4352x4x1, .f32⟩
  | 68 => ⟨S_, .f32⟩
  | 69 => ⟨S4x4352x4x1, .f32⟩
  | 70 => ⟨S4x4352x4x1, .f32⟩
  | 71 => ⟨S4x4352x4x128, .f32⟩
  | 72 => ⟨S4x4352x4x128, .f32⟩
  | 73 => ⟨S4x4352x4x128, .f32⟩
  | 74 => ⟨S_, .f32⟩
  | 75 => ⟨S4x4352x4, .f32⟩
  | 76 => ⟨S4x4352x4x1, .f32⟩
  | 77 => ⟨S_, .f32⟩
  | 78 => ⟨S4x4352x4x1, .f32⟩
  | 79 => ⟨S4x4352x4x1, .f32⟩
  | 80 => ⟨S4x4352x4x128, .f32⟩
  | 81 => ⟨S4x4352x4x128, .f32⟩
  | 82 => ⟨S_, .f32⟩
  | 83 => ⟨S4x4352x4x1, .f32⟩
  | 84 => ⟨S4x4352x4x1, .f32⟩
  | 85 => ⟨S4x4352x4x1, .f32⟩
  | 86 => ⟨S4x4352x4x128, .f32⟩
  | 87 => ⟨S4x4352x4x128, .f32⟩
  | 88 => ⟨S1x1x1x128, .f32⟩
  | 89 => ⟨S4x4352x4x128, .f32⟩
  | 90 => ⟨S4x4352x4x128, .f32⟩
  | 91 => ⟨S4x4352x4x128, .f32⟩
  | 92 => ⟨S4x4352x4x128, .f32⟩
  | 93 => ⟨S_, .f32⟩
  | 94 => ⟨S4x4352x4x128, .f32⟩
  | 95 => ⟨S4x4352x4x128, .f32⟩
  | 96 => ⟨S_, .f32⟩
  | 97 => ⟨S4x4352x4x128, .f32⟩
  | 98 => ⟨S4x4352x4x128, .f32⟩
  | 99 => ⟨S4x4352x4x128, .f32⟩
  | 100 => ⟨S4x4352x4x128, .f32⟩
  | 101 => ⟨S4x4352x512, .f32⟩
  | 102 => ⟨S4x4096x512, .f32⟩
  | 103 => ⟨S4x4096x512, .bf16⟩
  | _ => ⟨S4x4352x2048, .bf16⟩

abbrev hbmTy (i : Nat) : BufTy := match i / 128 with
  | 0 => hbmTy0_0 i
  | 1 => hbmTy0_1 i
  | _ => ⟨S4x4352x2048, .bf16⟩

abbrev bufTy : (tb : Table) → Fin (tcTables nBuf tb) → BufTy
  | .hbm, ⟨i, _⟩ => hbmTy i
  | _, _ => ⟨S4x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_1 : Ref sig .tc := ⟨.hbm, 79, rfl⟩
abbrev main_call7_v0 : Ref sig .tc := ⟨.hbm, 80, rfl⟩
abbrev main_call7_v1 : Ref sig .tc := ⟨.hbm, 81, rfl⟩
abbrev main_call7_v2 : Ref sig .tc := ⟨.hbm, 82, rfl⟩
abbrev main_call7_v3 : Ref sig .tc := ⟨.hbm, 83, rfl⟩
abbrev main_call7_v4 : Ref sig .tc := ⟨.hbm, 84, rfl⟩
abbrev main_v59 : Ref sig .tc := ⟨.hbm, 85, rfl⟩
abbrev main_cst_2 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_3 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_4 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_5 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_6 : Ref sig .tc := ⟨.hbm, 120, rfl⟩
abbrev main_v90 : Ref sig .tc := ⟨.hbm, 121, rfl⟩
abbrev main_c : Ref sig .tc := ⟨.hbm, 122, rfl⟩
abbrev main_v91_0 : Ref sig .tc := ⟨.hbm, 123, rfl⟩
abbrev main_v91_1 : Ref sig .tc := ⟨.hbm, 124, rfl⟩
abbrev main_v91_2 : Ref sig .tc := ⟨.hbm, 125, rfl⟩
abbrev main_v91_3 : Ref sig .tc := ⟨.hbm, 126, rfl⟩
abbrev main_v91_4 : Ref sig .tc := ⟨.hbm, 127, rfl⟩
abbrev main_v91_5 : Ref sig .tc := ⟨.hbm, 128, rfl⟩
abbrev main_v91_6 : Ref sig .tc := ⟨.hbm, 129, rfl⟩
abbrev main_v91_7 : Ref sig .tc := ⟨.hbm, 130, rfl⟩
abbrev main_v91_8 : Ref sig .tc := ⟨.hbm, 131, rfl⟩
abbrev main_while0c_c_20 : Ref sig .tc := ⟨.hbm, 132, rfl⟩
abbrev main_while0c_v133 : Ref sig .tc := ⟨.hbm, 133, rfl⟩
abbrev main_while0b_call8_c : Ref sig .tc := ⟨.hbm, 134, rfl⟩
abbrev main_while0b_call8_c_0 : Ref sig .tc := ⟨.hbm, 135, rfl⟩
abbrev main_while0b_call8_c_1 : Ref sig .tc := ⟨.hbm, 136, rfl⟩
abbrev main_while0b_call8_c_2 : Ref sig .tc := ⟨.hbm, 137, rfl⟩
abbrev main_while0b_call8_c_3 : Ref sig .tc := ⟨.hbm, 138, rfl⟩
abbrev main_while0b_call8_v0 : Ref sig .tc := ⟨.hbm, 139, rfl⟩
abbrev main_while0b_v133 : Ref sig .tc := ⟨.hbm, 140, rfl⟩
abbrev main_while0b_call9_c : Ref sig .tc := ⟨.hbm, 141, rfl⟩
abbrev main_while0b_call9_c_0 : Ref sig .tc := ⟨.hbm, 142, rfl⟩
abbrev main_while0b_call9_c_1 : Ref sig .tc := ⟨.hbm, 143, rfl⟩
abbrev main_while0b_call9_c_2 : Ref sig .tc := ⟨.hbm, 144, rfl⟩
abbrev main_while0b_call9_c_3 : Ref sig .tc := ⟨.hbm, 145, rfl⟩
abbrev main_while0b_call9_v0 : Ref sig .tc := ⟨.hbm, 146, rfl⟩
abbrev main_while0b_v134 : Ref sig .tc := ⟨.hbm, 147, rfl⟩
abbrev main_while0b_call10_c : Ref sig .tc := ⟨.hbm, 148, rfl⟩
abbrev main_while0b_call10_c_0 : Ref sig .tc := ⟨.hbm, 149, rfl⟩
abbrev main_while0b_call10_c_1 : Ref sig .tc := ⟨.hbm, 150, rfl⟩
abbrev main_while0b_call10_c_2 : Ref sig .tc := ⟨.hbm, 151, rfl⟩
abbrev main_while0b_call10_c_3 : Ref sig .tc := ⟨.hbm, 152, rfl⟩
abbrev main_while0b_call10_v0 : Ref sig .tc := ⟨.hbm, 153, rfl⟩
abbrev main_while0b_v135 : Ref sig .tc := ⟨.hbm, 154, rfl⟩
abbrev main_while0b_v136 : Ref sig .tc := ⟨.hbm, 155, rfl⟩
abbrev main_while0b_v137 : Ref sig .tc := ⟨.hbm, 156, rfl⟩
abbrev main_while0b_v138 : Ref sig .tc := ⟨.hbm, 157, rfl⟩
abbrev main_while0b_v139 : Ref sig .tc := ⟨.hbm, 158, rfl⟩
abbrev main_while0b_v140 : Ref sig .tc := ⟨.hbm, 159, rfl⟩
abbrev main_while0b_v141 : Ref sig .tc := ⟨.hbm, 160, rfl⟩
abbrev main_while0b_v142 : Ref sig .tc := ⟨.hbm, 161, rfl⟩
abbrev main_while0b_v143 : Ref sig .tc := ⟨.hbm, 162, rfl⟩
abbrev main_while0b_v144 : Ref sig .tc := ⟨.hbm, 163, rfl⟩
abbrev main_while0b_v145 : Ref sig .tc := ⟨.hbm, 164, rfl⟩
abbrev main_while0b_v146 : Ref sig .tc := ⟨.hbm, 165, rfl⟩
abbrev main_while0b_v147 : Ref sig .tc := ⟨.hbm, 166, rfl⟩
abbrev main_while0b_v148 : Ref sig .tc := ⟨.hbm, 167, rfl⟩
abbrev main_while0b_v149 : Ref sig .tc := ⟨.hbm, 168, rfl⟩
abbrev main_while0b_call11_v0 : Ref sig .tc := ⟨.hbm, 169, rfl⟩
abbrev main_while0b_call11_c : Ref sig .tc := ⟨.hbm, 170, rfl⟩
abbrev main_while0b_call11_c_0 : Ref sig .tc := ⟨.hbm, 171, rfl⟩
abbrev main_while0b_call11_c_1 : Ref sig .tc := ⟨.hbm, 172, rfl⟩
abbrev main_while0b_call11_c_2 : Ref sig .tc := ⟨.hbm, 173, rfl⟩
abbrev main_while0b_call11_c_3 : Ref sig .tc := ⟨.hbm, 174, rfl⟩
abbrev main_while0b_v150 : Ref sig .tc := ⟨.hbm, 175, rfl⟩
abbrev main_while0b_c_20 : Ref sig .tc := ⟨.hbm, 176, rfl⟩
abbrev main_while0b_v151 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_cst_7 : Ref sig .tc := ⟨.hbm, 193, rfl⟩
abbrev main_v107 : Ref sig .tc := ⟨.hbm, 194, rfl⟩
abbrev main_v108 : Ref sig .tc := ⟨.hbm, 195, rfl⟩
abbrev main_cst_8 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_cst_9 : Ref sig .tc := ⟨.hbm, 202, rfl⟩
abbrev main_v114 : Ref sig .tc := ⟨.hbm, 203, rfl⟩
abbrev main_v115 : Ref sig .tc := ⟨.hbm, 204, rfl⟩
abbrev main_cst_10 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_cst_11 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_call14_v0 : Ref sig .tc := ⟨.hbm, 219, rfl⟩
abbrev main_call14_v1 : Ref sig .tc := ⟨.hbm, 220, rfl⟩
abbrev main_call14_cst : Ref sig .tc := ⟨.hbm, 221, rfl⟩
abbrev main_call14_v2 : Ref sig .tc := ⟨.hbm, 222, rfl⟩
abbrev main_call14_v3 : Ref sig .tc := ⟨.hbm, 223, rfl⟩
abbrev main_call14_cst_0 : Ref sig .tc := ⟨.hbm, 224, rfl⟩
abbrev main_call14_v4 : Ref sig .tc := ⟨.hbm, 225, rfl⟩
abbrev main_call14_v5 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩

abbrev nD : Nat := 1
abbrev τ : Topo := Topo.v7x

variable {F : FTy → Type} [FloatOps F]

abbrev main_while0_count : Scf.Loop 32 := ⟨0#32, 68#32, 1#32⟩
-- ==== Kernel2.lean ====
abbrev S4x4096x1024 : Shape := ⟨3, ![4, 4096, 1024]⟩
abbrev S4x4096x512 : Shape := ⟨3, ![4, 4096, 512]⟩
abbrev S8x6x1024 : Shape := ⟨3, ![8, 6, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S1x1024x512 : Shape := ⟨3, ![1, 1024, 512]⟩
abbrev S1x6x1024 : Shape := ⟨3, ![1, 6, 1024]⟩
abbrev S1024x2816 : Shape := ⟨2, ![1024, 2816]⟩
abbrev S6x1024 : Shape := ⟨2, ![6, 1024]⟩
abbrev S1x256x512 : Shape := ⟨3, ![1, 256, 512]⟩
abbrev S256x512 : Shape := ⟨2, ![256, 512]⟩
abbrev S512x1024 : Shape := ⟨2, ![512, 1024]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S256x2816 : Shape := ⟨2, ![256, 2816]⟩

abbrev nBuf : Space → Nat
  | .hbm => 17
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S8x6x1024, .f32⟩
  | .hbm, ⟨4, _⟩ => ⟨S1x1024x1024, .f32⟩
  | .hbm, ⟨5, _⟩ => ⟨S1x1024, .f32⟩
  | .hbm, ⟨6, _⟩ => ⟨S1x1024x5632, .f32⟩
  | .hbm, ⟨7, _⟩ => ⟨S1x2816x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x5632, .f32⟩
  | .hbm, ⟨12, _⟩ => ⟨S1024x5632, .bf16⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1024x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S4x4096x1024 : Shape := ⟨3, ![4, 4096, 1024]⟩
abbrev S4x4096x512 : Shape := ⟨3, ![4, 4096, 512]⟩
abbrev S8x6x1024 : Shape := ⟨3, ![8, 6, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S4x1x1024 : Shape := ⟨3, ![4, 1, 1024]⟩
abbrev S4x1024 : Shape := ⟨2, ![4, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5632 : Shape := ⟨2, ![1024, 5632]⟩
abbrev S2816x1024 : Shape := ⟨2, ![2816, 1024]⟩
abbrev S4x4096x5632 : Shape := ⟨3, ![4, 4096, 5632]⟩
abbrev S4x4096x2816 : Shape := ⟨3, ![4, 4096, 2816]⟩

abbrev nBuf : Space → Nat
  | .hbm => 87
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S8x6x1024, .f32⟩
  | .hbm, ⟨4, _⟩ => ⟨S1x1024x1024, .f32⟩
  | .hbm, ⟨5, _⟩ => ⟨S1x1024, .f32⟩
  | .hbm, ⟨6, _⟩ => ⟨S1x1024x5632, .f32⟩
  | .hbm, ⟨7, _⟩ => ⟨S1x2816x1024, .f32⟩
  | .hbm, ⟨8, _⟩ => ⟨S1024, .f32⟩
  | .hbm, ⟨9, _⟩ => ⟨S4x1x1024, .f32⟩
  | .hbm, ⟨10, _⟩ => ⟨S4x1024, .f32⟩
  | .hbm, ⟨11, _⟩ => ⟨S4x1x1024, .f32⟩
  | .hbm, ⟨12, _⟩ => ⟨S4x1x1024, .f32⟩
  | .hbm, ⟨13, _⟩ => ⟨S4x1024, .f32⟩
  | .hbm, ⟨14, _⟩ => ⟨S4x1x1024, .f32⟩
  | .hbm, ⟨15, _⟩ => ⟨S4x1x1024, .f32⟩
  | .hbm, ⟨16, _⟩ => ⟨S4x1024, .f32⟩
  | .hbm, ⟨17, _⟩ => ⟨S4x1x1024, .f32⟩
  | .hbm, ⟨18, _⟩ => ⟨S4x1x1024, .f32⟩
  | .hbm, ⟨19, _⟩ => ⟨S4x1024, .f32⟩
  | .hbm, ⟨20, _⟩ => ⟨S4x1x1024, .f32⟩
  | .hbm, ⟨21, _⟩ => ⟨S4x4096x1024, .bf16⟩
  | .hbm, ⟨22, _⟩ => ⟨S4x4096x1024, .f32⟩
  | .hbm, ⟨23, _⟩ => ⟨S1024x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S1024, .f32⟩
  | .hbm, ⟨29, _⟩ => ⟨S4x4096x1024, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x1024, .f32⟩
  | .hbm, ⟨41, _⟩ => ⟨S4x4096x1024, .f32⟩
  | .hbm, ⟨42, _⟩ => ⟨S1x1x1024, .f32⟩
  | .hbm, ⟨43, _⟩ => ⟨S4x4096x1024, .f32⟩
  | .hbm, ⟨44, _⟩ => ⟨S4x4096x1024, .f32⟩
  | .hbm, ⟨45, _⟩ => ⟨S_, .f32⟩
  | .hbm, ⟨46, _⟩ => ⟨S4x1x1024, .f32⟩
  | .hbm, ⟨47, _⟩ => ⟨S4x1x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S1024x5632, .f32⟩
  | .hbm, ⟨53, _⟩ => ⟨S2816x1024, .f32⟩
  | .hbm, ⟨54, _⟩ => ⟨S4x4096x5632, .f32⟩
  | .hbm, ⟨55, _⟩ => ⟨S4x4096x2816, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S_, .f32⟩
  | .hbm, ⟨60, _⟩ => ⟨S4x4096x2816, .f32⟩
  | .hbm, ⟨61, _⟩ => ⟨S4x4096x2816, .f32⟩
  | .hbm, ⟨62, _⟩ => ⟨S_, .f32⟩
  | .hbm, ⟨63, _⟩ => ⟨S4x4096x2816, .f32⟩
  | .hbm, ⟨64, _⟩ => ⟨S4x4096x2816, .f32⟩
  | .hbm, ⟨65, _⟩ => ⟨S4x4096x2816, .f32⟩
  | .hbm, ⟨66, _⟩ => ⟨S4x4096x2816, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S_, .f32⟩
  | .hbm, ⟨73, _⟩ => ⟨S4x4096, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S4x4096x1, .f32⟩
  | .hbm, ⟨82, _⟩ => ⟨S4x4096x1024, .f32⟩
  | .hbm, ⟨83, _⟩ => ⟨S4x4096x1024, .f32⟩
  | .hbm, ⟨84, _⟩ => ⟨S1x1x1024, .f32⟩
  | .hbm, ⟨85, _⟩ => ⟨S4x4096x1024, .f32⟩
  | .hbm, ⟨86, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_3 : Ref sig .tc := ⟨.hbm, 72, rfl⟩
abbrev main_v51 : Ref sig .tc := ⟨.hbm, 73, rfl⟩
abbrev main_v52 : Ref sig .tc := ⟨.hbm, 74, rfl⟩
abbrev main_cst_4 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x256x1024 : Shape := ⟨3, ![4, 256, 1024]⟩
abbrev S8x6x1024 : Shape := ⟨3, ![8, 6, 1024]⟩
abbrev S1x1024 : Shape := ⟨2, ![1, 1024]⟩
abbrev S1024x4224 : Shape := ⟨2, ![1024, 4224]⟩
abbrev S1x5x1536 : Shape := ⟨3, ![1, 5, 1536]⟩
abbrev S1x2x4 : Shape := ⟨3, ![1, 2, 4]⟩
abbrev S4352x64 : Shape := ⟨2, ![4352, 64]⟩
abbrev S2x256x256 : Shape := ⟨3, ![2, 256, 256]⟩
abbrev S_ : Shape := ⟨0, ![]⟩
abbrev S8x128 : Shape := ⟨2, ![8, 128]⟩
abbrev S2x4 : Shape := ⟨2, ![2, 4]⟩
abbrev S8 : Shape := ⟨1, ![8]⟩
abbrev S1 : Shape := ⟨1, ![1]⟩
abbrev S2 : Shape := ⟨1, ![2]⟩
abbrev S4352x128 : Shape := ⟨2, ![4352, 128]⟩
abbrev S5x1536 : Shape := ⟨2, ![5, 1536]⟩
abbrev S4x4352x2048 : Shape := ⟨3, ![4, 4352, 2048]⟩
abbrev S4x4352x128 : Shape := ⟨3, ![4, 4352, 128]⟩
abbrev S4x8x4352 : Shape := ⟨3, ![4, 8, 4352]⟩
abbrev S4x8x1024 : Shape := ⟨3, ![4, 8, 1024]⟩
abbrev S256x128 : Shape := ⟨2, ![256, 128]⟩
abbrev S4x256x2048 : Shape := ⟨3, ![4, 256, 2048]⟩
abbrev S4x256x128 : Shape := ⟨3, ![4, 256, 128]⟩
abbrev S4x8x256 : Shape := ⟨3, ![4, 8, 256]⟩
abbrev S48x272x128 : Shape := ⟨3, ![48, 272, 128]⟩
abbrev S4x272x1024 : Shape := ⟨3, ![4, 272, 1024]⟩
abbrev S1x256x1024 : Shape := ⟨3, ![1, 256, 1024]⟩
abbrev S256x1024 : Shape := ⟨2, ![256, 1024]⟩
abbrev S1x6x1024 : Shape := ⟨3, ![1, 6, 1024]⟩
abbrev S6x1024 : Shape := ⟨2, ![6, 1024]⟩
abbrev S256 : Shape := ⟨1, ![256]⟩
abbrev S256x1 : Shape := ⟨2, ![256, 1]⟩
abbrev S1x8x1024 : Shape := ⟨3, ![1, 8, 1024]⟩
abbrev S8x1024 : Shape := ⟨2, ![8, 1024]⟩
abbrev S8x1 : Shape := ⟨2, ![8, 1]⟩
abbrev S272x1024 : Shape := ⟨2, ![272, 1024]⟩
abbrev S1x272x1024 : Shape := ⟨3, ![1, 272, 1024]⟩
abbrev S1024x256 : Shape := ⟨2, ![1024, 256]⟩
abbrev S272x256 : Shape := ⟨2, ![272, 256]⟩
abbrev S256x256 : Shape := ⟨2, ![256, 256]⟩
abbrev S272x128 : Shape := ⟨2, ![272, 128]⟩
abbrev S1x8x128 : Shape := ⟨3, ![1, 8, 128]⟩
abbrev S1x256x128 : Shape := ⟨3, ![1, 256, 128]⟩
abbrev S1x128 : Shape := ⟨2, ![1, 128]⟩
abbrev S1024x128 : Shape := ⟨2, ![1024, 128]⟩
abbrev S256x384 : Shape := ⟨2, ![256, 384]⟩
abbrev S1x256x256 : Shape := ⟨3, ![1, 256, 256]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 37
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S8x6x1024, .f32⟩
  | .hbm, ⟨3, _⟩ => ⟨S1x1024, .f32⟩
  | .hbm, ⟨4, _⟩ => ⟨S1024x4224, .bf16⟩
  | .hbm, ⟨5, _⟩ => ⟨S1x5x1536, .f32⟩
  | .hbm, ⟨6, _⟩ => ⟨S1x2x4, .f32⟩
  | .hbm, ⟨7, _⟩ => ⟨S1x2x4, .f32⟩
  | .hbm, ⟨8, _⟩ => ⟨S4352x64, .f32⟩
  | .hbm, ⟨9, _⟩ => ⟨S4352x64, .f32⟩
  | .hbm, ⟨10, _⟩ => ⟨S2x256x256, .bf16⟩
  | .hbm, ⟨11, _⟩ => ⟨S_, .f32⟩
  | .hbm, ⟨12, _⟩ => ⟨S8x128, .f32⟩
  | .hbm, ⟨13, _⟩ => ⟨S2x4, .f32⟩
  | .hbm, ⟨14, _⟩ => ⟨S8, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S8x128, .f32⟩
  | .hbm, ⟨21, _⟩ => ⟨S2x4, .f32⟩
  | .hbm, ⟨22, _⟩ => ⟨S8, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S8x128, .f32⟩
  | .hbm, ⟨29, _⟩ => ⟨S4352x128, .f32⟩
  | .hbm, ⟨30, _⟩ => ⟨S4352x64, .f32⟩
  | .hbm, ⟨31, _⟩ => ⟨S4352x128, .f32⟩
  | .hbm, ⟨32, _⟩ => ⟨S5x1536, .f32⟩
  | .hbm, ⟨33, _⟩ => ⟨S4x4352x2048, .bf16⟩
  | .hbm, ⟨34, _⟩ => ⟨S4x4352x2048, .bf16⟩
  | .hbm, ⟨35, _⟩ => ⟨S4x4352x128, .f32⟩
  | .hbm, ⟨36, _⟩ => ⟨S4x8x4352, .f32⟩
  | .local _ .vmem, ⟨0, _⟩ => ⟨S4x256x1024, .f32⟩
  | .local _ .vmem, ⟨1, _⟩ => ⟨S4x256x1024, .f32⟩
  | .local _ .vmem, ⟨2, _⟩ => ⟨S4x8x1024, .f32⟩
  | .local _ .vmem, ⟨3, _⟩ => ⟨S4x8x1024, .f32⟩
  | .local _ .vmem, ⟨4, _⟩ => ⟨S4x8x1024, .f32⟩
  | .local _ .vmem, ⟨5, _⟩ => ⟨S4x8x1024, .f32⟩
  | .local _ .vmem, ⟨6, _⟩ => ⟨S4x256x1024, .f32⟩
  | .local _ .vmem, ⟨7, _⟩ => ⟨S8x6x1024, .f32⟩
  | .local _ .vmem, ⟨8, _⟩ => ⟨S1x1024, .f32⟩
  | .local _ .vmem, ⟨9, _⟩ => ⟨S1024x4224, .bf16⟩
  | .local _ .vmem, ⟨10, _⟩ => ⟨S5x1536, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S8x128, .f32⟩
  | .local _ .vmem, ⟨16, _⟩ => ⟨S2x256x256, .bf16⟩
  | .local _ .vmem, ⟨17, _⟩ => ⟨S4x256x2048, .bf16⟩
  | .local _ .vmem, ⟨18, _⟩ => ⟨S4x256x2048, .bf16⟩
  | .local _ .vmem, ⟨19, _⟩ => ⟨S4x256x2048, .bf16⟩
  | .local _ .vmem, ⟨20, _⟩ => ⟨S4x256x2048, .bf16⟩
  | .local _ .vmem, ⟨21, _⟩ => ⟨S4x256x128, .f32⟩
  | .local _ .vmem, ⟨22, _⟩ => ⟨S4x256x128, .f32⟩
  | .local _ .vmem, ⟨23, _⟩ => ⟨S4x8x256, .f32⟩
  | .local _ .vmem, ⟨24, _⟩ => ⟨S4x8x256, .f32⟩
  | .local _ .vmem, ⟨25, _⟩ => ⟨S48x272x128, .f32⟩
  | .local _ .vmem, ⟨26, _⟩ => ⟨S4x272x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v17_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![17], ![false]⟩

def k0_off1 (i : grid0.Coords) (c0_i32_10 : BitVec 32) : Fin 3 → Nat :=
  let arg0 : BitVec 32 := BitVec.ofNat 32 (i 0).val
  let c0_i32_9 : BitVec 32 := 0#32
  let v14 : BitVec 1 := Scalar.cmpi .eq arg0 c0_i32_9
  let c4_i32 : BitVec 32 := 4#32
  let v15 : BitVec 32 := Scalar.select v14 c4_i32 c0_i32_10
  let v16 : Index := Scalar.indexCast v15
  let c0_11 : Index := 0#32
  let c0_12 : Index := 0#32
  ![v16.toNat, 0, 0]
def cc0_transform_0 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c32_i32 : BitVec 32 := 32#32
  let v1 : BitVec 32 := Scalar.muli v0 c32_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c1_i32_0 : BitVec 32 := 1#32
  let v1 : BitVec 32 := Scalar.addi v0 c1_i32_0
  let c0_i32 : BitVec 32 := 0#32
  let v2 : BitVec 32 := Scalar.maxsi v1 c0_i32
  let c32_i32 : BitVec 32 := 32#32
  let v3 : BitVec 32 := Scalar.muli v2 c32_i32
  let c511_i32 : BitVec 32 := 511#32
  let v4 : BitVec 32 := Scalar.minsi v3 c511_i32
  let c0_i32_1 : BitVec 32 := 0#32
  let c0_i32_2 : BitVec 32 := 0#32
  let c0_i32_3 : BitVec 32 := 0#32
  ![c0_i32_1.toNat, v4.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4224 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4x256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S4x4096x1024 : Shape := ⟨3, ![4, 4096, 1024]⟩
abbrev S4x256x1024 : Shape := ⟨3, ![4, 256, 1024]⟩
abbrev S8x6x1024 : Shape := ⟨3, ![8, 6, 1024]⟩
abbrev S1x1024 : Shape := ⟨2, ![1, 1024]⟩
abbrev S1024x4224 : Shape := ⟨2, ![1024, 4224]⟩
abbrev S1x5x1536 : Shape := ⟨3, ![1, 5, 1536]⟩
abbrev S1x2x4 : Shape := ⟨3, ![1, 2, 4]⟩
abbrev S4352x64 : Shape := ⟨2, ![4352, 64]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S4x256 : Shape := ⟨2, ![4, 256]⟩
abbrev S4x256x1 : Shape := ⟨3, ![4, 256, 1]⟩
abbrev S4x4352x1024 : Shape := ⟨3, ![4, 4352, 1024]⟩
abbrev S4x4352x4224 : Shape := ⟨3, ![4, 4352, 4224]⟩
abbrev S4x4352x1536 : Shape := ⟨3, ![4, 4352, 1536]⟩
abbrev S4x4352x512 : Shape := ⟨3, ![4, 4352, 512]⟩
abbrev S4x4352x8 : Shape := ⟨3, ![4, 4352, 8]⟩
abbrev S4x4352x120 : Shape := ⟨3, ![4, 4352, 120]⟩
abbrev S5x1536 : Shape := ⟨2, ![5, 1536]⟩
abbrev S4x256x1536 : Shape := ⟨3, ![4, 256, 1536]⟩
abbrev S4x260x1536 : Shape := ⟨3, ![4, 260, 1536]⟩
abbrev S1x1536 : Shape := ⟨2, ![1, 1536]⟩
abbrev S1536 : Shape := ⟨1, ![1536]⟩
abbrev S1x1x1536 : Shape := ⟨3, ![1, 1, 1536]⟩
abbrev S4x4096x1536 : Shape := ⟨3, ![4, 4096, 1536]⟩
abbrev S4x4100x1536 : Shape := ⟨3, ![4, 4100, 1536]⟩
abbrev S4x4352x4x128 : Shape := ⟨4, ![4, 4352, 4, 128]⟩
abbrev S4x4352x4 : Shape := ⟨3, ![4, 4352, 4]⟩
abbrev S4x4352x4x1 : Shape := ⟨4, ![4, 4352, 4, 1]⟩
abbrev S4x4352x2048 : Shape := ⟨3, ![4, 4352, 2048]⟩
abbrev S1x4352x1x64 : Shape := ⟨4, ![1, 4352, 1, 64]⟩
abbrev S4x4352x4x64 : Shape := ⟨4, ![4, 4352, 4, 64]⟩
abbrev S2x4 : Shape := ⟨2, ![2, 4]⟩
abbrev S8 : Shape := ⟨1, ![8]⟩
abbrev S1x1x8 : Shape := ⟨3, ![1, 1, 8]⟩
abbrev S4x34x128x8 : Shape := ⟨4, ![4, 34, 128, 8]⟩
abbrev S128x128 : Shape := ⟨2, ![128, 128]⟩
abbrev S4x34x128x4 : Shape := ⟨4, ![4, 34, 128, 4]⟩
abbrev S4x34x4x128 : Shape := ⟨4, ![4, 34, 4, 128]⟩
abbrev S4x4352x128 : Shape := ⟨3, ![4, 4352, 128]⟩
abbrev S4x8x4352 : Shape := ⟨3, ![4, 8, 4352]⟩

abbrev nBuf : Space → Nat
  | .hbm => 307
  | .vmem => 0
  | .smem => 0
  | _ => 0

abbrev hbmTy0_0 (i : Nat) : BufTy := match i % 128 with
  | 0 => ⟨S4x4096x1024, .f32⟩
  | 1 => ⟨S4x256x1024, .f32⟩
  | 2 => ⟨S8x6x1024, .f32⟩
  | 3 => ⟨S1x1024, .f32⟩
  | 4 => ⟨S1024x4224, .bf16⟩
  | 5 => ⟨S1x5x1536, .f32⟩
  | 6 => ⟨S1x2x4, .f32⟩
  | 7 => ⟨S1x2x4, .f32⟩
  | 8 => ⟨S4352x64, .f32⟩
  | 9 => ⟨S4352x64, .f32⟩
  | 10 => ⟨S1024, .f32⟩
  | 11 => ⟨S4x4096x1024, .f32⟩
  | 12 => ⟨S_, .f32⟩
  | 13 => ⟨S4x4096, .f32⟩
  | 14 => ⟨S4x4096x1, .f32⟩
  | 15 => ⟨S_, .f32⟩
  | 16 => ⟨S4x4096x1, .f32⟩
  | 17 => ⟨S4x4096x1, .f32⟩
  | 18 => ⟨S_, .f32⟩
  | 19 => ⟨S4x4096x1, .f32⟩
  | 20 => ⟨S4x4096x1, .f32⟩
  | 21 => ⟨S4x4096x1, .f32⟩
  | 22 => ⟨S4x4096x1024, .f32⟩
  | 23 => ⟨S4x4096x1024, .f32⟩
  | 24 => ⟨S1x1x1024, .f32⟩
  | 25 => ⟨S4x4096x1024, .f32⟩
  | 26 => ⟨S4x4096x1024, .f32⟩
  | 27 => ⟨S4x1x1024, .f32⟩
  | 28 => ⟨S4x1024, .f32⟩
  | 29 => ⟨S4x1x1024, .f32⟩
  | 30 => ⟨S4x1x1024, .f32⟩
  | 31 => ⟨S4x1024, .f32⟩
  | 32 => ⟨S4x1x1024, .f32⟩
  | 33 => ⟨S_, .f32⟩
  | 34 => ⟨S4x1x1024, .f32⟩
  | 35 => ⟨S4x1x1024, .f32⟩
  | 36 => ⟨S4x4096x1024, .f32⟩
  | 37 => ⟨S4x4096x1024, .f32⟩
  | 38 => ⟨S4x4096x1024, .f32⟩
  | 39 => ⟨S4x4096x1024, .f32⟩
  | 40 => ⟨S1024, .f32⟩
  | 41 => ⟨S4x256x1024, .f32⟩
  | 42 => ⟨S_, .f32⟩
  | 43 => ⟨S4x256, .f32⟩
  | 44 => ⟨S4x256x1, .f32⟩
  | 45 => ⟨S_, .f32⟩
  | 46 => ⟨S4x256x1, .f32⟩
  | 47 => ⟨S4x256x1, .f32⟩
  | 48 => ⟨S_, .f32⟩
  | 49 => ⟨S4x256x1, .f32⟩
  | 50 => ⟨S4x256x1, .f32⟩
  | 51 => ⟨S4x256x1, .f32⟩
  | 52 => ⟨S4x256x1024, .f32⟩
  | 53 => ⟨S4x256x1024, .f32⟩
  | 54 => ⟨S1x1x1024, .f32⟩
  | 55 => ⟨S4x256x1024, .f32⟩
  | 56 => ⟨S4x256x1024, .f32⟩
  | 57 => ⟨S1x1x1024, .f32⟩
  | 58 => ⟨S1024, .f32⟩
  | 59 => ⟨S1x1x1024, .f32⟩
  | 60 => ⟨S1024, .f32⟩
  | 61 => ⟨S_, .f32⟩
  | 62 => ⟨S1024, .f32⟩
  | 63 => ⟨S1024, .f32⟩
  | 64 => ⟨S1x1x1024, .f32⟩
  | 65 => ⟨S4x256x1024, .f32⟩
  | 66 => ⟨S4x256x1024, .f32⟩
  | 67 => ⟨S1x1x1024, .f32⟩
  | 68 => ⟨S4x256x1024, .f32⟩
  | 69 => ⟨S4x256x1024, .f32⟩
  | 70 => ⟨S4x4352x1024, .f32⟩
  | 71 => ⟨S1024x4224, .f32⟩
  | 72 => ⟨S4x4352x4224, .f32⟩
  | 73 => ⟨S4x4352x1536, .f32⟩
  | 74 => ⟨S4x4352x512, .f32⟩
  | 75 => ⟨S4x4352x512, .f32⟩
  | 76 => ⟨S4x4352x512, .f32⟩
  | 77 => ⟨S4x4352x512, .f32⟩
  | 78 => ⟨S4x4352x512, .f32⟩
  | 79 => ⟨S4x4352x8, .f32⟩
  | 80 => ⟨S4x4352x120, .f32⟩
  | 81 => ⟨S5x1536, .f32⟩
  | 82 => ⟨S4x256x1536, .f32⟩
  | 83 => ⟨S_, .i32⟩
  | 84 => ⟨S_, .f32⟩
  | 85 => ⟨S4x260x1536, .f32⟩
  | 86 => ⟨S4x256x1536, .f32⟩
  | 87 => ⟨S1x1536, .f32⟩
  | 88 => ⟨S1536, .f32⟩
  | 89 => ⟨S1x1x1536, .f32⟩
  | 90 => ⟨S4x256x1536, .f32⟩
  | 91 => ⟨S4x256x1536, .f32⟩
  | 92 => ⟨S4x256x1536, .f32⟩
  | 93 => ⟨S1x1536, .f32⟩
  | 94 => ⟨S1536, .f32⟩
  | 95 => ⟨S1x1x1536, .f32⟩
  | 96 => ⟨S4x256x1536, .f32⟩
  | 97 => ⟨S4x256x1536, .f32⟩
  | 98 => ⟨S4x256x1536, .f32⟩
  | 99 => ⟨S4x256x1536, .f32⟩
  | 100 => ⟨S1x1536, .f32⟩
  | 101 => ⟨S1536, .f32⟩
  | 102 => ⟨S1x1x1536, .f32⟩
  | 103 => ⟨S4x256x1536, .f32⟩
  | 104 => ⟨S4x256x1536, .f32⟩
  | 105 => ⟨S4x256x1536, .f32⟩
  | 106 => ⟨S4x256x1536, .f32⟩
  | 107 => ⟨S1x1536, .f32⟩
  | 108 => ⟨S1536, .f32⟩
  | 109 => ⟨S1x1x1536, .f32⟩
  | 110 => ⟨S4x256x1536, .f32⟩
  | 111 => ⟨S4x256x1536, .f32⟩
  | 112 => ⟨S4x256x1536, .f32⟩
  | 113 => ⟨S4x256x1536, .f32⟩
  | 114 => ⟨S1x1536, .f32⟩
  | 115 => ⟨S1536, .f32⟩
  | 116 => ⟨S1x1x1536, .f32⟩
  | 117 => ⟨S4x256x1536, .f32⟩
  | 118 => ⟨S4x256x1536, .f32⟩
  | 119 => ⟨S4x256x1536, .f32⟩
  | 120 => ⟨S4x256x1536, .f32⟩
  | 121 => ⟨S4x256x1536, .f32⟩
  | 122 => ⟨S_, .f32⟩
  | 123 => ⟨S4x256x1536, .f32⟩
  | 124 => ⟨S4x256x1536, .f32⟩
  | 125 => ⟨S_, .f32⟩
  | 126 => ⟨S4x256x1536, .f32⟩
  | 127 => ⟨S4x256x1536, .f32⟩
  | _ => ⟨S4x4096x1024, .f32⟩

abbrev hbmTy0_1 (i : Nat) : BufTy := match i % 128 with
  | 0 => ⟨S4x256x1536, .f32⟩
  | 1 => ⟨S4x4096x1536, .f32⟩
  | 2 => ⟨S_, .i32⟩
  | 3 => ⟨S_, .f32⟩
  | 4 => ⟨S4x4100x1536, .f32⟩
  | 5 => ⟨S4x4096x1536, .f32⟩
  | 6 => ⟨S1x1536, .f32⟩
  | 7 => ⟨S1536, .f32⟩
  | 8 => ⟨S1x1x1536, .f32⟩
  | 9 => ⟨S4x4096x1536, .f32⟩
  | 10 => ⟨S4x4096x1536, .f32⟩
  | 11 => ⟨S4x4096x1536, .f32⟩
  | 12 => ⟨S1x1536, .f32⟩
  | 13 => ⟨S1536, .f32⟩
  | 14 => ⟨S1x1x1536, .f32⟩
  | 15 => ⟨S4x4096x1536, .f32⟩
  | 16 => ⟨S4x4096x1536, .f32⟩
  | 17 => ⟨S4x4096x1536, .f32⟩
  | 18 => ⟨S4x4096x1536, .f32⟩
  | 19 => ⟨S1x1536, .f32⟩
  | 20 => ⟨S1536, .f32⟩
  | 21 => ⟨S1x1x1536, .f32⟩
  | 22 => ⟨S4x4096x1536, .f32⟩
  | 23 => ⟨S4x4096x1536, .f32⟩
  | 24 => ⟨S4x4096x1536, .f32⟩
  | 25 => ⟨S4x4096x1536, .f32⟩
  | 26 => ⟨S1x1536, .f32⟩
  | 27 => ⟨S1536, .f32⟩
  | 28 => ⟨S1x1x1536, .f32⟩
  | 29 => ⟨S4x4096x1536, .f32⟩
  | 30 => ⟨S4x4096x1536, .f32⟩
  | 31 => ⟨S4x4096x1536, .f32⟩
  | 32 => ⟨S4x4096x1536, .f32⟩
  | 33 => ⟨S1x1536, .f32⟩
  | 34 => ⟨S1536, .f32⟩
  | 35 => ⟨S1x1x1536, .f32⟩
  | 36 => ⟨S4x4096x1536, .f32⟩
  | 37 => ⟨S4x4096x1536, .f32⟩
  | 38 => ⟨S4x4096x1536, .f32⟩
  | 39 => ⟨S4x4096x1536, .f32⟩
  | 40 => ⟨S4x4096x1536, .f32⟩
  | 41 => ⟨S_, .f32⟩
  | 42 => ⟨S4x4096x1536, .f32⟩
  | 43 => ⟨S4x4096x1536, .f32⟩
  | 44 => ⟨S_, .f32⟩
  | 45 => ⟨S4x4096x1536, .f32⟩
  | 46 => ⟨S4x4096x1536, .f32⟩
  | 47 => ⟨S4x4096x1536, .f32⟩
  | 48 => ⟨S4x4352x1536, .f32⟩
  | 49 => ⟨S4x4352x512, .f32⟩
  | 50 => ⟨S4x4352x512, .f32⟩
  | 51 => ⟨S4x4352x512, .f32⟩
  | 52 => ⟨S4x4352x4x128, .f32⟩
  | 53 => ⟨S4x4352x4x128, .f32⟩
  | 54 => ⟨S4x4352x4x128, .f32⟩
  | 55 => ⟨S4x4352x4x128, .f32⟩
  | 56 => ⟨S_, .f32⟩
  | 57 => ⟨S4x4352x4, .f32⟩
  | 58 => ⟨S4x4352x4x1, .f32⟩
  | 59 => ⟨S_, .f32⟩
  | 60 => ⟨S4x4352x4x1, .f32⟩
  | 61 => ⟨S4x4352x4x1, .f32⟩
  | 62 => ⟨S4x4352x4x1, .f32⟩
  | 63 => ⟨S4x4352x4x128, .f32⟩
  | 64 => ⟨S4x4352x4x128, .f32⟩
  | 65 => ⟨S_, .f32⟩
  | 66 => ⟨S4x4352x4x128, .f32⟩
  | 67 => ⟨S4x4352x4x128, .f32⟩
  | 68 => ⟨S4x4352x4x128, .f32⟩
  | 69 => ⟨S_, .f32⟩
  | 70 => ⟨S4x4352x4, .f32⟩
  | 71 => ⟨S4x4352x4x1, .f32⟩
  | 72 => ⟨S_, .f32⟩
  | 73 => ⟨S4x4352x4x1, .f32⟩
  | 74 => ⟨S4x4352x4x1, .f32⟩
  | 75 => ⟨S4x4352x4x1, .f32⟩
  | 76 => ⟨S4x4352x4x128, .f32⟩
  | 77 => ⟨S4x4352x4x128, .f32⟩
  | 78 => ⟨S4x4352x512, .f32⟩
  | 79 => ⟨S4x4352x512, .f32⟩
  | 80 => ⟨S4x4352x512, .f32⟩
  | 81 => ⟨S4x4352x2048, .f32⟩
  | 82 => ⟨S4x4352x4x128, .f32⟩
  | 83 => ⟨S1x4352x1x64, .f32⟩
  | 84 => ⟨S1x4352x1x64, .f32⟩
  | 85 => ⟨S4x4352x4x64, .f32⟩
  | 86 => ⟨S4x4352x4x64, .f32⟩
  | 87 => ⟨S4x4352x4x64, .f32⟩
  | 88 => ⟨S4x4352x4x64, .f32⟩
  | 89 => ⟨S4x4352x4x64, .f32⟩
  | 90 => ⟨S4x4352x4x64, .f32⟩
  | 91 => ⟨S4x4352x4x64, .f32⟩
  | 92 => ⟨S4x4352x4x64, .f32⟩
  | 93 => ⟨S4x4352x4x64, .f32⟩
  | 94 => ⟨S4x4352x4x64, .f32⟩
  | 95 => ⟨S4x4352x4x64, .f32⟩
  | 96 => ⟨S4x4352x4x64, .f32⟩
  | 97 => ⟨S4x4352x4x128, .f32⟩
  | 98 => ⟨S4x4352x4x128, .f32⟩
  | 99 => ⟨S1x4352x1x64, .f32⟩
  | 100 => ⟨S1x4352x1x64, .f32⟩
  | 101 => ⟨S4x4352x4x64, .f32⟩
  | 102 => ⟨S4x4352x4x64, .f32⟩
  | 103 => ⟨S4x4352x4x64, .f32⟩
  | 104 => ⟨S4x4352x4x64, .f32⟩
  | 105 => ⟨S4x4352x4x64, .f32⟩
  | 106 => ⟨S4x4352x4x64, .f32⟩
  | 107 => ⟨S4x4352x4x64, .f32⟩
  | 108 => ⟨S4x4352x4x64, .f32⟩
  | 109 => ⟨S4x4352x4x64, .f32⟩
  | 110 => ⟨S4x4352x4x64, .f32⟩
  | 111 => ⟨S4x4352x4x64, .f32⟩
  | 112 => ⟨S4x4352x4x64, .f32⟩
  | 113 => ⟨S4x4352x4x128, .f32⟩
  | 114 => ⟨S_, .f32⟩
  | 115 => ⟨S4x4352x4x128, .f32⟩
  | 116 => ⟨S4x4352x4x128, .f32⟩
  | 117 => ⟨S4x4352x512, .f32⟩
  | 118 => ⟨S4x4352x512, .f32⟩
  | 119 => ⟨S4x4352x2048, .f32⟩
  | 120 => ⟨S2x4, .f32⟩
  | 121 => ⟨S8, .f32⟩
  | 122 => ⟨S8, .f32⟩
  | 123 => ⟨S8, .f32⟩
  | 124 => ⟨S2x4, .f32⟩
  | 125 => ⟨S8, .f32⟩
  | 126 => ⟨S1x1x8, .f32⟩
  | 127 => ⟨S4x4352x8, .f32⟩
  | _ => ⟨S4x4096x1024, .f32⟩

abbrev hbmTy0_2 (i : Nat) : BufTy := match i % 128 with
  | 0 => ⟨S4x4352x8, .f32⟩
  | 1 => ⟨S_, .f32⟩
  | 2 => ⟨S4x4352x8, .f32⟩
  | 3 => ⟨S4x4352x8, .f32⟩
  | 4 => ⟨S4x4352x8, .f32⟩
  | 5 => ⟨S4x4352x8, .f32⟩
  | 6 => ⟨S4x4352x8, .i1⟩
  | 7 => ⟨S4x4352x8, .f32⟩
  | 8 => ⟨S4x4352x8, .f32⟩
  | 9 => ⟨S4x4352x8, .f32⟩
  | 10 => ⟨S4x4352x8, .f32⟩
  | 11 => ⟨S4x4352x8, .f32⟩
  | 12 => ⟨S4x4352x8, .f32⟩
  | 13 => ⟨S4x4352x8, .f32⟩
  | 14 => ⟨S4x4352x8, .f32⟩
  | 15 => ⟨S1x1x8, .f32⟩
  | 16 => ⟨S4x4352x8, .f32⟩
  | 17 => ⟨S4x4352x8, .f32⟩
  | 18 => ⟨S4x34x128x8, .f32⟩
  | 19 => ⟨S_, .f32⟩
  | 20 => ⟨S128x128, .f32⟩
  | 21 => ⟨S128x128, .i32⟩
  | 22 => ⟨S_, .i32⟩
  | 23 => ⟨S128x128, .i32⟩
  | 24 => ⟨S128x128, .i32⟩
  | 25 => ⟨S128x128, .i32⟩
  | 26 => ⟨S128x128, .i1⟩
  | 27 => ⟨S_, .f32⟩
  | 28 => ⟨S128x128, .f32⟩
  | 29 => ⟨S128x128, .f32⟩
  | 30 => ⟨S4x34x128x4, .f32⟩
  | 31 => ⟨S4x34x4x128, .f32⟩
  | 32 => ⟨S4x34x128x4, .f32⟩
  | 33 => ⟨S4x4352x4, .f32⟩
  | 34 => ⟨S4x34x128x4, .f32⟩
  | 35 => ⟨S4x34x4x128, .f32⟩
  | 36 => ⟨S4x34x128x4, .f32⟩
  | 37 => ⟨S4x4352x4, .f32⟩
  | 38 => ⟨S4x4352x120, .f32⟩
  | 39 => ⟨S4x4352x120, .f32⟩
  | 40 => ⟨S_, .f32⟩
  | 41 => ⟨S4x4352x120, .f32⟩
  | 42 => ⟨S4x4352x120, .f32⟩
  | 43 => ⟨S_, .f32⟩
  | 44 => ⟨S4x4352x120, .f32⟩
  | 45 => ⟨S4x4352x120, .f32⟩
  | 46 => ⟨S4x4352x128, .f32⟩
  | 47 => ⟨S4x4352x2048, .bf16⟩
  | 48 => ⟨S4x4352x2048, .bf16⟩
  | 49 => ⟨S4x4352x8, .f32⟩
  | 50 => ⟨S4x8x4352, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c : Ref sig .tc := ⟨.hbm, 83, rfl⟩
abbrev main_call0_v0 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_call1_v0 : Ref sig .tc := ⟨.hbm, 120, rfl⟩
abbrev main_call1_v1 : Ref sig .tc := ⟨.hbm, 121, rfl⟩
abbrev main_call1_cst : Ref sig .tc := ⟨.hbm, 122, rfl⟩
abbrev main_call1_v2 : Ref sig .tc := ⟨.hbm, 123, rfl⟩
abbrev main_call1_v3 : Ref sig .tc := ⟨.hbm, 124, rfl⟩
abbrev main_call1_cst_0 : Ref sig .tc := ⟨.hbm, 125, rfl⟩
abbrev main_call1_v4 : Ref sig .tc := ⟨.hbm, 126, rfl⟩
abbrev main_call1_v5 : Ref sig .tc := ⟨.hbm, 127, rfl⟩
abbrev main_v100 : Ref sig .tc := ⟨.hbm, 128, rfl⟩
abbrev main_v101 : Ref sig .tc := ⟨.hbm, 129, rfl⟩
abbrev main_c_7 : Ref sig .tc := ⟨.hbm, 130, rfl⟩
abbrev main_call2_v0 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_call3_v0 : Ref sig .tc := ⟨.hbm, 167, rfl⟩
abbrev main_call3_v1 : Ref sig .tc := ⟨.hbm, 168, rfl⟩
abbrev main_call3_cst : Ref sig .tc := ⟨.hbm, 169, rfl⟩
abbrev main_call3_v2 : Ref sig .tc := ⟨.hbm, 170, rfl⟩
abbrev main_call3_v3 : Ref sig .tc := ⟨.hbm, 171, rfl⟩
abbrev main_call3_cst_0 : Ref sig .tc := ⟨.hbm, 172, rfl⟩
abbrev main_call3_v4 : Ref sig .tc := ⟨.hbm, 173, rfl⟩
abbrev main_call3_v5 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_cst_8 : Ref sig .tc := ⟨.hbm, 184, rfl⟩
abbrev main_v146 : Ref sig .tc := ⟨.hbm, 185, rfl⟩
abbrev main_v147 : Ref sig .tc := ⟨.hbm, 186, rfl⟩
abbrev main_cst_9 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_10 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_11 : Ref sig .tc := ⟨.hbm, 197, rfl⟩
abbrev main_v156 : Ref sig .tc := ⟨.hbm, 198, rfl⟩
abbrev main_v157 : Ref sig .tc := ⟨.hbm, 199, rfl⟩
abbrev main_cst_12 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_cst_13 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_call4_cst : Ref sig .tc := ⟨.hbm, 257, rfl⟩
abbrev main_call4_v0 : Ref sig .tc := ⟨.hbm, 258, rfl⟩
abbrev main_call4_v1 : Ref sig .tc := ⟨.hbm, 259, rfl⟩
abbrev main_call4_v2 : Ref sig .tc := ⟨.hbm, 260, rfl⟩
abbrev main_call4_v3 : Ref sig .tc := ⟨.hbm, 261, rfl⟩
abbrev main_call4_v4 : Ref sig .tc := ⟨.hbm, 262, rfl⟩
abbrev main_call4_v5 : Ref sig .tc := ⟨.hbm, 263, rfl⟩
abbrev main_call4_v6 : Ref sig .tc := ⟨.hbm, 264, rfl⟩
abbrev main_call4_v7 : Ref sig .tc := ⟨.hbm, 265, rfl⟩
abbrev main_call4_v8 : Ref sig .tc := ⟨.hbm, 266, rfl⟩
abbrev main_call4_v9 : Ref sig .tc := ⟨.hbm, 267, rfl⟩
abbrev main_call4_v10 : Ref sig .tc := ⟨.hbm, 268, rfl⟩
abbrev main_call4_v11 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_cst_14 : Ref sig .tc := ⟨.hbm, 275, rfl⟩
abbrev main_v218 : Ref sig .tc := ⟨.hbm, 276, rfl⟩
abbrev main_call5_v0 : Ref sig .tc := ⟨.hbm, 277, rfl⟩
abbrev main_call5_c : Ref sig .tc := ⟨.hbm, 278, rfl⟩
abbrev main_call5_v1 : Ref sig .tc := ⟨.hbm, 279, rfl⟩
abbrev main_call5_v2 : Ref sig .tc := ⟨.hbm, 280, rfl⟩
abbrev main_call5_v3 : Ref sig .tc := ⟨.hbm, 281, rfl⟩
abbrev main_call5_v4 : Ref sig .tc := ⟨.hbm, 282, rfl⟩
abbrev main_call5_cst : Ref sig .tc := ⟨.hbm, 283, rfl⟩
abbrev main_call5_v5 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_cst_15 : Ref sig .tc := ⟨.hbm, 296, rfl⟩
abbrev main_v230 : Ref sig .tc := ⟨.hbm, 297, rfl⟩
abbrev main_v231 : Ref sig .tc := ⟨.hbm, 298, rfl⟩
abbrev main_cst_16 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩

abbrev nD : Nat := 1
abbrev τ : Topo := Topo.v7x

variable {F : FTy → Type} [FloatOps F]
-- ==== Proof.RetLoop.lean ====
module

public import proofs.«01_k».proof.Proof.Gen.KernelIdeal.Frame
public import proofs.«01_k».proof.Proof.Gen.KernelIdeal.Loops

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- The chunk the backward sweep visits at trip `s`: the context chunks in reverse, then the latent ones. -/
def bwdc (s : ℕ) : ℕ := if s < 2 then 1 - s else 35 - s

theorem k0_off4_eq : ∀ k0_t2 : Fin k0_t2_loop.trips, k0_off4 k0_t2 = ![256 * bwdc k0_t2.val + 128, 0] := by
  decide +kernel

instance closedOff_k0_off4 (k0_t2 : Fin k0_t2_loop.trips) : ClosedOff (k0_off4 k0_t2) :=
  ⟨![256 * bwdc k0_t2.val + 128, 0], k0_off4_eq k0_t2⟩

abbrev Trip2 (c : Dev nD) (arg9 : Memref sig .tc .vmem S8704x128 .f32) (arg10 : Memref sig .tc .vmem S8704x128 .bf16)
    (X9 : BufTy.Contents (Elt F) arg9.view.ty) (f10 : BufTy.Contents (Elt F) arg10.view.ty) : sProp 𝕄G :=
  iprop((arg9.view.loc (c : Thread nD τ) ↦[arg9.view.set]{fullShare} X9) ∗ (arg10.view.loc (c : Thread nD τ) ↦[arg10.view.set]{fullShare} f10))

/-- The carried states after trip `k`, from the states before it and the chunk products `X9`. -/
def step2 (arg9 : Memref sig .tc .vmem S8704x128 .f32) (v18 v19 : FVec F S1x128 .f32)
    (X9 : BufTy.Contents (Elt F) arg9.view.ty) (k : Fin k0_t2_loop.trips)
    (acc : FVec F S128x128 .f32 × FVec F S128x128 .f32) : FVec F S128x128 .f32 × FVec F S128x128 .f32 :=
  (k0_pay51 (k0_pay64 v18) acc.1 (View.readAt (Elt F) arg9.view (Rect.unit (s := S8704x128) (k0_off3 k) S128x128.size (k0_off3_inb k)).toLoadRect X9),
   k0_pay73 (k0_pay53 (k0_pay65 v19) acc.2) (View.readAt (Elt F) arg9.view (Rect.unit (s := S8704x128) (k0_off4 k) S128x128.size (k0_off4_inb k)).toLoadRect X9))

/-- The states before trip `k`. -/
def st2 (arg9 : Memref sig .tc .vmem S8704x128 .f32) (v18 v19 : FVec F S1x128 .f32)
    (X9 : BufTy.Contents (Elt F) arg9.view.ty) (init : FVec F S128x128 .f32 × FVec F S128x128 .f32) :
    ℕ → FVec F S128x128 .f32 × FVec F S128x128 .f32
  | 0 => init
  | k + 1 => if h : k < k0_t2_loop.trips then step2 arg9 v18 v19 X9 ⟨k, h⟩ (st2 arg9 v18 v19 X9 init k) else st2 arg9 v18 v19 X9 init k

theorem st2_succ (arg9 : Memref sig .tc .vmem S8704x128 .f32) (v18 v19 : FVec F S1x128 .f32)
    (X9 : BufTy.Contents (Elt F) arg9.view.ty) (init : FVec F S128x128 .f32 × FVec F S128x128 .f32) (k : Fin k0_t2_loop.trips) :
    st2 arg9 v18 v19 X9 init (k.val + 1) = step2 arg9 v18 v19 X9 k (st2 arg9 v18 v19 X9 init k.val) := by
  rw [st2.eq_2]; exact dif_pos k.isLt

/-- The two states stored at trip `k`. -/
def pc2 (k : Fin k0_t2_loop.trips) (acc : FVec F S128x128 .f32 × FVec F S128x128 .f32) :
    List (View.Piece (Elt F) S8704x128 .bf16) :=
  [⟨Rect.unit (s := S8704x128) (k0_off4 k) S128x128.size (k0_off4_inb k), k0_pay52 acc.2⟩,
   ⟨Rect.unit (s := S8704x128) (k0_off3 k) S128x128.size (k0_off3_inb k), k0_pay50 acc.1⟩]

/-- The states stored before trip `k`, given the states before each trip. -/
def pb2 (st : ℕ → FVec F S128x128 .f32 × FVec F S128x128 .f32) : ℕ → List (View.Piece (Elt F) S8704x128 .bf16)
  | 0 => []
  | k + 1 => if h : k < k0_t2_loop.trips then pc2 ⟨k, h⟩ (st k) ++ pb2 st k else pb2 st k

theorem pb2_succ (st : ℕ → FVec F S128x128 .f32 × FVec F S128x128 .f32) (k : Fin k0_t2_loop.trips) :
    pb2 st (k.val + 1) = pc2 k (st k.val) ++ pb2 st k.val := by
  rw [pb2.eq_2]; exact dif_pos k.isLt

theorem trip2 (𝒱 : Variants) (c : Dev nD) (bd : Option 𝒱.V) (i : grid0.Coords) (arg2 : Memref sig .tc .vmem S1x4352x128 .bf16) (harg2 : arg2.IsWhole) (arg3 : Memref sig .tc .vmem S1x4352x128 .bf16) (harg3 : arg3.IsWhole) (arg4 : Memref sig .tc .vmem S1x4352x128 .bf16) (harg4 : arg4.IsWhole) (arg5 : Memref sig .tc .vmem S1x4352x128 .bf16) (harg5 : arg5.IsWhole) (arg6 : Memref sig .tc .vmem S1x2x128 .f32) (harg6 : arg6.IsWhole) (arg7 : Memref sig .tc .vmem S1x128 .f32) (harg7 : arg7.IsWhole) (arg8 : Memref sig .tc .vmem S1x4096x128 .bf16) (harg8 : arg8.IsWhole) (arg9 : Memref sig .tc .vmem S8704x128 .f32) (harg9 : arg9.IsWhole) (arg10 : Memref sig .tc .vmem S8704x128 .bf16) (harg10 : arg10.IsWhole) (v15 : FVec F S128x128 .f32) (v18 : FVec F S1x128 .f32) (v19 : FVec F S1x128 .f32) (v44 : FVec F S128x128 .f32)
    (X9 : BufTy.Contents (Elt F) arg9.view.ty) (k : Fin k0_t2_loop.trips) (acc : FVec F S128x128 .f32 × FVec F S128x128 .f32)
    (E : Set ℕ) (f10 : BufTy.Contents (Elt F) arg10.view.ty) :
      Trip2 (F := F) c arg9 arg10 X9 f10
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 v15 v18 v19 v44 k acc)
          (fun r => iprop(⌜r = step2 arg9 v18 v19 X9 k acc⌝ ∗ Trip2 (F := F) c arg9 arg10 X9 (arg10.view.writes (Elt F) f10 (pc2 k acc)))) := by
  obtain ⟨a1, a2⟩ := acc
  unfold k0_t2_body
  iintro ⟨HR, HW⟩
  sl_exec
  sl_step
  isplitr
  · ipureintro; rfl
  isplitl [HR]; · iexact HR
  iexact HW

abbrev inv2 (c : Dev nD) (arg9 : Memref sig .tc .vmem S8704x128 .f32) (arg10 : Memref sig .tc .vmem S8704x128 .bf16)
    (v18 v19 : FVec F S1x128 .f32) (X9 : BufTy.Contents (Elt F) arg9.view.ty) (G10 : BufTy.Contents (Elt F) arg10.view.ty)
    (init : FVec F S128x128 .f32 × FVec F S128x128 .f32) (k : ℕ) (acc : FVec F S128x128 .f32 × FVec F S128x128 .f32) : sProp 𝕄G :=
  iprop((arg9.view.loc (c : Thread nD τ) ↦[arg9.view.set]{fullShare} X9)
    ∗ (∃ f, (arg10.view.loc (c : Thread nD τ) ↦[arg10.view.set]{fullShare} f)
        ∗ ⌜f = arg10.view.writes (Elt F) G10 (pb2 (st2 arg9 v18 v19 X9 init) k)⌝)
    ∗ ⌜acc = st2 arg9 v18 v19 X9 init k⌝)

set_option warn.classDefReducibility false in
@[sl_loop] def loopInv2 (𝒱 : Variants) (c : Dev nD) (bd : Option 𝒱.V) (E : Set ℕ) (i : grid0.Coords) (arg2 : Memref sig .tc .vmem S1x4352x128 .bf16) (harg2 : arg2.IsWhole) (arg3 : Memref sig .tc .vmem S1x4352x128 .bf16) (harg3 : arg3.IsWhole) (arg4 : Memref sig .tc .vmem S1x4352x128 .bf16) (harg4 : arg4.IsWhole) (arg5 : Memref sig .tc .vmem S1x4352x128 .bf16) (harg5 : arg5.IsWhole) (arg6 : Memref sig .tc .vmem S1x2x128 .f32) (harg6 : arg6.IsWhole) (arg7 : Memref sig .tc .vmem S1x128 .f32) (harg7 : arg7.IsWhole) (arg8 : Memref sig .tc .vmem S1x4096x128 .bf16) (harg8 : arg8.IsWhole) (arg9 : Memref sig .tc .vmem S8704x128 .f32) (harg9 : arg9.IsWhole) (arg10 : Memref sig .tc .vmem S8704x128 .bf16) (harg10 : arg10.IsWhole) (v15 : FVec F S128x128 .f32) (v18 : FVec F S1x128 .f32) (v19 : FVec F S1x128 .f32) (v44 : FVec F S128x128 .f32)
    (X9 : BufTy.Contents (Elt F) arg9.view.ty) (G10 : BufTy.Contents (Elt F) arg10.view.ty) (init : FVec F S128x128 .f32 × FVec F S128x128 .f32) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 v15 v18 v19 v44 init where
  inv := inv2 (F := F) c arg9 arg10 v18 v19 X9 G10 init
  step k acc := by
    iintro ⟨HR, ⟨%f10, HW, %hf⟩, %hacc⟩
    iapply (wp_wand_r Idealize.ShloMosaic.frame (wpE (defs₀ (F := F)) 𝒱 (c : Thread nD τ) bd) E)
    isplitl [HR HW]
    · iapply (trip2 (F := F) 𝒱 c bd i arg2 harg2 arg3 harg3 arg4 harg4 arg5 harg5 arg6 harg6 arg7 harg7 arg8 harg8 arg9 harg9 arg10 harg10 v15 v18 v19 v44 X9 k acc E f10)
      isplitl [HR]; · iexact HR
      iexact HW
    · iintro %r ⟨%hr, HR, HW⟩
      isplitl [HR]; · iexact HR
      rw [pb2_succ, st2_succ]
      isplitl [HW]
      · iexists _; isplitl [HW]; · iexact HW
        ipureintro; rw [hf, ← View.writes_append, hacc]
      ipureintro; rw [hr, hacc]

end Cert.KernelIdeal.Ret

end
-- ==== Proof.RetBody.lean ====
module

public import proofs.«01_k».proof.Proof.RetLoop

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 4000000 in
/-- The body on whole staging memrefs with the scratch buffers at given contents: the pieces it stores into the
    result's block, found by the run. -/
def bodyRun (c : Dev nD) (i : grid0.Coords) (arg2 : Memref sig .tc .vmem S1x4352x128 .bf16) (harg2 : arg2.IsWhole) (arg3 : Memref sig .tc .vmem S1x4352x128 .bf16) (harg3 : arg3.IsWhole) (arg4 : Memref sig .tc .vmem S1x4352x128 .bf16) (harg4 : arg4.IsWhole) (arg5 : Memref sig .tc .vmem S1x4352x128 .bf16) (harg5 : arg5.IsWhole) (arg6 : Memref sig .tc .vmem S1x2x128 .f32) (harg6 : arg6.IsWhole) (arg7 : Memref sig .tc .vmem S1x128 .f32) (harg7 : arg7.IsWhole) (arg8 : Memref sig .tc .vmem S1x4096x128 .bf16) (harg8 : arg8.IsWhole) (arg9 : Memref sig .tc .vmem S8704x128 .f32) (harg9 : arg9.IsWhole) (arg10 : Memref sig .tc .vmem S8704x128 .bf16) (harg10 : arg10.IsWhole)
    (x0 x1 x2 x3 : Vec F S1x4352x128 .bf16) (x4 : Vec F S1x2x128 .f32) (x5 : Vec F S1x128 .f32)
    (g9 : BufTy.Contents (Elt F) arg9.view.ty) (g10 : BufTy.Contents (Elt F) arg10.view.ty) :
    { L : List (View.Piece (Elt F) S1x4096x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (arg9.view.loc (c : Thread nD τ) ↦[arg9.view.set]{fullShare} g9)
            ∗ (arg10.view.loc (c : Thread nD τ) ↦[arg10.view.set]{fullShare} g10)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)
              ∗ (∃ f, arg9.view.loc (c : Thread nD τ) ↦[arg9.view.set]{fullShare} f)
              ∗ (∃ f, arg10.view.loc (c : Thread nD τ) ↦[arg10.view.set]{fullShare} f)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10) K } := by
  refine ⟨?_, fun E K => ?run⟩
  case run =>
    simp only [cc0_retention_eq_skeleton]; unfold cc0_retention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, H9, H10, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H9]; · iexists _; iexact H9
    iexists _; iexact H10

end Cert.KernelIdeal.Ret

end
-- ==== Proof.RetVal.lean ====
module

public import proofs.«01_k».proof.Proof.RetBody
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- Rows `128 n … 128 n + 127` of a head's columns. -/
def rblk (x : Vec F S1x4352x128 .bf16) (n : Fin 34) : Vec F S1x128x128 .bf16 :=
  fun j => x (ix3 (0 : Fin 1) (⟨128 * n.val + (j 1).val, by have := n.isLt; have : (j 1).val < 128 := (j 1).isLt; omega⟩ : Fin 4352) (j 2))

theorem readAt_rblk (v : Memref sig .tc .vmem S1x4352x128 .bf16) (hv : v.IsWhole) (x : Vec F S1x4352x128 .bf16) (n : Fin 34)
    (off : Fin 3 → ℕ) (inb : ∀ a, off a + S1x128x128.size a ≤ S1x4352x128.size a) (hoff : off = ![0, 128 * n.val, 0]) :
    View.readAt (Elt F) v.view (Rect.unit (s := S1x4352x128) off S1x128x128.size inb).toLoadRect (hv.unread x) = rblk x n := by
  subst hoff
  rw [View.readAt_eq_ld, hv.read_unread]
  funext j
  refine View.ld_unit_apply_of _ _ _ _ _ _ fun a => ?_
  fin_cases a
  · show 0 = 0 + (j 0).val
    have : (j 0).val < 1 := (j 0).isLt
    omega
  · rfl
  · show (j 2).val = 0 + (j 2).val
    omega

/-- The two decayed products of chunk rows: forward in rows 0 … 127, backward in rows 128 … 255. -/
def kvC (v15 : FVec F S128x128 .f32) (v18 v19 : FVec F S1x128 .f32) (kb vb : Vec F S1x128x128 .bf16) : FVec F S256x128 .f32 :=
  k0_pay71 (k0_pay19 (k0_pay2 (k0_pay62 v15 v18) (k0_pay63 v15 v19) kb) vb)

/-- The array of all chunk products. -/
def kvA (v15 : FVec F S128x128 .f32) (v18 v19 : FVec F S1x128 .f32) (x1 x2 : Vec F S1x4352x128 .bf16) : Vec F S8704x128 .f32 :=
  fun y => kvC v15 v18 v19
    (rblk x1 ⟨(y 0).val / 256, by have : (y 0).val < 8704 := (y 0).isLt; omega⟩)
    (rblk x2 ⟨(y 0).val / 256, by have : (y 0).val < 8704 := (y 0).isLt; omega⟩)
    (ix2 (⟨(y 0).val % 256, Nat.mod_lt _ (by decide)⟩ : Fin 256) (y 1))

theorem kvA_at (v15 : FVec F S128x128 .f32) (v18 v19 : FVec F S1x128 .f32) (x1 x2 : Vec F S1x4352x128 .bf16) (n : Fin 34)
    (y : S8704x128.Idx) (x : S256x128.Idx) (h0 : (y 0).val = 256 * n.val + (x 0).val) (h1 : (y 1).val = (x 1).val) :
    kvA v15 v18 v19 x1 x2 y = kvC v15 v18 v19 (rblk x1 n) (rblk x2 n) x := by
  have hx : (x 0).val < 256 := (x 0).isLt
  have hn : (⟨(y 0).val / 256, by have : (y 0).val < 8704 := (y 0).isLt; omega⟩ : Fin 34) = n := Fin.ext (by show (y 0).val / 256 = n.val; omega)
  have hi : ix2 (⟨(y 0).val % 256, Nat.mod_lt _ (by decide)⟩ : Fin 256) (y 1) = x := by
    funext a
    fin_cases a
    · exact Fin.ext (by show (y 0).val % 256 = (x 0).val; omega)
    · exact Fin.ext h1
  unfold kvA
  rw [hn]
  exact congrArg _ hi

theorem kv_piece (v15 : FVec F S128x128 .f32) (v18 v19 : FVec F S1x128 .f32) (x1 x2 : Vec F S1x4352x128 .bf16)
    (arg3 : Memref sig .tc .vmem S1x4352x128 .bf16) (harg3 : arg3.IsWhole) (arg4 : Memref sig .tc .vmem S1x4352x128 .bf16) (harg4 : arg4.IsWhole)
    (t : Fin k0_t1_loop.trips) (r : Fin 17) (x : S256x128.Idx) :
    kvC v15 v18 v19
      (View.readAt (Elt F) arg3.view (Rect.unit (s := S1x4352x128) (k0_off1 t (BitVec.ofNat 32 r.val)) S1x128x128.size (k0_off1_inb t r)).toLoadRect (harg3.unread x1))
      (View.readAt (Elt F) arg4.view (Rect.unit (s := S1x4352x128) (k0_off1 t (BitVec.ofNat 32 r.val)) S1x128x128.size (k0_off1_inb t r)).toLoadRect (harg4.unread x2)) x
    = kvA v15 v18 v19 x1 x2 ((Rect.unit (s := S8704x128) (k0_off2 t (BitVec.ofNat 32 r.val)) S256x128.size (k0_off2_inb t r)).emb x) := by
  have ht : t.val < 2 := Nat.lt_of_lt_of_le t.isLt k0_t1_abs.2.1
  have hr := r.isLt
  have e1 := k0_off1_eq t r
  have e2 := k0_off2_eq t r
  rw [readAt_rblk arg3 harg3 x1 ⟨17 * t.val + r.val, by omega⟩ _ _ (by rw [e1, show 2176 * t.val + 128 * r.val = 128 * (17 * t.val + r.val) by omega]),
    readAt_rblk arg4 harg4 x2 ⟨17 * t.val + r.val, by omega⟩ _ _ (by rw [e1, show 2176 * t.val + 128 * r.val = 128 * (17 * t.val + r.val) by omega])]
  symm
  refine kvA_at _ _ _ _ _ _ _ _ ?_ ?_
  · show ((Rect.unit (s := S8704x128) _ S256x128.size _).idx x 0).val = _
    rw [Rect.idx_unit_val]
    refine (congrArg (· + (x 0).val) (congrFun e2 0)).trans ?_
    show 4352 * t.val + 256 * r.val + (x 0).val = 256 * (17 * t.val + r.val) + (x 0).val
    omega
  · show ((Rect.unit (s := S8704x128) _ S256x128.size _).idx x 1).val = _
    rw [Rect.idx_unit_val]
    refine (congrArg (· + (x 1).val) (congrFun e2 1)).trans ?_
    show 0 + (x 1).val = (x 1).val
    omega

section L1
variable (c : Dev nD) (i : grid0.Coords) (arg2 : Memref sig .tc .vmem S1x4352x128 .bf16) (harg2 : arg2.IsWhole) (arg3 : Memref sig .tc .vmem S1x4352x128 .bf16) (harg3 : arg3.IsWhole) (arg4 : Memref sig .tc .vmem S1x4352x128 .bf16) (harg4 : arg4.IsWhole) (arg5 : Memref sig .tc .vmem S1x4352x128 .bf16) (harg5 : arg5.IsWhole) (arg6 : Memref sig .tc .vmem S1x2x128 .f32) (harg6 : arg6.IsWhole) (arg7 : Memref sig .tc .vmem S1x128 .f32) (harg7 : arg7.IsWhole) (arg8 : Memref sig .tc .vmem S1x4096x128 .bf16) (harg8 : arg8.IsWhole) (arg9 : Memref sig .tc .vmem S8704x128 .f32) (harg9 : arg9.IsWhole) (arg10 : Memref sig .tc .vmem S8704x128 .bf16) (harg10 : arg10.IsWhole) (v15 : FVec F S128x128 .f32) (v18 : FVec F S1x128 .f32) (v19 : FVec F S1x128 .f32) (v44 : FVec F S128x128 .f32) (x1 x2 : Vec F S1x4352x128 .bf16)

theorem tripL_ok (t : Fin k0_t1_loop.trips) :
    View.PiecesOf (kvA v15 v18 v19 x1 x2) (tripL_k0_t1 (F := F) Variants.none c none i arg2 harg2 arg3 harg3 arg4 harg4 arg5 harg5 arg6 harg6 arg7 harg7 arg8 harg8 arg9 harg9 arg10 harg10 v15 v18 v19 v44 (harg3.unread x1) (harg4.unread x2) t) := by
  unfold tripL_k0_t1 trip_k0_t1
  exact ⟨fun x => kv_piece v15 v18 v19 x1 x2 arg3 harg3 arg4 harg4 t 16 x, fun x => kv_piece v15 v18 v19 x1 x2 arg3 harg3 arg4 harg4 t 15 x, fun x => kv_piece v15 v18 v19 x1 x2 arg3 harg3 arg4 harg4 t 14 x, fun x => kv_piece v15 v18 v19 x1 x2 arg3 harg3 arg4 harg4 t 13 x, fun x => kv_piece v15 v18 v19 x1 x2 arg3 harg3 arg4 harg4 t 12 x, fun x => kv_piece v15 v18 v19 x1 x2 arg3 harg3 arg4 harg4 t 11 x, fun x => kv_piece v15 v18 v19 x1 x2 arg3 harg3 arg4 harg4 t 10 x, fun x => kv_piece v15 v18 v19 x1 x2 arg3 harg3 arg4 harg4 t 9 x, fun x => kv_piece v15 v18 v19 x1 x2 arg3 harg3 arg4 harg4 t 8 x, fun x => kv_piece v15 v18 v19 x1 x2 arg3 harg3 arg4 harg4 t 7 x, fun x => kv_piece v15 v18 v19 x1 x2 arg3 harg3 arg4 harg4 t 6 x, fun x => kv_piece v15 v18 v19 x1 x2 arg3 harg3 arg4 harg4 t 5 x, fun x => kv_piece v15 v18 v19 x1 x2 arg3 harg3 arg4 harg4 t 4 x, fun x => kv_piece v15 v18 v19 x1 x2 arg3 harg3 arg4 harg4 t 3 x, fun x => kv_piece v15 v18 v19 x1 x2 arg3 harg3 arg4 harg4 t 2 x, fun x => kv_piece v15 v18 v19 x1 x2 arg3 harg3 arg4 harg4 t 1 x, fun x => kv_piece v15 v18 v19 x1 x2 arg3 harg3 arg4 harg4 t 0 x, trivial⟩

theorem pb_mem (n : ℕ) : ∀ p ∈ pb_k0_t1 (F := F) Variants.none c none i arg2 harg2 arg3 harg3 arg4 harg4 arg5 harg5 arg6 harg6 arg7 harg7 arg8 harg8 arg9 harg9 arg10 harg10 v15 v18 v19 v44 (harg3.unread x1) (harg4.unread x2) n,
    ∀ x, p.2 x = kvA v15 v18 v19 x1 x2 (p.1.emb x) := by
  induction n with
  | zero => intro p hp; exact absurd hp (by unfold pb_k0_t1; exact List.not_mem_nil)
  | succ n ih =>
    by_cases h : n < k0_t1_loop.trips
    · intro p hp
      rw [show n + 1 = (⟨n, h⟩ : Fin k0_t1_loop.trips).val + 1 from rfl, pb_k0_t1_succ] at hp
      rcases List.mem_append.mp hp with hp | hp
      · exact (tripL_ok c i arg2 harg2 arg3 harg3 arg4 harg4 arg5 harg5 arg6 harg6 arg7 harg7 arg8 harg8 arg9 harg9 arg10 harg10 v15 v18 v19 v44 x1 x2 ⟨n, h⟩).mem p hp
      · exact ih p hp
    · intro p hp
      rw [pb_k0_t1.eq_2] at hp
      unfold pb_k0_t1Step at hp
      rw [dif_neg h] at hp
      exact ih p hp

theorem pb_cover (y : S8704x128.Idx) : ∃ p ∈ pb_k0_t1 (F := F) Variants.none c none i arg2 harg2 arg3 harg3 arg4 harg4 arg5 harg5 arg6 harg6 arg7 harg7 arg8 harg8 arg9 harg9 arg10 harg10 v15 v18 v19 v44 (harg3.unread x1) (harg4.unread x2) 2, y ∈ p.1.set := by
  have h2 : (1 : ℕ) < k0_t1_loop.trips := by decide
  have h1 : (0 : ℕ) < k0_t1_loop.trips := by decide
  rw [show 2 = (⟨1, h2⟩ : Fin k0_t1_loop.trips).val + 1 from rfl, pb_k0_t1_succ, show (⟨1, h2⟩ : Fin k0_t1_loop.trips).val = (⟨0, h1⟩ : Fin k0_t1_loop.trips).val + 1 from rfl, pb_k0_t1_succ]
  rw [show pb_k0_t1 (F := F) Variants.none c none i arg2 harg2 arg3 harg3 arg4 harg4 arg5 harg5 arg6 harg6 arg7 harg7 arg8 harg8 arg9 harg9 arg10 harg10 v15 v18 v19 v44 (harg3.unread x1) (harg4.unread x2) (⟨0, h1⟩ : Fin k0_t1_loop.trips).val = [] from rfl]
  unfold tripL_k0_t1 trip_k0_t1
  exact View.cover_of_tiledL _ ![256, 128] (by sl_kernel_rfl) y

/-- What the scratch buffer holds after the first loop. -/
theorem read_kv (v : View sig .tc .vmem S8704x128 .f32) (g : v.ty.Contents (Elt F)) :
    v.read (Elt F) (v.writes (Elt F) g (pb_k0_t1 (F := F) Variants.none c none i arg2 harg2 arg3 harg3 arg4 harg4 arg5 harg5 arg6 harg6 arg7 harg7 arg8 harg8 arg9 harg9 arg10 harg10 v15 v18 v19 v44 (harg3.unread x1) (harg4.unread x2) 2))
      = kvA v15 v18 v19 x1 x2 := by
  funext y
  have hc := pb_cover c i arg2 harg2 arg3 harg3 arg4 harg4 arg5 harg5 arg6 harg6 arg7 harg7 arg8 harg8 arg9 harg9 arg10 harg10 v15 v18 v19 v44 x1 x2
  rw [View.read_writes_eq_canon v g _ hc]
  have := View.canon_append_of_pieces (kvA v15 v18 v19 x1 x2) [] _ (pb_mem c i arg2 harg2 arg3 harg3 arg4 harg4 arg5 harg5 arg6 harg6 arg7 harg7 arg8 harg8 arg9 harg9 arg10 harg10 v15 v18 v19 v44 x1 x2 2) y (hc y)
  rwa [List.append_nil] at this

end L1

/-- The 128 rows from row `o`. -/
def half (A : Vec F S8704x128 .f32) (o : ℕ) : Vec F S128x128 .f32 :=
  fun j => A (ix2 (⟨(o + (j 0).val) % 8704, Nat.mod_lt _ (by decide)⟩ : Fin 8704) (j 1))

/-- The two states before trip `k` of the sweep. -/
def stC (v18 v19 : FVec F S1x128 .f32) (A : Vec F S8704x128 .f32) : ℕ → FVec F S128x128 .f32 × FVec F S128x128 .f32
  | 0 => (k0_pay72, k0_pay72)
  | k + 1 => (k0_pay51 (k0_pay64 v18) (stC v18 v19 A k).1 (half A (256 * k)),
      k0_pay73 (k0_pay53 (k0_pay65 v19) (stC v18 v19 A k).2) (half A (256 * bwdc k + 128)))

theorem bwdc_lt {n : ℕ} (h : n < 34) : bwdc n < 34 := by
  unfold bwdc; split <;> omega

theorem bwdc_bwdc {n : ℕ} (h : n < 34) : bwdc (bwdc n) = n := by
  unfold bwdc; split <;> split <;> omega

theorem readAt_half (v : View sig .tc .vmem S8704x128 .f32) (X : v.ty.Contents (Elt F)) (A : Vec F S8704x128 .f32) (hA : v.read (Elt F) X = A)
    (off : Fin 2 → ℕ) (inb : ∀ a, off a + S128x128.size a ≤ S8704x128.size a) (o : ℕ) (hoff : off = ![o, 0]) :
    View.readAt (Elt F) v (Rect.unit (s := S8704x128) off S128x128.size inb).toLoadRect X = half A o := by
  subst hoff
  rw [View.readAt_eq_ld, hA]
  funext j
  have h0 : o + 128 ≤ 8704 := inb 0
  have hj : (j 0).val < 128 := (j 0).isLt
  refine View.ld_unit_apply_of _ _ _ _ _ _ fun a => ?_
  fin_cases a
  · show (o + (j 0).val) % 8704 = o + (j 0).val
    exact Nat.mod_eq_of_lt (by omega)
  · show (j 1).val = 0 + (j 1).val
    omega

theorem trips2 : k0_t2_loop.trips = 34 := by decide

theorem st2_eq (arg9 : Memref sig .tc .vmem S8704x128 .f32) (v18 v19 : FVec F S1x128 .f32)
    (X9 : BufTy.Contents (Elt F) arg9.view.ty) (A : Vec F S8704x128 .f32) (hA : arg9.view.read (Elt F) X9 = A) (n : ℕ) (hn : n ≤ 34) :
    st2 arg9 v18 v19 X9 (k0_pay72, k0_pay72) n = stC v18 v19 A n := by
  induction n with
  | zero => rfl
  | succ n ih =>
    have hk : n < k0_t2_loop.trips := by rw [trips2]; omega
    rw [show n + 1 = (⟨n, hk⟩ : Fin k0_t2_loop.trips).val + 1 from rfl, st2_succ, ih (by omega)]
    unfold step2
    rw [readAt_half arg9.view X9 A hA _ _ (256 * n) (k0_off3_eq ⟨n, hk⟩),
      readAt_half arg9.view X9 A hA _ _ (256 * bwdc n + 128) (k0_off4_eq ⟨n, hk⟩)]
    rfl

/-- All the stored states: for chunk `n`, the forward one in rows `256 n …`, the backward one in the 128 rows after. -/
def rstA (v18 v19 : FVec F S1x128 .f32) (A : Vec F S8704x128 .f32) : Vec F S8704x128 .bf16 :=
  fun y => if (y 0).val % 256 < 128
    then k0_pay50 (stC v18 v19 A ((y 0).val / 256)).1 (ix2 (⟨(y 0).val % 128, Nat.mod_lt _ (by decide)⟩ : Fin 128) (y 1))
    else k0_pay52 (stC v18 v19 A (bwdc ((y 0).val / 256))).2 (ix2 (⟨(y 0).val % 128, Nat.mod_lt _ (by decide)⟩ : Fin 128) (y 1))

theorem rstA_fwd (v18 v19 : FVec F S1x128 .f32) (A : Vec F S8704x128 .f32) (n : ℕ) (y : S8704x128.Idx) (x : S128x128.Idx)
    (h0 : (y 0).val = 256 * n + (x 0).val) (h1 : (y 1).val = (x 1).val) :
    rstA v18 v19 A y = k0_pay50 (stC v18 v19 A n).1 x := by
  have hx : (x 0).val < 128 := (x 0).isLt
  have hi : ix2 (⟨(y 0).val % 128, Nat.mod_lt _ (by decide)⟩ : Fin 128) (y 1) = x := by
    funext a
    fin_cases a
    · exact Fin.ext (by show (y 0).val % 128 = (x 0).val; omega)
    · exact Fin.ext h1
  unfold rstA
  rw [if_pos (by omega), show (y 0).val / 256 = n by omega]
  exact congrArg _ hi

theorem rstA_bwd (v18 v19 : FVec F S1x128 .f32) (A : Vec F S8704x128 .f32) (n : ℕ) (y : S8704x128.Idx) (x : S128x128.Idx)
    (h0 : (y 0).val = 256 * n + 128 + (x 0).val) (h1 : (y 1).val = (x 1).val) :
    rstA v18 v19 A y = k0_pay52 (stC v18 v19 A (bwdc n)).2 x := by
  have hx : (x 0).val < 128 := (x 0).isLt
  have hi : ix2 (⟨(y 0).val % 128, Nat.mod_lt _ (by decide)⟩ : Fin 128) (y 1) = x := by
    funext a
    fin_cases a
    · exact Fin.ext (by show (y 0).val % 128 = (x 0).val; omega)
    · exact Fin.ext h1
  unfold rstA
  rw [if_neg (by omega), show (y 0).val / 256 = n by omega]
  exact congrArg _ hi

theorem pc2_ok (v18 v19 : FVec F S1x128 .f32) (A : Vec F S8704x128 .f32) (k : Fin k0_t2_loop.trips) :
    View.PiecesOf (rstA v18 v19 A) (pc2 k (stC v18 v19 A k.val)) := by
  have hk : k.val < 34 := trips2 ▸ k.isLt
  have e3 := k0_off3_eq k
  have e4 := k0_off4_eq k
  refine ⟨fun x => ?_, fun x => ?_, trivial⟩
  · symm
    refine (rstA_bwd v18 v19 A (bwdc k.val) _ x ?_ ?_).trans (by rw [bwdc_bwdc hk])
    · show ((Rect.unit (s := S8704x128) _ S128x128.size (k0_off4_inb k)).idx x 0).val = _
      rw [Rect.idx_unit_val]
      exact (congrArg (· + (x 0).val) (congrFun e4 0))
    · show ((Rect.unit (s := S8704x128) _ S128x128.size (k0_off4_inb k)).idx x 1).val = _
      rw [Rect.idx_unit_val]
      refine (congrArg (· + (x 1).val) (congrFun e4 1)).trans ?_
      show 0 + (x 1).val = (x 1).val
      omega
  · symm
    refine rstA_fwd v18 v19 A k.val _ x ?_ ?_
    · show ((Rect.unit (s := S8704x128) _ S128x128.size (k0_off3_inb k)).idx x 0).val = _
      rw [Rect.idx_unit_val]
      exact (congrArg (· + (x 0).val) (congrFun e3 0))
    · show ((Rect.unit (s := S8704x128) _ S128x128.size (k0_off3_inb k)).idx x 1).val = _
      rw [Rect.idx_unit_val]
      refine (congrArg (· + (x 1).val) (congrFun e3 1)).trans ?_
      show 0 + (x 1).val = (x 1).val
      omega

theorem pb2_ok (v18 v19 : FVec F S1x128 .f32) (A : Vec F S8704x128 .f32) (st : ℕ → FVec F S128x128 .f32 × FVec F S128x128 .f32) (n : ℕ) (hn : n ≤ 34)
    (hst : ∀ k ≤ 34, st k = stC v18 v19 A k) :
    ∀ p ∈ pb2 st n, ∀ x, p.2 x = rstA v18 v19 A (p.1.emb x) := by
  induction n with
  | zero => intro p hp; exact absurd hp (by unfold pb2; exact List.not_mem_nil)
  | succ n ih =>
    have hk : n < k0_t2_loop.trips := by rw [trips2]; omega
    intro p hp
    rw [show n + 1 = (⟨n, hk⟩ : Fin k0_t2_loop.trips).val + 1 from rfl, pb2_succ] at hp
    rcases List.mem_append.mp hp with hp | hp
    · rw [show st (⟨n, hk⟩ : Fin k0_t2_loop.trips).val = _ from hst n (by omega)] at hp
      exact (pc2_ok v18 v19 A ⟨n, hk⟩).mem p hp
    · exact ih (by omega) p hp

theorem pb2_has (st : ℕ → FVec F S128x128 .f32 × FVec F S128x128 .f32) (k : Fin k0_t2_loop.trips) (n : ℕ) (hk : k.val < n) (hn : n ≤ 34) :
    ∀ p ∈ pc2 k (st k.val), p ∈ pb2 st n := by
  induction n with
  | zero => omega
  | succ n ih =>
    have hk' : n < k0_t2_loop.trips := by rw [trips2]; omega
    intro p hp
    rw [show n + 1 = (⟨n, hk'⟩ : Fin k0_t2_loop.trips).val + 1 from rfl, pb2_succ]
    by_cases h : k.val = n
    · refine List.mem_append_left _ ?_
      rw [show (⟨n, hk'⟩ : Fin k0_t2_loop.trips) = k from Fin.ext h.symm]
      exact hp
    · exact List.mem_append_right _ (ih (by omega) (by omega) p hp)

theorem pb2_cover (st : ℕ → FVec F S128x128 .f32 × FVec F S128x128 .f32) (y : S8704x128.Idx) : ∃ p ∈ pb2 st 34, y ∈ p.1.set := by
  have hy : (y 0).val < 8704 := (y 0).isLt
  have hy1 : (y 1).val < 128 := (y 1).isLt
  by_cases h : (y 0).val % 256 < 128
  · have hk : (y 0).val / 256 < k0_t2_loop.trips := by rw [trips2]; omega
    refine ⟨_, pb2_has st ⟨(y 0).val / 256, hk⟩ 34 (by show (y 0).val / 256 < 34; omega) le_rfl _ (List.mem_cons_of_mem _ (List.mem_cons_self ..)), ?_⟩
    have e3 := k0_off3_eq ⟨(y 0).val / 256, hk⟩
    refine (Rect.mem_set_unit (inb := k0_off3_inb ⟨(y 0).val / 256, hk⟩)).mpr fun a => ?_
    rw [show k0_off3 ⟨(y 0).val / 256, hk⟩ a = _ from congrFun e3 a]
    fin_cases a
    · show 256 * ((y 0).val / 256) ≤ (y 0).val ∧ (y 0).val < 256 * ((y 0).val / 256) + 128
      omega
    · show 0 ≤ (y 1).val ∧ (y 1).val < 0 + 128
      omega
  · have hb := bwdc_lt (n := (y 0).val / 256) (by omega)
    have hk : bwdc ((y 0).val / 256) < k0_t2_loop.trips := by rw [trips2]; exact hb
    refine ⟨_, pb2_has st ⟨bwdc ((y 0).val / 256), hk⟩ 34 hb le_rfl _ (List.mem_cons_self ..), ?_⟩
    have e4 := k0_off4_eq ⟨bwdc ((y 0).val / 256), hk⟩
    refine (Rect.mem_set_unit (inb := k0_off4_inb ⟨bwdc ((y 0).val / 256), hk⟩)).mpr fun a => ?_
    rw [show k0_off4 ⟨bwdc ((y 0).val / 256), hk⟩ a = _ from congrFun e4 a]
    fin_cases a
    · show 256 * bwdc (bwdc ((y 0).val / 256)) + 128 ≤ (y 0).val ∧ (y 0).val < 256 * bwdc (bwdc ((y 0).val / 256)) + 128 + 128
      rw [bwdc_bwdc (by omega)]
      omega
    · show 0 ≤ (y 1).val ∧ (y 1).val < 0 + 128
      omega

/-- What a load from the second scratch buffer reads after the sweep. -/
theorem readCov_rst (v : View sig .tc .vmem S8704x128 .bf16) (v18 v19 : FVec F S1x128 .f32) (A : Vec F S8704x128 .f32)
    (st : ℕ → FVec F S128x128 .f32 × FVec F S128x128 .f32) (hst : ∀ k ≤ 34, st k = stC v18 v19 A k) (B : LoadRect S8704x128) :
    View.readCov (Val := Elt F) v (pb2 st 34) B = fun j => rstA v18 v19 A (B.idx j) := by
  rw [View.readCov_eq_canon']
  funext j
  have := View.canon_append_of_pieces (rstA v18 v19 A) [] _ (pb2_ok v18 v19 A st 34 le_rfl hst) (B.idx j) (pb2_cover st _)
  rwa [List.append_nil] at this

/-- The 256 rows of states belonging to chunk `n`. -/
def rstBlk (R : Vec F S8704x128 .bf16) (n : Fin 34) : Vec F S256x128 .bf16 :=
  fun j => R (ix2 (⟨256 * n.val + (j 0).val, by have := n.isLt; have : (j 0).val < 256 := (j 0).isLt; omega⟩ : Fin 8704) (j 1))

/-- One chunk of the result: the terms inside the chunk, the terms through the two states, the norm and the gate. -/
def chunkP (x4 : Vec F S1x2x128 .f32) (qb kb vb gb : Vec F S1x128x128 .bf16) (rst : Vec F S256x128 .bf16) (ng : Vec F S1x128 .f32) :
    FVec F S1x128x128 .bf16 :=
  k0_pay174
    (k0_pay172 (k0_pay90 (k0_pay59 x4) (k0_pay61 k0_pay55 (k0_pay57 x4) k0_pay60) (k0_pay74 qb) rst) (k0_pay126 (k0_pay58 x4) (k0_pay82 (k0_pay74 qb) kb) vb))
    (k0_pay173 (k0_pay90 (k0_pay59 x4) (k0_pay61 k0_pay55 (k0_pay57 x4) k0_pay60) (k0_pay74 qb) rst) (k0_pay126 (k0_pay58 x4) (k0_pay82 (k0_pay74 qb) kb) vb))
    ng gb

/-- The states a head's keys and values leave. -/
def rstX (x1 x2 : Vec F S1x4352x128 .bf16) (x4 : Vec F S1x2x128 .f32) : Vec F S8704x128 .bf16 :=
  rstA (k0_pay56 x4) (k0_pay57 x4) (kvA k0_pay55 (k0_pay56 x4) (k0_pay57 x4) x1 x2)

/-- A head's result block, from its query, key, value and gate columns, its two decay rows and the norm's gain. -/
def outVal (x0 x1 x2 x3 : Vec F S1x4352x128 .bf16) (x4 : Vec F S1x2x128 .f32) (x5 : Vec F S1x128 .f32) : Vec F S1x4096x128 .bf16 :=
  fun y =>
    let n : Fin 34 := ⟨(y 1).val / 128 + 2, by have : (y 1).val < 4096 := (y 1).isLt; omega⟩
    chunkP x4 (rblk x0 n) (rblk x1 n) (rblk x2 n) (rblk x3 n) (rstBlk (rstX x1 x2 x4) n) x5
      (ix3 (0 : Fin 1) (⟨(y 1).val % 128, Nat.mod_lt _ (by decide)⟩ : Fin 128) (y 2))

theorem outVal_at (x0 x1 x2 x3 : Vec F S1x4352x128 .bf16) (x4 : Vec F S1x2x128 .f32) (x5 : Vec F S1x128 .f32) (n : Fin 34)
    (y : S1x4096x128.Idx) (x : S1x128x128.Idx) (h1 : (y 1).val + 256 = 128 * n.val + (x 1).val) (h2 : (y 2).val = (x 2).val) :
    outVal x0 x1 x2 x3 x4 x5 y
      = chunkP x4 (rblk x0 n) (rblk x1 n) (rblk x2 n) (rblk x3 n) (rstBlk (rstX x1 x2 x4) n) x5 x := by
  have hx : (x 1).val < 128 := (x 1).isLt
  have hx0 : (x 0).val < 1 := (x 0).isLt
  have hn : (⟨(y 1).val / 128 + 2, by have : (y 1).val < 4096 := (y 1).isLt; omega⟩ : Fin 34) = n :=
    Fin.ext (by show (y 1).val / 128 + 2 = n.val; omega)
  have hi : ix3 (0 : Fin 1) (⟨(y 1).val % 128, Nat.mod_lt _ (by decide)⟩ : Fin 128) (y 2) = x := by
    funext a
    fin_cases a
    · exact Fin.ext (by show 0 = (x 0).val; omega)
    · exact Fin.ext (by show (y 1).val % 128 = (x 1).val; omega)
    · exact Fin.ext h2
  unfold outVal
  simp only [hn]
  exact congrArg _ hi

section L2
variable (c : Dev nD) (i : grid0.Coords) (arg2 : Memref sig .tc .vmem S1x4352x128 .bf16) (harg2 : arg2.IsWhole) (arg3 : Memref sig .tc .vmem S1x4352x128 .bf16) (harg3 : arg3.IsWhole) (arg4 : Memref sig .tc .vmem S1x4352x128 .bf16) (harg4 : arg4.IsWhole) (arg5 : Memref sig .tc .vmem S1x4352x128 .bf16) (harg5 : arg5.IsWhole) (arg6 : Memref sig .tc .vmem S1x2x128 .f32) (harg6 : arg6.IsWhole) (arg7 : Memref sig .tc .vmem S1x128 .f32) (harg7 : arg7.IsWhole) (arg8 : Memref sig .tc .vmem S1x4096x128 .bf16) (harg8 : arg8.IsWhole) (arg9 : Memref sig .tc .vmem S8704x128 .f32) (harg9 : arg9.IsWhole) (arg10 : Memref sig .tc .vmem S8704x128 .bf16) (harg10 : arg10.IsWhole)
  (x0 x1 x2 x3 : Vec F S1x4352x128 .bf16) (x4 : Vec F S1x2x128 .f32) (x5 : Vec F S1x128 .f32)
  (g9 : BufTy.Contents (Elt F) arg9.view.ty) (g10 : BufTy.Contents (Elt F) arg10.view.ty)

theorem piece_ok (n : Fin 32) (v0 : Vec F S1x2x128 .f32) (hv0 : v0 = x4) (v5 : Vec F S1x128 .f32) (hv5 : v5 = x5) (T1 T2 : ℕ) (hT1 : T1 = 2) (hT2 : T2 = 34)
    (oq : Fin 3 → ℕ) (inbq : ∀ a, oq a + S1x128x128.size a ≤ S1x4352x128.size a) (hq : oq = ![0, 128 * (n.val + 2), 0])
    (os : Fin 2 → ℕ) (inbs : ∀ a, os a + S256x128.size a ≤ S8704x128.size a) (hs : os = ![256 * (n.val + 2), 0])
    (oo : Fin 3 → ℕ) (inbo : ∀ a, oo a + S1x128x128.size a ≤ S1x4096x128.size a) (ho : oo = ![0, 128 * n.val, 0]) (x : S1x128x128.Idx) :
    chunkP v0
      (View.readAt (Elt F) arg2.view (Rect.unit (s := S1x4352x128) oq S1x128x128.size inbq).toLoadRect (harg2.unread x0))
      (View.readAt (Elt F) arg3.view (Rect.unit (s := S1x4352x128) oq S1x128x128.size inbq).toLoadRect (harg3.unread x1))
      (View.readAt (Elt F) arg4.view (Rect.unit (s := S1x4352x128) oq S1x128x128.size inbq).toLoadRect (harg4.unread x2))
      (View.readAt (Elt F) arg5.view (Rect.unit (s := S1x4352x128) oq S1x128x128.size inbq).toLoadRect (harg5.unread x3))
      (View.readCov (Val := Elt F) arg10.view
        (pb2 (st2 arg9 (k0_pay56 v0) (k0_pay57 v0)
          (arg9.view.writes (Elt F) g9 (pb_k0_t1 (F := F) Variants.none c none i arg2 harg2 arg3 harg3 arg4 harg4 arg5 harg5 arg6 harg6 arg7 harg7 arg8 harg8 arg9 harg9 arg10 harg10 k0_pay55 (k0_pay56 v0) (k0_pay57 v0) k0_pay60 (harg3.unread x1) (harg4.unread x2) T1))
          (k0_pay72, k0_pay72)) T2)
        (Rect.unit (s := S8704x128) os S256x128.size inbs).toLoadRect)
      v5 x
    = outVal x0 x1 x2 x3 x4 x5 ((Rect.unit (s := S1x4096x128) oo S1x128x128.size inbo).emb x) := by
  subst hv0 hv5 hT1 hT2 hq hs ho
  have hn := n.isLt
  rw [readAt_rblk arg2 harg2 x0 ⟨n.val + 2, by omega⟩ _ _ rfl, readAt_rblk arg3 harg3 x1 ⟨n.val + 2, by omega⟩ _ _ rfl,
    readAt_rblk arg4 harg4 x2 ⟨n.val + 2, by omega⟩ _ _ rfl, readAt_rblk arg5 harg5 x3 ⟨n.val + 2, by omega⟩ _ _ rfl]
  rw [readCov_rst arg10.view (k0_pay56 v0) (k0_pay57 v0) (kvA k0_pay55 (k0_pay56 v0) (k0_pay57 v0) x1 x2) _
    (fun k hk => st2_eq arg9 _ _ _ _ (read_kv c i arg2 harg2 arg3 harg3 arg4 harg4 arg5 harg5 arg6 harg6 arg7 harg7 arg8 harg8 arg9 harg9 arg10 harg10 k0_pay55 _ _ k0_pay60 x1 x2 arg9.view g9) k hk)]
  have hr : (fun j => rstA (k0_pay56 v0) (k0_pay57 v0) (kvA k0_pay55 (k0_pay56 v0) (k0_pay57 v0) x1 x2)
      ((Rect.unit (s := S8704x128) ![256 * (n.val + 2), 0] S256x128.size inbs).toLoadRect.idx j)) = rstBlk (rstX x1 x2 v0) ⟨n.val + 2, by omega⟩ := by
    funext j
    refine congrArg (rstA (k0_pay56 v0) (k0_pay57 v0) (kvA k0_pay55 (k0_pay56 v0) (k0_pay57 v0) x1 x2)) (funext fun a => Fin.ext ?_)
    rw [Rect.idx_unit_val]
    fin_cases a
    · rfl
    · show 0 + (j 1).val = (j 1).val
      omega
  rw [hr]
  symm
  refine outVal_at _ _ _ _ _ _ _ _ x ?_ ?_
  · show ((Rect.unit (s := S1x4096x128) _ S1x128x128.size inbo).idx x 1).val + 256 = _
    rw [Rect.idx_unit_val]
    show 128 * n.val + (x 1).val + 256 = 128 * (n.val + 2) + (x 1).val
    omega
  · show ((Rect.unit (s := S1x4096x128) _ S1x128x128.size inbo).idx x 2).val = _
    rw [Rect.idx_unit_val]
    show 0 + (x 2).val = (x 2).val
    omega

theorem body_pieces : View.PiecesOf (outVal x0 x1 x2 x3 x4 x5) (bodyRun c i arg2 harg2 arg3 harg3 arg4 harg4 arg5 harg5 arg6 harg6 arg7 harg7 arg8 harg8 arg9 harg9 arg10 harg10 x0 x1 x2 x3 x4 x5 g9 g10).1 := by
  have h6 : View.readAt (Elt F) arg6.view (Rect.unit (s := S1x2x128) ![0, 0, 0] S1x2x128.size (by decide)).toLoadRect (harg6.unread x4) = x4 := by
    rw [View.readAt_eq_ld, harg6.read_unread]
    exact View.ld_unit_zero (by decide) _ _
  have h7 : View.readAt (Elt F) arg7.view (Rect.unit (s := S1x128) ![0, 0] S1x128.size (by decide)).toLoadRect (harg7.unread x5) = x5 := by
    rw [View.readAt_eq_ld, harg7.read_unread]
    exact View.ld_unit_zero (by decide) _ _
  have hT1 : k0_t1_loop.trips = 2 := by decide
  unfold bodyRun
  exact ⟨fun x => piece_ok c i arg2 harg2 arg3 harg3 arg4 harg4 arg5 harg5 arg6 harg6 arg7 harg7 arg8 harg8 arg9 harg9 arg10 harg10 x0 x1 x2 x3 x4 x5 g9 31 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 4224, 0] inb_S1x4352x128_S1x128x128_0_4224_0 rfl ![8448, 0] (by decide) rfl ![0, 3968, 0] inb_S1x4096x128_S1x128x128_0_3968_0 rfl x,
    fun x => piece_ok c i arg2 harg2 arg3 harg3 arg4 harg4 arg5 harg5 arg6 harg6 arg7 harg7 arg8 harg8 arg9 harg9 arg10 harg10 x0 x1 x2 x3 x4 x5 g9 30 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 4096, 0] inb_S1x4352x128_S1x128x128_0_4096_0 rfl ![8192, 0] (by decide) rfl ![0, 3840, 0] inb_S1x4096x128_S1x128x128_0_3840_0 rfl x,
    fun x => piece_ok c i arg2 harg2 arg3 harg3 arg4 harg4 arg5 harg5 arg6 harg6 arg7 harg7 arg8 harg8 arg9 harg9 arg10 harg10 x0 x1 x2 x3 x4 x5 g9 29 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 3968, 0] inb_S1x4352x128_S1x128x128_0_3968_0 rfl ![7936, 0] (by decide) rfl ![0, 3712, 0] inb_S1x4096x128_S1x128x128_0_3712_0 rfl x,
    fun x => piece_ok c i arg2 harg2 arg3 harg3 arg4 harg4 arg5 harg5 arg6 harg6 arg7 harg7 arg8 harg8 arg9 harg9 arg10 harg10 x0 x1 x2 x3 x4 x5 g9 28 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 3840, 0] inb_S1x4352x128_S1x128x128_0_3840_0 rfl ![7680, 0] (by decide) rfl ![0, 3584, 0] inb_S1x4096x128_S1x128x128_0_3584_0 rfl x,
    fun x => piece_ok c i arg2 harg2 arg3 harg3 arg4 harg4 arg5 harg5 arg6 harg6 arg7 harg7 arg8 harg8 arg9 harg9 arg10 harg10 x0 x1 x2 x3 x4 x5 g9 27 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 3712, 0] inb_S1x4352x128_S1x128x128_0_3712_0 rfl ![7424, 0] (by decide) rfl ![0, 3456, 0] inb_S1x4096x128_S1x128x128_0_3456_0 rfl x,
    fun x => piece_ok c i arg2 harg2 arg3 harg3 arg4 harg4 arg5 harg5 arg6 harg6 arg7 harg7 arg8 harg8 arg9 harg9 arg10 harg10 x0 x1 x2 x3 x4 x5 g9 26 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 3584, 0] inb_S1x4352x128_S1x128x128_0_3584_0 rfl ![7168, 0] (by decide) rfl ![0, 3328, 0] inb_S1x4096x128_S1x128x128_0_3328_0 rfl x,
    fun x => piece_ok c i arg2 harg2 arg3 harg3 arg4 harg4 arg5 harg5 arg6 harg6 arg7 harg7 arg8 harg8 arg9 harg9 arg10 harg10 x0 x1 x2 x3 x4 x5 g9 25 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 3456, 0] inb_S1x4352x128_S1x128x128_0_3456_0 rfl ![6912, 0] (by decide) rfl ![0, 3200, 0] inb_S1x4096x128_S1x128x128_0_3200_0 rfl x,
    fun x => piece_ok c i arg2 harg2 arg3 harg3 arg4 harg4 arg5 harg5 arg6 harg6 arg7 harg7 arg8 harg8 arg9 harg9 arg10 harg10 x0 x1 x2 x3 x4 x5 g9 24 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 3328, 0] inb_S1x4352x128_S1x128x128_0_3328_0 rfl ![6656, 0] (by decide) rfl ![0, 3072, 0] inb_S1x4096x128_S1x128x128_0_3072_0 rfl x,
    fun x => piece_ok c i arg2 harg2 arg3 harg3 arg4 harg4 arg5 harg5 arg6 harg6 arg7 harg7 arg8 harg8 arg9 harg9 arg10 harg10 x0 x1 x2 x3 x4 x5 g9 23 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 3200, 0] inb_S1x4352x128_S1x128x128_0_3200_0 rfl ![6400, 0] (by decide) rfl ![0, 2944, 0] inb_S1x4096x128_S1x128x128_0_2944_0 rfl x,
    fun x => piece_ok c i arg2 harg2 arg3 harg3 arg4 harg4 arg5 harg5 arg6 harg6 arg7 harg7 arg8 harg8 arg9 harg9 arg10 harg10 x0 x1 x2 x3 x4 x5 g9 22 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 3072, 0] inb_S1x4352x128_S1x128x128_0_3072_0 rfl ![6144, 0] (by decide) rfl ![0, 2816, 0] inb_S1x4096x128_S1x128x128_0_2816_0 rfl x,
    fun x => piece_ok c i arg2 harg2 arg3 harg3 arg4 harg4 arg5 harg5 arg6 harg6 arg7 harg7 arg8 harg8 arg9 harg9 arg10 harg10 x0 x1 x2 x3 x4 x5 g9 21 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 2944, 0] inb_S1x4352x128_S1x128x128_0_2944_0 rfl ![5888, 0] (by decide) rfl ![0, 2688, 0] inb_S1x4096x128_S1x128x128_0_2688_0 rfl x,
    fun x => piece_ok c i arg2 harg2 arg3 harg3 arg4 harg4 arg5 harg5 arg6 harg6 arg7 harg7 arg8 harg8 arg9 harg9 arg10 harg10 x0 x1 x2 x3 x4 x5 g9 20 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 2816, 0] inb_S1x4352x128_S1x128x128_0_2816_0 rfl ![5632, 0] (by decide) rfl ![0, 2560, 0] inb_S1x4096x128_S1x128x128_0_2560_0 rfl x,
    fun x => piece_ok c i arg2 harg2 arg3 harg3 arg4 harg4 arg5 harg5 arg6 harg6 arg7 harg7 arg8 harg8 arg9 harg9 arg10 harg10 x0 x1 x2 x3 x4 x5 g9 19 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 2688, 0] inb_S1x4352x128_S1x128x128_0_2688_0 rfl ![5376, 0] (by decide) rfl ![0, 2432, 0] inb_S1x4096x128_S1x128x128_0_2432_0 rfl x,
    fun x => piece_ok c i arg2 harg2 arg3 harg3 arg4 harg4 arg5 harg5 arg6 harg6 arg7 harg7 arg8 harg8 arg9 harg9 arg10 harg10 x0 x1 x2 x3 x4 x5 g9 18 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 2560, 0] inb_S1x4352x128_S1x128x128_0_2560_0 rfl ![5120, 0] (by decide) rfl ![0, 2304, 0] inb_S1x4096x128_S1x128x128_0_2304_0 rfl x,
    fun x => piece_ok c i arg2 harg2 arg3 harg3 arg4 harg4 arg5 harg5 arg6 harg6 arg7 harg7 arg8 harg8 arg9 harg9 arg10 harg10 x0 x1 x2 x3 x4 x5 g9 17 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 2432, 0] inb_S1x4352x128_S1x128x128_0_2432_0 rfl ![4864, 0] (by decide) rfl ![0, 2176, 0] inb_S1x4096x128_S1x128x128_0_2176_0 rfl x,
    fun x => piece_ok c i arg2 harg2 arg3 harg3 arg4 harg4 arg5 harg5 arg6 harg6 arg7 harg7 arg8 harg8 arg9 harg9 arg10 harg10 x0 x1 x2 x3 x4 x5 g9 16 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 2304, 0] inb_S1x4352x128_S1x128x128_0_2304_0 rfl ![4608, 0] (by decide) rfl ![0, 2048, 0] inb_S1x4096x128_S1x128x128_0_2048_0 rfl x,
    fun x => piece_ok c i arg2 harg2 arg3 harg3 arg4 harg4 arg5 harg5 arg6 harg6 arg7 harg7 arg8 harg8 arg9 harg9 arg10 harg10 x0 x1 x2 x3 x4 x5 g9 15 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 2176, 0] inb_S1x4352x128_S1x128x128_0_2176_0 rfl ![4352, 0] (by decide) rfl ![0, 1920, 0] inb_S1x4096x128_S1x128x128_0_1920_0 rfl x,
    fun x => piece_ok c i arg2 harg2 arg3 harg3 arg4 harg4 arg5 harg5 arg6 harg6 arg7 harg7 arg8 harg8 arg9 harg9 arg10 harg10 x0 x1 x2 x3 x4 x5 g9 14 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 2048, 0] inb_S1x4352x128_S1x128x128_0_2048_0 rfl ![4096, 0] (by decide) rfl ![0, 1792, 0] inb_S1x4096x128_S1x128x128_0_1792_0 rfl x,
    fun x => piece_ok c i arg2 harg2 arg3 harg3 arg4 harg4 arg5 harg5 arg6 harg6 arg7 harg7 arg8 harg8 arg9 harg9 arg10 harg10 x0 x1 x2 x3 x4 x5 g9 13 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 1920, 0] inb_S1x4352x128_S1x128x128_0_1920_0 rfl ![3840, 0] (by decide) rfl ![0, 1664, 0] inb_S1x4096x128_S1x128x128_0_1664_0 rfl x,
    fun x => piece_ok c i arg2 harg2 arg3 harg3 arg4 harg4 arg5 harg5 arg6 harg6 arg7 harg7 arg8 harg8 arg9 harg9 arg10 harg10 x0 x1 x2 x3 x4 x5 g9 12 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 1792, 0] inb_S1x4352x128_S1x128x128_0_1792_0 rfl ![3584, 0] (by decide) rfl ![0, 1536, 0] inb_S1x4096x128_S1x128x128_0_1536_0 rfl x,
    fun x => piece_ok c i arg2 harg2 arg3 harg3 arg4 harg4 arg5 harg5 arg6 harg6 arg7 harg7 arg8 harg8 arg9 harg9 arg10 harg10 x0 x1 x2 x3 x4 x5 g9 11 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 1664, 0] inb_S1x4352x128_S1x128x128_0_1664_0 rfl ![3328, 0] (by decide) rfl ![0, 1408, 0] inb_S1x4096x128_S1x128x128_0_1408_0 rfl x,
    fun x => piece_ok c i arg2 harg2 arg3 harg3 arg4 harg4 arg5 harg5 arg6 harg6 arg7 harg7 arg8 harg8 arg9 harg9 arg10 harg10 x0 x1 x2 x3 x4 x5 g9 10 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 1536, 0] inb_S1x4352x128_S1x128x128_0_1536_0 rfl ![3072, 0] (by decide) rfl ![0, 1280, 0] inb_S1x4096x128_S1x128x128_0_1280_0 rfl x,
    fun x => piece_ok c i arg2 harg2 arg3 harg3 arg4 harg4 arg5 harg5 arg6 harg6 arg7 harg7 arg8 harg8 arg9 harg9 arg10 harg10 x0 x1 x2 x3 x4 x5 g9 9 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 1408, 0] inb_S1x4352x128_S1x128x128_0_1408_0 rfl ![2816, 0] (by decide) rfl ![0, 1152, 0] inb_S1x4096x128_S1x128x128_0_1152_0 rfl x,
    fun x => piece_ok c i arg2 harg2 arg3 harg3 arg4 harg4 arg5 harg5 arg6 harg6 arg7 harg7 arg8 harg8 arg9 harg9 arg10 harg10 x0 x1 x2 x3 x4 x5 g9 8 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 1280, 0] inb_S1x4352x128_S1x128x128_0_1280_0 rfl ![2560, 0] (by decide) rfl ![0, 1024, 0] inb_S1x4096x128_S1x128x128_0_1024_0 rfl x,
    fun x => piece_ok c i arg2 harg2 arg3 harg3 arg4 harg4 arg5 harg5 arg6 harg6 arg7 harg7 arg8 harg8 arg9 harg9 arg10 harg10 x0 x1 x2 x3 x4 x5 g9 7 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 1152, 0] inb_S1x4352x128_S1x128x128_0_1152_0 rfl ![2304, 0] (by decide) rfl ![0, 896, 0] inb_S1x4096x128_S1x128x128_0_896_0 rfl x,
    fun x => piece_ok c i arg2 harg2 arg3 harg3 arg4 harg4 arg5 harg5 arg6 harg6 arg7 harg7 arg8 harg8 arg9 harg9 arg10 harg10 x0 x1 x2 x3 x4 x5 g9 6 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 1024, 0] inb_S1x4352x128_S1x128x128_0_1024_0 rfl ![2048, 0] (by decide) rfl ![0, 768, 0] inb_S1x4096x128_S1x128x128_0_768_0 rfl x,
    fun x => piece_ok c i arg2 harg2 arg3 harg3 arg4 harg4 arg5 harg5 arg6 harg6 arg7 harg7 arg8 harg8 arg9 harg9 arg10 harg10 x0 x1 x2 x3 x4 x5 g9 5 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 896, 0] inb_S1x4352x128_S1x128x128_0_896_0 rfl ![1792, 0] (by decide) rfl ![0, 640, 0] inb_S1x4096x128_S1x128x128_0_640_0 rfl x,
    fun x => piece_ok c i arg2 harg2 arg3 harg3 arg4 harg4 arg5 harg5 arg6 harg6 arg7 harg7 arg8 harg8 arg9 harg9 arg10 harg10 x0 x1 x2 x3 x4 x5 g9 4 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 768, 0] inb_S1x4352x128_S1x128x128_0_768_0 rfl ![1536, 0] (by decide) rfl ![0, 512, 0] inb_S1x4096x128_S1x128x128_0_512_0 rfl x,
    fun x => piece_ok c i arg2 harg2 arg3 harg3 arg4 harg4 arg5 harg5 arg6 harg6 arg7 harg7 arg8 harg8 arg9 harg9 arg10 harg10 x0 x1 x2 x3 x4 x5 g9 3 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 640, 0] inb_S1x4352x128_S1x128x128_0_640_0 rfl ![1280, 0] (by decide) rfl ![0, 384, 0] inb_S1x4096x128_S1x128x128_0_384_0 rfl x,
    fun x => piece_ok c i arg2 harg2 arg3 harg3 arg4 harg4 arg5 harg5 arg6 harg6 arg7 harg7 arg8 harg8 arg9 harg9 arg10 harg10 x0 x1 x2 x3 x4 x5 g9 2 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 512, 0] inb_S1x4352x128_S1x128x128_0_512_0 rfl ![1024, 0] (by decide) rfl ![0, 256, 0] inb_S1x4096x128_S1x128x128_0_256_0 rfl x,
    fun x => piece_ok c i arg2 harg2 arg3 harg3 arg4 harg4 arg5 harg5 arg6 harg6 arg7 harg7 arg8 harg8 arg9 harg9 arg10 harg10 x0 x1 x2 x3 x4 x5 g9 1 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 384, 0] inb_S1x4352x128_S1x128x128_0_384_0 rfl ![768, 0] (by decide) rfl ![0, 128, 0] inb_S1x4096x128_S1x128x128_0_128_0 rfl x,
    fun x => piece_ok c i arg2 harg2 arg3 harg3 arg4 harg4 arg5 harg5 arg6 harg6 arg7 harg7 arg8 harg8 arg9 harg9 arg10 harg10 x0 x1 x2 x3 x4 x5 g9 0 (View.readAt (Elt F) arg6.view (Rect.unit (s := S1x2x128) ![0, 0, 0] S1x2x128.size (by decide)).toLoadRect (harg6.unread x4)) h6 (View.readAt (Elt F) arg7.view (Rect.unit (s := S1x128) ![0, 0] S1x128.size (by decide)).toLoadRect (harg7.unread x5)) h7 k0_t1_loop.trips k0_t2_loop.trips hT1 trips2 ![0, 256, 0] inb_S1x4352x128_S1x128x128_0_256_0 rfl ![512, 0] (by decide) rfl ![0, 0, 0] inb_S1x4096x128_S1x128x128_0_0_0 rfl x,
    trivial⟩

end L2

end Cert.KernelIdeal.Ret
end
-- ==== Proof.RetFrame.lean ====
module

public import proofs.«01_k».proof.Proof.RetVal
public import Idealize.ShloMosaic.Lib.Claim

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stored pieces fill the result's block. -/
theorem body_cover (c : Dev nD) (i : grid0.Coords) (arg2 : Memref sig .tc .vmem S1x4352x128 .bf16) (harg2 : arg2.IsWhole) (arg3 : Memref sig .tc .vmem S1x4352x128 .bf16) (harg3 : arg3.IsWhole) (arg4 : Memref sig .tc .vmem S1x4352x128 .bf16) (harg4 : arg4.IsWhole) (arg5 : Memref sig .tc .vmem S1x4352x128 .bf16) (harg5 : arg5.IsWhole) (arg6 : Memref sig .tc .vmem S1x2x128 .f32) (harg6 : arg6.IsWhole) (arg7 : Memref sig .tc .vmem S1x128 .f32) (harg7 : arg7.IsWhole) (arg8 : Memref sig .tc .vmem S1x4096x128 .bf16) (harg8 : arg8.IsWhole) (arg9 : Memref sig .tc .vmem S8704x128 .f32) (harg9 : arg9.IsWhole) (arg10 : Memref sig .tc .vmem S8704x128 .bf16) (harg10 : arg10.IsWhole)
    (x0 x1 x2 x3 : Vec F S1x4352x128 .bf16) (x4 : Vec F S1x2x128 .f32) (x5 : Vec F S1x128 .f32)
    (g9 : BufTy.Contents (Elt F) arg9.view.ty) (g10 : BufTy.Contents (Elt F) arg10.view.ty) (y : S1x4096x128.Idx) :
    ∃ p ∈ (bodyRun c i arg2 harg2 arg3 harg3 arg4 harg4 arg5 harg5 arg6 harg6 arg7 harg7 arg8 harg8 arg9 harg9 arg10 harg10 x0 x1 x2 x3 x4 x5 g9 g10).1, y ∈ p.1.set := by
  unfold bodyRun
  exact View.cover_of_tiledL _ ![1, 128, 128] (by sl_kernel_rfl) y

theorem read_body (c : Dev nD) (i : grid0.Coords) (arg2 : Memref sig .tc .vmem S1x4352x128 .bf16) (harg2 : arg2.IsWhole) (arg3 : Memref sig .tc .vmem S1x4352x128 .bf16) (harg3 : arg3.IsWhole) (arg4 : Memref sig .tc .vmem S1x4352x128 .bf16) (harg4 : arg4.IsWhole) (arg5 : Memref sig .tc .vmem S1x4352x128 .bf16) (harg5 : arg5.IsWhole) (arg6 : Memref sig .tc .vmem S1x2x128 .f32) (harg6 : arg6.IsWhole) (arg7 : Memref sig .tc .vmem S1x128 .f32) (harg7 : arg7.IsWhole) (arg8 : Memref sig .tc .vmem S1x4096x128 .bf16) (harg8 : arg8.IsWhole) (arg9 : Memref sig .tc .vmem S8704x128 .f32) (harg9 : arg9.IsWhole) (arg10 : Memref sig .tc .vmem S8704x128 .bf16) (harg10 : arg10.IsWhole)
    (x0 x1 x2 x3 : Vec F S1x4352x128 .bf16) (x4 : Vec F S1x2x128 .f32) (x5 : Vec F S1x128 .f32)
    (g9 : BufTy.Contents (Elt F) arg9.view.ty) (g10 : BufTy.Contents (Elt F) arg10.view.ty) (f : BufTy.Contents (Elt F) arg8.view.ty) :
    arg8.view.read (Elt F) (arg8.view.writes (Elt F) f (bodyRun c i arg2 harg2 arg3 harg3 arg4 harg4 arg5 harg5 arg6 harg6 arg7 harg7 arg8 harg8 arg9 harg9 arg10 harg10 x0 x1 x2 x3 x4 x5 g9 g10).1) = outVal x0 x1 x2 x3 x4 x5 := by
  funext y
  have hc := body_cover c i arg2 harg2 arg3 harg3 arg4 harg4 arg5 harg5 arg6 harg6 arg7 harg7 arg8 harg8 arg9 harg9 arg10 harg10 x0 x1 x2 x3 x4 x5 g9 g10
  rw [View.read_writes_eq_canon arg8.view f _ hc]
  have := View.canon_append_of_piecesOf (outVal x0 x1 x2 x3 x4 x5) [] _ (body_pieces c i arg2 harg2 arg3 harg3 arg4 harg4 arg5 harg5 arg6 harg6 arg7 harg7 arg8 harg8 arg9 harg9 arg10 harg10 x0 x1 x2 x3 x4 x5 g9 g10) y (hc y)
  rwa [List.append_nil] at this

abbrev ms0_0 (t : Fin cfg0.N) := win0_0.stage (cfg0.slots t 0)
theorem hs0_0 (t : Fin cfg0.N) : (ms0_0 t).IsWhole := hstage0_0 ((cfg0.slots t 0).cast nbuf0_0)
abbrev ms0_1 (t : Fin cfg0.N) := win0_1.stage (cfg0.slots t 1)
theorem hs0_1 (t : Fin cfg0.N) : (ms0_1 t).IsWhole := hstage0_1 ((cfg0.slots t 1).cast nbuf0_1)
abbrev ms0_2 (t : Fin cfg0.N) := win0_2.stage (cfg0.slots t 2)
theorem hs0_2 (t : Fin cfg0.N) : (ms0_2 t).IsWhole := hstage0_2 ((cfg0.slots t 2).cast nbuf0_2)
abbrev ms0_3 (t : Fin cfg0.N) := win0_3.stage (cfg0.slots t 3)
theorem hs0_3 (t : Fin cfg0.N) : (ms0_3 t).IsWhole := hstage0_3 ((cfg0.slots t 3).cast nbuf0_3)
abbrev ms0_4 (t : Fin cfg0.N) := win0_4.stage (cfg0.slots t 4)
theorem hs0_4 (t : Fin cfg0.N) : (ms0_4 t).IsWhole := hstage0_4 ((cfg0.slots t 4).cast nbuf0_4)
abbrev ms0_5 (t : Fin cfg0.N) := win0_5.stage (cfg0.slots t 5)
theorem hs0_5 (t : Fin cfg0.N) : (ms0_5 t).IsWhole := hstage0_5 ((cfg0.slots t 5).cast nbuf0_5)
abbrev ms0_6 (t : Fin cfg0.N) := win0_6.stage (cfg0.slots t 6)
theorem hs0_6 (t : Fin cfg0.N) : (ms0_6 t).IsWhole := hstage0_6 ((cfg0.slots t 6).cast nbuf0_6)

abbrev scM0_0 : Memref sig .tc .vmem S8704x128 .f32 := Memref.whole cc0_scratch0
abbrev scM0_1 : Memref sig .tc .vmem S8704x128 .bf16 := Memref.whole cc0_scratch1

/-- The result's block at point `t`. -/
def outAt (c : Dev nD) (t : Fin cfg0.N) : Vec F S1x4096x128 .bf16 :=
  outVal (iblk m c 0 t) (iblk m c 1 t) (iblk m c 2 t) (iblk m c 3 t) (iblk m c 4 t) (iblk m c 5 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨⟨%e9, HS0⟩, ⟨%e10, HS1⟩⟩, Hg⟩, Ho, ⟨%d0, H0⟩, ⟨%d1, H1⟩, ⟨%d2, H2⟩, ⟨%d3, H3⟩, ⟨%d4, H4⟩, ⟨%d5, H5⟩, ⟨%d6, H6⟩⟩
  unfold owns
  icases HS0 with ⟨%g9, %hg9, HS0⟩
  icases HS1 with ⟨%g10, %hg10, HS1⟩
  iapply ((bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) g9 g10).2 Set.univ _)
  unfold owns
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%f8, H6⟩, ⟨%f9, HS0⟩, ⟨%f10, HS1⟩⟩
  isplitl [HS0 HS1 Hg]
  · isplitl [HS0 HS1]
    · isplitl [HS0]
      · iexists _; iexists _; isplitr
        swap; · iexact HS0
        ipureintro; rfl
      iexists _; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr
  swap; · iexact H6
  ipureintro; exact read_body c _ _ _ _ _ _ _ _ _ _ _ _ _ _ _ _ _ _ _ _ _ _ _ _ _ _ _ f8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Ret

end
-- ==== Proof.RetMath.lean ====
module

public import Idealize.ShloMosaic.Lib.Pointwise
public import Idealize.ShloMosaic.Lib.IdealHost

@[expose] public section
noncomputable section
namespace Cert.RetMath
open Idealize.ShloMosaic

/-! ### The retention sum over the reals -/

variable (γ : ℝ) (Q K V : ℕ → Fin 128 → ℝ)

/-- The state before position `n`: the decayed sum of the outer products of keys and values. -/
def st : ℕ → Fin 128 → Fin 128 → ℝ
  | 0, _, _ => 0
  | n + 1, d, v => γ * st n d v + K n d * V n v

/-- The result at position `n`: the query against the state after it. -/
def cl (n : ℕ) (v : Fin 128) : ℝ := ∑ d : Fin 128, Q n d * st γ K V (n + 1) d v

theorem st_add (n : ℕ) (C : ℕ) (d v : Fin 128) :
    st γ K V (n + C) d v = γ ^ C * st γ K V n d v + ∑ j : Fin C, K (n + j) d * γ ^ (C - 1 - j.val) * V (n + j) v := by
  induction C with
  | zero => simp
  | succ C ih =>
    rw [show n + (C + 1) = (n + C) + 1 from rfl, st, ih, Fin.sum_univ_castSucc, mul_add, Finset.mul_sum, pow_succ']
    have e : ∀ j : Fin C, γ * (K (n + j) d * γ ^ (C - 1 - j.val) * V (n + j) v) = K (n + j) d * γ ^ (C + 1 - 1 - j.val) * V (n + j) v := by
      intro j
      rw [show C + 1 - 1 - j.val = (C - 1 - j.val) + 1 by omega, pow_succ']
      ring
    rw [Finset.sum_congr rfl (fun j _ => e j)]
    simp
    ring

/-- A chunk's result: the terms inside the chunk and the terms through the state before it. -/
theorem cl_chunk (n C : ℕ) (i : Fin C) (v : Fin 128) :
    cl γ Q K V (n + i) v
      = (∑ j : Fin C, (∑ d : Fin 128, Q (n + i) d * K (n + j) d) * (if j.val ≤ i.val then γ ^ (i.val - j.val) else 0) * V (n + j) v)
        + ∑ d : Fin 128, Q (n + i) d * γ ^ (i.val + 1) * st γ K V n d v := by
  have hi := i.isLt
  have h1 : ∀ d, st γ K V (n + i + 1) d v = γ ^ (i.val + 1) * st γ K V n d v
      + ∑ j : Fin C, K (n + j) d * (if j.val ≤ i.val then γ ^ (i.val - j.val) else 0) * V (n + j) v := by
    intro d
    rw [show n + i.val + 1 = n + (i.val + 1) from rfl, st_add]
    congr 1
    have e1 := Fin.sum_univ_eq_sum_range (fun j => K (n + j) d * γ ^ (i.val + 1 - 1 - j) * V (n + j) v) (i.val + 1)
    have e2 := Fin.sum_univ_eq_sum_range (fun j => K (n + j) d * (if j ≤ i.val then γ ^ (i.val - j) else 0) * V (n + j) v) C
    refine e1.trans (Eq.trans ?_ e2.symm)
    rw [← Finset.sum_subset (Finset.range_mono (show i.val + 1 ≤ C by omega))]
    · refine Finset.sum_congr rfl fun j hj => ?_
      rw [if_pos (by have := Finset.mem_range.mp hj; omega)]
      rfl
    · intro j _ hj
      rw [if_neg (by intro h; exact hj (Finset.mem_range.mpr (by omega)))]
      ring
  unfold cl
  rw [Finset.sum_congr rfl (fun d _ => by rw [h1 d])]
  simp only [mul_add, Finset.sum_add_distrib]
  rw [add_comm]
  congr 1
  · simp only [Finset.mul_sum, Finset.sum_mul]
    rw [Finset.sum_comm]
    refine Finset.sum_congr rfl fun j _ => Finset.sum_congr rfl fun d _ => ?_
    ring
  · refine Finset.sum_congr rfl fun d _ => ?_
    ring

/-- The same with the other order inside the chunk (the chunk read from its end). -/
theorem cl_chunk_rev (n : ℕ) (i : Fin 128) (v : Fin 128) (Q' K' V' : Fin 128 → Fin 128 → ℝ)
    (hQ : ∀ j : Fin 128, Q' j = Q (n + (127 - j.val))) (hK : ∀ j : Fin 128, K' j = K (n + (127 - j.val))) (hV : ∀ j : Fin 128, V' j = V (n + (127 - j.val))) :
    cl γ Q K V (n + (127 - i.val)) v
      = (∑ j : Fin 128, (∑ d : Fin 128, Q' i d * K' j d) * (if i.val ≤ j.val then γ ^ (j.val - i.val) else 0) * V' j v)
        + ∑ d : Fin 128, Q' i d * γ ^ (128 - i.val) * st γ K V n d v := by
  have h := cl_chunk γ Q K V n 128 i.rev v
  have hr : ∀ j : Fin 128, (Fin.rev j).val = 127 - j.val := fun j => by rw [Fin.val_rev]; omega
  rw [hr] at h
  rw [h, ← Equiv.sum_comp Fin.revPerm]
  congr 1
  · refine Finset.sum_congr rfl fun j _ => ?_
    rw [hQ, hK, hV]
    simp only [Fin.revPerm_apply, hr]
    congr 2
    have := i.isLt; have := j.isLt
    by_cases hij : i.val ≤ j.val
    · rw [if_pos hij, if_pos (by omega)]
      congr 1; omega
    · rw [if_neg hij, if_neg (by omega)]
  · refine Finset.sum_congr rfl fun d _ => ?_
    rw [hQ, show 127 - i.val + 1 = 128 - i.val by have := i.isLt; omega]

/-- The state after a chunk read from its end. -/
theorem st_add_rev (n : ℕ) (d v : Fin 128) (K' V' : Fin 128 → Fin 128 → ℝ)
    (hK : ∀ j : Fin 128, K' j = K (n + (127 - j.val))) (hV : ∀ j : Fin 128, V' j = V (n + (127 - j.val))) :
    st γ K V (n + 128) d v = γ ^ 128 * st γ K V n d v + ∑ j : Fin 128, K' j d * γ ^ j.val * V' j v := by
  rw [st_add, ← Equiv.sum_comp Fin.revPerm]
  congr 1
  refine Finset.sum_congr rfl fun j _ => ?_
  have hr : ∀ j : Fin 128, (Fin.rev j).val = 127 - j.val := fun j => by rw [Fin.val_rev]; omega
  rw [hK, hV]
  simp only [Fin.revPerm_apply, hr]
  rw [show 128 - 1 - (127 - j.val) = j.val by have := j.isLt; omega]

/-! ### Positions of the backward sequence -/

/-- The row at position `p` of the backward sequence; its own inverse. -/
def rowB (p : ℕ) : ℕ := if p < 256 then 255 - p else 4607 - p

theorem rowB_lt {p : ℕ} (h : p < 4352) : rowB p < 4352 := by unfold rowB; split <;> omega
theorem rowB_rowB {p : ℕ} (h : p < 4352) : rowB (rowB p) = p := by unfold rowB; split <;> split <;> omega

/-! ### The decay's powers -/

/-- The log decay of a logit: a number at most zero, or minus infinity. -/
def lgd (x : EReal) : EReal := -(max (-x) 0 + Ideal.log1p (Ideal.exp (-(max (-x) (- -x)))))

theorem coe_sum {n : ℕ} (f : Fin n → ℝ) : ∑ i, ((f i : ℝ) : EReal) = ((∑ i, f i : ℝ) : EReal) := by
  induction (Finset.univ : Finset (Fin n)) using Finset.induction_on with
  | empty => simp
  | insert a s ha ih => rw [Finset.sum_insert ha, Finset.sum_insert ha, ih, EReal.coe_add]

/-- The powers of the decay: `exp (L n)` is `γ ^ n` for one real `γ`, at `L` real or minus infinity. -/
theorem pow_of (L : EReal) (h : L ≠ ⊤) : ∃ γ : ℝ, ∀ n : ℕ, Ideal.exp (L * ((n : ℝ) : EReal)) = ((γ ^ n : ℝ) : EReal) := by
  induction L using EReal.rec with
  | bot =>
    refine ⟨0, fun n => ?_⟩
    rcases Nat.eq_zero_or_pos n with rfl | hn
    · rw [Nat.cast_zero, EReal.coe_zero, mul_zero, pow_zero, ← EReal.coe_zero]
      exact congrArg Real.toEReal Real.exp_zero
    · rw [EReal.bot_mul_coe_of_pos (by exact_mod_cast hn), zero_pow (by omega)]
      rfl
  | coe r =>
    refine ⟨Real.exp r, fun n => ?_⟩
    rw [← EReal.coe_mul]
    show ((Real.exp (r * n) : ℝ) : EReal) = _
    rw [mul_comm, Real.exp_nat_mul]
  | top => exact absurd rfl h

theorem exp_nonneg (y : EReal) : 0 ≤ Ideal.exp y := by
  induction y using EReal.rec with
  | bot => exact le_rfl
  | coe r => exact EReal.coe_nonneg.mpr (Real.exp_pos r).le
  | top => exact le_top

theorem log1p_nonneg {y : EReal} (h : 0 ≤ y) : 0 ≤ Ideal.log1p y := by
  induction y using EReal.rec with
  | bot => simp at h
  | coe r =>
    have hr : 0 ≤ r := EReal.coe_nonneg.mp h
    have e : Ideal.log1p (r : EReal) = ((Real.log (1 + r) : ℝ) : EReal) := by
      unfold Ideal.log1p
      rw [← EReal.coe_one, ← EReal.coe_add]
      show (if 1 + r ≤ 0 then ⊥ else ((Real.log (1 + r) : ℝ) : EReal)) = _
      rw [if_neg (by linarith)]
    rw [e]
    exact EReal.coe_nonneg.mpr (Real.log_nonneg (by linarith))
  | top =>
    unfold Ideal.log1p
    rw [show (1 : EReal) + ⊤ = ⊤ from rfl]
    exact le_top

theorem lgd_ne_top (x : EReal) : lgd x ≠ ⊤ := by
  unfold lgd
  intro h
  have h2 := EReal.neg_eq_top_iff.mp h
  have h0 : (0 : EReal) ≤ max (-x) 0 := le_max_right _ _
  have h1 : (0 : EReal) ≤ Ideal.log1p (Ideal.exp (-(max (-x) (- -x)))) := by
    generalize -(max (-x) (- -x)) = y
    exact log1p_nonneg (exp_nonneg y)
  have := add_nonneg h0 h1
  rw [h2] at this
  simp at this

/-- The decay of a logit. -/
def gam (x : EReal) : ℝ := (pow_of (lgd x) (lgd_ne_top x)).choose
theorem gam_pow (x : EReal) (n : ℕ) : Ideal.exp (lgd x * ((n : ℝ) : EReal)) = ((gam x ^ n : ℝ) : EReal) :=
  (pow_of (lgd x) (lgd_ne_top x)).choose_spec n

theorem sub_nat {a b : ℕ} (h : b ≤ a) : ((a : ℝ) : EReal) - ((b : ℝ) : EReal) = (((a - b : ℕ) : ℝ) : EReal) := by
  rw [← EReal.coe_sub, Nat.cast_sub h]

/-- A row's group norm, its gain and its gate. -/
def outRow (o ng g : Fin 128 → EReal) (v : Fin 128) : EReal :=
  let w : Fin 128 → EReal := fun u => o u - Ideal.div (∑ x, o x) (Ideal.ofBits FTy.f32 0x43000000#32)
  w v * Ideal.rsqrt (Ideal.div (∑ x, w x * w x) (Ideal.ofBits FTy.f32 0x43000000#32) + Ideal.ofBits FTy.f32 0x358637BD#32) * ng v
    * (g v * Ideal.div 1 (1 + Ideal.exp (-(g v))))

/-- The two directions' results at row `l`, added. -/
def both (γF γB : ℝ) (Q K V : ℕ → Fin 128 → ℝ) (l : ℕ) (v : Fin 128) : ℝ :=
  cl γF Q K V l v + cl γB (fun p => Q (rowB p)) (fun p => K (rowB p)) (fun p => V (rowB p)) (rowB l) v

/-- An entry of the projected array as a real number. -/
def cell (p : Fin 4 → Fin 4352 → Fin 2048 → EReal) (b : Fin 4) (n c : ℕ) : ℝ :=
  if h : n < 4352 ∧ c < 2048 then (p b ⟨n, h.1⟩ ⟨c, h.2⟩).toReal else 0

/-- A query, key or value entry is a real number. -/
def Fin3 (p : Fin 4 → Fin 4352 → Fin 2048 → EReal) : Prop := ∀ b n (c : Fin 2048), c.val < 1536 → p b n c ≠ ⊥ ∧ p b n c ≠ ⊤

theorem cell_eq {p : Fin 4 → Fin 4352 → Fin 2048 → EReal} (hp : Fin3 p) (b : Fin 4) (n : Fin 4352) (c : Fin 2048) (hc : c.val < 1536) :
    p b n c = ((cell p b n.val c.val : ℝ) : EReal) := by
  unfold cell
  rw [dif_pos ⟨n.isLt, c.isLt⟩]
  exact (EReal.coe_toReal (hp b n c hc).2 (hp b n c hc).1).symm

/-- A head's columns of one of the four groups, as a sequence of rows. -/
def seq (p : Fin 4 → Fin 4352 → Fin 2048 → EReal) (b h : Fin 4) (g : ℕ) (n : ℕ) (d : Fin 128) : ℝ := cell p b n (512 * g + 128 * h.val + d.val)

/-- The retention layer's result. -/
def retV (p : Fin 4 → Fin 4352 → Fin 2048 → EReal) (lo : Fin 2 → Fin 4 → EReal) (ng : Fin 128 → EReal) (b : Fin 4) (l : Fin 4096) (h : Fin 4) (v : Fin 128) : EReal :=
  outRow (fun u => ((both (gam (lo 0 h)) (gam (lo 1 h)) (seq p b h 0) (seq p b h 1) (seq p b h 2) (256 + l.val) u : ℝ) : EReal)) ng
    (fun u => p b ⟨256 + l.val, by have := l.isLt; omega⟩ ⟨1536 + 128 * h.val + u.val, by have := h.isLt; have := u.isLt; omega⟩) v

/-- The same at a column of the four heads' results side by side. -/
def retG (p : Fin 4 → Fin 4352 → Fin 2048 → EReal) (lo : Fin 2 → Fin 4 → EReal) (ng : Fin 128 → EReal) (b : Fin 4) (l : Fin 4096) (c : Fin 512) : EReal :=
  retV p lo ng b l ⟨c.val / 128, by have := c.isLt; omega⟩ ⟨c.val % 128, Nat.mod_lt _ (by decide)⟩

end Cert.RetMath
end
-- ==== Proof.RetKer.lean ====
module

public import proofs.«01_k».proof.Proof.RetVal
public import proofs.«01_k».proof.Proof.RetMath

@[expose] public section
set_option maxRecDepth 16384
noncomputable section
namespace Cert.KernelIdeal.Ret
open Cert.KernelIdeal Cert.KernelIdeal.Gen Idealize.ShloMosaic Idealize.ShloMosaic.TcCoe Idealize.SL.Sem Cert.RetMath

theorem c127 : Ideal.ofBits .f32 0x42FE0000#32 = (((127 : ℕ) : ℝ) : EReal) := by
  simp [Ideal.ofBits, Ideal.ieee]
  rw [← EReal.coe_mul]
  norm_num
theorem c128 : Ideal.ofBits .f32 0x43000000#32 = (((128 : ℕ) : ℝ) : EReal) := by
  simp [Ideal.ofBits, Ideal.ieee]
  rw [← EReal.coe_mul]
  norm_num

theorem toInt_fin : ∀ j : Fin 128, (BitVec.ofNat 32 j.val).toInt = (j.val : ℤ) := by decide

theorem sito (j : Fin 128) : FloatOps.sitofp (F := Ideal) FTy.f32 (BitVec.ofNat 32 j.val) = ((j.val : ℝ) : EReal) := by
  show (((BitVec.ofNat 32 j.val).toInt : ℝ) : EReal) = _
  rw [toInt_fin]
  rfl

theorem p56 (x4 : Vec Ideal S1x2x128 .f32) (d : Fin 128) : k0_pay56 x4 (ix2 (0 : Fin 1) d) = lgd (x4 (ix3 (0 : Fin 1) (0 : Fin 2) d)) := by
  pointwise [k0_pay56, k0_pay54, lgd]
  simp only [zero_sub]
  rfl

theorem p57 (x4 : Vec Ideal S1x2x128 .f32) (d : Fin 128) : k0_pay57 x4 (ix2 (0 : Fin 1) d) = lgd (x4 (ix3 (0 : Fin 1) (1 : Fin 2) d)) := by
  pointwise [k0_pay57, k0_pay54, lgd]
  simp only [zero_sub]
  rfl

theorem p55 (j d : Fin 128) : k0_pay55 (F := Ideal) (ix2 j d) = ((j.val : ℝ) : EReal) := by
  pointwise [k0_pay55]
  exact sito j

section
variable {lo : EReal} {v18 : FVec Ideal S1x128 .f32} (h18 : ∀ d, v18 (ix2 (0 : Fin 1) d) = lgd lo)
include h18

theorem p62 (j d : Fin 128) : k0_pay62 k0_pay55 v18 (ix2 j d) = ((gam lo ^ (127 - j.val) : ℝ) : EReal) := by
  pointwise [k0_pay62]
  rw [p55, c127, h18, sub_nat (by have := j.isLt; omega), gam_pow]

theorem p63 (j d : Fin 128) : k0_pay63 k0_pay55 v18 (ix2 j d) = ((gam lo ^ j.val : ℝ) : EReal) := by
  pointwise [k0_pay63]
  rw [p55, h18, gam_pow]

theorem p61 (j d : Fin 128) : k0_pay61 k0_pay55 v18 k0_pay60 (ix2 j d) = ((gam lo ^ (128 - j.val) : ℝ) : EReal) := by
  pointwise [k0_pay61, k0_pay60]
  rw [p55, c128, h18, sub_nat (by have := j.isLt; omega), gam_pow]

theorem p64 (d : Fin 128) : k0_pay64 v18 (ix2 (0 : Fin 1) d) = ((gam lo ^ 128 : ℝ) : EReal) := by
  pointwise [k0_pay64]
  rw [c128, h18, gam_pow]

theorem p65 (d : Fin 128) : k0_pay65 v18 (ix2 (0 : Fin 1) d) = ((gam lo ^ 128 : ℝ) : EReal) := by
  pointwise [k0_pay65]
  rw [c128, h18, gam_pow]
end

section
variable {lf lb : EReal} {x4 : Vec Ideal S1x2x128 .f32} (h4f : ∀ d, x4 (ix3 (0 : Fin 1) (0 : Fin 2) d) = lf) (h4b : ∀ d, x4 (ix3 (0 : Fin 1) (1 : Fin 2) d) = lb)

include h4f in
theorem p59 (j d : Fin 128) : k0_pay59 x4 (ix2 j d) = ((gam lf ^ (j.val + 1) : ℝ) : EReal) := by
  pointwise [k0_pay59]
  rw [p55, p56, h4f, ← gam_pow, Nat.cast_add, EReal.coe_add, Nat.cast_one, EReal.coe_one]

include h4f h4b in
theorem p58 (i j : Fin 128) : k0_pay58 x4 (ix2 i j)
    = (((if j.val ≤ i.val then gam lf ^ (i.val - j.val) else 0) + (if i.val ≤ j.val then gam lb ^ (j.val - i.val) else 0) : ℝ) : EReal) := by
  pointwise [k0_pay58]
  simp only [sito, p55, p56, p57, h4f, h4b]
  rw [EReal.coe_add]
  have hc : ∀ a b : ℕ, (((a : ℝ) : EReal) ≤ ((b : ℝ) : EReal)) ↔ a ≤ b := fun a b => by rw [EReal.coe_le_coe_iff, Nat.cast_le]
  congr 1
  · by_cases h : j.val ≤ i.val
    · rw [if_pos ((hc _ _).mpr h), if_pos h, sub_nat h, max_eq_left (by exact_mod_cast Nat.zero_le _), gam_pow]
    · rw [if_neg (fun h' => h ((hc _ _).mp h')), if_neg h, EReal.coe_zero]
  · by_cases h : i.val ≤ j.val
    · rw [if_pos ((hc _ _).mpr h), if_pos h, sub_nat h, max_eq_left (by exact_mod_cast Nat.zero_le _), gam_pow]
    · rw [if_neg (fun h' => h ((hc _ _).mp h')), if_neg h, EReal.coe_zero]
end

theorem kvC_lo (v15 : FVec Ideal S128x128 .f32) (v18 v19 : FVec Ideal S1x128 .f32) (kb vb : Vec Ideal S1x128x128 .bf16) (d v : Fin 128) :
    kvC v15 v18 v19 kb vb (ix2 (⟨d.val, by have := d.isLt; omega⟩ : Fin 256) v)
      = ∑ j : Fin 128, kb (ix3 (0 : Fin 1) j d) * k0_pay62 v15 v18 (ix2 j d) * vb (ix3 (0 : Fin 1) j v) := by
  pointwise [kvC, k0_pay71, k0_pay19, k0_pay2]

theorem kvC_hi (v15 : FVec Ideal S128x128 .f32) (v18 v19 : FVec Ideal S1x128 .f32) (kb vb : Vec Ideal S1x128x128 .bf16) (d v : Fin 128) :
    kvC v15 v18 v19 kb vb (ix2 (⟨128 + d.val, by have := d.isLt; omega⟩ : Fin 256) v)
      = ∑ j : Fin 128, kb (ix3 (0 : Fin 1) j d) * k0_pay63 v15 v19 (ix2 j d) * vb (ix3 (0 : Fin 1) j v) := by
  pointwise [kvC, k0_pay71, k0_pay19, k0_pay2]

theorem p51 (a : FVec Ideal S1x128 .f32) (s : FVec Ideal S128x128 .f32) (h : Vec Ideal S128x128 .f32) (d v : Fin 128) :
    k0_pay51 a s h (ix2 d v) = a (ix2 (0 : Fin 1) v) * s (ix2 d v) + h (ix2 d v) := by
  pointwise [k0_pay51]

theorem p73 (a : FVec Ideal S1x128 .f32) (s : FVec Ideal S128x128 .f32) (h : Vec Ideal S128x128 .f32) (d v : Fin 128) :
    k0_pay73 (k0_pay53 a s) h (ix2 d v) = a (ix2 (0 : Fin 1) v) * s (ix2 d v) + h (ix2 d v) := by
  pointwise [k0_pay73, k0_pay53]

theorem p72 (d v : Fin 128) : k0_pay72 (F := Ideal) (ix2 d v) = 0 := by
  pointwise [k0_pay72]

theorem p90 (a b : FVec Ideal S128x128 .f32) (q : Vec Ideal S1x128x128 .bf16) (r : Vec Ideal S256x128 .bf16) (i v : Fin 128) :
    k0_pay90 a b (k0_pay74 q) r (ix2 i v)
      = (∑ d : Fin 128, q (ix3 (0 : Fin 1) i d) * a (ix2 i d) * r (ix2 (⟨d.val, by have := d.isLt; omega⟩ : Fin 256) v))
        + ∑ d : Fin 128, q (ix3 (0 : Fin 1) i d) * b (ix2 i d) * r (ix2 (⟨128 + d.val, by have := d.isLt; omega⟩ : Fin 256) v) := by
  pointwise [k0_pay90, k0_pay74]

theorem p126 (m : FVec Ideal S128x128 .f32) (q k w : Vec Ideal S1x128x128 .bf16) (i v : Fin 128) :
    k0_pay126 m (k0_pay82 (k0_pay74 q) k) w (ix2 i v)
      = ∑ j : Fin 128, (∑ d : Fin 128, q (ix3 (0 : Fin 1) i d) * k (ix3 (0 : Fin 1) j d)) * m (ix2 i j) * w (ix3 (0 : Fin 1) j v) := by
  pointwise [k0_pay126, k0_pay82, k0_pay74]

theorem p174 (a b : FVec Ideal S128x128 .f32) (ng : Vec Ideal S1x128 .f32) (gb : Vec Ideal S1x128x128 .bf16) (i v : Fin 128) :
    k0_pay174 (k0_pay172 a b) (k0_pay173 a b) ng gb (ix3 (0 : Fin 1) i v)
      = outRow (fun u => b (ix2 i u) + a (ix2 i u)) (fun u => ng (ix2 (0 : Fin 1) u)) (fun u => gb (ix3 (0 : Fin 1) i u)) v := by
  pointwise [k0_pay174, k0_pay172, k0_pay173, outRow]
  simp only [zero_sub]

/-! ### The states and a result block over the reals -/

theorem rowB_bwdc {n : ℕ} (hn : n < 34) (j : Fin 128) : rowB (128 * n + (127 - j.val)) = 128 * bwdc n + j.val := by
  have := j.isLt
  unfold rowB bwdc
  split <;> split <;> omega

section
variable {lf lb : EReal} {Q K V : ℕ → Fin 128 → ℝ} {x0 x1 x2 x3 : Vec Ideal S1x4352x128 .bf16} {x4 : Vec Ideal S1x2x128 .f32} {x5 : Vec Ideal S1x128 .f32}
  (h0 : ∀ n d, x0 (ix3 (0 : Fin 1) n d) = ((Q n.val d : ℝ) : EReal))
  (h1 : ∀ n d, x1 (ix3 (0 : Fin 1) n d) = ((K n.val d : ℝ) : EReal))
  (h2 : ∀ n d, x2 (ix3 (0 : Fin 1) n d) = ((V n.val d : ℝ) : EReal))
  (h4f : ∀ d, x4 (ix3 (0 : Fin 1) (0 : Fin 2) d) = lf) (h4b : ∀ d, x4 (ix3 (0 : Fin 1) (1 : Fin 2) d) = lb)

theorem rblk_at {x : Vec Ideal S1x4352x128 .bf16} {X : ℕ → Fin 128 → ℝ} (hx : ∀ n d, x (ix3 (0 : Fin 1) n d) = ((X n.val d : ℝ) : EReal))
    (n : Fin 34) (j d : Fin 128) : rblk x n (ix3 (0 : Fin 1) j d) = ((X (128 * n.val + j.val) d : ℝ) : EReal) := hx _ _

include h4f in
theorem h56 (d : Fin 128) : k0_pay56 x4 (ix2 (0 : Fin 1) d) = lgd lf := by rw [p56, h4f]
include h4b in
theorem h57 (d : Fin 128) : k0_pay57 x4 (ix2 (0 : Fin 1) d) = lgd lb := by rw [p57, h4b]

include h1 h2 h4f in
theorem kvA_lo (n : Fin 34) (d v : Fin 128) :
    half (kvA k0_pay55 (k0_pay56 x4) (k0_pay57 x4) x1 x2) (256 * n.val) (ix2 d v)
      = ((∑ j : Fin 128, K (128 * n.val + j) d * gam lf ^ (127 - j.val) * V (128 * n.val + j) v : ℝ) : EReal) := by
  unfold half
  rw [kvA_at _ _ _ _ _ n _ (ix2 (⟨d.val, by have := d.isLt; omega⟩ : Fin 256) v)
    (by show (256 * n.val + d.val) % 8704 = 256 * n.val + d.val; have := n.isLt; have := d.isLt; omega) rfl, kvC_lo, ← coe_sum]
  refine Finset.sum_congr rfl fun j _ => ?_
  rw [rblk_at h1, rblk_at h2, p62 (h56 h4f), EReal.coe_mul, EReal.coe_mul]

include h1 h2 h4b in
theorem kvA_hi (n : Fin 34) (d v : Fin 128) :
    half (kvA k0_pay55 (k0_pay56 x4) (k0_pay57 x4) x1 x2) (256 * n.val + 128) (ix2 d v)
      = ((∑ j : Fin 128, K (128 * n.val + j) d * gam lb ^ j.val * V (128 * n.val + j) v : ℝ) : EReal) := by
  unfold half
  rw [kvA_at _ _ _ _ _ n _ (ix2 (⟨128 + d.val, by have := d.isLt; omega⟩ : Fin 256) v)
    (by show (256 * n.val + 128 + d.val) % 8704 = 256 * n.val + (128 + d.val); have := n.isLt; have := d.isLt; omega) rfl, kvC_hi, ← coe_sum]
  refine Finset.sum_congr rfl fun j _ => ?_
  rw [rblk_at h1, rblk_at h2, p63 (h57 h4b), EReal.coe_mul, EReal.coe_mul]

include h1 h2 h4f h4b in
theorem stC_at (n : ℕ) (hn : n ≤ 34) (d v : Fin 128) :
    (stC (k0_pay56 x4) (k0_pay57 x4) (kvA k0_pay55 (k0_pay56 x4) (k0_pay57 x4) x1 x2) n).1 (ix2 d v) = ((st (gam lf) K V (128 * n) d v : ℝ) : EReal)
    ∧ (stC (k0_pay56 x4) (k0_pay57 x4) (kvA k0_pay55 (k0_pay56 x4) (k0_pay57 x4) x1 x2) n).2 (ix2 d v)
      = ((st (gam lb) (fun p => K (rowB p)) (fun p => V (rowB p)) (128 * n) d v : ℝ) : EReal) := by
  induction n with
  | zero => exact ⟨p72 d v, p72 d v⟩
  | succ n ih =>
    obtain ⟨i1, i2⟩ := ih (by omega)
    constructor
    · unfold stC
      dsimp only
      rw [p51, i1, p64 (h56 h4f), kvA_lo h1 h2 h4f ⟨n, by omega⟩, show 128 * (n + 1) = 128 * n + 128 from rfl, st_add, EReal.coe_add, EReal.coe_mul]
    · unfold stC
      dsimp only
      rw [p73, i2, p65 (h57 h4b), kvA_hi h1 h2 h4b ⟨bwdc n, bwdc_lt (by omega)⟩, show 128 * (n + 1) = 128 * n + 128 from rfl,
        st_add_rev _ _ _ _ d v (fun j => K (128 * bwdc n + j.val)) (fun j => V (128 * bwdc n + j.val))
          (fun j => by beta_reduce; rw [rowB_bwdc (by omega)]) (fun j => by beta_reduce; rw [rowB_bwdc (by omega)]), EReal.coe_add, EReal.coe_mul]

include h1 h2 h4f h4b in
theorem rst_lo (n : Fin 34) (d v : Fin 128) :
    rstBlk (rstX x1 x2 x4) n (ix2 (⟨d.val, by have := d.isLt; omega⟩ : Fin 256) v) = ((st (gam lf) K V (128 * n.val) d v : ℝ) : EReal) := by
  unfold rstBlk rstX
  rw [rstA_fwd _ _ _ n.val _ (ix2 d v) rfl rfl]
  refine Eq.trans ?_ (stC_at h1 h2 h4f h4b n.val (by have := n.isLt; omega) d v).1
  pointwise [k0_pay50]

include h1 h2 h4f h4b in
theorem rst_hi (n : Fin 34) (d v : Fin 128) :
    rstBlk (rstX x1 x2 x4) n (ix2 (⟨128 + d.val, by have := d.isLt; omega⟩ : Fin 256) v)
      = ((st (gam lb) (fun p => K (rowB p)) (fun p => V (rowB p)) (128 * bwdc n.val) d v : ℝ) : EReal) := by
  unfold rstBlk rstX
  rw [rstA_bwd _ _ _ n.val _ (ix2 d v) (by show 256 * n.val + (128 + d.val) = 256 * n.val + 128 + d.val; omega) rfl]
  refine Eq.trans ?_ (stC_at h1 h2 h4f h4b (bwdc n.val) (bwdc_lt n.isLt).le d v).2
  pointwise [k0_pay52]

include h0 h1 h2 h4f h4b in
theorem chunk_at (n : Fin 34) (i v : Fin 128) :
    chunkP x4 (rblk x0 n) (rblk x1 n) (rblk x2 n) (rblk x3 n) (rstBlk (rstX x1 x2 x4) n) x5 (ix3 (0 : Fin 1) i v)
      = outRow (fun u => ((both (gam lf) (gam lb) Q K V (128 * n.val + i.val) u : ℝ) : EReal)) (fun u => x5 (ix2 (0 : Fin 1) u))
          (fun u => rblk x3 n (ix3 (0 : Fin 1) i u)) v := by
  unfold chunkP
  rw [p174]
  congr 1
  funext u
  rw [p126, p90]
  simp only [rblk_at h0, rblk_at h1, rblk_at h2, rst_lo h1 h2 h4f h4b, rst_hi h1 h2 h4f h4b, p59 h4f, p61 (h57 h4b), p58 h4f h4b,
    ← EReal.coe_mul, coe_sum, ← EReal.coe_add]
  congr 1
  unfold both
  have hb : rowB (128 * n.val + i.val) = 128 * bwdc n.val + (127 - i.val) := by
    have := rowB_bwdc (bwdc_lt n.isLt) i
    rw [bwdc_bwdc n.isLt] at this
    rw [← this, rowB_rowB]
    have := bwdc_lt n.isLt; omega
  have hr : ∀ j : Fin 128, rowB (128 * bwdc n.val + (127 - j.val)) = 128 * n.val + j.val := fun j => by
    rw [rowB_bwdc (bwdc_lt n.isLt), bwdc_bwdc n.isLt]
  rw [hb, cl_chunk (gam lf) Q K V (128 * n.val) 128 i u, cl_chunk_rev _ _ _ _ _ i u (fun j => Q (128 * n.val + j.val)) (fun j => K (128 * n.val + j.val)) (fun j => V (128 * n.val + j.val))
    (fun j => by beta_reduce; rw [hr]) (fun j => by beta_reduce; rw [hr]) (fun j => by beta_reduce; rw [hr])]
  simp only [mul_add, add_mul, Finset.sum_add_distrib]
  ring

include h0 h1 h2 h4f h4b in
theorem outVal_real (l : Fin 4096) (v : Fin 128) :
    outVal x0 x1 x2 x3 x4 x5 (ix3 (0 : Fin 1) l v)
      = outRow (fun u => ((both (gam lf) (gam lb) Q K V (256 + l.val) u : ℝ) : EReal)) (fun u => x5 (ix2 (0 : Fin 1) u))
          (fun u => x3 (ix3 (0 : Fin 1) (⟨256 + l.val, by have := l.isLt; omega⟩ : Fin 4352) u)) v := by
  have hl := l.isLt
  have e : 128 * (l.val / 128 + 2) + l.val % 128 = 256 + l.val := by omega
  rw [outVal_at _ _ _ _ _ _ ⟨l.val / 128 + 2, by omega⟩ _ (ix3 (0 : Fin 1) (⟨l.val % 128, by omega⟩ : Fin 128) v)
    (by show l.val + 256 = 128 * (l.val / 128 + 2) + l.val % 128; omega) rfl, chunk_at h0 h1 h2 h4f h4b]
  simp only [e]
  congr 1
  funext u
  unfold rblk
  refine congrArg x3 ?_
  exact congrArg (fun z => ix3 (0 : Fin 1) z u) (Fin.ext e)
end

end Cert.KernelIdeal.Ret
end
-- ==== Proof.RetArr.lean ====
module

public import proofs.«01_k».proof.Proof.RetKer
public import proofs.«01_k».proof.Proof.RetFrame
public import Idealize.ShloMosaic.Lib.Pipeline.ValueKit
public import Idealize.ShloMosaic.Lib.Pipeline.ReadBack

@[expose] public section
set_option maxRecDepth 16384
noncomputable section
namespace Cert.KernelIdeal.Ret
open Cert.KernelIdeal Cert.KernelIdeal.Gen Idealize.ShloMosaic Idealize.ShloMosaic.TcCoe Idealize.SL.Sem Cert.RetMath
open Idealize.ShloMosaic.Pipeline (Dat)
variable (m : (ℓ : Loc nD τ sig) → Buf (Elt Ideal) ℓ) (c : Dev nD)

/-- The three arguments as functions of their coordinates. -/
def aP (b : Fin 4) (n : Fin 4352) (k : Fin 2048) : EReal := m ((c : Thread nD τ).loc main_arg0) (ix3 b n k)
def aL (r : Fin 2) (h : Fin 4) : EReal := m ((c : Thread nD τ).loc main_arg1) (ix3 (0 : Fin 1) r h)
def aN (d : Fin 128) : EReal := m ((c : Thread nD τ).loc main_arg2) (ix2 (0 : Fin 1) d)

/-- The result array. -/
def outG (i : S4x4096x512.Idx) : EReal := retG (aP m c) (aL m c) (aN m c) (i 0) (i 1) (i 2)

theorem idx : ∀ t : Fin grid0.N, (win0_0.index t 0 = win0_6.index t 0 ∧ win0_0.index t 1 = 0 ∧ win0_0.index t 2 = win0_6.index t 2)
    ∧ (win0_1.index t 0 = win0_6.index t 0 ∧ win0_1.index t 1 = 0 ∧ win0_1.index t 2 = 4 + win0_6.index t 2)
    ∧ (win0_2.index t 0 = win0_6.index t 0 ∧ win0_2.index t 1 = 0 ∧ win0_2.index t 2 = 8 + win0_6.index t 2)
    ∧ (win0_3.index t 0 = win0_6.index t 0 ∧ win0_3.index t 1 = 0 ∧ win0_3.index t 2 = 12 + win0_6.index t 2)
    ∧ (win0_4.index t 0 = win0_6.index t 2 ∧ win0_4.index t 1 = 0 ∧ win0_4.index t 2 = 0)
    ∧ (win0_5.index t 0 = 0 ∧ win0_5.index t 1 = 0)
    ∧ (win0_6.index t 1 = 0 ∧ win0_6.index t 0 < 4 ∧ win0_6.index t 2 < 4) := by decide +kernel

theorem V3_at (h : Fin 4) (r : Fin 2) (d : Fin 128) : V m c main_v3 (ix3 h r d) = aL m c r h := by
  entry_read
  pointwise [aL]

variable (t : Fin cfg0.N)

def bi : Fin 4 := ⟨win0_6.index t 0, (idx t).2.2.2.2.2.2.2.1⟩
def hi : Fin 4 := ⟨win0_6.index t 2, (idx t).2.2.2.2.2.2.2.2⟩

theorem blk0 (n : Fin 4352) (d : Fin 128) : iblk m c 0 t (ix3 (0 : Fin 1) n d) = aP m c (bi t) n ⟨128 * (hi t).val + d.val, by have := (hi t).isLt; have := d.isLt; omega⟩ := by
  obtain ⟨⟨a0, a1, a2⟩, -⟩ := idx t
  unfold aP
  blk_ext [iblk, V, a0, a1, a2, bi, hi]
theorem blk1 (n : Fin 4352) (d : Fin 128) : iblk m c 1 t (ix3 (0 : Fin 1) n d) = aP m c (bi t) n ⟨512 + 128 * (hi t).val + d.val, by have := (hi t).isLt; have := d.isLt; omega⟩ := by
  obtain ⟨-, ⟨a0, a1, a2⟩, -⟩ := idx t
  unfold aP
  blk_ext [iblk, V, a0, a1, a2, bi, hi]
theorem blk2 (n : Fin 4352) (d : Fin 128) : iblk m c 2 t (ix3 (0 : Fin 1) n d) = aP m c (bi t) n ⟨1024 + 128 * (hi t).val + d.val, by have := (hi t).isLt; have := d.isLt; omega⟩ := by
  obtain ⟨-, -, ⟨a0, a1, a2⟩, -⟩ := idx t
  unfold aP
  blk_ext [iblk, V, a0, a1, a2, bi, hi]
theorem blk3 (n : Fin 4352) (d : Fin 128) : iblk m c 3 t (ix3 (0 : Fin 1) n d) = aP m c (bi t) n ⟨1536 + 128 * (hi t).val + d.val, by have := (hi t).isLt; have := d.isLt; omega⟩ := by
  obtain ⟨-, -, -, ⟨a0, a1, a2⟩, -⟩ := idx t
  unfold aP
  blk_ext [iblk, V, a0, a1, a2, bi, hi]
theorem blk4 (r : Fin 2) (d : Fin 128) : iblk m c 4 t (ix3 (0 : Fin 1) r d) = aL m c r (hi t) := by
  obtain ⟨-, -, -, -, ⟨a0, a1, a2⟩, -⟩ := idx t
  rw [← V3_at m c _ _ d]
  blk_ext [iblk, a0, a1, a2, hi]
theorem blk5 (d : Fin 128) : iblk m c 5 t (ix2 (0 : Fin 1) d) = aN m c d := by
  obtain ⟨-, -, -, -, -, ⟨a0, a1⟩, -⟩ := idx t
  unfold aN
  blk_ext [iblk, V, a0, a1]

theorem out_at (hp : Fin3 (aP m c)) (l : Fin 4096) (v : Fin 128) :
    outAt m c t (ix3 (0 : Fin 1) l v) = retV (aP m c) (aL m c) (aN m c) (bi t) l (hi t) v := by
  unfold outAt
  have hh := (hi t).isLt
  rw [outVal_real (lf := aL m c 0 (hi t)) (lb := aL m c 1 (hi t)) (Q := seq (aP m c) (bi t) (hi t) 0) (K := seq (aP m c) (bi t) (hi t) 1) (V := seq (aP m c) (bi t) (hi t) 2)
    (fun n d => by
      have hd := d.isLt
      rw [blk0, cell_eq hp _ _ _ (by show 128 * (hi t).val + d.val < 1536; omega)]
      unfold seq
      rw [show 512 * 0 + 128 * (hi t).val + d.val = 128 * (hi t).val + d.val by omega])
    (fun n d => by
      have hd := d.isLt
      rw [blk1, cell_eq hp _ _ _ (by show 512 + 128 * (hi t).val + d.val < 1536; omega)]
      rfl)
    (fun n d => by
      have hd := d.isLt
      rw [blk2, cell_eq hp _ _ _ (by show 1024 + 128 * (hi t).val + d.val < 1536; omega)]
      rfl)
    (fun d => blk4 m c t 0 d) (fun d => blk4 m c t 1 d)]
  unfold retV
  simp only [blk3, blk5]

theorem arr_eq (hp : Fin3 (aP m c)) : (dats m 0 c).arrAt 6 cfg0.N = outG m c := by
  refine (dats m 0 c).arrAt_eq_of_covers 6 _ (by decide +kernel) fun t hf y => ?_
  blk_simp
  rw [after0_6]
  obtain ⟨-, -, -, -, -, -, a1, b0, b2⟩ := idx t
  have y2 : (y 2).val < 128 := (y 2).isLt
  have y1 : (y 1).val < 4096 := (y 1).isLt
  have hy : y = ix3 (0 : Fin 1) (⟨(y 1).val, y1⟩ : Fin 4096) (⟨(y 2).val, y2⟩ : Fin 128) := by
    funext a
    fin_cases a
    · exact Fin.ext (by have : (y 0).val < 1 := (y 0).isLt; show (y 0).val = 0; omega)
    · rfl
    · rfl
  have key := out_at m c t hp (⟨(y 1).val, y1⟩ : Fin 4096) (⟨(y 2).val, y2⟩ : Fin 128)
  rw [← hy] at key
  refine key.trans ?_
  unfold outG retG
  have e0 : ((win0_6.blk t).view.emb y 0).val = win0_6.index t 0 := by blk_simp
  have e1 : ((win0_6.blk t).view.emb y 1).val = (y 1).val := by blk_simp [a1]
  have e2 : ((win0_6.blk t).view.emb y 2).val = 128 * win0_6.index t 2 + (y 2).val := by blk_simp; omega
  have f0 : bi t = (win0_6.blk t).view.emb y 0 := Fin.ext e0.symm
  have f1 : (⟨(y 1).val, y1⟩ : Fin 4096) = (win0_6.blk t).view.emb y 1 := Fin.ext e1.symm
  have f2 : hi t = ⟨((win0_6.blk t).view.emb y 2).val / 128, by rw [e2]; omega⟩ := Fin.ext (by
    show win0_6.index t 2 = ((win0_6.blk t).view.emb y 2).val / 128
    rw [e2]; omega)
  have f3 : (⟨(y 2).val, y2⟩ : Fin 128) = ⟨((win0_6.blk t).view.emb y 2).val % 128, Nat.mod_lt _ (by decide)⟩ := Fin.ext (by
    show (y 2).val = ((win0_6.blk t).view.emb y 2).val % 128
    rw [e2]; omega)
  rw [f0, f1, f2, f3]

/-- The run, its result array named. -/
theorem run_value (ρ : Dev nD → PrngReg) (hp : ∀ c, Fin3 (aP m c)) : θ_run defs (onTc (τ := τ) (main (F := Ideal))) ⟨m, fun _ => 0, ρ⟩ (fun r => ∀ c : Dev nD,
      r.2.mem ((c.tc : Thread nD τ).loc main_v4) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 6).trans (arr_eq m c (hp c)), h.2 c⟩)
    (θ_run_and (run_main m ρ) (frame_of m ρ (dats m) (A_eq m) (run_main m ρ)))

end Cert.KernelIdeal.Ret
end
-- ==== Proof.RetRef.lean ====
module

public import proofs.«01_k».proof.Proof.Gen.ReferenceIdeal.Run
public import Idealize.ShloMosaic.Lib.Pointwise

@[expose] public section
set_option maxRecDepth 16384
noncomputable section
namespace Cert.ReferenceIdeal.Ret
open Cert.ReferenceIdeal Cert.ReferenceIdeal.Gen Cert.ReferenceIdeal.Value Idealize.ShloMosaic Idealize.ShloMosaic.TcCoe Idealize.SL.Sem
open Idealize.ShloMosaic.StableHlo

variable {F : FTy → Type} [FloatOps F]
variable (m : (ℓ : Loc nD τ sig) → Buf (Elt F) ℓ)

/-- An argument is unchanged by the trips. -/
theorem atK_arg (c : Dev nD) (r : Ref sig .tc) (h : r = main_arg0 ∨ r = main_arg1 ∨ r = main_arg2) :
    ∀ k, atK m k c (Proc.devRef .tc r) = entryContents preI m c (Proc.devRef .tc r)
  | 0 => rfl
  | k + 1 => by
    rw [show atK m (k + 1) c = afterL bodyI (after condOps (atK m k c)) from rfl, ← atK_arg c r h k]
    simp only [afterL_cons, afterL_nil]
    generalize atK m k c = V
    rcases h with rfl | rfl | rfl <;>
    · rw [after_of_writes_sub while0Ops0_5 _ while0Ops0_5_writes (by decide +kernel),
        after_of_writes_sub while0Ops0_4 _ while0Ops0_4_writes (by decide +kernel),
        after_of_writes_sub while0Ops0_3 _ while0Ops0_3_writes (by decide +kernel),
        after_of_writes_sub while0Ops0_2 _ while0Ops0_2_writes (by decide +kernel),
        after_of_writes_sub while0Ops0_1 _ while0Ops0_1_writes (by decide +kernel),
        after_of_writes_sub while0Ops0 _ while0Ops0_writes (by decide +kernel),
        after_of_writes_sub condOps _ condOps_writes (by decide +kernel)]

theorem arg0_same (c : Dev nD) : finalContents condOps preI bodyI postI 68 m c (Proc.devRef .tc main_arg0) = m ((c.tc : Thread nD τ).loc main_arg0) := by
  have h := atK_arg m c main_arg0 (by simp) 68
  unfold finalContents
  change afterL postI (after condOps (atK m 68 c)) _ = _
  generalize atK m 68 c = V at h
  simp only [afterL_cons, afterL_nil]
  after_reads_simp
  rw [h]
  simp only [entryContents, afterL_cons, afterL_nil]
  after_reads_simp
theorem arg1_same (c : Dev nD) : finalContents condOps preI bodyI postI 68 m c (Proc.devRef .tc main_arg1) = m ((c.tc : Thread nD τ).loc main_arg1) := by
  have h := atK_arg m c main_arg1 (by simp) 68
  unfold finalContents
  change afterL postI (after condOps (atK m 68 c)) _ = _
  generalize atK m 68 c = V at h
  simp only [afterL_cons, afterL_nil]
  after_reads_simp
  rw [h]
  simp only [entryContents, afterL_cons, afterL_nil]
  after_reads_simp
theorem arg2_same (c : Dev nD) : finalContents condOps preI bodyI postI 68 m c (Proc.devRef .tc main_arg2) = m ((c.tc : Thread nD τ).loc main_arg2) := by
  have h := atK_arg m c main_arg2 (by simp) 68
  unfold finalContents
  change afterL postI (after condOps (atK m 68 c)) _ = _
  generalize atK m 68 c = V at h
  simp only [afterL_cons, afterL_nil]
  after_reads_simp
  rw [h]
  simp only [entryContents, afterL_cons, afterL_nil]
  after_reads_simp
/-- The reference runs, its arguments unchanged and every counter at zero. -/
theorem frame (ρ : Dev nD → PrngReg) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_arg0 rfl).trans (arg0_same m c), (h c main_arg1 rfl).trans (arg1_same m c), (h c main_arg2 rfl).trans (arg2_same m c)⟩,
    sem_eq_zero_of_no_sems (by decide) r.2⟩) (run_fold m ρ)
end Cert.ReferenceIdeal.Ret
end
-- ==== Proof.RetStep.lean ====
module

public import proofs.«01_k».proof.Proof.RetRef
public import proofs.«01_k».proof.Proof.RetMath
public import Idealize.ShloMosaic.Lib.WordCmp

@[expose] public section
set_option maxRecDepth 16384
noncomputable section
namespace Cert.ReferenceIdeal.Ret
open Cert.ReferenceIdeal Cert.ReferenceIdeal.Gen Cert.ReferenceIdeal.Value Idealize.ShloMosaic Idealize.ShloMosaic.TcCoe Idealize.SL.Sem Cert.RetMath
open Idealize.ShloMosaic.StableHlo

theorem iv_toInt : ∀ k : Fin 68, (Scf.iv 0#32 1#32 k.val).toInt = (k.val : ℤ) := by decide +kernel

/-- The start of chunk `k`. -/
abbrev starts (w : (⟨S_, .i32⟩ : BufTy).Contents (Elt Ideal)) : Fin 6 → ℤ := fun k => (((![w, constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt

theorem starts_eq (k : Fin 68) (a : Fin 6) : starts (fun _ => Scf.iv 0#32 1#32 k.val) a = ((![k.val, 0, 0, 0, 0, 0] : Fin 6 → ℕ) a : ℤ) := by
  fin_cases a
  · exact iv_toInt k
  all_goals rfl

theorem fits (k : Fin 68) : S68x2x4x4x64x128.Slices (![k.val, 0, 0, 0, 0, 0] : Fin 6 → ℕ) S1x2x4x4x64x128 := ⟨rfl, fun a => by
  have := k.isLt
  fin_cases a
  · show k.val + 1 ≤ 68; omega
  · show 0 + 2 ≤ 2; omega
  · show 0 + 4 ≤ 4; omega
  · show 0 + 4 ≤ 4; omega
  · show 0 + 64 ≤ 64; omega
  · show 0 + 128 ≤ 128; omega⟩

theorem chunk_read (x : FVec Ideal S68x2x4x4x64x128 .f32) (k : Fin 68) (r : Fin 2) (b h : Fin 4) (j : Fin 64) (d : Fin 128) :
    shapeCast S2x4x4x64x128 (Host.dynamicSlice S1x2x4x4x64x128 x (starts (fun _ => Scf.iv 0#32 1#32 k.val)) sliceFits_S68x2x4x4x64x128_S1x2x4x4x64x128) shapeCasts_S1x2x4x4x64x128_S2x4x4x64x128 (ix5 r b h j d)
      = x (ix6 k r b h j d) := by
  rw [WordCmp.dynamicSlice_eq_extract _ x _ _ _ (fits k) (starts_eq k)]
  pointwise

theorem s7 (x1 x2 : FVec Ideal S68x2x4x4x64x128 .f32) (x4 : FVec Ideal S2x4x1x1 .f32) (x5 : FVec Ideal S2x4x64 .f32) (x7 : FVec Ideal S2x4x4x128x128 .f32)
    (k : Fin 68) (r : Fin 2) (b h : Fin 4) (d v : Fin 128) :
    (addf (mulf (broadcastInDim S2x4x4x128x128 ![0, 1, 2, 3, 4] bcast_S2x1x4x1x1_S2x4x4x128x128_0_1_2_3_4 (broadcastInDim S2x1x4x1x1 ![0, 2, 3, 4] bcast_S2x4x1x1_S2x1x4x1x1_0_2_3_4 x4)) x7)
      (Host.dotGeneral dot_S2x4x4x64x128_S2x4x4x64x128_S2x4x4x128x128_3_3_4_4_012_012 none
        (mulf (shapeCast S2x4x4x64x128 (Host.dynamicSlice S1x2x4x4x64x128 x1 (starts (fun _ => Scf.iv 0#32 1#32 k.val)) sliceFits_S68x2x4x4x64x128_S1x2x4x4x64x128) shapeCasts_S1x2x4x4x64x128_S2x4x4x64x128)
          (broadcastInDim S2x4x4x64x128 ![0, 1, 2, 3, 4] bcast_S2x1x4x64x1_S2x4x4x64x128_0_1_2_3_4 (broadcastInDim S2x1x4x64x1 ![0, 2, 3, 4] bcast_S2x4x64x1_S2x1x4x64x1_0_2_3_4 (broadcastInDim S2x4x64x1 ![0, 1, 2] bcast_S2x4x64_S2x4x64x1_0_1_2 x5))))
        (shapeCast S2x4x4x64x128 (Host.dynamicSlice S1x2x4x4x64x128 x2 (starts (fun _ => Scf.iv 0#32 1#32 k.val)) sliceFits_S68x2x4x4x64x128_S1x2x4x4x64x128) shapeCasts_S1x2x4x4x64x128_S2x4x4x64x128))
      : FVec Ideal S2x4x4x128x128 .f32) (ix5 r b h d v)
    = x4 (ix4 r h (0 : Fin 1) (0 : Fin 1)) * x7 (ix5 r b h d v)
      + ∑ j : Fin 64, x1 (ix6 k r b h j d) * x5 (ix3 r h j) * x2 (ix6 k r b h j v) := by
  have h1 := chunk_read x1 k r b h
  have h2 := chunk_read x2 k r b h
  generalize (shapeCast S2x4x4x64x128 (Host.dynamicSlice S1x2x4x4x64x128 x1 _ _) _ : FVec Ideal S2x4x4x64x128 .f32) = y1 at h1 ⊢
  generalize (shapeCast S2x4x4x64x128 (Host.dynamicSlice S1x2x4x4x64x128 x2 _ _) _ : FVec Ideal S2x4x4x64x128 .f32) = y2 at h2 ⊢
  simp only [← h1, ← h2]
  pointwise

theorem upd_read (x : FVec Ideal S68x2x4x4x64x128 .f32) (u : FVec Ideal S1x2x4x4x64x128 .f32) (k k' : Fin 68) (r : Fin 2) (b h : Fin 4) (i : Fin 64) (v : Fin 128) :
    updateSlice x u (![k.val, 0, 0, 0, 0, 0] : Fin 6 → ℕ) (fits k) (ix6 k' r b h i v)
      = if k' = k then u (ix6 (0 : Fin 1) r b h i v) else x (ix6 k' r b h i v) := by
  rw [updateSlice_apply]
  by_cases hk : k' = k
  · subst hk
    rw [if_pos rfl, dif_pos]
    · refine congrArg u ?_
      funext a
      apply Fin.ext
      fin_cases a
      · exact Nat.sub_self _
      all_goals rfl
    · intro a
      fin_cases a
      · exact ⟨le_refl _, Nat.lt_succ_self _⟩
      · exact ⟨Nat.zero_le _, by show r.val < 0 + 2; have := r.isLt; omega⟩
      · exact ⟨Nat.zero_le _, by show b.val < 0 + 4; have := b.isLt; omega⟩
      · exact ⟨Nat.zero_le _, by show h.val < 0 + 4; have := h.isLt; omega⟩
      · exact ⟨Nat.zero_le _, by show i.val < 0 + 64; have := i.isLt; omega⟩
      · exact ⟨Nat.zero_le _, by show v.val < 0 + 128; have := v.isLt; omega⟩
  · rw [if_neg hk, dif_neg]
    intro c
    have h0 : k.val ≤ k'.val ∧ k'.val < k.val + 1 := c 0
    exact hk (Fin.ext (by omega))

theorem s8 (x0 x8 : FVec Ideal S68x2x4x4x64x128 .f32) (x3 : FVec Ideal S2x4x64 .f32) (x7 : FVec Ideal S2x4x4x128x128 .f32)
    (k k' : Fin 68) (r : Fin 2) (b h : Fin 4) (i : Fin 64) (v : Fin 128) :
    (Host.dynamicUpdateSlice x8 (broadcastInDim S1x2x4x4x64x128 ![1, 2, 3, 4, 5] bcast_S2x4x4x64x128_S1x2x4x4x64x128_1_2_3_4_5
      (Host.dotGeneral dot_S2x4x4x64x128_S2x4x4x128x128_S2x4x4x64x128_4_3_3_4_012_012 none
        (mulf (shapeCast S2x4x4x64x128 (Host.dynamicSlice S1x2x4x4x64x128 x0 (starts (fun _ => Scf.iv 0#32 1#32 k.val)) sliceFits_S68x2x4x4x64x128_S1x2x4x4x64x128) shapeCasts_S1x2x4x4x64x128_S2x4x4x64x128)
          (broadcastInDim S2x4x4x64x128 ![0, 1, 2, 3, 4] bcast_S2x1x4x64x1_S2x4x4x64x128_0_1_2_3_4 (broadcastInDim S2x1x4x64x1 ![0, 2, 3, 4] bcast_S2x4x64x1_S2x1x4x64x1_0_2_3_4 (broadcastInDim S2x4x64x1 ![0, 1, 2] bcast_S2x4x64_S2x4x64x1_0_1_2 x3))))
        x7)) (starts (fun _ => Scf.iv 0#32 1#32 k.val)) updateFits_S68x2x4x4x64x128_S1x2x4x4x64x128 : FVec Ideal S68x2x4x4x64x128 .f32) (ix6 k' r b h i v)
    = if k' = k then ∑ d : Fin 128, x0 (ix6 k r b h i d) * x3 (ix3 r h i) * x7 (ix5 r b h d v) else x8 (ix6 k' r b h i v) := by
  have h1 := chunk_read x0 k r b h
  generalize (shapeCast S2x4x4x64x128 (Host.dynamicSlice S1x2x4x4x64x128 x0 _ _) _ : FVec Ideal S2x4x4x64x128 .f32) = y1 at h1 ⊢
  simp only [← h1]
  rw [WordCmp.dynamicUpdateSlice_eq_update _ _ _ _ _ (fits k) (starts_eq k), upd_read]
  split
  · pointwise
  · rfl

theorem step7 (V0 : Valuation τ sig (Elt Ideal)) (k : Fin 68) (hc : V0 (Proc.devRef .tc main_v91_6) = fun _ => Scf.iv 0#32 1#32 k.val)
    (x1 x2 : FVec Ideal S68x2x4x4x64x128 .f32) (x4 : FVec Ideal S2x4x1x1 .f32) (x5 : FVec Ideal S2x4x64 .f32) (x7 : FVec Ideal S2x4x4x128x128 .f32)
    (h1 : V0 (Proc.devRef .tc main_v91_1) = x1) (h2 : V0 (Proc.devRef .tc main_v91_2) = x2) (h4 : V0 (Proc.devRef .tc main_v91_4) = x4)
    (h5 : V0 (Proc.devRef .tc main_v91_5) = x5) (h7 : V0 (Proc.devRef .tc main_v91_7) = x7)
    (r : Fin 2) (b h : Fin 4) (d v : Fin 128) : (step_main_v91_7 V0 : FVec Ideal S2x4x4x128x128 .f32) (ix5 r b h d v)
      = x4 (ix4 r h (0 : Fin 1) (0 : Fin 1)) * x7 (ix5 r b h d v)
      + ∑ j : Fin 64, x1 (ix6 k r b h j d) * x5 (ix3 r h j) * x2 (ix6 k r b h j v) := by
  unfold step_main_v91_7
  rw [hc, h1, h2, h4, h5, h7]
  exact s7 x1 x2 x4 x5 x7 k r b h d v

theorem step8 (V0 : Valuation τ sig (Elt Ideal)) (k : Fin 68) (hc : V0 (Proc.devRef .tc main_v91_6) = fun _ => Scf.iv 0#32 1#32 k.val)
    (x0 x8 : FVec Ideal S68x2x4x4x64x128 .f32) (x3 : FVec Ideal S2x4x64 .f32) (x7 : FVec Ideal S2x4x4x128x128 .f32)
    (h0 : V0 (Proc.devRef .tc main_v91_0) = x0) (h3 : V0 (Proc.devRef .tc main_v91_3) = x3)
    (h7 : V0 (Proc.devRef .tc main_v91_7) = x7) (h8 : V0 (Proc.devRef .tc main_v91_8) = x8)
    (k' : Fin 68) (r : Fin 2) (b h : Fin 4) (i : Fin 64) (v : Fin 128) : (step_main_v91_8 V0 : FVec Ideal S68x2x4x4x64x128 .f32) (ix6 k' r b h i v)
      = if k' = k then ∑ d : Fin 128, x0 (ix6 k r b h i d) * x3 (ix3 r h i) * x7 (ix5 r b h d v) else x8 (ix6 k' r b h i v) := by
  unfold step_main_v91_8
  rw [hc, h0, h3, h7, h8]
  exact s8 x0 x8 x3 x7 k k' r b h i v

variable (m : (ℓ : Loc nD τ sig) → Buf (Elt Ideal) ℓ)

/-- What the loop carries before trip `k`: the chunks, the weights, the running state and the outputs written. -/
structure Inv (x0 x1 x2 : FVec Ideal S68x2x4x4x64x128 .f32) (x3 : FVec Ideal S2x4x64 .f32) (x4 : FVec Ideal S2x4x1x1 .f32) (x5 : FVec Ideal S2x4x64 .f32)
    (Q K W : Fin 2 → Fin 4 → Fin 4 → ℕ → Fin 128 → ℝ) (γ : Fin 2 → Fin 4 → ℝ) (k : ℕ) (X : Valuation τ sig (Elt Ideal)) : Prop where
  h0 : X (Proc.devRef .tc main_v91_0) = x0
  h1 : X (Proc.devRef .tc main_v91_1) = x1
  h2 : X (Proc.devRef .tc main_v91_2) = x2
  h3 : X (Proc.devRef .tc main_v91_3) = x3
  h4 : X (Proc.devRef .tc main_v91_4) = x4
  h5 : X (Proc.devRef .tc main_v91_5) = x5
  h7 : ∀ r b h d v, (X (Proc.devRef .tc main_v91_7) : FVec Ideal S2x4x4x128x128 .f32) (ix5 r b h d v) = ((st (γ r h) (K r b h) (W r b h) (64 * k) d v : ℝ) : EReal)
  h8 : ∀ (k' : Fin 68) r b h (i : Fin 64) v, k'.val < k → (X (Proc.devRef .tc main_v91_8) : FVec Ideal S68x2x4x4x64x128 .f32) (ix6 k' r b h i v)
    = ((∑ d : Fin 128, Q r b h (64 * k'.val + i.val) d * γ r h ^ (i.val + 1) * st (γ r h) (K r b h) (W r b h) (64 * k'.val) d v : ℝ) : EReal)

theorem inv_succ {x0 x1 x2 : FVec Ideal S68x2x4x4x64x128 .f32} {x3 : FVec Ideal S2x4x64 .f32} {x4 : FVec Ideal S2x4x1x1 .f32} {x5 : FVec Ideal S2x4x64 .f32}
    {Q K W : Fin 2 → Fin 4 → Fin 4 → ℕ → Fin 128 → ℝ} {γ : Fin 2 → Fin 4 → ℝ}
    (e0 : ∀ (k : Fin 68) r b h (i : Fin 64) d, x0 (ix6 k r b h i d) = ((Q r b h (64 * k.val + i.val) d : ℝ) : EReal))
    (e1 : ∀ (k : Fin 68) r b h (i : Fin 64) d, x1 (ix6 k r b h i d) = ((K r b h (64 * k.val + i.val) d : ℝ) : EReal))
    (e2 : ∀ (k : Fin 68) r b h (i : Fin 64) d, x2 (ix6 k r b h i d) = ((W r b h (64 * k.val + i.val) d : ℝ) : EReal))
    (e3 : ∀ r h (i : Fin 64), x3 (ix3 r h i) = ((γ r h ^ (i.val + 1) : ℝ) : EReal))
    (e4 : ∀ r h, x4 (ix4 r h (0 : Fin 1) (0 : Fin 1)) = ((γ r h ^ 64 : ℝ) : EReal))
    (e5 : ∀ r h (i : Fin 64), x5 (ix3 r h i) = ((γ r h ^ (63 - i.val) : ℝ) : EReal))
    (k : Fin 68) (X Y : Valuation τ sig (Elt Ideal)) (hc : X (Proc.devRef .tc main_v91_6) = fun _ => Scf.iv 0#32 1#32 k.val)
    (hY : Agree Y (STEP X)) (I : Inv x0 x1 x2 x3 x4 x5 Q K W γ k.val X) : Inv x0 x1 x2 x3 x4 x5 Q K W γ (k.val + 1) Y where
  h0 := (hY main_v91_0 (by decide)).trans ((STEP_main_v91_0 X).trans I.h0)
  h1 := (hY main_v91_1 (by decide)).trans ((STEP_main_v91_1 X).trans I.h1)
  h2 := (hY main_v91_2 (by decide)).trans ((STEP_main_v91_2 X).trans I.h2)
  h3 := (hY main_v91_3 (by decide)).trans ((STEP_main_v91_3 X).trans I.h3)
  h4 := (hY main_v91_4 (by decide)).trans ((STEP_main_v91_4 X).trans I.h4)
  h5 := (hY main_v91_5 (by decide)).trans ((STEP_main_v91_5 X).trans I.h5)
  h7 := fun r b h d v => by
    refine (congrFun ((hY main_v91_7 (by decide)).trans (STEP_main_v91_7 X)) (ix5 r b h d v)).trans ?_
    refine (step7 X k hc x1 x2 x4 x5 _ I.h1 I.h2 I.h4 I.h5 rfl r b h d v).trans ?_
    rw [I.h7, e4, show 64 * (k.val + 1) = 64 * k.val + 64 from by ring, st_add]
    simp only [e1, e2, e5, ← EReal.coe_mul]
    rw [EReal.coe_add, coe_sum]
  h8 := fun k' r b h i v hk => by
    refine (congrFun ((hY main_v91_8 (by decide)).trans (STEP_main_v91_8 X)) (ix6 k' r b h i v)).trans ?_
    refine (step8 X k hc x0 _ x3 _ I.h0 I.h3 rfl rfl k' r b h i v).trans ?_
    split
    · next e =>
      subst e
      simp only [I.h7, e0, e3, ← EReal.coe_mul]
      rw [coe_sum]
    · next e => exact I.h8 k' r b h i v (by have : k'.val ≠ k.val := fun c => e (Fin.ext c); omega)

theorem inv_all {x0 x1 x2 : FVec Ideal S68x2x4x4x64x128 .f32} {x3 : FVec Ideal S2x4x64 .f32} {x4 : FVec Ideal S2x4x1x1 .f32} {x5 : FVec Ideal S2x4x64 .f32}
    {Q K W : Fin 2 → Fin 4 → Fin 4 → ℕ → Fin 128 → ℝ} {γ : Fin 2 → Fin 4 → ℝ}
    (e0 : ∀ (k : Fin 68) r b h (i : Fin 64) d, x0 (ix6 k r b h i d) = ((Q r b h (64 * k.val + i.val) d : ℝ) : EReal))
    (e1 : ∀ (k : Fin 68) r b h (i : Fin 64) d, x1 (ix6 k r b h i d) = ((K r b h (64 * k.val + i.val) d : ℝ) : EReal))
    (e2 : ∀ (k : Fin 68) r b h (i : Fin 64) d, x2 (ix6 k r b h i d) = ((W r b h (64 * k.val + i.val) d : ℝ) : EReal))
    (e3 : ∀ r h (i : Fin 64), x3 (ix3 r h i) = ((γ r h ^ (i.val + 1) : ℝ) : EReal))
    (e4 : ∀ r h, x4 (ix4 r h (0 : Fin 1) (0 : Fin 1)) = ((γ r h ^ 64 : ℝ) : EReal))
    (e5 : ∀ r h (i : Fin 64), x5 (ix3 r h i) = ((γ r h ^ (63 - i.val) : ℝ) : EReal))
    (c : Dev nD) (I : Inv x0 x1 x2 x3 x4 x5 Q K W γ 0 (entryContents preI m c)) :
    ∀ k, k ≤ 68 → Inv x0 x1 x2 x3 x4 x5 Q K W γ k (atK m k c)
  | 0, _ => I
  | k + 1, h => inv_succ e0 e1 e2 e3 e4 e5 ⟨k, by omega⟩ (atK m k c) _ (atK_ctr m c k) (trip_agree (atK m k c))
      (inv_all e0 e1 e2 e3 e4 e5 c I k (by omega))

end Cert.ReferenceIdeal.Ret
end
-- ==== Proof.RetEnt.lean ====
module

public import proofs.«01_k».proof.Proof.RetStep

@[expose] public section
set_option maxRecDepth 16384
noncomputable section
namespace Cert.ReferenceIdeal.Ret
open Cert.ReferenceIdeal Cert.ReferenceIdeal.Gen Cert.ReferenceIdeal.Value Idealize.ShloMosaic Idealize.ShloMosaic.TcCoe Idealize.SL.Sem Cert.RetMath
open Idealize.ShloMosaic.StableHlo
variable (m : (ℓ : Loc nD τ sig) → Buf (Elt Ideal) ℓ)

/-- The host operations' value of a buffer before the loop. -/
abbrev E (c : Dev nD) (r : Ref sig .tc) := entryContents preI m c (Proc.devRef .tc r)

abbrev A0 (c : Dev nD) : FVec Ideal S4x4352x2048 .bf16 := m ((c.tc : Thread nD τ).loc main_arg0)
abbrev A1 (c : Dev nD) : FVec Ideal S1x2x4 .f32 := m ((c.tc : Thread nD τ).loc main_arg1)
abbrev A2 (c : Dev nD) : FVec Ideal S1x128 .f32 := m ((c.tc : Thread nD τ).loc main_arg2)

/-- The two parts of a sequence, one after the other. -/
def cat1 (a : FVec Ideal S4x256x4x128 .f32) (b : FVec Ideal S4x4096x4x128 .f32) : FVec Ideal S4x4352x4x128 .f32 :=
  concatenate S4x4352x4x128 1 [⟨S4x256x4x128, a⟩, ⟨S4x4096x4x128, b⟩] concatenates_S4x256x4x128_S4x4096x4x128_S4x4352x4x128_d1

/-- Both directions, one above the other. -/
def cat0 (a b : FVec Ideal S1x4x4352x4x128 .f32) : FVec Ideal S2x4x4352x4x128 .f32 :=
  concatenate S2x4x4352x4x128 0 [⟨S1x4x4352x4x128, a⟩, ⟨S1x4x4352x4x128, b⟩] concatenates_S1x4x4352x4x128_S1x4x4352x4x128_S2x4x4352x4x128_d0

theorem cat1_congr {a a' : FVec Ideal S4x256x4x128 .f32} {b b' : FVec Ideal S4x4096x4x128 .f32} (h : a = a') (h' : b = b') :
    concatenate S4x4352x4x128 1 [⟨S4x256x4x128, a⟩, ⟨S4x4096x4x128, b⟩] concatenates_S4x256x4x128_S4x4096x4x128_S4x4352x4x128_d1 = cat1 a' b' := by
  subst h h'; rfl
theorem cat0_congr {a a' b b' : FVec Ideal S1x4x4352x4x128 .f32} (h : a = a') (h' : b = b') :
    concatenate S2x4x4352x4x128 0 [⟨S1x4x4352x4x128, a⟩, ⟨S1x4x4352x4x128, b⟩] concatenates_S1x4x4352x4x128_S1x4x4352x4x128_S2x4x4352x4x128_d0 = cat0 a' b' := by
  subst h h'; rfl

def c0 (x : FVec Ideal S4x4352x2048 .bf16) : FVec Ideal S4x4352x4x128 .f32 :=
  shapeCast S4x4352x4x128 (extractStridedSlice S4x4352x512 ![0, 0, 0] (extf .f32 x bitsLt_bf16_f32) slices_S4x4352x2048_S4x4352x512_0_0_0) shapeCasts_S4x4352x512_S4x4352x4x128
def c1 (x : FVec Ideal S4x4352x2048 .bf16) : FVec Ideal S4x4352x4x128 .f32 :=
  shapeCast S4x4352x4x128 (extractStridedSlice S4x4352x512 ![0, 0, 512] (extf .f32 x bitsLt_bf16_f32) slices_S4x4352x2048_S4x4352x512_0_0_512) shapeCasts_S4x4352x512_S4x4352x4x128
def c2 (x : FVec Ideal S4x4352x2048 .bf16) : FVec Ideal S4x4352x4x128 .f32 :=
  shapeCast S4x4352x4x128 (extractStridedSlice S4x4352x512 ![0, 0, 1024] (extf .f32 x bitsLt_bf16_f32) slices_S4x4352x2048_S4x4352x512_0_0_1024) shapeCasts_S4x4352x512_S4x4352x4x128
def c3 (x : FVec Ideal S4x4352x2048 .bf16) : FVec Ideal S4x4352x4x128 .f32 :=
  shapeCast S4x4352x4x128 (extractStridedSlice S4x4352x512 ![0, 0, 1536] (extf .f32 x bitsLt_bf16_f32) slices_S4x4352x2048_S4x4352x512_0_0_1536) shapeCasts_S4x4352x512_S4x4352x4x128

def lead (x : FVec Ideal S4x4352x4x128 .f32) : FVec Ideal S1x4x4352x4x128 .f32 :=
  broadcastInDim S1x4x4352x4x128 ![1, 2, 3, 4] bcast_S4x4352x4x128_S1x4x4352x4x128_1_2_3_4 x
def revA (x : FVec Ideal S4x4352x4x128 .f32) : FVec Ideal S4x256x4x128 .f32 :=
  Host.reverse [1] (extractStridedSlice S4x256x4x128 ![0, 0, 0, 0] x slices_S4x4352x4x128_S4x256x4x128_0_0_0_0)
def revB (x : FVec Ideal S4x4352x4x128 .f32) : FVec Ideal S4x4096x4x128 .f32 :=
  Host.reverse [1] (extractStridedSlice S4x4096x4x128 ![0, 256, 0, 0] x slices_S4x4352x4x128_S4x4096x4x128_0_256_0_0)
def chk (x : FVec Ideal S2x4x4352x4x128 .f32) : FVec Ideal S2x68x4x4x64x128 .f32 :=
  transpose S2x68x4x4x64x128 [0, 2, 1, 4, 3, 5] (shapeCast S2x4x68x64x4x128 x shapeCasts_S2x4x4352x4x128_S2x4x68x64x4x128) transposes_S2x4x68x64x4x128_S2x68x4x4x64x128_0_2_1_4_3_5
def tr (x : FVec Ideal S2x68x4x4x64x128 .f32) : FVec Ideal S68x2x4x4x64x128 .f32 :=
  transpose S68x2x4x4x64x128 [1, 0, 2, 3, 4, 5] x transposes_S2x68x4x4x64x128_S68x2x4x4x64x128_1_0_2_3_4_5

theorem e5 (c : Dev nD) : E m c main_v5 = c0 (A0 m c) := by
  simp only [E, entryContents, afterL_cons, afterL_nil]
  after_reads_simp
  try rfl

theorem e12 (c : Dev nD) : E m c main_v12 = revA (E m c main_v5) := by
  simp only [E, entryContents, afterL_cons, afterL_nil]
  after_reads_simp
  try rfl

theorem e14 (c : Dev nD) : E m c main_v14 = revB (E m c main_v5) := by
  simp only [E, entryContents, afterL_cons, afterL_nil]
  after_reads_simp
  try rfl

theorem e15 (c : Dev nD) : E m c main_v15 = cat1 (E m c main_v12) (E m c main_v14) := by
  refine Eq.trans ?_ (cat1_congr rfl rfl)
  simp only [E, entryContents, afterL_cons, afterL_nil]
  after_reads_simp
  refine (cat1_congr ?_ ?_).trans (cat1_congr rfl rfl).symm <;> after_reads_simp
theorem e16 (c : Dev nD) : E m c main_v16 = lead (E m c main_v5) := by
  simp only [E, entryContents, afterL_cons, afterL_nil]
  after_reads_simp
  try rfl

theorem e17 (c : Dev nD) : E m c main_v17 = lead (E m c main_v15) := by
  simp only [E, entryContents, afterL_cons, afterL_nil]
  after_reads_simp
  try rfl

theorem e18 (c : Dev nD) : E m c main_v18 = cat0 (E m c main_v16) (E m c main_v17) := by
  refine Eq.trans ?_ (cat0_congr rfl rfl)
  simp only [E, entryContents, afterL_cons, afterL_nil]
  after_reads_simp
  refine (cat0_congr ?_ ?_).trans (cat0_congr rfl rfl).symm <;> after_reads_simp
theorem e36 (c : Dev nD) : E m c main_v36 = chk (E m c main_v18) := by
  simp only [E, entryContents, afterL_cons, afterL_nil]
  after_reads_simp
  try rfl

theorem e6 (c : Dev nD) : E m c main_v6 = c1 (A0 m c) := by
  simp only [E, entryContents, afterL_cons, afterL_nil]
  after_reads_simp
  try rfl

theorem e20 (c : Dev nD) : E m c main_v20 = revA (E m c main_v6) := by
  simp only [E, entryContents, afterL_cons, afterL_nil]
  after_reads_simp
  try rfl

theorem e22 (c : Dev nD) : E m c main_v22 = revB (E m c main_v6) := by
  simp only [E, entryContents, afterL_cons, afterL_nil]
  after_reads_simp
  try rfl

theorem e23 (c : Dev nD) : E m c main_v23 = cat1 (E m c main_v20) (E m c main_v22) := by
  refine Eq.trans ?_ (cat1_congr rfl rfl)
  simp only [E, entryContents, afterL_cons, afterL_nil]
  after_reads_simp
  refine (cat1_congr ?_ ?_).trans (cat1_congr rfl rfl).symm <;> after_reads_simp
theorem e24 (c : Dev nD) : E m c main_v24 = lead (E m c main_v6) := by
  simp only [E, entryContents, afterL_cons, afterL_nil]
  after_reads_simp
  try rfl

theorem e25 (c : Dev nD) : E m c main_v25 = lead (E m c main_v23) := by
  simp only [E, entryContents, afterL_cons, afterL_nil]
  after_reads_simp
  try rfl

theorem e26 (c : Dev nD) : E m c main_v26 = cat0 (E m c main_v24) (E m c main_v25) := by
  refine Eq.trans ?_ (cat0_congr rfl rfl)
  simp only [E, entryContents, afterL_cons, afterL_nil]
  after_reads_simp
  refine (cat0_congr ?_ ?_).trans (cat0_congr rfl rfl).symm <;> after_reads_simp
theorem e38 (c : Dev nD) : E m c main_v38 = chk (E m c main_v26) := by
  simp only [E, entryContents, afterL_cons, afterL_nil]
  after_reads_simp
  try rfl

theorem e7 (c : Dev nD) : E m c main_v7 = c2 (A0 m c) := by
  simp only [E, entryContents, afterL_cons, afterL_nil]
  after_reads_simp
  try rfl

theorem e28 (c : Dev nD) : E m c main_v28 = revA (E m c main_v7) := by
  simp only [E, entryContents, afterL_cons, afterL_nil]
  after_reads_simp
  try rfl

theorem e30 (c : Dev nD) : E m c main_v30 = revB (E m c main_v7) := by
  simp only [E, entryContents, afterL_cons, afterL_nil]
  after_reads_simp
  try rfl

theorem e31 (c : Dev nD) : E m c main_v31 = cat1 (E m c main_v28) (E m c main_v30) := by
  refine Eq.trans ?_ (cat1_congr rfl rfl)
  simp only [E, entryContents, afterL_cons, afterL_nil]
  after_reads_simp
  refine (cat1_congr ?_ ?_).trans (cat1_congr rfl rfl).symm <;> after_reads_simp
theorem e32 (c : Dev nD) : E m c main_v32 = lead (E m c main_v7) := by
  simp only [E, entryContents, afterL_cons, afterL_nil]
  after_reads_simp
  try rfl

theorem e33 (c : Dev nD) : E m c main_v33 = lead (E m c main_v31) := by
  simp only [E, entryContents, afterL_cons, afterL_nil]
  after_reads_simp
  try rfl

theorem e34 (c : Dev nD) : E m c main_v34 = cat0 (E m c main_v32) (E m c main_v33) := by
  refine Eq.trans ?_ (cat0_congr rfl rfl)
  simp only [E, entryContents, afterL_cons, afterL_nil]
  after_reads_simp
  refine (cat0_congr ?_ ?_).trans (cat0_congr rfl rfl).symm <;> after_reads_simp
theorem e40 (c : Dev nD) : E m c main_v40 = chk (E m c main_v34) := by
  simp only [E, entryContents, afterL_cons, afterL_nil]
  after_reads_simp
  try rfl

theorem e91_0 (c : Dev nD) : E m c main_v91_0 = tr (E m c main_v36) := by
  simp only [E, entryContents, afterL_cons, afterL_nil]
  after_reads_simp
  try rfl

theorem e91_1 (c : Dev nD) : E m c main_v91_1 = tr (E m c main_v38) := by
  simp only [E, entryContents, afterL_cons, afterL_nil]
  after_reads_simp
  try rfl

theorem e91_2 (c : Dev nD) : E m c main_v91_2 = tr (E m c main_v40) := by
  simp only [E, entryContents, afterL_cons, afterL_nil]
  after_reads_simp
  try rfl

theorem e8 (c : Dev nD) : E m c main_v8 = c3 (A0 m c) := by
  simp only [E, entryContents, afterL_cons, afterL_nil]
  after_reads_simp
  try rfl

end Cert.ReferenceIdeal.Ret
end
-- ==== Proof.RetEnt2.lean ====
module

public import proofs.«01_k».proof.Proof.RetEnt

@[expose] public section
set_option maxRecDepth 16384
noncomputable section
namespace Cert.ReferenceIdeal.Ret
open Cert.ReferenceIdeal Cert.ReferenceIdeal.Gen Cert.ReferenceIdeal.Value Idealize.ShloMosaic Idealize.ShloMosaic.TcCoe Idealize.SL.Sem Cert.RetMath
open Idealize.ShloMosaic.StableHlo
variable (m : (ℓ : Loc nD τ sig) → Buf (Elt Ideal) ℓ)

def lg0 (x : FVec Ideal S1x2x4 .f32) : FVec Ideal S2x4 .f32 := shapeCast S2x4 x shapeCasts_S1x2x4_S2x4
def z24 : FVec Ideal S2x4 .f32 := broadcastInDim S2x4 ![] bcast_S_S2x4 (constant S_ .f32 0x00000000#32)
/-- The logarithm of the sigmoid, as the host writes it. -/
def LS (x : FVec Ideal S2x4 .f32) : FVec Ideal S2x4 .f32 :=
  Host.negf (select (cmpf .une (subf (Host.negf x) z24) (subf (Host.negf x) z24)) (addf (Host.negf x) z24)
    (addf (maximumf (Host.negf x) z24) (Host.log1p (Host.exp (Host.negf (Host.absf (subf (Host.negf x) z24)))))))

def pos : FVec Ideal S64 .f32 := sitofp .f32 (iotaInDim S64 32 0)
def l3 (x : FVec Ideal S2x4 .f32) : FVec Ideal S2x4x1 .f32 := broadcastInDim S2x4x1 ![0, 1] bcast_S2x4_S2x4x1_0_1 x
def row64 (x : FVec Ideal S64 .f32) : FVec Ideal S2x4x64 .f32 :=
  broadcastInDim S2x4x64 ![0, 1, 2] bcast_S1x1x64_S2x4x64_0_1_2 (broadcastInDim S1x1x64 ![1, 2] bcast_S1x64_S1x1x64_1_2 (broadcastInDim S1x64 ![1] bcast_S64_S1x64_1 x))
def XI (x : FVec Ideal S2x4 .f32) : FVec Ideal S2x4x64 .f32 :=
  Host.exp (mulf (broadcastInDim S2x4x64 ![0, 1, 2] bcast_S2x4x1_S2x4x64_0_1_2 (l3 x)) (row64 (addf pos (broadcastInDim S64 ![] bcast_S_S64 (constant S_ .f32 0x3F800000#32)))))
def ZE (x : FVec Ideal S2x4 .f32) : FVec Ideal S2x4x64 .f32 :=
  Host.exp (mulf (broadcastInDim S2x4x64 ![0, 1, 2] bcast_S2x4x1_S2x4x64_0_1_2 (l3 x)) (row64 (subf (broadcastInDim S64 ![] bcast_S_S64 (constant S_ .f32 0x427C0000#32)) pos)))
def GC (x : FVec Ideal S2x4 .f32) : FVec Ideal S2x4x1x1 .f32 :=
  broadcastInDim S2x4x1x1 ![0, 1, 2] bcast_S2x4x1_S2x4x1x1_0_1_2 (Host.exp (mulf (l3 x) (broadcastInDim S2x4x1 ![] bcast_S_S2x4x1 (constant S_ .f32 0x42800000#32))))
def dif : FVec Ideal S64x64 .f32 :=
  subf (broadcastInDim S64x64 ![0, 1] bcast_S64x1_S64x64_0_1 (broadcastInDim S64x1 ![0] bcast_S64_S64x1_0 pos)) (broadcastInDim S64x64 ![0, 1] bcast_S1x64_S64x64_0_1 (broadcastInDim S1x64 ![1] bcast_S64_S1x64_1 pos))
def z64 : FVec Ideal S64x64 .f32 := broadcastInDim S64x64 ![] bcast_S_S64x64 (constant S_ .f32 0x00000000#32)
def DEC (x : FVec Ideal S2x4 .f32) : FVec Ideal S2x4x64x64 .f32 :=
  select (broadcastInDim S2x4x64x64 ![1, 2, 3] bcast_S4x64x64_S2x4x64x64_1_2_3 (broadcastInDim S4x64x64 ![1, 2] bcast_S64x64_S4x64x64_1_2 (cmpf .oge dif z64)))
    (Host.exp (mulf (broadcastInDim S2x4x64x64 ![0, 1, 2, 3] bcast_S2x4x1x1_S2x4x64x64_0_1_2_3 (broadcastInDim S2x4x1x1 ![0, 1, 2] bcast_S2x4x1_S2x4x1x1_0_1_2 (l3 x)))
      (broadcastInDim S2x4x64x64 ![0, 1, 2, 3] bcast_S1x1x64x64_S2x4x64x64_0_1_2_3 (broadcastInDim S1x1x64x64 ![1, 2, 3] bcast_S1x64x64_S1x1x64x64_1_2_3 (broadcastInDim S1x64x64 ![1, 2] bcast_S64x64_S1x64x64_1_2 (maximumf dif z64))))))
    (broadcastInDim S2x4x64x64 ![1, 2, 3] bcast_S4x64x64_S2x4x64x64_1_2_3 (broadcastInDim S4x64x64 ![] bcast_S_S4x64x64 (constant S_ .f32 0x00000000#32)))
/-- The part of a chunk's output that comes from the chunk itself. -/
def INN (q k v : FVec Ideal S2x68x4x4x64x128 .f32) (x : FVec Ideal S2x4x64x64 .f32) : FVec Ideal S2x68x4x4x64x128 .f32 :=
  Host.dotGeneral dot_S2x68x4x4x64x64_S2x68x4x4x64x128_S2x68x4x4x64x128_5_4_4_5_0123_0123 none
    (mulf (Host.dotGeneral dot_S2x68x4x4x64x128_S2x68x4x4x64x128_S2x68x4x4x64x64_5_5_4_4_0123_0123 none q k)
      (broadcastInDim S2x68x4x4x64x64 ![0, 1, 2, 3, 4, 5] bcast_S2x1x1x4x64x64_S2x68x4x4x64x64_0_1_2_3_4_5 (broadcastInDim S2x1x1x4x64x64 ![0, 3, 4, 5] bcast_S2x4x64x64_S2x1x1x4x64x64_0_3_4_5 x))) v

theorem e10 (c : Dev nD) : E m c main_v10 = LS (lg0 (A1 m c)) := by
  simp only [E, entryContents, afterL_cons, afterL_nil]
  after_reads_simp
  try rfl

theorem e91_3 (c : Dev nD) : E m c main_v91_3 = XI (E m c main_v10) := by
  simp only [E, entryContents, afterL_cons, afterL_nil]
  after_reads_simp
  try rfl

theorem e91_4 (c : Dev nD) : E m c main_v91_4 = GC (E m c main_v10) := by
  simp only [E, entryContents, afterL_cons, afterL_nil]
  after_reads_simp
  try rfl

theorem e91_5 (c : Dev nD) : E m c main_v91_5 = ZE (E m c main_v10) := by
  simp only [E, entryContents, afterL_cons, afterL_nil]
  after_reads_simp
  try rfl

theorem e91_7 (c : Dev nD) : E m c main_v91_7 = broadcastInDim S2x4x4x128x128 ![1, 2, 3, 4] bcast_S4x4x128x128_S2x4x4x128x128_1_2_3_4 (broadcastInDim S4x4x128x128 ![] bcast_S_S4x4x128x128 (constant (F := Ideal) S_ .f32 0x00000000#32)) := by
  simp only [E, entryContents, afterL_cons, afterL_nil]
  after_reads_simp
  try rfl

theorem e59 (c : Dev nD) : E m c main_v59 = DEC (E m c main_v10) := by
  simp only [E, entryContents, afterL_cons, afterL_nil]
  after_reads_simp
  try rfl

theorem e84 (c : Dev nD) : E m c main_v84 = INN (E m c main_v36) (E m c main_v38) (E m c main_v40) (E m c main_v59) := by
  simp only [E, entryContents, afterL_cons, afterL_nil]
  after_reads_simp
  try rfl

end Cert.ReferenceIdeal.Ret
end
-- ==== Proof.RetAt.lean ====
module

public import proofs.«01_k».proof.Proof.RetEnt2

@[expose] public section
set_option maxRecDepth 16384
noncomputable section
namespace Cert.ReferenceIdeal.Ret
open Cert.ReferenceIdeal Cert.ReferenceIdeal.Gen Cert.ReferenceIdeal.Value Idealize.ShloMosaic Idealize.ShloMosaic.TcCoe Idealize.SL.Sem Cert.RetMath
open Idealize.ShloMosaic.StableHlo
variable (m : (ℓ : Loc nD τ sig) → Buf (Elt Ideal) ℓ)

theorem c0_at (x : FVec Ideal S4x4352x2048 .bf16) (b : Fin 4) (n : Fin 4352) (h : Fin 4) (d : Fin 128) :
    c0 x (ix4 b n h d) = x (ix3 b n ⟨128 * h.val + d.val, by have := h.isLt; have := d.isLt; omega⟩) := by
  unfold c0
  pointwise
  exact congrArg x (congrArg (ix3 b n) (Fin.ext (by simp only []; omega)))
theorem c1_at (x : FVec Ideal S4x4352x2048 .bf16) (b : Fin 4) (n : Fin 4352) (h : Fin 4) (d : Fin 128) :
    c1 x (ix4 b n h d) = x (ix3 b n ⟨512 + (128 * h.val + d.val), by have := h.isLt; have := d.isLt; omega⟩) := by
  unfold c1
  pointwise
  exact congrArg x (congrArg (ix3 b n) (Fin.ext (by simp only []; omega)))
theorem c2_at (x : FVec Ideal S4x4352x2048 .bf16) (b : Fin 4) (n : Fin 4352) (h : Fin 4) (d : Fin 128) :
    c2 x (ix4 b n h d) = x (ix3 b n ⟨1024 + (128 * h.val + d.val), by have := h.isLt; have := d.isLt; omega⟩) := by
  unfold c2
  pointwise
  exact congrArg x (congrArg (ix3 b n) (Fin.ext (by simp only []; omega)))
theorem c3_at (x : FVec Ideal S4x4352x2048 .bf16) (b : Fin 4) (n : Fin 4352) (h : Fin 4) (d : Fin 128) :
    c3 x (ix4 b n h d) = x (ix3 b n ⟨1536 + (128 * h.val + d.val), by have := h.isLt; have := d.isLt; omega⟩) := by
  unfold c3
  pointwise
  exact congrArg x (congrArg (ix3 b n) (Fin.ext (by simp only []; omega)))
theorem rev256 (y : FVec Ideal S4x256x4x128 .f32) (b : Fin 4) (n : Fin 256) (h : Fin 4) (d : Fin 128) :
    Host.reverse [1] y (ix4 b n h d) = y (ix4 b n.rev h d) := by
  refine congrArg y (funext fun a => ?_)
  fin_cases a <;> rfl
theorem rev4096 (y : FVec Ideal S4x4096x4x128 .f32) (b : Fin 4) (n : Fin 4096) (h : Fin 4) (d : Fin 128) :
    Host.reverse [1] y (ix4 b n h d) = y (ix4 b n.rev h d) := by
  refine congrArg y (funext fun a => ?_)
  fin_cases a <;> rfl
theorem revA_at (x : FVec Ideal S4x4352x4x128 .f32) (b : Fin 4) (n : Fin 256) (h : Fin 4) (d : Fin 128) :
    revA x (ix4 b n h d) = x (ix4 b ⟨n.rev.val, by have := n.rev.isLt; omega⟩ h d) := by
  unfold revA
  rw [rev256]
  pointwise
theorem revB_at (x : FVec Ideal S4x4352x4x128 .f32) (b : Fin 4) (n : Fin 4096) (h : Fin 4) (d : Fin 128) :
    revB x (ix4 b n h d) = x (ix4 b ⟨256 + n.rev.val, by have := n.rev.isLt; omega⟩ h d) := by
  unfold revB
  rw [rev4096]
  pointwise
theorem cat1_at (x : FVec Ideal S4x256x4x128 .f32) (y : FVec Ideal S4x4096x4x128 .f32) (b : Fin 4) (n : Fin 4352) (h : Fin 4) (d : Fin 128) :
    cat1 x y (ix4 b n h d) = if q : n.val < 256 then x (ix4 b ⟨n.val, q⟩ h d) else y (ix4 b ⟨n.val - 256, by have := n.isLt; omega⟩ h d) := by
  unfold cat1
  pointwise
theorem bwd_at (x : FVec Ideal S4x4352x4x128 .f32) (b : Fin 4) (n : Fin 4352) (h : Fin 4) (d : Fin 128) :
    cat1 (revA x) (revB x) (ix4 b n h d) = x (ix4 b ⟨rowB n.val, rowB_lt n.isLt⟩ h d) := by
  have e : ∀ (a c : Fin 4352), a.val = c.val → x (ix4 b a h d) = x (ix4 b c h d) := fun a c q => by rw [Fin.ext q]
  rw [cat1_at]
  split
  · next q =>
    rw [revA_at]
    refine e _ _ ?_
    simp only [rowB, if_pos q, Fin.val_rev]; omega
  · next q =>
    rw [revB_at]
    refine e _ _ ?_
    simp only [rowB, if_neg q, Fin.val_rev]; have := n.isLt; omega
theorem chk_at0 (z : FVec Ideal S2x4x4352x4x128 .f32) (r : Fin 2) (k : Fin 68) (b h : Fin 4) (i : Fin 64) (d : Fin 128) (hl : k.val * 64 + i.val < 4352) :
    chk z (ix6 r k b h i d) = z (ix5 r b ⟨k.val * 64 + i.val, hl⟩ h d) := by
  unfold chk
  pointwise
theorem cat0_at (x y : FVec Ideal S4x4352x4x128 .f32) (r : Fin 2) (b : Fin 4) (n : Fin 4352) (h : Fin 4) (d : Fin 128) :
    cat0 (lead x) (lead y) (ix5 r b n h d) = if r.val < 1 then x (ix4 b n h d) else y (ix4 b n h d) := by
  unfold cat0 lead
  pointwise
  by_cases q : r.val < 1
  · rw [dif_pos q, if_pos q]
  · rw [dif_neg q, if_neg q]
theorem tr_at (x : FVec Ideal S2x68x4x4x64x128 .f32) (r : Fin 2) (k : Fin 68) (b h : Fin 4) (i : Fin 64) (d : Fin 128) :
    tr x (ix6 k r b h i d) = x (ix6 r k b h i d) := by
  unfold tr
  pointwise
theorem c63 : Ideal.ofBits .f32 0x427C0000#32 = (((63 : ℕ) : ℝ) : EReal) := by
  simp [Ideal.ofBits, Ideal.ieee]
  rw [← EReal.coe_mul]
  norm_num
theorem c64 : Ideal.ofBits .f32 0x42800000#32 = (((64 : ℕ) : ℝ) : EReal) := by
  simp [Ideal.ofBits, Ideal.ieee]
  rw [← EReal.coe_mul]
  norm_num
theorem toInt_fin : ∀ j : Fin 64, (BitVec.ofNat 32 j.val).toInt = (j.val : ℤ) := by decide
theorem sito (j : Fin 64) : FloatOps.sitofp (F := Ideal) FTy.f32 (BitVec.ofNat 32 j.val) = ((j.val : ℝ) : EReal) := by
  show (((BitVec.ofNat 32 j.val).toInt : ℝ) : EReal) = _
  rw [toInt_fin]
  rfl
theorem LS_at (x : FVec Ideal S1x2x4 .f32) (r : Fin 2) (h : Fin 4) : LS (lg0 x) (ix2 r h) = lgd (x (ix3 (0 : Fin 1) r h)) := by
  unfold LS lg0 z24
  pointwise
  rw [if_neg (fun q => q rfl)]
  rfl
section
variable (x : FVec Ideal S2x4 .f32) (y : Fin 2 → Fin 4 → EReal) (hx : ∀ r h, x (ix2 r h) = lgd (y r h))
include hx
theorem XI_at (r : Fin 2) (h : Fin 4) (i : Fin 64) : XI x (ix3 r h i) = ((gam (y r h) ^ (i.val + 1) : ℝ) : EReal) := by
  unfold XI l3 row64 pos
  pointwise
  rw [sito, hx, ← gam_pow, Nat.cast_add, EReal.coe_add, Nat.cast_one, EReal.coe_one]
theorem ZE_at (r : Fin 2) (h : Fin 4) (i : Fin 64) : ZE x (ix3 r h i) = ((gam (y r h) ^ (63 - i.val) : ℝ) : EReal) := by
  unfold ZE l3 row64 pos
  pointwise
  rw [sito, hx, ← gam_pow, c63, sub_nat (by have := i.isLt; omega)]
theorem GC_at (r : Fin 2) (h : Fin 4) : GC x (ix4 r h (0 : Fin 1) (0 : Fin 1)) = ((gam (y r h) ^ 64 : ℝ) : EReal) := by
  unfold GC l3
  pointwise
  rw [hx, ← gam_pow, c64]
theorem DEC_at (r : Fin 2) (h : Fin 4) (i j : Fin 64) : DEC x (ix4 r h i j) = ((if j.val ≤ i.val then gam (y r h) ^ (i.val - j.val) else 0 : ℝ) : EReal) := by
  unfold DEC l3 dif pos z64
  pointwise
  rw [sito, sito, hx]
  have hc : (0 : EReal) ≤ ((i.val : ℝ) : EReal) - ((j.val : ℝ) : EReal) ↔ j.val ≤ i.val := by
    rw [← EReal.coe_sub, ← EReal.coe_zero, EReal.coe_le_coe_iff, sub_nonneg, Nat.cast_le]
  by_cases q : j.val ≤ i.val
  · rw [if_pos (hc.mpr q), if_pos q, sub_nat q, max_eq_left (by exact_mod_cast Nat.zero_le _), gam_pow]
  · rw [if_neg (fun c => q (hc.mp c)), if_neg q, EReal.coe_zero]
end
theorem INN_at (q k v : FVec Ideal S2x68x4x4x64x128 .f32) (x : FVec Ideal S2x4x64x64 .f32) (r : Fin 2) (n : Fin 68) (b h : Fin 4) (i : Fin 64) (d : Fin 128) :
    INN q k v x (ix6 r n b h i d) = ∑ j : Fin 64, (∑ u : Fin 128, q (ix6 r n b h i u) * k (ix6 r n b h j u)) * x (ix4 r h i j) * v (ix6 r n b h j d) := by
  unfold INN
  pointwise
end Cert.ReferenceIdeal.Ret
end
-- ==== Proof.RetPost.lean ====
module

public import proofs.«01_k».proof.Proof.RetAt

@[expose] public section
set_option maxRecDepth 16384
noncomputable section
namespace Cert.ReferenceIdeal.Ret
open Cert.ReferenceIdeal Cert.ReferenceIdeal.Gen Cert.ReferenceIdeal.Value Idealize.ShloMosaic Idealize.ShloMosaic.TcCoe Idealize.SL.Sem Cert.RetMath
open Idealize.ShloMosaic.StableHlo

/-- The host operations' value of a buffer after the loop, from the contents `X` the loop leaves. -/
abbrev PP (X : Valuation τ sig (Elt Ideal)) (r : Ref sig .tc) := afterL postI (after condOps X) (Proc.devRef .tc r)

def unchk (x : FVec Ideal S2x68x4x4x64x128 .f32) : FVec Ideal S2x4x4352x4x128 .f32 :=
  shapeCast S2x4x4352x4x128 (transpose S2x4x68x64x4x128 [0, 2, 1, 4, 3, 5] x transposes_S2x68x4x4x64x128_S2x4x68x64x4x128_0_2_1_4_3_5) shapeCasts_S2x4x68x64x4x128_S2x4x4352x4x128
def tr' (x : FVec Ideal S68x2x4x4x64x128 .f32) : FVec Ideal S2x68x4x4x64x128 .f32 :=
  transpose S2x68x4x4x64x128 [1, 0, 2, 3, 4, 5] x transposes_S68x2x4x4x64x128_S2x68x4x4x64x128_1_0_2_3_4_5
def dirF (x : FVec Ideal S2x4x4352x4x128 .f32) : FVec Ideal S4x4352x4x128 .f32 :=
  shapeCast S4x4352x4x128 (extractStridedSlice S1x4x4352x4x128 ![0, 0, 0, 0, 0] x slices_S2x4x4352x4x128_S1x4x4352x4x128_0_0_0_0_0) shapeCasts_S1x4x4352x4x128_S4x4352x4x128
def dirB (x : FVec Ideal S2x4x4352x4x128 .f32) : FVec Ideal S4x4352x4x128 .f32 :=
  shapeCast S4x4352x4x128 (extractStridedSlice S1x4x4352x4x128 ![1, 0, 0, 0, 0] x slices_S2x4x4352x4x128_S1x4x4352x4x128_1_0_0_0_0) shapeCasts_S1x4x4352x4x128_S4x4352x4x128
def wide (x : FVec Ideal S4x4352x4x1 .f32) : FVec Ideal S4x4352x4x128 .f32 := broadcastInDim S4x4352x4x128 ![0, 1, 2, 3] bcast_S4x4352x4x1_S4x4352x4x128_0_1_2_3 x
def mean (x : FVec Ideal S4x4352x4x128 .f32) : FVec Ideal S4x4352x4x1 .f32 :=
  Host.divf (broadcastInDim S4x4352x4x1 ![0, 1, 2] bcast_S4x4352x4_S4x4352x4x1_0_1_2 (Host.reduceAdd x (constant S_ .f32 0x00000000#32) reducesTo_S4x4352x4x128_S4x4352x4_d3 h_S_))
    (broadcastInDim S4x4352x4x1 ![] bcast_S_S4x4352x4x1 (constant S_ .f32 0x43000000#32))
def cen (x : FVec Ideal S4x4352x4x128 .f32) : FVec Ideal S4x4352x4x128 .f32 := subf x (wide (mean x))
def NRM (x : FVec Ideal S4x4352x4x128 .f32) (g : FVec Ideal S1x128 .f32) : FVec Ideal S4x4352x4x128 .f32 :=
  mulf (mulf (cen x) (wide (Host.rsqrt (addf (mean (mulf (cen x) (cen x))) (broadcastInDim S4x4352x4x1 ![] bcast_S_S4x4352x4x1 (constant S_ .f32 0x358637BD#32))))))
    (broadcastInDim S4x4352x4x128 ![0, 1, 2, 3] bcast_S1x1x1x128_S4x4352x4x128_0_1_2_3 (broadcastInDim S1x1x1x128 ![3] bcast_S128_S1x1x1x128_3 (shapeCast S128 g shapeCasts_S1x128_S128)))
def one4 : FVec Ideal S4x4352x4x128 .f32 := broadcastInDim S4x4352x4x128 ![] bcast_S_S4x4352x4x128 (constant S_ .f32 0x3F800000#32)
def SIL (x : FVec Ideal S4x4352x4x128 .f32) : FVec Ideal S4x4352x4x128 .f32 := mulf x (Host.divf one4 (addf one4 (Host.exp (Host.negf x))))
def FIN (x : FVec Ideal S4x4352x4x128 .f32) : FVec Ideal S4x4096x512 .bf16 :=
  truncf .bf16 (extractStridedSlice S4x4096x512 ![0, 256, 0] (shapeCast S4x4352x512 x shapeCasts_S4x4352x4x128_S4x4352x512) slices_S4x4352x512_S4x4096x512_0_256_0) bitsLt_bf16_f32

section
variable (X : Valuation τ sig (Elt Ideal))
theorem p93 : PP X main_v93 = (addf (F := Ideal) (s := S2x68x4x4x64x128) (X (Proc.devRef .tc main_v84)) (tr' (X (Proc.devRef .tc main_v91_8))) : FVec Ideal S2x68x4x4x64x128 .f32) := by
  simp only [PP, afterL_cons, afterL_nil]
  after_reads_simp
  try rfl

theorem p95 : PP X main_v95 = unchk (PP X main_v93) := by
  simp only [PP, afterL_cons, afterL_nil]
  after_reads_simp
  try rfl

theorem p97 : PP X main_v97 = dirF (PP X main_v95) := by
  simp only [PP, afterL_cons, afterL_nil]
  after_reads_simp
  try rfl

theorem p99 : PP X main_v99 = dirB (PP X main_v95) := by
  simp only [PP, afterL_cons, afterL_nil]
  after_reads_simp
  try rfl

theorem p101 : PP X main_v101 = revA (PP X main_v99) := by
  simp only [PP, afterL_cons, afterL_nil]
  after_reads_simp
  try rfl

theorem p103 : PP X main_v103 = revB (PP X main_v99) := by
  simp only [PP, afterL_cons, afterL_nil]
  after_reads_simp
  try rfl

theorem p104 : PP X main_v104 = cat1 (PP X main_v101) (PP X main_v103) := by
  refine Eq.trans ?_ (cat1_congr rfl rfl)
  simp only [PP, afterL_cons, afterL_nil]
  after_reads_simp
  refine (cat1_congr ?_ ?_).trans (cat1_congr rfl rfl).symm <;> after_reads_simp
theorem p105 : PP X main_v105 = (addf (F := Ideal) (s := S4x4352x4x128) (PP X main_v97) (PP X main_v104) : FVec Ideal S4x4352x4x128 .f32) := by
  simp only [PP, afterL_cons, afterL_nil]
  after_reads_simp
  try rfl

theorem p127 : PP X main_v127 = NRM (PP X main_v105) (X (Proc.devRef .tc main_arg2)) := by
  simp only [PP, afterL_cons, afterL_nil]
  after_reads_simp
  try rfl

theorem p128 : PP X main_v128 = SIL (X (Proc.devRef .tc main_v8)) := by
  simp only [PP, afterL_cons, afterL_nil]
  after_reads_simp
  try rfl

theorem p132 : PP X main_v132 = FIN (mulf (F := Ideal) (s := S4x4352x4x128) (PP X main_v127) (PP X main_v128)) := by
  simp only [PP, afterL_cons, afterL_nil]
  after_reads_simp
  try rfl

end

theorem unchk_at (x : FVec Ideal S2x68x4x4x64x128 .f32) (r : Fin 2) (b : Fin 4) (n : Fin 4352) (h : Fin 4) (d : Fin 128) :
    unchk x (ix5 r b n h d) = x (ix6 r ⟨n.val / 64, by have := n.isLt; omega⟩ b h ⟨n.val % 64, Nat.mod_lt _ (by decide)⟩ d) := by
  unfold unchk
  pointwise
theorem tr'_at (x : FVec Ideal S68x2x4x4x64x128 .f32) (r : Fin 2) (k : Fin 68) (b h : Fin 4) (i : Fin 64) (d : Fin 128) :
    tr' x (ix6 r k b h i d) = x (ix6 k r b h i d) := by
  unfold tr'
  pointwise
theorem dirF_at (x : FVec Ideal S2x4x4352x4x128 .f32) (b : Fin 4) (n : Fin 4352) (h : Fin 4) (d : Fin 128) :
    dirF x (ix4 b n h d) = x (ix5 (0 : Fin 2) b n h d) := by
  unfold dirF
  pointwise
theorem dirB_at (x : FVec Ideal S2x4x4352x4x128 .f32) (b : Fin 4) (n : Fin 4352) (h : Fin 4) (d : Fin 128) :
    dirB x (ix4 b n h d) = x (ix5 (1 : Fin 2) b n h d) := by
  unfold dirB
  pointwise
theorem mean_at (x : FVec Ideal S4x4352x4x128 .f32) (b : Fin 4) (n : Fin 4352) (h : Fin 4) :
    mean x (ix4 b n h (0 : Fin 1)) = Ideal.div (∑ u, x (ix4 b n h u)) (Ideal.ofBits .f32 0x43000000#32) := by
  unfold mean
  pointwise
theorem cen_at (x : FVec Ideal S4x4352x4x128 .f32) (b : Fin 4) (n : Fin 4352) (h : Fin 4) (d : Fin 128) :
    cen x (ix4 b n h d) = x (ix4 b n h d) - mean x (ix4 b n h (0 : Fin 1)) := by
  unfold cen wide
  pointwise
theorem FIN_at (x : FVec Ideal S4x4352x4x128 .f32) (b : Fin 4) (l : Fin 4096) (k : Fin 512) :
    FIN x (ix3 b l k) = x (ix4 b ⟨256 + l.val, by have := l.isLt; omega⟩ ⟨k.val / 128, by have := k.isLt; omega⟩ ⟨k.val % 128, Nat.mod_lt _ (by decide)⟩) := by
  unfold FIN
  pointwise
theorem SIL_at (x : FVec Ideal S4x4352x4x128 .f32) (b : Fin 4) (n : Fin 4352) (h : Fin 4) (d : Fin 128) :
    SIL x (ix4 b n h d) = x (ix4 b n h d) * Ideal.div 1 (1 + Ideal.exp (-x (ix4 b n h d))) := by
  unfold SIL one4
  pointwise
theorem NRM_at (x : FVec Ideal S4x4352x4x128 .f32) (g : FVec Ideal S1x128 .f32) (b : Fin 4) (n : Fin 4352) (h : Fin 4) (d : Fin 128) :
    NRM x g (ix4 b n h d) = cen x (ix4 b n h d) * Ideal.rsqrt (mean (mulf (cen x) (cen x)) (ix4 b n h (0 : Fin 1)) + Ideal.ofBits .f32 0x358637BD#32) * g (ix2 (0 : Fin 1) d) := by
  unfold NRM wide
  generalize cen x = y
  generalize mean (mulf y y) = z
  pointwise
theorem out_at (x : FVec Ideal S4x4352x4x128 .f32) (g : FVec Ideal S1x128 .f32) (y : FVec Ideal S4x4352x4x128 .f32) (b : Fin 4) (n : Fin 4352) (h : Fin 4) (d : Fin 128) :
    mulf (NRM x g) (SIL y) (ix4 b n h d) = outRow (fun u => x (ix4 b n h u)) (fun u => g (ix2 (0 : Fin 1) u)) (fun u => y (ix4 b n h u)) d := by
  rw [show mulf (NRM x g) (SIL y) (ix4 b n h d) = NRM x g (ix4 b n h d) * SIL y (ix4 b n h d) from rfl, NRM_at, SIL_at, mean_at]
  simp only [show ∀ u, mulf (cen x) (cen x) (ix4 b n h u) = cen x (ix4 b n h u) * cen x (ix4 b n h u) from fun _ => rfl, cen_at, mean_at]
  rfl
end Cert.ReferenceIdeal.Ret
end
-- ==== Proof.RetRefPure.lean ====
module

public import proofs.«01_k».proof.Proof.RetPost

@[expose] public section
set_option maxRecDepth 16384
noncomputable section
namespace Cert.ReferenceIdeal.Ret
open Cert.ReferenceIdeal Cert.ReferenceIdeal.Gen Cert.ReferenceIdeal.Value Idealize.ShloMosaic Idealize.ShloMosaic.TcCoe Idealize.SL.Sem Cert.RetMath
open Idealize.ShloMosaic.StableHlo hiding seq

/-- Both directions of one of the groups, cut into chunks. -/
def CK (x : FVec Ideal S4x4352x4x128 .f32) : FVec Ideal S2x68x4x4x64x128 .f32 := chk (cat0 (lead x) (lead (cat1 (revA x) (revB x))))
/-- Both directions' results at a row, added. -/
def SUM (s : FVec Ideal S2x4x4352x4x128 .f32) : FVec Ideal S4x4352x4x128 .f32 := addf (dirF s) (cat1 (revA (dirB s)) (revB (dirB s)))
def POST (x84 : FVec Ideal S2x68x4x4x64x128 .f32) (x91 : FVec Ideal S68x2x4x4x64x128 .f32) (g : FVec Ideal S4x4352x4x128 .f32) (ng : FVec Ideal S1x128 .f32) : FVec Ideal S4x4096x512 .bf16 :=
  FIN (mulf (NRM (SUM (unchk (addf x84 (tr' x91)))) ng) (SIL g))

section
variable (A : FVec Ideal S4x4352x2048 .bf16) (L : FVec Ideal S1x2x4 .f32) (N : FVec Ideal S1x128 .f32)

def rP (b : Fin 4) (n : Fin 4352) (k : Fin 2048) : EReal := A (ix3 b n k)
def rL (r : Fin 2) (h : Fin 4) : EReal := L (ix3 (0 : Fin 1) r h)
def rN (d : Fin 128) : EReal := N (ix2 (0 : Fin 1) d)

/-- A direction's sequence of one of the three groups: as it stands, or with both parts reversed. -/
def dseq (g : ℕ) (r : Fin 2) (b h : Fin 4) (n : ℕ) (d : Fin 128) : ℝ :=
  if r.val < 1 then seq (rP A) b h g n d else seq (rP A) b h g (rowB n) d
def gm (r : Fin 2) (h : Fin 4) : ℝ := gam (rL L r h)

theorem ls_val (r : Fin 2) (h : Fin 4) : LS (lg0 L) (ix2 r h) = lgd (rL L r h) := LS_at L r h

section
variable (hp : Fin3 (rP A))
include hp

theorem chunk_val (g : ℕ) (hg : g < 3) (x : FVec Ideal S4x4352x4x128 .f32)
    (hx : ∀ b n h d, x (ix4 b n h d) = A (ix3 b n ⟨512 * g + (128 * h.val + d.val), by have := h.isLt; have := d.isLt; omega⟩))
    (r : Fin 2) (k : Fin 68) (b h : Fin 4) (i : Fin 64) (d : Fin 128) :
    CK x (ix6 r k b h i d) = ((dseq A g r b h (64 * k.val + i.val) d : ℝ) : EReal) := by
  have key : ∀ (n : Fin 4352), x (ix4 b n h d) = ((seq (rP A) b h g n.val d : ℝ) : EReal) := fun n => by
    have hh := h.isLt
    have hd := d.isLt
    rw [hx]
    refine (cell_eq hp b n ⟨512 * g + (128 * h.val + d.val), by omega⟩ ?_).trans ?_
    · show 512 * g + (128 * h.val + d.val) < 1536
      omega
    · unfold seq
      rw [Nat.add_assoc]
  have e : k.val * 64 + i.val = 64 * k.val + i.val := by omega
  unfold CK
  rw [chk_at0 _ r k b h i d (by have := k.isLt; have := i.isLt; omega), cat0_at]
  unfold dseq
  by_cases q : r.val < 1
  · rw [if_pos q, if_pos q, key, ← e]
  · rw [if_neg q, if_neg q, bwd_at, key, ← e]

theorem q_val (r : Fin 2) (k : Fin 68) (b h : Fin 4) (i : Fin 64) (d : Fin 128) :
    CK (c0 A) (ix6 r k b h i d) = ((dseq A 0 r b h (64 * k.val + i.val) d : ℝ) : EReal) :=
  chunk_val A hp 0 (by decide) _ (fun b n h d => (c0_at A b n h d).trans (congrArg A (congrArg (ix3 b n) (Fin.ext (by simp only []; omega))))) r k b h i d
theorem k_val (r : Fin 2) (k : Fin 68) (b h : Fin 4) (i : Fin 64) (d : Fin 128) :
    CK (c1 A) (ix6 r k b h i d) = ((dseq A 1 r b h (64 * k.val + i.val) d : ℝ) : EReal) :=
  chunk_val A hp 1 (by decide) _ (fun b n h d => c1_at A b n h d) r k b h i d
theorem v_val (r : Fin 2) (k : Fin 68) (b h : Fin 4) (i : Fin 64) (d : Fin 128) :
    CK (c2 A) (ix6 r k b h i d) = ((dseq A 2 r b h (64 * k.val + i.val) d : ℝ) : EReal) :=
  chunk_val A hp 2 (by decide) _ (fun b n h d => c2_at A b n h d) r k b h i d

theorem inn_val (r : Fin 2) (k : Fin 68) (b h : Fin 4) (i : Fin 64) (v : Fin 128) :
    INN (CK (c0 A)) (CK (c1 A)) (CK (c2 A)) (DEC (LS (lg0 L))) (ix6 r k b h i v)
      = ((∑ j : Fin 64, (∑ d : Fin 128, dseq A 0 r b h (64 * k.val + i.val) d * dseq A 1 r b h (64 * k.val + j.val) d) * (if j.val ≤ i.val then gm L r h ^ (i.val - j.val) else 0) * dseq A 2 r b h (64 * k.val + j.val) v : ℝ) : EReal) := by
  rw [INN_at]
  simp only [q_val A hp, k_val A hp, v_val A hp, DEC_at _ _ (ls_val L), ← EReal.coe_mul, coe_sum]
  rfl

theorem unchk_f (x : FVec Ideal S2x68x4x4x64x128 .f32) (f : Fin 2 → Fin 4 → Fin 4 → ℕ → Fin 128 → ℝ)
    (hx : ∀ r (k : Fin 68) b h (i : Fin 64) v, x (ix6 r k b h i v) = ((f r b h (64 * k.val + i.val) v : ℝ) : EReal))
    (r : Fin 2) (b : Fin 4) (n : Fin 4352) (h : Fin 4) (v : Fin 128) : unchk x (ix5 r b n h v) = ((f r b h n.val v : ℝ) : EReal) := by
  rw [unchk_at, hx]
  simp only [Nat.div_add_mod]

theorem SUM_f (x : FVec Ideal S2x4x4352x4x128 .f32) (f : Fin 2 → Fin 4 → Fin 4 → ℕ → Fin 128 → ℝ)
    (hx : ∀ r b (n : Fin 4352) h v, x (ix5 r b n h v) = ((f r b h n.val v : ℝ) : EReal))
    (b : Fin 4) (n : Fin 4352) (h : Fin 4) (v : Fin 128) : SUM x (ix4 b n h v) = ((f 0 b h n.val v + f 1 b h (rowB n.val) v : ℝ) : EReal) := by
  unfold SUM
  rw [EReal.coe_add]
  refine congrArg₂ (· + ·) ?_ ?_
  · rw [dirF_at, hx]
  · rw [bwd_at, dirB_at, hx]

theorem sum_cl (I : FVec Ideal S2x68x4x4x64x128 .f32) (y : FVec Ideal S68x2x4x4x64x128 .f32)
    (hI : ∀ r (k : Fin 68) b h (i : Fin 64) v, I (ix6 r k b h i v)
      = ((∑ j : Fin 64, (∑ d : Fin 128, dseq A 0 r b h (64 * k.val + i.val) d * dseq A 1 r b h (64 * k.val + j.val) d) * (if j.val ≤ i.val then gm L r h ^ (i.val - j.val) else 0) * dseq A 2 r b h (64 * k.val + j.val) v : ℝ) : EReal))
    (hy : ∀ (k' : Fin 68) r b h (i : Fin 64) v, y (ix6 k' r b h i v)
      = ((∑ d : Fin 128, dseq A 0 r b h (64 * k'.val + i.val) d * gm L r h ^ (i.val + 1) * st (gm L r h) (dseq A 1 r b h) (dseq A 2 r b h) (64 * k'.val) d v : ℝ) : EReal))
    (r : Fin 2) (k : Fin 68) (b h : Fin 4) (i : Fin 64) (v : Fin 128) :
    addf I (tr' y) (ix6 r k b h i v) = ((cl (gm L r h) (dseq A 0 r b h) (dseq A 1 r b h) (dseq A 2 r b h) (64 * k.val + i.val) v : ℝ) : EReal) := by
  have h1 := hI r k b h i v
  have h2 := (tr'_at y r k b h i v).trans (hy k r b h i v)
  generalize tr' y = z at h2 ⊢
  show I (ix6 r k b h i v) + z (ix6 r k b h i v) = _
  rw [h1, h2, ← EReal.coe_add, ← cl_chunk]

theorem both_dseq (b h : Fin 4) (n : ℕ) (v : Fin 128) :
    cl (gm L 0 h) (dseq A 0 0 b h) (dseq A 1 0 b h) (dseq A 2 0 b h) n v + cl (gm L 1 h) (dseq A 0 1 b h) (dseq A 1 1 b h) (dseq A 2 1 b h) (rowB n) v
      = both (gam (rL L 0 h)) (gam (rL L 1 h)) (seq (rP A) b h 0) (seq (rP A) b h 1) (seq (rP A) b h 2) n v := by
  have e0 : ∀ g, dseq A g 0 b h = seq (rP A) b h g := fun g => funext fun n => funext fun d => if_pos (by decide)
  have e1 : ∀ g, dseq A g 1 b h = fun p => seq (rP A) b h g (rowB p) := fun g => funext fun n => funext fun d => if_neg (by decide)
  simp only [e0, e1]
  rfl

theorem post_val (y : FVec Ideal S68x2x4x4x64x128 .f32)
    (hy : ∀ (k' : Fin 68) r b h (i : Fin 64) v, y (ix6 k' r b h i v)
      = ((∑ d : Fin 128, dseq A 0 r b h (64 * k'.val + i.val) d * gm L r h ^ (i.val + 1) * st (gm L r h) (dseq A 1 r b h) (dseq A 2 r b h) (64 * k'.val) d v : ℝ) : EReal))
    (b : Fin 4) (l : Fin 4096) (k : Fin 512) :
    POST (INN (CK (c0 A)) (CK (c1 A)) (CK (c2 A)) (DEC (LS (lg0 L)))) y (c3 A) N (ix3 b l k) = retG (rP A) (rL L) (rN N) b l k := by
  have hI := inn_val A L hp
  generalize INN (CK (c0 A)) (CK (c1 A)) (CK (c2 A)) (DEC (LS (lg0 L))) = I at hI ⊢
  unfold POST
  rw [FIN_at, out_at]
  have h2 := SUM_f A hp _ _ (unchk_f A hp (addf I (tr' y)) _ (sum_cl A L hp I y hI hy))
  generalize SUM (unchk (addf I (tr' y))) = z at h2 ⊢
  unfold retG retV
  generalize (⟨k.val / 128, _⟩ : Fin 4) = kk
  refine congrFun (congr (congrArg₂ outRow (funext fun u => ?_) (funext fun u => rfl)) (funext fun u => ?_)) _
  · rw [h2, both_dseq A L hp]
  · rw [c3_at]
    exact congrArg A (congrArg (ix3 b _) (Fin.ext (by simp only []; omega)))
end
end
end Cert.ReferenceIdeal.Ret
end
-- ==== Proof.RetRefVal.lean ====
module

public import proofs.«01_k».proof.Proof.RetRefPure

@[expose] public section
set_option maxRecDepth 16384
noncomputable section
namespace Cert.ReferenceIdeal.Ret
open Cert.ReferenceIdeal Cert.ReferenceIdeal.Gen Cert.ReferenceIdeal.Value Idealize.ShloMosaic Idealize.ShloMosaic.TcCoe Idealize.SL.Sem Cert.RetMath
open Idealize.ShloMosaic.StableHlo hiding seq

theorem p_all (X : Valuation τ sig (Elt Ideal)) (x84 : FVec Ideal S2x68x4x4x64x128 .f32) (x91 : FVec Ideal S68x2x4x4x64x128 .f32) (g : FVec Ideal S4x4352x4x128 .f32) (ng : FVec Ideal S1x128 .f32)
    (h84 : X (Proc.devRef .tc main_v84) = x84) (h91 : X (Proc.devRef .tc main_v91_8) = x91) (h8 : X (Proc.devRef .tc main_v8) = g) (hn : X (Proc.devRef .tc main_arg2) = ng) :
    PP X main_v132 = POST x84 x91 g ng := by
  rw [p132, p127, p128, p105, p104, p97, p101, p103, p99, p95, p93, h84, h91, h8, hn]
  rfl

variable (m : (ℓ : Loc nD τ sig) → Buf (Elt Ideal) ℓ) (c : Dev nD)

/-- A buffer the loop does not write is unchanged by the trips. -/
theorem atK_other (r : Ref sig .tc) (h : r = main_v84 ∨ r = main_v8) :
    ∀ k, atK m k c (Proc.devRef .tc r) = entryContents preI m c (Proc.devRef .tc r)
  | 0 => rfl
  | k + 1 => by
    rw [show atK m (k + 1) c = afterL bodyI (after condOps (atK m k c)) from rfl, ← atK_other r h k]
    simp only [afterL_cons, afterL_nil]
    generalize atK m k c = V
    rcases h with rfl | rfl <;>
    · rw [after_of_writes_sub while0Ops0_5 _ while0Ops0_5_writes (by decide +kernel),
        after_of_writes_sub while0Ops0_4 _ while0Ops0_4_writes (by decide +kernel),
        after_of_writes_sub while0Ops0_3 _ while0Ops0_3_writes (by decide +kernel),
        after_of_writes_sub while0Ops0_2 _ while0Ops0_2_writes (by decide +kernel),
        after_of_writes_sub while0Ops0_1 _ while0Ops0_1_writes (by decide +kernel),
        after_of_writes_sub while0Ops0 _ while0Ops0_writes (by decide +kernel),
        after_of_writes_sub condOps _ condOps_writes (by decide +kernel)]

theorem E36 : E m c main_v36 = CK (c0 (A0 m c)) := by
  rw [e36, e18, e16, e17, e15, e12, e14, e5]
  rfl
theorem E38 : E m c main_v38 = CK (c1 (A0 m c)) := by
  rw [e38, e26, e24, e25, e23, e20, e22, e6]
  rfl
theorem E40 : E m c main_v40 = CK (c2 (A0 m c)) := by
  rw [e40, e34, e32, e33, e31, e28, e30, e7]
  rfl
theorem E0 : E m c main_v91_0 = tr (CK (c0 (A0 m c))) := (e91_0 m c).trans (congrArg tr (E36 m c))
theorem E1 : E m c main_v91_1 = tr (CK (c1 (A0 m c))) := (e91_1 m c).trans (congrArg tr (E38 m c))
theorem E2 : E m c main_v91_2 = tr (CK (c2 (A0 m c))) := (e91_2 m c).trans (congrArg tr (E40 m c))
theorem E3 : E m c main_v91_3 = XI (LS (lg0 (A1 m c))) := (e91_3 m c).trans (congrArg XI (e10 m c))
theorem E4 : E m c main_v91_4 = GC (LS (lg0 (A1 m c))) := (e91_4 m c).trans (congrArg GC (e10 m c))
theorem E5 : E m c main_v91_5 = ZE (LS (lg0 (A1 m c))) := (e91_5 m c).trans (congrArg ZE (e10 m c))
theorem E84 : E m c main_v84 = INN (CK (c0 (A0 m c))) (CK (c1 (A0 m c))) (CK (c2 (A0 m c))) (DEC (LS (lg0 (A1 m c)))) := by
  rw [e84, E36, E38, E40, e59, e10]
theorem EA2 : E m c main_arg2 = A2 m c := by
  simp only [E, entryContents, afterL_cons, afterL_nil]
  after_reads_simp

def zeros : FVec Ideal S2x4x4x128x128 .f32 := broadcastInDim S2x4x4x128x128 ![1, 2, 3, 4] bcast_S4x4x128x128_S2x4x4x128x128_1_2_3_4 (broadcastInDim S4x4x128x128 ![] bcast_S_S4x4x128x128 (constant (F := Ideal) S_ .f32 0x00000000#32))
theorem zeros_at (r : Fin 2) (b h : Fin 4) (d v : Fin 128) : zeros (ix5 r b h d v) = ((0 : ℝ) : EReal) := by
  unfold zeros
  pointwise
  rfl

theorem inv_zero (X : Valuation τ sig (Elt Ideal)) (A : FVec Ideal S4x4352x2048 .bf16) (L : FVec Ideal S1x2x4 .f32)
    (h0 : X (Proc.devRef .tc main_v91_0) = tr (CK (c0 A))) (h1 : X (Proc.devRef .tc main_v91_1) = tr (CK (c1 A))) (h2 : X (Proc.devRef .tc main_v91_2) = tr (CK (c2 A)))
    (h3 : X (Proc.devRef .tc main_v91_3) = XI (LS (lg0 L))) (h4 : X (Proc.devRef .tc main_v91_4) = GC (LS (lg0 L))) (h5 : X (Proc.devRef .tc main_v91_5) = ZE (LS (lg0 L)))
    (h7 : X (Proc.devRef .tc main_v91_7) = zeros) :
    Inv (tr (CK (c0 A))) (tr (CK (c1 A))) (tr (CK (c2 A))) (XI (LS (lg0 L))) (GC (LS (lg0 L))) (ZE (LS (lg0 L))) (dseq A 0) (dseq A 1) (dseq A 2) (gm L) 0 X :=
  ⟨h0, h1, h2, h3, h4, h5, fun r b h d v => (congrFun h7 (ix5 r b h d v)).trans (zeros_at r b h d v), fun _ _ _ _ _ _ q => absurd q (Nat.not_lt_zero _)⟩

/-- What the loop leaves. -/
theorem loop_val (A : FVec Ideal S4x4352x2048 .bf16) (L : FVec Ideal S1x2x4 .f32) (hp : Fin3 (rP A))
    (h : Inv (tr (CK (c0 A))) (tr (CK (c1 A))) (tr (CK (c2 A))) (XI (LS (lg0 L))) (GC (LS (lg0 L))) (ZE (LS (lg0 L))) (dseq A 0) (dseq A 1) (dseq A 2) (gm L) 0 (entryContents preI m c)) :
    Inv (tr (CK (c0 A))) (tr (CK (c1 A))) (tr (CK (c2 A))) (XI (LS (lg0 L))) (GC (LS (lg0 L))) (ZE (LS (lg0 L))) (dseq A 0) (dseq A 1) (dseq A 2) (gm L) 68 (atK m 68 c) :=
  inv_all m (fun k r b h i d => (tr_at _ r k b h i d).trans (q_val A hp r k b h i d)) (fun k r b h i d => (tr_at _ r k b h i d).trans (k_val A hp r k b h i d))
    (fun k r b h i d => (tr_at _ r k b h i d).trans (v_val A hp r k b h i d))
    (XI_at _ _ (ls_val L)) (GC_at _ _ (ls_val L)) (ZE_at _ _ (ls_val L)) c h 68 le_rfl

theorem post_of (X : Valuation τ sig (Elt Ideal)) (A : FVec Ideal S4x4352x2048 .bf16) (L : FVec Ideal S1x2x4 .f32) (N : FVec Ideal S1x128 .f32) (hp : Fin3 (rP A))
    (h : Inv (tr (CK (c0 A))) (tr (CK (c1 A))) (tr (CK (c2 A))) (XI (LS (lg0 L))) (GC (LS (lg0 L))) (ZE (LS (lg0 L))) (dseq A 0) (dseq A 1) (dseq A 2) (gm L) 68 X)
    (h84 : X (Proc.devRef .tc main_v84) = INN (CK (c0 A)) (CK (c1 A)) (CK (c2 A)) (DEC (LS (lg0 L)))) (h8 : X (Proc.devRef .tc main_v8) = c3 A) (hn : X (Proc.devRef .tc main_arg2) = N) :
    PP X main_v132 = fun i : S4x4096x512.Idx => retG (rP A) (rL L) (rN N) (i 0) (i 1) (i 2) := by
  refine (p_all X _ _ _ _ h84 rfl h8 hn).trans ?_
  have h8' := h.h8
  generalize X (Proc.devRef .tc main_v91_8) = y at h8'
  have key : ∀ b l k, POST (INN (CK (c0 A)) (CK (c1 A)) (CK (c2 A)) (DEC (LS (lg0 L)))) y (c3 A) N (ix3 b l k) = retG (rP A) (rL L) (rN N) b l k :=
    post_val A L N hp y (fun k' r b h i v => h8' k' r b h i v k'.isLt)
  exact funext fun i : S4x4096x512.Idx => (congrArg _ (ix3_eta i).symm).trans (key (i 0) (i 1) (i 2))

theorem v132_val (hp : Fin3 (rP (A0 m c))) : finalContents condOps preI bodyI postI 68 m c (Proc.devRef .tc main_v132)
    = fun i : S4x4096x512.Idx => retG (rP (A0 m c)) (rL (A1 m c)) (rN (A2 m c)) (i 0) (i 1) (i 2) := by
  have hI := inv_zero (entryContents preI m c) (A0 m c) (A1 m c) (E0 m c) (E1 m c) (E2 m c) (E3 m c) (E4 m c) (E5 m c) (e91_7 m c)
  have hL := loop_val m c _ _ hp hI
  have h84 := (atK_other m c main_v84 (Or.inl rfl) 68).trans (E84 m c)
  have h8 := (atK_other m c main_v8 (Or.inr rfl) 68).trans (e8 m c)
  have hn := (atK_arg m c main_arg2 (by simp) 68).trans (EA2 m c)
  unfold finalContents
  exact post_of (atK m 68 c) (A0 m c) (A1 m c) (A2 m c) hp hL h84 h8 hn

theorem run_value (ρ : Dev nD → PrngReg) (hp : ∀ c, Fin3 (rP (A0 m c))) : θ_run (defs (F := Ideal)) (onTc (τ := τ) (main (F := Ideal))) ⟨m, fun _ => 0, ρ⟩ (fun r => ∀ c : Dev nD,
      r.2.mem ((c.tc : Thread nD τ).loc main_v132) = (fun i : S4x4096x512.Idx => retG (rP (A0 m c)) (rL (A1 m c)) (rN (A2 m c)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c main_v132 rfl).trans (v132_val m c (hp c)), (h c main_arg0 rfl).trans (arg0_same m c), (h c main_arg1 rfl).trans (arg1_same m c), (h c main_arg2 rfl).trans (arg2_same m c)⟩) (run_fold m ρ)
end Cert.ReferenceIdeal.Ret
end
-- ==== Proof.RetPre.lean ====
module

public import proofs.«01_k».proof.Pre_qkv_finite
public import proofs.«01_k».proof.Proof.RetMath
public import Idealize.ShloMosaic.Lib.Pointwise

@[expose] public section
set_option maxRecDepth 16384
noncomputable section
namespace Cert.Pre_qkv_finite
open Idealize.ShloMosaic Cert.RetMath

theorem holds : Cert.Pre_qkv_finite.Facts where
  slices_S4x4352x2048_S4x4352x1536_0_0_0 := by decide
  bitsLt_bf16_f32 := by decide
  bcast_S_S4x4352x1536 := by decide

theorem inf : Ideal.ofBits .f32 0x7F800000#32 = (⊤ : EReal) := by
  simp [Ideal.ofBits, Ideal.ieee]

variable [Facts]

/-- The condition says that the query, key and value columns are real numbers. -/
theorem fin3_of (x : FVec Ideal S4x4352x2048 .bf16) (y : FVec Ideal S1x2x4 .f32) (z : FVec Ideal S1x128 .f32)
    (h : fn x y z = fun _ => 1#1) : Fin3 (fun b n k => x (ix3 b n k)) := by
  intro b n k hk
  have e := congrFun h (ix3 b n (⟨k.val, hk⟩ : Fin 1536))
  unfold fn at e
  dsimp only at e
  generalize hv : (extf .f32 (extractStridedSlice S4x4352x1536 ![0, 0, 0] x Facts.slices_S4x4352x2048_S4x4352x1536_0_0_0) Facts.bitsLt_bf16_f32 : FVec Ideal S4x4352x1536 .f32) = v at e
  have hx : v (ix3 b n (⟨k.val, hk⟩ : Fin 1536)) = x (ix3 b n k) := by
    rw [← hv]
    pointwise
  have e' : Ideal.cmp .olt (max (v (ix3 b n (⟨k.val, hk⟩ : Fin 1536))) (-v (ix3 b n (⟨k.val, hk⟩ : Fin 1536)))) (Ideal.ofBits .f32 0x7F800000#32) = 1#1 := e
  rw [hx, inf] at e'
  have e2 : max (x (ix3 b n k)) (-x (ix3 b n k)) < (⊤ : EReal) := by
    by_contra q
    simp [Ideal.cmp, q] at e'
  refine ⟨fun q => ?_, fun q => ?_⟩ <;> · simp only [] at q; rw [q] at e2; simp at e2
end Cert.Pre_qkv_finite
end
-- ==== Proof.FfnPay.lean ====
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Kernel2Ideal.Ffn
open Cert.Kernel2Ideal Cert.Kernel2Ideal.Gen Idealize.ShloMosaic Idealize.ShloMosaic.TcCoe Idealize.SL.Sem

/-! ## The row's formulas -/

/-- The root-mean-square factor of a row. -/
def rsf (f : Fin 1024 → EReal) : EReal :=
  Ideal.rsqrt (Ideal.div (∑ d, f d * f d) (Ideal.ofBits FTy.f32 0x44800000#32) + Ideal.ofBits FTy.f32 0x358637BD#32)
/-- The residual row after the output projection. -/
def rowX1 (x g1 : Fin 1024 → EReal) (yg yr : Fin 512 → EReal) (wo : Fin 1024 → Fin 1024 → EReal) (d : Fin 1024) : EReal :=
  x d + g1 d * (∑ k : Fin 512, yg k * wo ⟨k.val, by omega⟩ d + ∑ k : Fin 512, yr k * wo ⟨512 + k.val, by omega⟩ d)
/-- The normalised, modulated row. -/
def rowH (x1 ng sc sh : Fin 1024 → EReal) (d : Fin 1024) : EReal :=
  x1 d * rsf x1 * ng d * (1 + sc d) + sh d
/-- The gated row. -/
def rowAct (h : Fin 1024 → EReal) (w1 : Fin 1024 → Fin 5632 → EReal) (j : Fin 2816) : EReal :=
  (∑ k : Fin 1024, h k * w1 k ⟨j.val, by omega⟩) * Ideal.div 1 (1 + Ideal.exp (0 - ∑ k : Fin 1024, h k * w1 k ⟨j.val, by omega⟩))
    * ∑ k : Fin 1024, h k * w1 k ⟨2816 + j.val, by omega⟩
/-- The residual row after the feed-forward product. -/
def rowX2 (x1 g2 : Fin 1024 → EReal) (act : Fin 2816 → EReal) (w2 : Fin 2816 → Fin 1024 → EReal) (d : Fin 1024) : EReal :=
  x1 d + g2 d * ∑ k : Fin 2816, act k * w2 k d
/-- The normalised output row. -/
def rowOut (x2 fg : Fin 1024 → EReal) (d : Fin 1024) : EReal := x2 d * rsf x2 * fg d

/-- The result at batch `b`, row `l`, as a function of the nine arrays. -/
def gX1 (a0 : Fin 4 → Fin 4096 → Fin 1024 → EReal) (a1 a2 : Fin 4 → Fin 4096 → Fin 512 → EReal) (a3 : Fin 4 → Fin 6 → Fin 1024 → EReal)
    (a4 : Fin 1024 → Fin 1024 → EReal) (b : Fin 4) (l : Fin 4096) : Fin 1024 → EReal :=
  rowX1 (a0 b l) (a3 b 2) (a1 b l) (a2 b l) a4
def gH (a0 : Fin 4 → Fin 4096 → Fin 1024 → EReal) (a1 a2 : Fin 4 → Fin 4096 → Fin 512 → EReal) (a3 : Fin 4 → Fin 6 → Fin 1024 → EReal)
    (a4 : Fin 1024 → Fin 1024 → EReal) (a5 : Fin 1024 → EReal) (b : Fin 4) (l : Fin 4096) : Fin 1024 → EReal :=
  rowH (gX1 a0 a1 a2 a3 a4 b l) a5 (a3 b 4) (a3 b 3)
def gOut (a0 : Fin 4 → Fin 4096 → Fin 1024 → EReal) (a1 a2 : Fin 4 → Fin 4096 → Fin 512 → EReal) (a3 : Fin 4 → Fin 6 → Fin 1024 → EReal)
    (a4 : Fin 1024 → Fin 1024 → EReal) (a5 : Fin 1024 → EReal) (a6 : Fin 1024 → Fin 5632 → EReal) (a7 : Fin 2816 → Fin 1024 → EReal) (a8 : Fin 1024 → EReal)
    (b : Fin 4) (l : Fin 4096) : Fin 1024 → EReal :=
  rowOut (rowX2 (gX1 a0 a1 a2 a3 a4 b l) (a3 b 5) (rowAct (gH a0 a1 a2 a3 a4 a5 b l) a6) a7) a8

/-! ## The body's stages at an index -/

theorem pay2_at (a : Vec Ideal S1x256x512 .bf16) (w : Vec Ideal S512x1024 .bf16) (b : Vec Ideal S1x256x512 .bf16) (w' : Vec Ideal S512x1024 .bf16) (r : Fin 256) (d : Fin 1024) :
    k0_pay2 a w b w' (ix2 r d) = ∑ k : Fin 512, a (ix3 0 r k) * w (ix2 k d) + ∑ k : Fin 512, b (ix3 0 r k) * w' (ix2 k d) := by
  pointwise [k0_pay2]

theorem pay7_at (M : FVec Ideal S6x1024 .f32) (A : FVec Ideal S256x1024 .f32) (x : Vec Ideal S1x256x1024 .f32) (r : Fin 256) (d : Fin 1024) :
    k0_pay7 M A x (ix2 r d) = x (ix3 0 r d) + M (ix2 2 d) * A (ix2 r d) := by
  pointwise [k0_pay7]

theorem pay8_at (M : FVec Ideal S6x1024 .f32) (A : FVec Ideal S256x1024 .f32) (x : Vec Ideal S1x256x1024 .f32) (r : Fin 256) (d : Fin 1024) :
    k0_pay8 M A x (ix2 r d) = rsf (fun d => k0_pay7 M A x (ix2 r d)) := by
  unfold k0_pay8
  generalize k0_pay7 M A x = y
  pointwise
  rfl

theorem pay9_at (M : FVec Ideal S6x1024 .f32) (A : FVec Ideal S256x1024 .f32) (x : FVec Ideal S256x1024 .f32) (g : Vec Ideal S1x1024 .f32) (r : Fin 256) (d : Fin 1024) :
    k0_pay9 M A x g (ix2 r d) = A (ix2 r d) * x (ix2 r d) * g (ix2 0 d) * (1 + M (ix2 4 d)) + M (ix2 3 d) := by
  pointwise [k0_pay9]

theorem pay28_at (h : FVec Ideal S256x1024 .bf16) (w : Vec Ideal S1024x1408 .bf16) (r : Fin 256) (d : Fin 1408) :
    k0_pay28 h w (ix2 r d) = ∑ k : Fin 1024, h (ix2 r k) * w (ix2 k d) := by
  pointwise [k0_pay28]
theorem pay30_at (g u : FVec Ideal S256x1408 .f32) (r : Fin 256) (d : Fin 1408) :
    k0_pay30 g u (ix2 r d) = g (ix2 r d) * Ideal.div 1 (1 + Ideal.exp (0 - g (ix2 r d))) * u (ix2 r d) := by
  pointwise [k0_pay30]
theorem pay41_at (h : Vec Ideal S256x2816 .bf16) (w : Vec Ideal S2816x1024 .bf16) (r : Fin 256) (d : Fin 1024) :
    k0_pay41 h w (ix2 r d) = ∑ k : Fin 2816, h (ix2 r k) * w (ix2 k d) := by
  pointwise [k0_pay41]
theorem pay52_at (M : FVec Ideal S6x1024 .f32) (x f : FVec Ideal S256x1024 .f32) (g : Vec Ideal S1x1024 .f32) (r : Fin 256) (d : Fin 1024) :
    k0_pay52 M x f g (ix3 0 r d) = rowOut (fun d => x (ix2 r d) + M (ix2 5 d) * f (ix2 r d)) (fun d => g (ix2 0 d)) d := by
  pointwise [k0_pay52]
  rfl
theorem pay1_at (M : Vec Ideal S1x6x1024 .f32) (r : Fin 6) (d : Fin 1024) : k0_pay1 M (ix2 r d) = M (ix3 0 r d) := by
  pointwise [k0_pay1]

/-! ## The four sub-tiles' stages are one -/

theorem eq3 (a b : Vec Ideal S1x256x512 .bf16) (w w' : Vec Ideal S512x1024 .bf16) : k0_pay3 a w b w' = k0_pay2 a w b w' := rfl
theorem eq5 (a b : Vec Ideal S1x256x512 .bf16) (w w' : Vec Ideal S512x1024 .bf16) : k0_pay5 (k0_pay4 a) w b w' = k0_pay2 a w b w' := rfl
theorem eq6 (a b : Vec Ideal S1x256x512 .bf16) (w w' : Vec Ideal S512x1024 .bf16) : k0_pay6 a w b w' = k0_pay2 a w b w' := rfl
theorem eq12 (M : FVec Ideal S6x1024 .f32) (A : FVec Ideal S256x1024 .f32) (x : Vec Ideal S1x256x1024 .f32) : k0_pay12 M A x = k0_pay7 M A x := rfl
theorem eq18 (M : FVec Ideal S6x1024 .f32) (A : FVec Ideal S256x1024 .f32) (x : Vec Ideal S1x256x1024 .f32) : k0_pay18 M A x = k0_pay7 M A x := rfl
theorem eq22 (M : FVec Ideal S6x1024 .f32) (A : FVec Ideal S256x1024 .f32) (x : Vec Ideal S1x256x1024 .f32) : k0_pay22 M A x = k0_pay7 M A x := rfl
theorem eq19 (M : FVec Ideal S6x1024 .f32) (A : FVec Ideal S256x1024 .f32) (x : Vec Ideal S1x256x1024 .f32) (g : Vec Ideal S1x1024 .f32) : k0_pay19 M A x g = k0_pay9 M (k0_pay7 M A x) (k0_pay8 M A x) g := rfl
theorem eq23 (M : FVec Ideal S6x1024 .f32) (A : FVec Ideal S256x1024 .f32) (x : Vec Ideal S1x256x1024 .f32) (g : Vec Ideal S1x1024 .f32) : k0_pay23 M A x g = k0_pay9 M (k0_pay7 M A x) (k0_pay8 M A x) g := rfl
theorem eq15 (M : FVec Ideal S6x1024 .f32) (A : FVec Ideal S256x1024 .f32) (x : Vec Ideal S1x256x1024 .f32) (g : Vec Ideal S1x1024 .f32) : k0_pay15 M (k0_pay13 M A x g) (k0_pay14 M) = k0_pay9 M (k0_pay7 M A x) (k0_pay8 M A x) g := rfl
theorem eq10 (M : FVec Ideal S6x1024 .f32) (A : FVec Ideal S256x1024 .f32) (x : Vec Ideal S1x256x1024 .f32) (g : Vec Ideal S1x1024 .f32) (w : Vec Ideal S1024x1408 .bf16) : k0_pay10 M (k0_pay7 M A x) (k0_pay8 M A x) g w = k0_pay28 (k0_pay9 M (k0_pay7 M A x) (k0_pay8 M A x) g) w := rfl
theorem eq11 (M : FVec Ideal S6x1024 .f32) (A : FVec Ideal S256x1024 .f32) (x : Vec Ideal S1x256x1024 .f32) (g : Vec Ideal S1x1024 .f32) (w : Vec Ideal S1024x1408 .bf16) : k0_pay11 M (k0_pay7 M A x) (k0_pay8 M A x) g w = k0_pay28 (k0_pay9 M (k0_pay7 M A x) (k0_pay8 M A x) g) w := rfl
theorem eq16 (M : FVec Ideal S6x1024 .f32) (A : FVec Ideal S256x1024 .f32) (x : Vec Ideal S1x256x1024 .f32) (g : Vec Ideal S1x1024 .f32) (w : Vec Ideal S1024x1408 .bf16) : k0_pay16 M (k0_pay13 M A x g) (k0_pay14 M) w = k0_pay28 (k0_pay9 M (k0_pay7 M A x) (k0_pay8 M A x) g) w := rfl
theorem eq17 (M : FVec Ideal S6x1024 .f32) (A : FVec Ideal S256x1024 .f32) (x : Vec Ideal S1x256x1024 .f32) (g : Vec Ideal S1x1024 .f32) (w : Vec Ideal S1024x1408 .bf16) : k0_pay17 M (k0_pay13 M A x g) (k0_pay14 M) w = k0_pay28 (k0_pay9 M (k0_pay7 M A x) (k0_pay8 M A x) g) w := rfl
theorem eq20 (M : FVec Ideal S6x1024 .f32) (A : FVec Ideal S256x1024 .f32) (x : Vec Ideal S1x256x1024 .f32) (g : Vec Ideal S1x1024 .f32) (w : Vec Ideal S1024x1408 .bf16) : k0_pay20 M A x g w = k0_pay28 (k0_pay9 M (k0_pay7 M A x) (k0_pay8 M A x) g) w := rfl
theorem eq24 (M : FVec Ideal S6x1024 .f32) (A : FVec Ideal S256x1024 .f32) (x : Vec Ideal S1x256x1024 .f32) (g : Vec Ideal S1x1024 .f32) (w : Vec Ideal S1024x1408 .bf16) : k0_pay24 M A x g w = k0_pay28 (k0_pay9 M (k0_pay7 M A x) (k0_pay8 M A x) g) w := rfl
theorem eq25 (M : FVec Ideal S6x1024 .f32) (A : FVec Ideal S256x1024 .f32) (x : Vec Ideal S1x256x1024 .f32) (g : Vec Ideal S1x1024 .f32) (w : Vec Ideal S1024x1408 .bf16) : k0_pay25 M A x g w = k0_pay28 (k0_pay9 M (k0_pay7 M A x) (k0_pay8 M A x) g) w := rfl
theorem eq21 (h : FVec Ideal S256x1024 .bf16) (w : Vec Ideal S1024x1408 .bf16) : k0_pay21 h w = k0_pay28 h w := rfl
theorem eq29 (h : FVec Ideal S256x1024 .bf16) (w : Vec Ideal S1024x1408 .bf16) : k0_pay29 h w = k0_pay28 h w := rfl
theorem eq31 (h : FVec Ideal S256x1024 .bf16) (w : Vec Ideal S1024x1408 .bf16) : k0_pay31 h w = k0_pay28 h w := rfl
theorem eq32 (h : FVec Ideal S256x1024 .bf16) (w : Vec Ideal S1024x1408 .bf16) : k0_pay32 h w = k0_pay28 h w := rfl
theorem eq35 (h : FVec Ideal S256x1024 .bf16) (w : Vec Ideal S1024x1408 .bf16) : k0_pay35 h w = k0_pay28 h w := rfl
theorem eq36 (h : FVec Ideal S256x1024 .bf16) (w : Vec Ideal S1024x1408 .bf16) : k0_pay36 h w = k0_pay28 h w := rfl
theorem eq38 (h : FVec Ideal S256x1024 .bf16) (w : Vec Ideal S1024x1408 .bf16) : k0_pay38 h w = k0_pay28 h w := rfl
theorem eq39 (h : FVec Ideal S256x1024 .bf16) (w : Vec Ideal S1024x1408 .bf16) : k0_pay39 h w = k0_pay28 h w := rfl
theorem eq27 (g u : FVec Ideal S256x1408 .f32) : k0_pay27 g u (k0_pay26 g) (FloatOps.ofBits .f32 0x3F800000#32) = k0_pay30 g u := rfl
theorem eq34 (g u : FVec Ideal S256x1408 .f32) : k0_pay34 g u (k0_pay33 g) = k0_pay30 g u := rfl
theorem eq40 (g u : FVec Ideal S256x1408 .f32) : k0_pay40 g u (FloatOps.ofBits .f32 0x00000000#32) = k0_pay30 g u := rfl
theorem eq45 (g u : FVec Ideal S256x1408 .f32) : k0_pay45 g u (k0_pay44 g) (FloatOps.ofBits .f32 0x3F800000#32) = k0_pay30 g u := rfl
theorem eq37 (g u : FVec Ideal S256x1408 .f32) : k0_pay37 g u = k0_pay30 g u := rfl
theorem eq42 (g u : FVec Ideal S256x1408 .f32) : k0_pay42 g u = k0_pay30 g u := rfl
theorem eq47 (g u : FVec Ideal S256x1408 .f32) : k0_pay47 g u = k0_pay30 g u := rfl
theorem eq43 (a : Vec Ideal S256x2816 .bf16) (w : Vec Ideal S2816x1024 .bf16) : k0_pay43 a w = k0_pay41 a w := rfl
theorem eq46 (a : Vec Ideal S256x2816 .bf16) (w : Vec Ideal S2816x1024 .bf16) : k0_pay46 a w = k0_pay41 a w := rfl
theorem eq48 (a : Vec Ideal S256x2816 .bf16) (w : Vec Ideal S2816x1024 .bf16) : k0_pay48 a w = k0_pay41 a w := rfl
theorem eq51 (M : FVec Ideal S6x1024 .f32) (x f : FVec Ideal S256x1024 .f32) (g : Vec Ideal S1x1024 .f32) : k0_pay51 (k0_pay49 M x f) (k0_pay50 M x f) (FloatOps.ofBits .f32 0x44800000#32) g = k0_pay52 M x f g := rfl
theorem eq55 (M : FVec Ideal S6x1024 .f32) (x f : FVec Ideal S256x1024 .f32) (g : Vec Ideal S1x1024 .f32) : k0_pay55 (k0_pay53 M x f) (k0_pay54 M x f) (FloatOps.ofBits .f32 0x44800000#32) g = k0_pay52 M x f g := rfl
theorem eq56 (M : FVec Ideal S6x1024 .f32) (x f : FVec Ideal S256x1024 .f32) (g : Vec Ideal S1x1024 .f32) : k0_pay56 M x f g = k0_pay52 M x f g := rfl

/-! ## The stages over a block, at the sub-tile of 256 rows from `r0` -/

section stages
variable (b0 : Vec Ideal S1x1024x1024 .f32) (b1 b2 : Vec Ideal S1x1024x512 .bf16) (b3 : Vec Ideal S1x6x1024 .f32) (b4 : Vec Ideal S1024x1024 .bf16)
  (b5 : Vec Ideal S1x1024 .f32) (b6 : Vec Ideal S1024x5632 .bf16) (b7 : Vec Ideal S2816x1024 .bf16) (b8 : Vec Ideal S1x1024 .f32)

/-- The block's row formulas. -/
def bX1 (r : Fin 1024) : Fin 1024 → EReal :=
  rowX1 (fun d => b0 (ix3 0 r d)) (fun d => b3 (ix3 0 2 d)) (fun k => b1 (ix3 0 r k)) (fun k => b2 (ix3 0 r k)) (fun k d => b4 (ix2 k d))
def bH (r : Fin 1024) : Fin 1024 → EReal :=
  rowH (bX1 b0 b1 b2 b3 b4 r) (fun d => b5 (ix2 0 d)) (fun d => b3 (ix3 0 4 d)) (fun d => b3 (ix3 0 3 d))
def bAct (r : Fin 1024) : Fin 2816 → EReal := rowAct (bH b0 b1 b2 b3 b4 b5 r) (fun k j => b6 (ix2 k j))
def bOut (r : Fin 1024) : Fin 1024 → EReal :=
  rowOut (rowX2 (bX1 b0 b1 b2 b3 b4 r) (fun d => b3 (ix3 0 5 d)) (bAct b0 b1 b2 b3 b4 b5 b6 r) (fun k d => b7 (ix2 k d))) (fun d => b8 (ix2 0 d))

theorem ld_rows {n : ℕ} {e : EltTy} (r0 : ℕ) (h : r0 ≤ 768) (b : (⟨3, ![1, 1024, n]⟩ : Shape).Idx → Elt Ideal e)
    (inb : ∀ a, ![0, r0, 0] a + ![1, 256, n] a ≤ (⟨3, ![1, 1024, n]⟩ : Shape).size a) (r : Fin 256) (k : Fin n) :
    View.ld b (Rect.unit ![0, r0, 0] ![1, 256, n] inb) (ix3 0 r k) = b (ix3 0 ⟨r0 + r.val, by omega⟩ k) := by
  refine congrArg b (funext fun a => Fin.ext ?_)
  rw [Rect.idx_unit_val]
  fin_cases a
  · rfl
  · rfl
  · exact Nat.zero_add _

variable (r0 : ℕ) (hr : r0 ≤ 768)
  (ib0 : ∀ a, ![0, r0, 0] a + ![1, 256, 1024] a ≤ S1x1024x1024.size a) (ib1 : ∀ a, ![0, r0, 0] a + ![1, 256, 512] a ≤ S1x1024x512.size a)

/-- The attention row's stage. -/
def sA : FVec Ideal S256x1024 .f32 :=
  k0_pay2 (View.ld b1 (Rect.unit ![0, r0, 0] ![1, 256, 512] ib1)) (View.ld b4 (Rect.unit ![0, 0] ![512, 1024] inb_S1024x1024_S512x1024_0_0))
    (View.ld b2 (Rect.unit ![0, r0, 0] ![1, 256, 512] ib1)) (View.ld b4 (Rect.unit ![512, 0] ![512, 1024] inb_S1024x1024_S512x1024_512_0))
def sX1 : FVec Ideal S256x1024 .f32 := k0_pay7 (k0_pay1 b3) (sA b1 b2 b4 r0 ib1) (View.ld b0 (Rect.unit ![0, r0, 0] ![1, 256, 1024] ib0))
def sH : FVec Ideal S256x1024 .bf16 :=
  k0_pay9 (k0_pay1 b3) (sX1 b0 b1 b2 b3 b4 r0 ib0 ib1) (k0_pay8 (k0_pay1 b3) (sA b1 b2 b4 r0 ib1) (View.ld b0 (Rect.unit ![0, r0, 0] ![1, 256, 1024] ib0))) b5
def sAct (wg wu : Vec Ideal S1024x1408 .bf16) : FVec Ideal S256x1408 .bf16 :=
  k0_pay30 (k0_pay28 (sH b0 b1 b2 b3 b4 b5 r0 ib0 ib1) wg) (k0_pay29 (sH b0 b1 b2 b3 b4 b5 r0 ib0 ib1) wu)
def sOut (act : Vec Ideal S256x2816 .bf16) : FVec Ideal S1x256x1024 .f32 :=
  k0_pay52 (k0_pay1 b3) (sX1 b0 b1 b2 b3 b4 r0 ib0 ib1) (k0_pay41 act b7) b8

theorem sX1_at (r : Fin 256) (d : Fin 1024) : sX1 b0 b1 b2 b3 b4 r0 ib0 ib1 (ix2 r d) = bX1 b0 b1 b2 b3 b4 ⟨r0 + r.val, by omega⟩ d := by
  rw [sX1, pay7_at, sA, pay2_at, pay1_at, ld_rows r0 hr b0 ib0]
  unfold bX1 rowX1
  congr 2
  congr 1
  · refine Finset.sum_congr rfl fun k _ => ?_
    rw [ld_rows r0 hr b1 ib1]
    pointwise
  · refine Finset.sum_congr rfl fun k _ => ?_
    rw [ld_rows r0 hr b2 ib1]
    pointwise

theorem sH_at (r : Fin 256) (d : Fin 1024) : sH b0 b1 b2 b3 b4 b5 r0 ib0 ib1 (ix2 r d) = bH b0 b1 b2 b3 b4 b5 ⟨r0 + r.val, by omega⟩ d := by
  rw [sH, pay9_at, pay8_at, pay1_at, pay1_at]
  have e : ∀ d, sX1 b0 b1 b2 b3 b4 r0 ib0 ib1 (ix2 r d) = bX1 b0 b1 b2 b3 b4 ⟨r0 + r.val, by omega⟩ d := sX1_at b0 b1 b2 b3 b4 r0 hr ib0 ib1 r
  unfold sX1 at e ⊢
  simp only [e]
  rfl

theorem sAct_at (r : Fin 256) (j : Fin 1408) (jg : Fin 2816) (wg wu : Vec Ideal S1024x1408 .bf16)
    (hg : ∀ k, wg (ix2 k j) = b6 (ix2 k ⟨jg.val, by omega⟩)) (hu : ∀ k, wu (ix2 k j) = b6 (ix2 k ⟨2816 + jg.val, by omega⟩)) :
    sAct b0 b1 b2 b3 b4 b5 r0 ib0 ib1 wg wu (ix2 r j) = bAct b0 b1 b2 b3 b4 b5 b6 ⟨r0 + r.val, by omega⟩ jg := by
  have e : ∀ (w : Vec Ideal S1024x1408 .bf16), k0_pay29 (F := Ideal) (sH b0 b1 b2 b3 b4 b5 r0 ib0 ib1) w = k0_pay28 (sH b0 b1 b2 b3 b4 b5 r0 ib0 ib1) w := fun _ => rfl
  rw [sAct, pay30_at, e, pay28_at, pay28_at]
  simp only [sH_at b0 b1 b2 b3 b4 b5 r0 hr ib0 ib1, hg, hu]
  rfl

theorem sOut_at (act : Vec Ideal S256x2816 .bf16) (r : Fin 256) (d : Fin 1024)
    (ha : ∀ k, act (ix2 r k) = bAct b0 b1 b2 b3 b4 b5 b6 ⟨r0 + r.val, by omega⟩ k) :
    sOut b0 b1 b2 b3 b4 b7 b8 r0 ib0 ib1 act (ix3 0 r d) = bOut b0 b1 b2 b3 b4 b5 b6 b7 b8 ⟨r0 + r.val, by omega⟩ d := by
  rw [sOut, pay52_at]
  simp only [pay41_at, ha, sX1_at b0 b1 b2 b3 b4 r0 hr ib0 ib1, pay1_at]
  rfl

include hr in
/-- A sub-tile's stored value at an index of the block. -/
theorem sOut_key (act : Vec Ideal S256x2816 .bf16) (x : S1x256x1024.Idx) (y1 y2 : Fin 1024) (hy1 : y1.val = r0 + (x 1).val) (hy2 : y2.val = (x 2).val)
    (ha : ∀ j : Fin 2816, act (ix2 (x 1) j) = bAct b0 b1 b2 b3 b4 b5 b6 y1 j) :
    sOut b0 b1 b2 b3 b4 b7 b8 r0 ib0 ib1 act x = bOut b0 b1 b2 b3 b4 b5 b6 b7 b8 y1 y2 := by
  idx_vars x
  have h1 : x1.val < 256 := x1.isLt
  have e1 : y1 = ⟨r0 + x1.val, by omega⟩ := Fin.ext hy1
  obtain rfl : y2 = x2 := Fin.ext hy2
  obtain rfl : x0 = 0 := Subsingleton.elim _ _
  rw [e1] at ha ⊢
  exact sOut_at b0 b1 b2 b3 b4 b5 b6 b7 b8 r0 hr ib0 ib1 act x1 y2 ha

theorem ld_cols (off : Fin 2 → ℕ) (inb : ∀ a, off a + ![1024, 1408] a ≤ S1024x5632.size a) (k : Fin 1024) (j : Fin 1408) (j' : Fin 5632)
    (h0 : off 0 = 0) (h1 : off 1 + j.val = j'.val) :
    View.ld b6 (Rect.unit off ![1024, 1408] inb) (ix2 k j) = b6 (ix2 k j') := by
  refine congrArg b6 (funext fun a => Fin.ext ?_)
  rw [Rect.idx_unit_val]
  fin_cases a
  · show off 0 + k.val = k.val
    rw [h0, Nat.zero_add]
  · exact h1

include hr in
/-- A gated half of a sub-tile at an index of the scratch array: columns from `o`. -/
theorem sAct_key (o : ℕ) (ho : o ≤ 1408) (ig : ∀ a, ![0, o] a + ![1024, 1408] a ≤ S1024x5632.size a) (u : ℕ) (hu : u = 2816 + o) (iu : ∀ a, ![0, u] a + ![1024, 1408] a ≤ S1024x5632.size a)
    (x : S256x1408.Idx) (y0 : Fin 1024) (y1 : Fin 2816) (hy0 : y0.val = r0 + (x 0).val) (hy1 : y1.val = o + (x 1).val) :
    sAct b0 b1 b2 b3 b4 b5 r0 ib0 ib1 (View.ld b6 (Rect.unit ![0, o] ![1024, 1408] ig)) (View.ld b6 (Rect.unit ![0, u] ![1024, 1408] iu)) x
      = bAct b0 b1 b2 b3 b4 b5 b6 y0 y1 := by
  subst hu
  idx_vars x
  have h0 : x0.val < 256 := x0.isLt
  have h1 : x1.val < 1408 := x1.isLt
  have e0 : y0 = ⟨r0 + x0.val, by omega⟩ := Fin.ext hy0
  have e1 : y1 = ⟨o + x1.val, by omega⟩ := Fin.ext hy1
  rw [e0, e1]
  refine sAct_at b0 b1 b2 b3 b4 b5 b6 r0 hr ib0 ib1 x0 x1 _ _ _ (fun k => ?_) (fun k => ?_)
  · exact ld_cols b6 _ ig k x1 _ rfl rfl
  · exact ld_cols b6 _ iu k x1 _ rfl (by show 2816 + o + x1.val = 2816 + (o + x1.val); omega)

end stages

end Cert.Kernel2Ideal.Ffn
end
-- ==== Proof.FfnVal.lean ====
module

public import proofs.«01_k».proof.Proof.FfnPay

@[expose] public section
set_option maxRecDepth 16384
noncomputable section
namespace Cert.Kernel2Ideal.Ffn
open Cert.Kernel2Ideal Cert.Kernel2Ideal.Gen Idealize.ShloMosaic Idealize.ShloMosaic.TcCoe Idealize.SL.Sem
open Idealize.ShloMosaic.Pipeline (Dat)
variable (m : (ℓ : Loc nD τ sig) → Buf (Elt Ideal) ℓ)

theorem after_at (c : Dev nD) (t : Fin cfg0.N) (y : S1x1024x1024.Idx) :
    (dats m 0 c).after 9 t y = bOut (iblk m c 0 t) (iblk m c 1 t) (iblk m c 2 t) (iblk m c 3 t) (iblk m c 4 t) (iblk m c 5 t) (iblk m c 6 t) (iblk m c 7 t) (iblk m c 8 t) (y 1) (y 2) := by
  rw [after0_9]
  unfold outsAt0
  frame_open
  simp (disch := decide) only [↓ View.readCov_skip, ↓ View.readCov_cons_toLoadRect, ↓ View.readCov_fill]
  frame_out
  simp only [eq3, eq5, eq6, eq12, eq18, eq22, eq19, eq23, eq15, eq10, eq11, eq16, eq17, eq20, eq24, eq25, eq21, eq29, eq31, eq32, eq35, eq36, eq38, eq39, eq27, eq34, eq40, eq45, eq37, eq42, eq47, eq43, eq46, eq48, eq51, eq55, eq56]
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  canon_tiles x h
  · refine sOut_key b0 b1 b2 b3 b4 b5 b6 b7 b8 768 (by decide) (by decide) (by decide) _ x _ _ (by omega) (by omega) fun j => ?_
    rw [View.readCov_eq_canon']
    beta_reduce
    generalize hz : LoadRect.idx _ _ = z
    have hz0 : (z 0).val = 768 + (x 1).val := by rw [← hz]; show 768 + 1 * _ = _; rw [Nat.one_mul]; rfl
    have hz1 : (z 1).val = j.val := by rw [← hz]; show 0 + 1 * _ = _; rw [Nat.one_mul, Nat.zero_add]; rfl
    clear hz
    have hj := j.isLt
    have hx := x1_lt
    canon_tiles z' g using (by
      simp only [List.mem_cons, List.not_mem_nil, or_false, exists_eq_or_imp, exists_eq_left, Rect.mem_set_unit, Fin.forall_fin_two,
        Matrix.cons_val_zero, Matrix.cons_val_one]
      omega)
    all_goals first
      | (exfalso; omega)
      | (have hc : (z 1).val = 0 + (z' 1).val := by omega
         exact sAct_key b0 b1 b2 b3 b4 b5 b6 768 (by decide) (by decide) (by decide) 0 (by decide) _ 2816 rfl _ z' _ _ (by omega) (by omega))
      | exact sAct_key b0 b1 b2 b3 b4 b5 b6 768 (by decide) (by decide) (by decide) 1408 (by decide) _ 4224 rfl _ z' _ _ (by omega) (by omega)
  · refine sOut_key b0 b1 b2 b3 b4 b5 b6 b7 b8 512 (by decide) (by decide) (by decide) _ x _ _ (by omega) (by omega) fun j => ?_
    rw [View.readCov_eq_canon']
    beta_reduce
    generalize hz : LoadRect.idx _ _ = z
    have hz0 : (z 0).val = 512 + (x 1).val := by rw [← hz]; show 512 + 1 * _ = _; rw [Nat.one_mul]; rfl
    have hz1 : (z 1).val = j.val := by rw [← hz]; show 0 + 1 * _ = _; rw [Nat.one_mul, Nat.zero_add]; rfl
    clear hz
    have hj := j.isLt
    have hx := x1_lt
    canon_tiles z' g using (by
      simp only [List.mem_cons, List.not_mem_nil, or_false, exists_eq_or_imp, exists_eq_left, Rect.mem_set_unit, Fin.forall_fin_two,
        Matrix.cons_val_zero, Matrix.cons_val_one]
      omega)
    all_goals first
      | (exfalso; omega)
      | (have hc : (z 1).val = 0 + (z' 1).val := by omega
         exact sAct_key b0 b1 b2 b3 b4 b5 b6 512 (by decide) (by decide) (by decide) 0 (by decide) _ 2816 rfl _ z' _ _ (by omega) (by omega))
      | exact sAct_key b0 b1 b2 b3 b4 b5 b6 512 (by decide) (by decide) (by decide) 1408 (by decide) _ 4224 rfl _ z' _ _ (by omega) (by omega)
  · refine sOut_key b0 b1 b2 b3 b4 b5 b6 b7 b8 256 (by decide) (by decide) (by decide) _ x _ _ (by omega) (by omega) fun j => ?_
    rw [View.readCov_eq_canon']
    beta_reduce
    generalize hz : LoadRect.idx _ _ = z
    have hz0 : (z 0).val = 256 + (x 1).val := by rw [← hz]; show 256 + 1 * _ = _; rw [Nat.one_mul]; rfl
    have hz1 : (z 1).val = j.val := by rw [← hz]; show 0 + 1 * _ = _; rw [Nat.one_mul, Nat.zero_add]; rfl
    clear hz
    have hj := j.isLt
    have hx := x1_lt
    canon_tiles z' g using (by
      simp only [List.mem_cons, List.not_mem_nil, or_false, exists_eq_or_imp, exists_eq_left, Rect.mem_set_unit, Fin.forall_fin_two,
        Matrix.cons_val_zero, Matrix.cons_val_one]
      omega)
    all_goals first
      | (exfalso; omega)
      | (have hc : (z 1).val = 0 + (z' 1).val := by omega
         exact sAct_key b0 b1 b2 b3 b4 b5 b6 256 (by decide) (by decide) (by decide) 0 (by decide) _ 2816 rfl _ z' _ _ (by omega) (by omega))
      | exact sAct_key b0 b1 b2 b3 b4 b5 b6 256 (by decide) (by decide) (by decide) 1408 (by decide) _ 4224 rfl _ z' _ _ (by omega) (by omega)
  · refine sOut_key b0 b1 b2 b3 b4 b5 b6 b7 b8 0 (by decide) (by decide) (by decide) _ x _ _ (by omega) (by omega) fun j => ?_
    rw [View.readCov_eq_canon']
    beta_reduce
    generalize hz : LoadRect.idx _ _ = z
    have hz0 : (z 0).val = 0 + (x 1).val := by rw [← hz]; show 0 + 1 * _ = _; rw [Nat.one_mul]; rfl
    have hz1 : (z 1).val = j.val := by rw [← hz]; show 0 + 1 * _ = _; rw [Nat.one_mul, Nat.zero_add]; rfl
    clear hz
    have hj := j.isLt
    have hx := x1_lt
    canon_tiles z' g using (by
      simp only [List.mem_cons, List.not_mem_nil, or_false, exists_eq_or_imp, exists_eq_left, Rect.mem_set_unit, Fin.forall_fin_two,
        Matrix.cons_val_zero, Matrix.cons_val_one]
      omega)
    all_goals first
      | (exfalso; omega)
      | (have hc : (z 1).val = 0 + (z' 1).val := by omega
         exact sAct_key b0 b1 b2 b3 b4 b5 b6 0 (by decide) (by decide) (by decide) 0 (by decide) _ 2816 rfl _ z' _ _ (by omega) (by omega))
      | exact sAct_key b0 b1 b2 b3 b4 b5 b6 0 (by decide) (by decide) (by decide) 1408 (by decide) _ 4224 rfl _ z' _ _ (by omega) (by omega)

/-- The result array as a function of the arguments' launch contents. -/
def outG (c : Dev nD) (i : S4x4096x1024.Idx) : EReal :=
  gOut (fun b l d => m ((c : Thread nD τ).loc main_arg0) (ix3 b l d)) (fun b l d => m ((c : Thread nD τ).loc main_arg1) (ix3 b l d))
    (fun b l d => m ((c : Thread nD τ).loc main_arg2) (ix3 b l d)) (fun b j d => m ((c : Thread nD τ).loc main_arg3) (ix3 ⟨b.val, by omega⟩ j d))
    (fun k d => m ((c : Thread nD τ).loc main_arg4) (ix3 0 k d)) (fun d => m ((c : Thread nD τ).loc main_arg5) (ix2 0 d))
    (fun k d => m ((c : Thread nD τ).loc main_arg6) (ix3 0 k d)) (fun k d => m ((c : Thread nD τ).loc main_arg7) (ix3 0 k d))
    (fun d => m ((c : Thread nD τ).loc main_arg8) (ix1 d)) (i 0) (i 1) (i 2)

theorem idx3 : ∀ t : Fin grid0.N, (win0_0.index t 0 = win0_9.index t 0 ∧ win0_0.index t 1 = win0_9.index t 1 ∧ win0_0.index t 2 = 0)
    ∧ (win0_1.index t 0 = win0_9.index t 0 ∧ win0_1.index t 1 = win0_9.index t 1 ∧ win0_1.index t 2 = 0)
    ∧ (win0_2.index t 0 = win0_9.index t 0 ∧ win0_2.index t 1 = win0_9.index t 1 ∧ win0_2.index t 2 = 0)
    ∧ (win0_3.index t 0 = win0_9.index t 0 ∧ win0_3.index t 1 = 0 ∧ win0_3.index t 2 = 0)
    ∧ (win0_9.index t 2 = 0) := by decide +kernel
theorem idx2 : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) ∧ (win0_8.index t 0 = 0 ∧ win0_8.index t 1 = 0) := by
  decide +kernel

section blocks
variable (c : Dev nD) (t : Fin cfg0.N)

theorem V1_at (k d : Fin 1024) : V m c main_v1 (ix2 k d) = m ((c : Thread nD τ).loc main_arg4) (ix3 0 k d) := by
  entry_read
  pointwise
theorem V3_at (k : Fin 1024) (d : Fin 5632) : V m c main_v3 (ix2 k d) = m ((c : Thread nD τ).loc main_arg6) (ix3 0 k d) := by
  entry_read
  pointwise
theorem V5_at (k : Fin 2816) (d : Fin 1024) : V m c main_v5 (ix2 k d) = m ((c : Thread nD τ).loc main_arg7) (ix3 0 k d) := by
  entry_read
  pointwise
theorem V6_at (d : Fin 1024) : V m c main_v6 (ix2 0 d) = m ((c : Thread nD τ).loc main_arg8) (ix1 d) := by
  entry_read
  pointwise

theorem blk0 (y : S1x1024x1024.Idx) (d : Fin 1024) : iblk m c 0 t (ix3 0 (y 1) d) = m ((c : Thread nD τ).loc main_arg0) (ix3 ((win0_9.blk t).view.emb y 0) ((win0_9.blk t).view.emb y 1) d) := by
  obtain ⟨⟨a0, a1, a2⟩, -⟩ := idx3 t
  blk_ext [iblk, V, a0, a1, a2]
theorem blk1 (y : S1x1024x1024.Idx) (d : Fin 512) : iblk m c 1 t (ix3 0 (y 1) d) = m ((c : Thread nD τ).loc main_arg1) (ix3 ((win0_9.blk t).view.emb y 0) ((win0_9.blk t).view.emb y 1) d) := by
  obtain ⟨-, ⟨a0, a1, a2⟩, -⟩ := idx3 t
  blk_ext [iblk, V, a0, a1, a2]
theorem blk2 (y : S1x1024x1024.Idx) (d : Fin 512) : iblk m c 2 t (ix3 0 (y 1) d) = m ((c : Thread nD τ).loc main_arg2) (ix3 ((win0_9.blk t).view.emb y 0) ((win0_9.blk t).view.emb y 1) d) := by
  obtain ⟨-, -, ⟨a0, a1, a2⟩, -⟩ := idx3 t
  blk_ext [iblk, V, a0, a1, a2]
theorem blk3 (y : S1x1024x1024.Idx) (b : Fin 8) (hb : b.val = ((win0_9.blk t).view.emb y 0).val) (j : Fin 6) (d : Fin 1024) :
    iblk m c 3 t (ix3 0 j d) = m ((c : Thread nD τ).loc main_arg3) (ix3 b j d) := by
  obtain ⟨-, -, -, ⟨a0, a1, a2⟩, -⟩ := idx3 t
  blk_simp at hb
  blk_ext [iblk, V, a0, a1, a2]
theorem blk4 (k d : Fin 1024) : iblk m c 4 t (ix2 k d) = m ((c : Thread nD τ).loc main_arg4) (ix3 0 k d) := by
  obtain ⟨⟨a0, a1⟩, -⟩ := idx2 t
  rw [← V1_at m c]
  blk_ext [iblk, a0, a1]
theorem blk5 (d : Fin 1024) : iblk m c 5 t (ix2 0 d) = m ((c : Thread nD τ).loc main_arg5) (ix2 0 d) := by
  obtain ⟨-, ⟨a0, a1⟩, -⟩ := idx2 t
  blk_ext [iblk, V, a0, a1]
theorem blk6 (k : Fin 1024) (d : Fin 5632) : iblk m c 6 t (ix2 k d) = m ((c : Thread nD τ).loc main_arg6) (ix3 0 k d) := by
  obtain ⟨-, -, ⟨a0, a1⟩, -⟩ := idx2 t
  rw [← V3_at m c]
  blk_ext [iblk, a0, a1]
theorem blk7 (k : Fin 2816) (d : Fin 1024) : iblk m c 7 t (ix2 k d) = m ((c : Thread nD τ).loc main_arg7) (ix3 0 k d) := by
  obtain ⟨-, -, -, ⟨a0, a1⟩, -⟩ := idx2 t
  rw [← V5_at m c]
  blk_ext [iblk, a0, a1]
theorem blk8 (d : Fin 1024) : iblk m c 8 t (ix2 0 d) = m ((c : Thread nD τ).loc main_arg8) (ix1 d) := by
  obtain ⟨-, -, -, -, ⟨a0, a1⟩⟩ := idx2 t
  rw [← V6_at m c]
  blk_ext [iblk, a0, a1]
end blocks

theorem arr_eq (c : Dev nD) : (dats m 0 c).arrAt 9 cfg0.N = outG m c := by
  refine (dats m 0 c).arrAt_eq_of_covers 9 _ (by decide +kernel) fun t hf y => ?_
  blk_simp
  rw [after_at]
  unfold outG
  have e2 : (y 2 : Fin 1024) = ((win0_9.blk t).view.emb y) 2 := by
    refine Fin.ext ?_
    have a2 := (idx3 t).2.2.2.2
    blk_simp [a2]
  rw [e2]
  have h3 := blk3 m c t y ⟨((win0_9.blk t).view.emb y 0).val, lt_trans (show ((win0_9.blk t).view.emb y 0).val < 4 from ((win0_9.blk t).view.emb y 0).isLt) (by decide)⟩ rfl
  unfold bOut bAct bH bX1 gOut gH gX1
  simp only [blk0 m c t y, blk1 m c t y, blk2 m c t y, h3, blk4 m c t, blk5 m c t, blk6 m c t, blk7 m c t, blk8 m c t]
end Cert.Kernel2Ideal.Ffn
end
-- ==== Proof.FfnRef.lean ====
module

public import proofs.«01_k».proof.Proof.FfnPay
public import proofs.«01_k».proof.Proof.Gen.Reference2Ideal.Read

@[expose] public section
set_option maxRecDepth 16384
noncomputable section
namespace Cert.Reference2Ideal.Ffn
open Cert.Reference2Ideal Cert.Reference2Ideal.Read Idealize.ShloMosaic Idealize.ShloMosaic.TcCoe Idealize.SL.Sem
open Cert.Kernel2Ideal.Ffn (rsf rowX1 rowH rowAct rowX2 rowOut gX1 gH gOut)

variable (x0 : (⟨S4x4096x1024, .f32⟩ : BufTy).Contents (Elt Ideal)) (x1 x2 : (⟨S4x4096x512, .bf16⟩ : BufTy).Contents (Elt Ideal))
  (x3 : (⟨S8x6x1024, .f32⟩ : BufTy).Contents (Elt Ideal)) (x4 : (⟨S1x1024x1024, .f32⟩ : BufTy).Contents (Elt Ideal))
  (x5 : (⟨S1x1024, .f32⟩ : BufTy).Contents (Elt Ideal)) (x6 : (⟨S1x1024x5632, .f32⟩ : BufTy).Contents (Elt Ideal))
  (x7 : (⟨S1x2816x1024, .f32⟩ : BufTy).Contents (Elt Ideal)) (x8 : (⟨S1024, .f32⟩ : BufTy).Contents (Elt Ideal))
  (b : Fin 4) (l : Fin 4096)

/-- A row of the joined array, its first half from the first part. -/
theorem v13_lo (k : Fin 512) : val_main_v13 x1 x2 (ix3 b l ⟨k.val, by omega⟩) = x1 (ix3 b l k) := by
  pointwise [val_main_v13, val_main_v12]
theorem v13_hi (k : Fin 512) : val_main_v13 x1 x2 (ix3 b l ⟨512 + k.val, by omega⟩) = x2 (ix3 b l k) := by
  pointwise [val_main_v13, val_main_v12]
theorem v15_at (d : Fin 1024) : val_main_v15 x1 x2 x4 (ix3 b l d)
    = ∑ k : Fin 1024, val_main_v13 x1 x2 (ix3 b l k) * x4 (ix3 0 k d) := by
  pointwise [val_main_v15, val_main_v14]
theorem v18_at (d : Fin 1024) : val_main_v18 x0 x1 x2 x3 x4 (ix3 b l d)
    = x0 (ix3 b l d) + x3 (ix3 ⟨b.val, by omega⟩ 2 d) * val_main_v15 x1 x2 x4 (ix3 b l d) := by
  pointwise [val_main_v18, val_main_v17, val_main_v16, val_main_v2, val_main_v1, val_main_v0]
theorem v27_at : val_main_v27 x0 x1 x2 x3 x4 (ix3 b l 0) = rsf fun d => val_main_v18 x0 x1 x2 x3 x4 (ix3 b l d) := by
  unfold val_main_v27 val_main_v26 val_main_v24 val_main_v22 val_main_v21 val_main_v20
  generalize val_main_v18 x0 x1 x2 x3 x4 = y
  pointwise [val_main_v25, val_main_v23, val_main_cst, val_main_cst_0, val_main_cst_1]
  rfl
theorem v38_at (d : Fin 1024) : val_main_v38 x0 x1 x2 x3 x4 x5 (ix3 b l d)
    = val_main_v18 x0 x1 x2 x3 x4 (ix3 b l d) * val_main_v27 x0 x1 x2 x3 x4 (ix3 b l 0) * x5 (ix2 0 d)
      * (1 + x3 (ix3 ⟨b.val, by omega⟩ 4 d)) + x3 (ix3 ⟨b.val, by omega⟩ 3 d) := by
  unfold val_main_v38 val_main_v36 val_main_v32 val_main_v29 val_main_v28
  generalize val_main_v18 x0 x1 x2 x3 x4 = y
  generalize val_main_v27 x0 x1 x2 x3 x4 = z
  pointwise [val_main_v37, val_main_v35, val_main_v34, val_main_v33, val_main_v31, val_main_v30, val_main_v19, val_main_cst_2, val_main_v5, val_main_v4, val_main_v3, val_main_v8, val_main_v7, val_main_v6]
theorem v41_at (j : Fin 5632) : val_main_v41 x0 x1 x2 x3 x4 x5 x6 (ix3 b l j)
    = ∑ k : Fin 1024, val_main_v38 x0 x1 x2 x3 x4 x5 (ix3 b l k) * x6 (ix3 0 k j) := by
  unfold val_main_v41
  generalize val_main_v38 x0 x1 x2 x3 x4 x5 = y
  pointwise [val_main_v39]
theorem v45_at (j : Fin 2816) : val_main_v45 x0 x1 x2 x3 x4 x5 x6 (ix3 b l j)
    = rowAct (fun d => val_main_v38 x0 x1 x2 x3 x4 x5 (ix3 b l d)) (fun k d => x6 (ix3 0 k d)) j := by
  have h (k : Fin 5632) := v41_at x0 x1 x2 x3 x4 x5 x6 b l k
  unfold val_main_v45 val_main_v44 val_main_call0_v5 val_main_call0_v3 val_main_call0_v1 val_main_call0_v0 val_main_v43 val_main_v42
  generalize val_main_v41 x0 x1 x2 x3 x4 x5 x6 = y at h
  unfold rowAct
  rw [← h, ← h, zero_sub]
  pointwise [val_main_call0_v4, val_main_call0_v2, val_main_call0_cst, val_main_call0_cst_0]
theorem v49_at (d : Fin 1024) : val_main_v49 x0 x1 x2 x3 x4 x5 x6 x7 (ix3 b l d)
    = rowX2 (fun d => val_main_v18 x0 x1 x2 x3 x4 (ix3 b l d)) (fun d => x3 (ix3 ⟨b.val, by omega⟩ 5 d))
        (fun j => val_main_v45 x0 x1 x2 x3 x4 x5 x6 (ix3 b l j)) (fun k d => x7 (ix3 0 k d)) d := by
  unfold rowX2 val_main_v49 val_main_v48 val_main_v46
  generalize val_main_v18 x0 x1 x2 x3 x4 = y
  generalize val_main_v45 x0 x1 x2 x3 x4 x5 x6 = z
  pointwise [val_main_v47, val_main_v40, val_main_v11, val_main_v10, val_main_v9]
theorem v57_at : val_main_v57 x0 x1 x2 x3 x4 x5 x6 x7 (ix3 b l 0) = rsf fun d => val_main_v49 x0 x1 x2 x3 x4 x5 x6 x7 (ix3 b l d) := by
  unfold val_main_v57 val_main_v56 val_main_v54 val_main_v52 val_main_v51 val_main_v50
  generalize val_main_v49 x0 x1 x2 x3 x4 x5 x6 x7 = y
  pointwise [val_main_v55, val_main_v53, val_main_cst_3, val_main_cst_4, val_main_cst_5]
  rfl
theorem v62_at (d : Fin 1024) : val_main_v62 x0 x1 x2 x3 x4 x5 x6 x7 x8 (ix3 b l d)
    = rowOut (fun d => val_main_v49 x0 x1 x2 x3 x4 x5 x6 x7 (ix3 b l d)) (fun d => x8 (ix1 d)) d := by
  unfold rowOut
  simp only [← v57_at]
  unfold val_main_v62 val_main_v59 val_main_v58
  generalize val_main_v49 x0 x1 x2 x3 x4 x5 x6 x7 = y
  generalize val_main_v57 x0 x1 x2 x3 x4 x5 x6 x7 = z
  pointwise [val_main_v61, val_main_v60]

/-- The reference's result at an index, as a function of the nine arrays. -/
theorem out_at (d : Fin 1024) : val_main_v62 x0 x1 x2 x3 x4 x5 x6 x7 x8 (ix3 b l d)
    = gOut (fun b l d => x0 (ix3 b l d)) (fun b l d => x1 (ix3 b l d)) (fun b l d => x2 (ix3 b l d)) (fun b j d => x3 (ix3 ⟨b.val, by omega⟩ j d))
        (fun k d => x4 (ix3 0 k d)) (fun d => x5 (ix2 0 d)) (fun k d => x6 (ix3 0 k d)) (fun k d => x7 (ix3 0 k d)) (fun d => x8 (ix1 d)) b l d := by
  have e1 : (fun d => val_main_v18 x0 x1 x2 x3 x4 (ix3 b l d))
      = gX1 (fun b l d => x0 (ix3 b l d)) (fun b l d => x1 (ix3 b l d)) (fun b l d => x2 (ix3 b l d)) (fun b j d => x3 (ix3 ⟨b.val, by omega⟩ j d))
          (fun k d => x4 (ix3 0 k d)) b l := by
    funext d
    rw [v18_at, v15_at, Fin.sum_univ_two_halves 512 512 rfl]
    unfold gX1 rowX1
    refine congrArg₂ (· + ·) rfl (congrArg₂ (· * ·) rfl (congrArg₂ (· + ·) (Finset.sum_congr rfl fun k _ => ?_) (Finset.sum_congr rfl fun k _ => ?_)))
    · exact congrArg₂ (· * ·) (v13_lo x1 x2 b l k) rfl
    · exact congrArg₂ (· * ·) (v13_hi x1 x2 b l k) rfl
  have e2 : (fun d => val_main_v38 x0 x1 x2 x3 x4 x5 (ix3 b l d))
      = gH (fun b l d => x0 (ix3 b l d)) (fun b l d => x1 (ix3 b l d)) (fun b l d => x2 (ix3 b l d)) (fun b j d => x3 (ix3 ⟨b.val, by omega⟩ j d))
          (fun k d => x4 (ix3 0 k d)) (fun d => x5 (ix2 0 d)) b l := by
    funext d
    rw [v38_at, v27_at, e1]
    unfold gH rowH
    rw [← e1]
  rw [v62_at]
  unfold gOut
  refine congrArg (fun f => rowOut f _ d) ?_
  funext d
  rw [v49_at, e1]
  refine congrArg (fun f => rowX2 _ _ f _ d) ?_
  funext j
  rw [v45_at, e2]
end Cert.Reference2Ideal.Ffn
end
-- ==== Proof.InpWin.lean ====
module

public import proofs.«01_k».proof.Proof.Gen.Kernel3Ideal.Skeleton
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Kernel3Ideal.Inp
open Cert.Kernel3Ideal Cert.Kernel3Ideal.Gen Idealize.ShloMosaic Idealize.ShloMosaic.TcCoe Idealize.SL.Sem

/-- A row of the convolution's window: the rows before the tile, the tile, the rows after it. -/
def winRow {α : Type} (pp : Fin 8 → α) (mid : Fin 256 → α) (pn : Fin 8 → α) (r : ℕ) : α :=
  if h : r < 8 then pp ⟨r, h⟩ else if h : r - 8 < 256 then mid ⟨r - 8, h⟩ else pn ⟨(r - 264) % 8, Nat.mod_lt _ (by decide)⟩

/-- A load of 256 rows of a window slot whose three parts were stored last. -/
def winRd (pn : S1x8x128.Idx → EReal) (mid : S1x256x128.Idx → EReal) (pp : S1x8x128.Idx → EReal) (r0 : ℕ) : Vec Ideal S1x256x128 .f32 :=
  fun x => winRow (fun r => pp (ix3 0 r (x 2))) (fun r => mid (ix3 0 r (x 2))) (fun r => pn (ix3 0 r (x 2))) (r0 + (x 1).val)

theorem canon_at {s : Shape} {e : EltTy} {off size : Fin s.rank → ℕ} (inb : ∀ a, off a + size a ≤ s.size a)
    (w : (Rect.unit off size inb).shape.Idx → Elt Ideal e) (L : List (View.Piece (Elt Ideal) s e)) (z : s.Idx) (x : (Rect.unit off size inb).shape.Idx)
    (h : ∀ a, (z a).val = off a + (x a).val) : View.canon (⟨Rect.unit off size inb, w⟩ :: L) z = w x := by
  have e : z = (Rect.unit off size inb).emb x := by
    funext a
    refine Fin.ext ?_
    rw [h a]
    show _ = off a + 1 * (x a).val
    rw [Nat.one_mul]
  rw [e]
  exact View.canon_cons_emb _ w L x

theorem canon_skip {s : Shape} {e : EltTy} {off size : Fin s.rank → ℕ} (inb : ∀ a, off a + size a ≤ s.size a)
    (w : (Rect.unit off size inb).shape.Idx → Elt Ideal e) (L : List (View.Piece (Elt Ideal) s e)) (z : s.Idx) (a : Fin s.rank)
    (h : (z a).val < off a ∨ off a + size a ≤ (z a).val) : View.canon (⟨Rect.unit off size inb, w⟩ :: L) z = View.canon L z := by
  refine View.canon_cons_of_not_mem _ _ fun hm => ?_
  have hm' : z ∈ (Rect.unit off size inb).set := hm
  have := (Rect.mem_set_unit.mp hm') a
  omega

theorem win_read {κ : Kind} {sp : Space} (v : View sig κ sp S48x272x128 .f32) (s r0 : ℕ) (hs : s < 48) (hr : r0 ≤ 16)
    (i3 : ∀ a, ![s, 264, 0] a + ![1, 8, 128] a ≤ S48x272x128.size a) (i2 : ∀ a, ![s, 8, 0] a + ![1, 256, 128] a ≤ S48x272x128.size a)
    (i1 : ∀ a, ![s, 0, 0] a + ![1, 8, 128] a ≤ S48x272x128.size a) (iB : ∀ a, ![s, r0, 0] a + ![1, 256, 128] a ≤ S48x272x128.size a)
    (pn : S1x8x128.Idx → EReal) (mid : S1x256x128.Idx → EReal) (pp : S1x8x128.Idx → EReal) (L : List (View.Piece (Elt Ideal) S48x272x128 .f32)) :
    v.readCov (⟨Rect.unit ![s, 264, 0] ![1, 8, 128] i3, pn⟩ :: ⟨Rect.unit ![s, 8, 0] ![1, 256, 128] i2, mid⟩ :: ⟨Rect.unit ![s, 0, 0] ![1, 8, 128] i1, pp⟩ :: L)
      (Rect.unit ![s, r0, 0] ![1, 256, 128] iB).toLoadRect = winRd pn mid pp r0 := by
  rw [View.readCov_eq_canon']
  funext (x : S1x256x128.Idx)
  unfold winRd winRow
  beta_reduce
  have hx1 : (x 1).val < 256 := (x 1).isLt
  have hx2 : (x 2).val < 128 := (x 2).isLt
  have hx0 : (x 0).val < 1 := (x 0).isLt
  generalize hz : LoadRect.idx (Rect.unit (s := S48x272x128) ![s, r0, 0] ![1, 256, 128] iB).toLoadRect x = z
  have z0 : (z 0).val = s + (x 0).val := by rw [← hz]; show s + 1 * _ = _; rw [Nat.one_mul]
  have z1 : (z 1).val = r0 + (x 1).val := by rw [← hz]; show r0 + 1 * _ = _; rw [Nat.one_mul]
  have z2 : (z 2).val = (x 2).val := by rw [← hz]; show 0 + 1 * _ = _; rw [Nat.one_mul, Nat.zero_add]
  clear hz
  have hx0' : (x 0).val = 0 := by omega
  by_cases h8 : r0 + (x 1).val < 8
  · refine Eq.trans ?_ (dif_pos h8).symm
    refine (canon_skip (s := S48x272x128) (e := .f32) i3 pn _ z 1 (Or.inl (by show (z 1).val < 264; omega))).trans ?_
    refine (canon_skip (s := S48x272x128) (e := .f32) i2 mid _ z 1 (Or.inl (by show (z 1).val < 8; omega))).trans ?_
    refine canon_at (s := S48x272x128) (e := .f32) i1 pp L z (ix3 0 ⟨r0 + (x 1).val, h8⟩ (x 2)) fun a => ?_
    fin_cases a
    · show (z 0).val = s + 0; omega
    · show (z 1).val = 0 + (r0 + (x 1).val); omega
    · show (z 2).val = 0 + (x 2).val; omega
  · refine Eq.trans ?_ (dif_neg h8).symm
    by_cases h9 : r0 + (x 1).val - 8 < 256
    · refine Eq.trans ?_ (dif_pos h9).symm
      refine (canon_skip (s := S48x272x128) (e := .f32) i3 pn _ z 1 (Or.inl (by show (z 1).val < 264; omega))).trans ?_
      refine canon_at (s := S48x272x128) (e := .f32) i2 mid _ z (ix3 0 ⟨r0 + (x 1).val - 8, h9⟩ (x 2)) fun a => ?_
      fin_cases a
      · show (z 0).val = s + 0; omega
      · show (z 1).val = 8 + (r0 + (x 1).val - 8); omega
      · show (z 2).val = 0 + (x 2).val; omega
    · refine Eq.trans ?_ (dif_neg h9).symm
      refine canon_at (s := S48x272x128) (e := .f32) i3 pn _ z (ix3 0 ⟨(r0 + (x 1).val - 264) % 8, Nat.mod_lt _ (by decide)⟩ (x 2)) fun a => ?_
      fin_cases a
      · show (z 0).val = s + 0; omega
      · show (z 1).val = 264 + (r0 + (x 1).val - 264) % 8; omega
      · show (z 2).val = 0 + (x 2).val; omega

/-- A load of 256 rows that do not reach the rows after the tile. -/
theorem win_read2 {κ : Kind} {sp : Space} (v : View sig κ sp S48x272x128 .f32) (s r0 : ℕ) (hr : r0 ≤ 8)
    (i2 : ∀ a, ![s, 8, 0] a + ![1, 256, 128] a ≤ S48x272x128.size a)
    (i1 : ∀ a, ![s, 0, 0] a + ![1, 8, 128] a ≤ S48x272x128.size a) (iB : ∀ a, ![s, r0, 0] a + ![1, 256, 128] a ≤ S48x272x128.size a)
    (mid : S1x256x128.Idx → EReal) (pp : S1x8x128.Idx → EReal) (L : List (View.Piece (Elt Ideal) S48x272x128 .f32)) :
    v.readCov (⟨Rect.unit ![s, 8, 0] ![1, 256, 128] i2, mid⟩ :: ⟨Rect.unit ![s, 0, 0] ![1, 8, 128] i1, pp⟩ :: L)
      (Rect.unit ![s, r0, 0] ![1, 256, 128] iB).toLoadRect = winRd (fun _ => 0) mid pp r0 := by
  rw [View.readCov_eq_canon']
  funext (x : S1x256x128.Idx)
  unfold winRd winRow
  beta_reduce
  have hx1 : (x 1).val < 256 := (x 1).isLt
  have hx2 : (x 2).val < 128 := (x 2).isLt
  have hx0 : (x 0).val < 1 := (x 0).isLt
  generalize hz : LoadRect.idx (Rect.unit (s := S48x272x128) ![s, r0, 0] ![1, 256, 128] iB).toLoadRect x = z
  have z0 : (z 0).val = s + (x 0).val := by rw [← hz]; show s + 1 * _ = _; rw [Nat.one_mul]
  have z1 : (z 1).val = r0 + (x 1).val := by rw [← hz]; show r0 + 1 * _ = _; rw [Nat.one_mul]
  have z2 : (z 2).val = (x 2).val := by rw [← hz]; show 0 + 1 * _ = _; rw [Nat.one_mul, Nat.zero_add]
  clear hz
  have hx0' : (x 0).val = 0 := by omega
  by_cases h8 : r0 + (x 1).val < 8
  · refine Eq.trans ?_ (dif_pos h8).symm
    refine (canon_skip (s := S48x272x128) (e := .f32) i2 mid _ z 1 (Or.inl (by show (z 1).val < 8; omega))).trans ?_
    refine canon_at (s := S48x272x128) (e := .f32) i1 pp L z (ix3 0 ⟨r0 + (x 1).val, h8⟩ (x 2)) fun a => ?_
    fin_cases a
    · show (z 0).val = s + 0; omega
    · show (z 1).val = 0 + (r0 + (x 1).val); omega
    · show (z 2).val = 0 + (x 2).val; omega
  · refine Eq.trans ?_ (dif_neg h8).symm
    have h9 : r0 + (x 1).val - 8 < 256 := by omega
    refine Eq.trans ?_ (dif_pos h9).symm
    refine canon_at (s := S48x272x128) (e := .f32) i2 mid _ z (ix3 0 ⟨r0 + (x 1).val - 8, h9⟩ (x 2)) fun a => ?_
    fin_cases a
    · show (z 0).val = s + 0; omega
    · show (z 1).val = 8 + (r0 + (x 1).val - 8); omega
    · show (z 2).val = 0 + (x 2).val; omega

/-- The tile's own rows of a normalized slot. -/
def hTop (p : S1x272x1024.Idx → EReal) : Vec Ideal S1x256x1024 .bf16 :=
  fun x => p (ix3 0 ⟨(x 1).val, lt_trans (show (x 1).val < 256 from (x 1).isLt) (by decide)⟩ (x 2))

/-- A load of the tile's own rows of a normalized slot stored last. -/
theorem top_read {κ : Kind} {sp : Space} (v : View sig κ sp S4x272x1024 .bf16) (b : ℕ)
    (i1 : ∀ a, ![b, 0, 0] a + ![1, 272, 1024] a ≤ S4x272x1024.size a) (iB : ∀ a, ![b, 0, 0] a + ![1, 256, 1024] a ≤ S4x272x1024.size a)
    (p : S1x272x1024.Idx → EReal) (L : List (View.Piece (Elt Ideal) S4x272x1024 .bf16)) :
    v.readCov (⟨Rect.unit ![b, 0, 0] ![1, 272, 1024] i1, p⟩ :: L) (Rect.unit ![b, 0, 0] ![1, 256, 1024] iB).toLoadRect = hTop p := by
  rw [View.readCov_eq_canon']
  funext (x : S1x256x1024.Idx)
  unfold hTop
  beta_reduce
  have hx0 : (x 0).val < 1 := (x 0).isLt
  generalize hz : LoadRect.idx (Rect.unit (s := S4x272x1024) ![b, 0, 0] ![1, 256, 1024] iB).toLoadRect x = z
  have z0 : (z 0).val = b + (x 0).val := by rw [← hz]; show b + 1 * _ = _; rw [Nat.one_mul]
  have z1 : (z 1).val = (x 1).val := by rw [← hz]; show 0 + 1 * _ = _; rw [Nat.one_mul, Nat.zero_add]
  have z2 : (z 2).val = (x 2).val := by rw [← hz]; show 0 + 1 * _ = _; rw [Nat.one_mul, Nat.zero_add]
  clear hz
  refine canon_at (s := S4x272x1024) (e := .bf16) i1 p L z _ fun a => ?_
  fin_cases a
  · show (z 0).val = b + 0; omega
  · show (z 1).val = 0 + (x 1).val; omega
  · show (z 2).val = 0 + (x 2).val; omega

end Cert.Kernel3Ideal.Inp
end
-- ==== Proof.InpStage.lean ====
module

public import proofs.«01_k».proof.Proof.InpWin

@[expose] public section
set_option maxRecDepth 16384
noncomputable section
namespace Cert.Kernel3Ideal.Inp
open Cert.Kernel3Ideal Cert.Kernel3Ideal.Gen Idealize.ShloMosaic Idealize.ShloMosaic.TcCoe Idealize.SL.Sem

/-! ## The body's stages -/

abbrev VT := FVec Ideal S256x128 .f32

/-- The columns of a product's two halves. -/
def sl0 (A : FVec Ideal S272x256 .f32) : FVec Ideal S272x128 .f32 := extractStridedSlice S272x128 ![0, 0] A slices_S272x256_o0_0_S272x128
def sl1 (A : FVec Ideal S272x256 .f32) : FVec Ideal S272x128 .f32 := extractStridedSlice S272x128 ![0, 128] A slices_S272x256_o0_128_S272x128
def tl0 (A : FVec Ideal S256x256 .f32) : VT := extractStridedSlice S256x128 ![0, 0] A slices_S256x256_o0_0_S256x128
def tl1 (A : FVec Ideal S256x256 .f32) : VT := extractStridedSlice S256x128 ![0, 128] A slices_S256x256_o0_128_S256x128
/-- The three parts of a window slot. -/
def pPrev (P : BitVec 1) (a : FVec Ideal S272x128 .f32) : FVec Ideal S1x8x128 .f32 :=
  shapeCast S1x8x128 (Scalar.select P (extractStridedSlice S8x128 ![256, 0] a slices_S272x128_o256_0_S8x128) (broadcast S8x128 (Scalar.ofBits (F := Ideal) .f32 0x00000000#32))) shapeCasts_S8x128_S1x8x128
def pNext (N : BitVec 1) (a : FVec Ideal S272x128 .f32) : FVec Ideal S1x8x128 .f32 :=
  shapeCast S1x8x128 (Scalar.select N (extractStridedSlice S8x128 ![264, 0] a slices_S272x128_o264_0_S8x128) (broadcast S8x128 (Scalar.ofBits (F := Ideal) .f32 0x00000000#32))) shapeCasts_S8x128_S1x8x128
def pMid (a : FVec Ideal S272x128 .f32) : FVec Ideal S1x256x128 .f32 :=
  shapeCast S1x256x128 (extractStridedSlice S256x128 ![0, 0] a slices_S272x128_o0_0_S256x128) shapeCasts_S256x128_S1x256x128
/-- The window read from row `r0` on. -/
def sWin (P N : BitVec 1) (a : FVec Ideal S272x128 .f32) (r0 : ℕ) : Vec Ideal S1x256x128 .f32 := winRd (pNext N a) (pMid a) (pPrev P a) r0
def sWin2 (P : BitVec 1) (a : FVec Ideal S272x128 .f32) (r0 : ℕ) : Vec Ideal S1x256x128 .f32 := winRd (fun _ => 0) (pMid a) (pPrev P a) r0
def sTap (w : Vec Ideal S1x256x128 .f32) (c : Vec Ideal S1x128 .f32) : VT :=
  mulf (shapeCast S256x128 w shapeCasts_S1x256x128_S256x128) (broadcastTo S256x128 (shapeCast S1x128 c shapeCasts_S1x128_S1x128) broadcasts_S1x128_S256x128)
/-- The five taps of the convolution. -/
def sCv (P N : BitVec 1) (a : FVec Ideal S272x128 .f32) (c0 c1 c2 c3 c4 : Vec Ideal S1x128 .f32) : VT :=
  addf (addf (addf (addf (sTap (sWin2 P a 6) c0) (sTap (sWin2 P a 7) c1)) (sTap (pMid a) c2)) (sTap (sWin P N a 9) c3)) (sTap (sWin P N a 10) c4)
def sSig (y : VT) : VT :=
  divf (broadcast S256x128 (Scalar.ofBits (F := Ideal) .f32 0x3F800000#32)) (addf (broadcast S256x128 (Scalar.ofBits (F := Ideal) .f32 0x3F800000#32)) (exp (subf (broadcast S256x128 (Scalar.ofBits (F := Ideal) .f32 0x00000000#32)) y)))
def sSilu (y : VT) : VT := mulf y (sSig y)
def sL2 (y : VT) : VT :=
  mulf y (broadcastTo S256x128 (rsqrt (addf (shapeCast S256x1 (multiReduction .add [1] S256 (mulf y y) 0x00000000#32 reduces_S256x128_S256 (.inl rfl) rfl) shapeCasts_S256_S256x1) (broadcast S256x1 (Scalar.ofBits (F := Ideal) .f32 0x358637BD#32)))) broadcasts_S256x1_S256x128)
def sScale (y : VT) : VT := mulf y (broadcast S256x128 (Scalar.ofBits (F := Ideal) .f32 0x3DB504F3#32))
/-- A stored head. -/
def sFin (y : VT) : FVec Ideal S1x256x128 .bf16 := shapeCast S1x256x128 (truncf .bf16 y bitsLt_bf16_f32) shapeCasts_S256x128_S1x256x128
def sRot (co si : Vec Ideal S256x128 .f32) (a : VT) : VT :=
  addf (mulf a (shapeCast S256x128 co shapeCasts_S256x128_S256x128)) (mulf (dynamicRotate 1 64#32 none a rotates_S256x128_d1) (shapeCast S256x128 si shapeCasts_S256x128_S256x128))

theorem sl0_at (A : FVec Ideal S272x256 .f32) (p : Fin 272) (e : Fin 128) : sl0 A (ix2 p e) = A (ix2 p ⟨e.val, by omega⟩) := by
  pointwise [sl0]
theorem sl1_at (A : FVec Ideal S272x256 .f32) (p : Fin 272) (e : Fin 128) : sl1 A (ix2 p e) = A (ix2 p ⟨128 + e.val, by omega⟩) := by
  pointwise [sl1]
theorem tl0_at (A : FVec Ideal S256x256 .f32) (p : Fin 256) (e : Fin 128) : tl0 A (ix2 p e) = A (ix2 p ⟨e.val, by omega⟩) := by
  pointwise [tl0]
theorem tl1_at (A : FVec Ideal S256x256 .f32) (p : Fin 256) (e : Fin 128) : tl1 A (ix2 p e) = A (ix2 p ⟨128 + e.val, by omega⟩) := by
  pointwise [tl1]
theorem pPrev_at (P : BitVec 1) (a : FVec Ideal S272x128 .f32) (r : Fin 8) (e : Fin 128) :
    pPrev P a (ix3 0 r e) = if P = 1#1 then a (ix2 ⟨256 + r.val, by omega⟩ e) else 0 := by
  unfold pPrev Scalar.select
  split <;> pointwise
  · exact (if_pos ‹P = 1›).symm
  · exact (if_neg ‹¬P = 1›).symm
theorem pNext_at (P : BitVec 1) (a : FVec Ideal S272x128 .f32) (r : Fin 8) (e : Fin 128) :
    pNext P a (ix3 0 r e) = if P = 1#1 then a (ix2 ⟨264 + r.val, by omega⟩ e) else 0 := by
  unfold pNext Scalar.select
  split <;> pointwise
  · exact (if_pos ‹P = 1›).symm
  · exact (if_neg ‹¬P = 1›).symm
theorem pMid_at (a : FVec Ideal S272x128 .f32) (r : Fin 256) (e : Fin 128) : pMid a (ix3 0 r e) = a (ix2 ⟨r.val, by omega⟩ e) := by
  pointwise [pMid]
theorem sTap_at (w : Vec Ideal S1x256x128 .f32) (c : Vec Ideal S1x128 .f32) (r : Fin 256) (e : Fin 128) :
    sTap w c (ix2 r e) = w (ix3 0 r e) * c (ix2 0 e) := by
  pointwise [sTap]
theorem sSig_at (y : VT) (r : Fin 256) (e : Fin 128) :
    sSig y (ix2 r e) = Ideal.div 1 (1 + Ideal.exp (0 - y (ix2 r e))) := by
  pointwise [sSig]
theorem sSilu_at (y : VT) (r : Fin 256) (e : Fin 128) :
    sSilu y (ix2 r e) = y (ix2 r e) * sSig y (ix2 r e) := by
  unfold sSilu
  generalize sSig y = z
  pointwise
theorem sL2_at (y : VT) (r : Fin 256) (e : Fin 128) :
    sL2 y (ix2 r e) = y (ix2 r e) * Ideal.rsqrt (∑ d : Fin 128, y (ix2 r d) * y (ix2 r d) + Ideal.ofBits .f32 0x358637BD#32) := by
  pointwise [sL2]
theorem sScale_at (y : VT) (r : Fin 256) (e : Fin 128) :
    sScale y (ix2 r e) = y (ix2 r e) * Ideal.ofBits .f32 0x3DB504F3#32 := by
  pointwise [sScale]
theorem sFin_at (y : VT) (r : Fin 256) (e : Fin 128) : sFin y (ix3 0 r e) = y (ix2 r e) := by
  pointwise [sFin]
theorem sRot_at (co si : Vec Ideal S256x128 .f32) (a : VT) (r : Fin 256) (e : Fin 128) :
    sRot co si a (ix2 r e) = a (ix2 r e) * co (ix2 r e) + a (ix2 r ⟨(e.val + 128 - 64) % 128, Nat.mod_lt _ (by decide)⟩) * si (ix2 r e) := by
  pointwise [sRot]
theorem acc_at (H : Vec Ideal S1x272x1024 .bf16) (W : Vec Ideal S1024x256 .bf16) (p : Fin 272) (e : Fin 256) :
    k0_pay13 H W (ix2 p e) = ∑ k : Fin 1024, H (ix3 0 p k) * W (ix2 k e) := by
  pointwise [k0_pay13]
theorem act_at (H : Vec Ideal S1x256x1024 .bf16) (W : Vec Ideal S1024x256 .bf16) (p : Fin 256) (e : Fin 256) :
    k0_pay14 H W (ix2 p e) = ∑ k : Fin 1024, H (ix3 0 p k) * W (ix2 k e) := by
  pointwise [k0_pay14]
theorem acg_at (H : Vec Ideal S1x256x1024 .bf16) (W : Vec Ideal S1024x128 .bf16) (p : Fin 256) (e : Fin 128) :
    k0_pay563 H W (ix2 p e) = ∑ k : Fin 1024, H (ix3 0 p k) * W (ix2 k e) := by
  pointwise [k0_pay563]

/-- A load of a block at an offset. -/
theorem ld_at {s : Shape} {e : EltTy} (b : s.Idx → Elt Ideal e) {off size : Fin s.rank → ℕ} (inb : ∀ a, off a + size a ≤ s.size a)
    (x : (Rect.unit off size inb).shape.Idx) (z : s.Idx) (h : ∀ a, (z a).val = off a + (x a).val) : View.ld b (Rect.unit off size inb) x = b z := by
  have e : z = (Rect.unit off size inb).emb x := by
    funext a
    refine Fin.ext ?_
    rw [h a]
    show _ = off a + 1 * (x a).val
    rw [Nat.one_mul]
  rw [e]
  rfl

/-! ## The gates' stages -/

/-- The gate of a decay lane. -/
def sG (ga : VT) (c0 c1 : Vec Ideal S1x128 .f32) : VT :=
  mulf (broadcastTo S256x128 (subf (broadcast S1x128 (Scalar.ofBits (F := Ideal) .f32 0x00000000#32)) (exp (shapeCast S1x128 c0 shapeCasts_S1x128_S1x128))) broadcasts_S1x128_S256x128)
    (addf (maximumf (addf ga (broadcastTo S256x128 (shapeCast S1x128 c1 shapeCasts_S1x128_S1x128) broadcasts_S1x128_S256x128)) (broadcast S256x128 (Scalar.ofBits (F := Ideal) .f32 0x00000000#32)))
      (log1p (exp (subf (broadcast S256x128 (Scalar.ofBits (F := Ideal) .f32 0x00000000#32)) (absf (addf ga (broadcastTo S256x128 (shapeCast S1x128 c1 shapeCasts_S1x128_S1x128) broadcasts_S1x128_S256x128)))))))
def sLt (n : BitVec 32) : IVec S256x128 1 := cmpi .slt (iota .tc S256x128 32 [1] iota_S256x128_d1_w32) (broadcast S256x128 n)
def sGt (g ga : VT) : VT := select (sLt 8#32) g (sSig ga)
/-- The three parts a gate is split into. -/
def sCat (gt : VT) : FVec Ideal S256x384 .bf16 :=
  concatenate S256x384 1 [⟨S256x128, truncf .bf16 gt bitsLt_bf16_f32⟩,
    ⟨S256x128, truncf .bf16 (subf gt (extf .f32 (truncf .bf16 gt bitsLt_bf16_f32) bitsLt_bf16_f32)) bitsLt_bf16_f32⟩,
    ⟨S256x128, truncf .bf16 (subf (subf gt (extf .f32 (truncf .bf16 gt bitsLt_bf16_f32) bitsLt_bf16_f32)) (extf .f32 (truncf .bf16 (subf gt (extf .f32 (truncf .bf16 gt bitsLt_bf16_f32) bitsLt_bf16_f32)) bitsLt_bf16_f32) bitsLt_bf16_f32)) bitsLt_bf16_f32⟩] concatenates_S256x128_S256x128_S256x128_S256x384_d1
def sCum3 (T : FVec Ideal S1x256x256 .bf16) (c : FVec Ideal S256x384 .bf16) : FVec Ideal S256x384 .f32 :=
  matmul dot_S256x256_S256x384_S256x384_1_0_0_1_n_n none (shapeCast S256x256 T shapeCasts_S1x256x256_S256x256) c (constant S256x384 .f32 0x00000000#32)
def sAdd3 (m : FVec Ideal S256x384 .f32) : VT :=
  addf (addf (extractStridedSlice S256x128 ![0, 0] m slices_S256x384_o0_0_S256x128) (extractStridedSlice S256x128 ![0, 128] m slices_S256x384_o0_128_S256x128))
    (extractStridedSlice S256x128 ![0, 256] m slices_S256x384_o0_256_S256x128)
def sPick (cf cb gt : VT) : VT := select (sLt 4#32) cf (select (sLt 8#32) cb gt)
def sRes (T0 T1 : Vec Ideal S1x256x256 .bf16) (gt : VT) : VT := sPick (sAdd3 (sCum3 T0 (sCat gt))) (sAdd3 (sCum3 T1 (sCat gt))) gt
def sAll (H : Vec Ideal S1x256x1024 .bf16) (W : Vec Ideal S1024x128 .bf16) (c0 c1 : Vec Ideal S1x128 .f32) (T0 T1 : Vec Ideal S1x256x256 .bf16) : VT :=
  sRes T0 T1 (sGt (sG (k0_pay563 H W) c0 c1) (k0_pay563 H W))
def sGates (v : VT) : FVec Ideal S1x256x128 .f32 := shapeCast S1x256x128 v shapeCasts_S256x128_S1x256x128
def sGatesT (v : VT) : FVec Ideal S1x8x256 .f32 :=
  shapeCast S1x8x256 (extractStridedSlice S8x256 ![0, 0] (transpose S128x256 [1, 0] v transposes_S256x128_p1_0_S128x256) slices_S128x256_o0_0_S8x256) shapeCasts_S8x256_S1x8x256

theorem lt8 (l : Fin 128) (a b : EReal) : Scalar.select (IntOp.cmpi CmpIPredicate.slt (BitVec.ofNat 32 l.val) 8#32) a b = if l.val < 8 then a else b := by
  have h : ∀ l : Fin 128, (IntOp.cmpi CmpIPredicate.slt (BitVec.ofNat 32 l.val) 8#32 = 1) ↔ l.val < 8 := by decide +kernel
  unfold Scalar.select
  exact if_congr (h l) rfl rfl
theorem lt4 (l : Fin 128) (a b : EReal) : Scalar.select (IntOp.cmpi CmpIPredicate.slt (BitVec.ofNat 32 l.val) 4#32) a b = if l.val < 4 then a else b := by
  have h : ∀ l : Fin 128, (IntOp.cmpi CmpIPredicate.slt (BitVec.ofNat 32 l.val) 4#32 = 1) ↔ l.val < 4 := by decide +kernel
  unfold Scalar.select
  exact if_congr (h l) rfl rfl
theorem sG_at (ga : VT) (c0 c1 : Vec Ideal S1x128 .f32) (r : Fin 256) (l : Fin 128) :
    sG ga c0 c1 (ix2 r l) = (0 - Ideal.exp (c0 (ix2 0 l))) * (max (ga (ix2 r l) + c1 (ix2 0 l)) 0 + Ideal.log1p (Ideal.exp (0 - FloatOps.absf (F := Ideal) (φ := .f32) (ga (ix2 r l) + c1 (ix2 0 l))))) := by
  pointwise [sG]
theorem sGt_at (g ga : VT) (r : Fin 256) (l : Fin 128) :
    sGt g ga (ix2 r l) = if l.val < 8 then g (ix2 r l) else sSig ga (ix2 r l) := by
  unfold sGt sLt
  generalize sSig ga = z
  pointwise
  exact lt8 l _ _
theorem sCat_at0 (gt : VT) (r : Fin 256) (l : Fin 128) : sCat gt (ix2 r ⟨l.val, by omega⟩) = gt (ix2 r l) := by
  pointwise [sCat]
theorem sCat_at1 (gt : VT) (r : Fin 256) (l : Fin 128) : sCat gt (ix2 r ⟨128 + l.val, by omega⟩) = gt (ix2 r l) - gt (ix2 r l) := by
  pointwise [sCat]
theorem sCat_at2 (gt : VT) (r : Fin 256) (l : Fin 128) :
    sCat gt (ix2 r ⟨256 + l.val, by omega⟩) = gt (ix2 r l) - gt (ix2 r l) - (gt (ix2 r l) - gt (ix2 r l)) := by
  pointwise [sCat]
  have e : ∀ h, (⟨256 + l.val - 128 - 128, h⟩ : Fin 128) = l := fun h => Fin.ext (show 256 + l.val - 128 - 128 = l.val by omega)
  rw [dif_neg (by omega), dif_neg (by omega)]
  simp only [e]
theorem sCum3_at (T : FVec Ideal S1x256x256 .bf16) (c : FVec Ideal S256x384 .bf16) (r : Fin 256) (l : Fin 384) :
    sCum3 T c (ix2 r l) = ∑ i : Fin 256, T (ix3 0 r i) * c (ix2 i l) := by
  pointwise [sCum3]
theorem sAdd3_at (m : FVec Ideal S256x384 .f32) (r : Fin 256) (l : Fin 128) :
    sAdd3 m (ix2 r l) = m (ix2 r ⟨l.val, by omega⟩) + m (ix2 r ⟨128 + l.val, by omega⟩) + m (ix2 r ⟨256 + l.val, by omega⟩) := by
  pointwise [sAdd3]
theorem sPick_at (cf cb gt : VT) (r : Fin 256) (l : Fin 128) :
    sPick cf cb gt (ix2 r l) = if l.val < 4 then cf (ix2 r l) else if l.val < 8 then cb (ix2 r l) else gt (ix2 r l) := by
  unfold sPick sLt
  pointwise
  rw [lt8, lt4]
theorem sGates_at (v : VT) (r : Fin 256) (l : Fin 128) : sGates v (ix3 0 r l) = v (ix2 r l) := by
  pointwise [sGates]
theorem sGatesT_at (v : VT) (l : Fin 8) (r : Fin 256) : sGatesT v (ix3 0 l r) = v (ix2 r ⟨l.val, by omega⟩) := by
  pointwise [sGatesT]

/-! ## The normalised rows -/

/-- The rows of a slot: the tile's, eight before it and eight after it. -/
def sH (q : BitVec 1) (c x : Vec Ideal S1x256x1024 .f32) (xp xn : Vec Ideal S1x8x1024 .f32) (mv : Vec Ideal S1x6x1024 .f32) (ng : Vec Ideal S1x1024 .f32) : FVec Ideal S1x272x1024 .bf16 :=
  k0_pay175 (k0_pay172 mv) (k0_pay173 q (k0_pay171 c) x mv ng) (k0_pay174 xp) ng xn ng
theorem eqH0 (i : grid0.Coords) (c x : Vec Ideal S1x256x1024 .f32) (xp xn : Vec Ideal S1x8x1024 .f32) (mv : Vec Ideal S1x6x1024 .f32) (ng : Vec Ideal S1x1024 .f32) :
    k0_pay12 (k0_pay4 mv) (k0_pay8 (k0_pay4 mv) (k0_pay5 i c x ng) (k0_pay6 mv) k0_pay7) (k0_pay9 (k0_pay4 mv) xp ng) (k0_pay10 xn) (k0_pay11 ng)
      = sH (Scalar.cmpi .eq (BitVec.ofNat 32 (i 0).val) 0#32) c x xp xn mv ng := rfl
theorem eqH1 (a : BitVec 32) (c x : Vec Ideal S1x256x1024 .f32) (xp xn : Vec Ideal S1x8x1024 .f32) (mv : Vec Ideal S1x6x1024 .f32) (ng : Vec Ideal S1x1024 .f32) :
    k0_pay37 (k0_pay36 (k0_pay32 mv) (k0_pay33 a c x mv ng) (k0_pay34 xp) (k0_pay35 xp) ng xn ng) = sH (Scalar.cmpi .eq a 0#32) c x xp xn mv ng := rfl
theorem eqH2 (a : BitVec 32) (c x : Vec Ideal S1x256x1024 .f32) (xp xn : Vec Ideal S1x8x1024 .f32) (mv : Vec Ideal S1x6x1024 .f32) (ng : Vec Ideal S1x1024 .f32) :
    k0_pay97 (k0_pay96 (k0_pay91 mv) (k0_pay92 a 0#32 c x mv ng) (k0_pay93 xp) (k0_pay94 xp) k0_pay95 ng xn ng) = sH (Scalar.cmpi .eq a 0#32) c x xp xn mv ng := rfl
theorem eqH3 (q : BitVec 1) (c x : Vec Ideal S1x256x1024 .f32) (xp xn : Vec Ideal S1x8x1024 .f32) (mv : Vec Ideal S1x6x1024 .f32) (ng : Vec Ideal S1x1024 .f32) :
    k0_pay175 (k0_pay172 mv) (k0_pay173 q (k0_pay171 c) x mv ng) (k0_pay174 xp) ng xn ng = sH q c x xp xn mv ng := rfl

/-- The root-mean-square factor of a row. -/
def rsf (f : Fin 1024 → EReal) : EReal :=
  Ideal.rsqrt (Ideal.div (∑ d, f d * f d) (Ideal.ofBits FTy.f32 0x44800000#32) + Ideal.ofBits FTy.f32 0x358637BD#32)
/-- The normalised, modulated row. -/
def rowH (x ng sc sh : Fin 1024 → EReal) (d : Fin 1024) : EReal := x d * rsf x * ng d * (1 + sc d) + sh d

theorem sH_at0 (q : BitVec 1) (c x : Vec Ideal S1x256x1024 .f32) (xp xn : Vec Ideal S1x8x1024 .f32) (mv : Vec Ideal S1x6x1024 .f32) (ng : Vec Ideal S1x1024 .f32) (r : Fin 256) (d : Fin 1024) :
    sH q c x xp xn mv ng (ix3 0 ⟨r.val, by omega⟩ d)
      = rowH (fun d => if q = 1 then c (ix3 0 r d) else x (ix3 0 r d)) (fun d => ng (ix2 0 d)) (fun d => mv (ix3 0 1 d)) (fun d => mv (ix3 0 0 d)) d := by
  unfold sH k0_pay173 k0_pay171 Scalar.select
  split <;> pointwise [k0_pay175, k0_pay172] <;> rfl
theorem sH_at1 (q : BitVec 1) (c x : Vec Ideal S1x256x1024 .f32) (xp xn : Vec Ideal S1x8x1024 .f32) (mv : Vec Ideal S1x6x1024 .f32) (ng : Vec Ideal S1x1024 .f32) (r : Fin 8) (d : Fin 1024) :
    sH q c x xp xn mv ng (ix3 0 ⟨256 + r.val, by omega⟩ d)
      = rowH (fun d => xp (ix3 0 r d)) (fun d => ng (ix2 0 d)) (fun d => mv (ix3 0 1 d)) (fun d => mv (ix3 0 0 d)) d := by
  unfold sH
  generalize k0_pay173 q (k0_pay171 c) x mv ng = z
  pointwise [k0_pay175, k0_pay172, k0_pay174]
  rfl
theorem sH_at2 (q : BitVec 1) (c x : Vec Ideal S1x256x1024 .f32) (xp xn : Vec Ideal S1x8x1024 .f32) (mv : Vec Ideal S1x6x1024 .f32) (ng : Vec Ideal S1x1024 .f32) (r : Fin 8) (d : Fin 1024) :
    sH q c x xp xn mv ng (ix3 0 ⟨264 + r.val, by omega⟩ d)
      = rowH (fun d => xn (ix3 0 r d)) (fun d => ng (ix2 0 d)) (fun d => mv (ix3 0 1 d)) (fun d => mv (ix3 0 0 d)) d := by
  unfold sH
  generalize k0_pay173 q (k0_pay171 c) x mv ng = z
  pointwise [k0_pay175, k0_pay172, k0_pay174]
  have e : ∀ h, (⟨264 + r.val - 256 - 8, h⟩ : Fin 8) = r := fun h => Fin.ext (show 264 + r.val - 256 - 8 = r.val by omega)
  rw [dif_neg (by omega), dif_neg (by omega)]
  simp only [e]
  rfl

end Cert.Kernel3Ideal.Inp
end
-- ==== Proof.InpBlk.lean ====
module

public import proofs.«01_k».proof.Proof.InpStage

@[expose] public section
set_option maxRecDepth 16384
noncomputable section
namespace Cert.Kernel3Ideal.Inp
open Cert.Kernel3Ideal Cert.Kernel3Ideal.Gen Idealize.ShloMosaic Idealize.ShloMosaic.TcCoe Idealize.SL.Sem

/-! ## The formulas of a tile -/

/-- A column of the weights and of the taps, by its number. -/
def wc (b6 : Vec Ideal S1024x4224 .bf16) (k : Fin 1024) (j : ℕ) : EReal := b6 (ix2 k ⟨j % 4224, Nat.mod_lt _ (by decide)⟩)
def cc (b7 : Vec Ideal S5x1536 .f32) (i : Fin 5) (j : ℕ) : EReal := b7 (ix2 i ⟨j % 1536, Nat.mod_lt _ (by decide)⟩)
/-- A window's row: kept rows before and after the tile only where the segment goes on. -/
def gWin (P N : BitVec 1) (a : Fin 272 → EReal) (q : ℕ) : EReal :=
  winRow (fun r : Fin 8 => if P = 1#1 then a ⟨256 + r.val, by omega⟩ else 0) (fun r : Fin 256 => a ⟨r.val, by omega⟩)
    (fun r : Fin 8 => if N = 1#1 then a ⟨264 + r.val, by omega⟩ else 0) q
def gCv (g : ℕ → EReal) (c : Fin 5 → EReal) (r : ℕ) : EReal :=
  g (6 + r) * c 0 + g (7 + r) * c 1 + g (8 + r) * c 2 + g (9 + r) * c 3 + g (10 + r) * c 4
def gSilu (z : EReal) : EReal := z * Ideal.div 1 (1 + Ideal.exp (0 - z))
def gL2 (y : Fin 128 → EReal) (e : Fin 128) : EReal := y e * Ideal.rsqrt (∑ d : Fin 128, y d * y d + Ideal.ofBits .f32 0x358637BD#32)
def gDot (h : Fin 1024 → EReal) (w : Fin 1024 → ℕ → EReal) (j : ℕ) : EReal := ∑ k : Fin 1024, h k * w k j
def gC (P N : BitVec 1) (h : Fin 272 → Fin 1024 → EReal) (w : Fin 1024 → ℕ → EReal) (c : Fin 5 → ℕ → EReal) (r j : ℕ) : EReal :=
  gCv (gWin P N (fun p => gDot (h p) w j)) (fun i => c i j) r
/-- A head of the first result, from a row's convolved columns and its projection. -/
def pgF (C : ℕ → EReal) (D : ℕ → EReal) (hd : ℕ) (e : Fin 128) : EReal :=
  if hd < 4 then gL2 (fun d => gSilu (C (128 * hd + d.val))) e * Ideal.ofBits .f32 0x3DB504F3#32
  else if hd < 8 then gL2 (fun d => gSilu (C (128 * hd + d.val))) e
  else if hd < 12 then gSilu (C (128 * hd + e.val)) else D (128 * hd + e.val)
/-- A head of the second result, from a row's projection and its rotary row. -/
def prF (D : ℕ → EReal) (co si : Fin 128 → EReal) (hd : ℕ) (e : Fin 128) : EReal :=
  if hd < 8 then
    (if hd < 4 then D (2048 + 128 * hd + e.val) * co e + D (2048 + 128 * hd + (e.val + 128 - 64) % 128) * si e
     else (D (2048 + 128 * hd + e.val) * co e + D (2048 + 128 * hd + (e.val + 128 - 64) % 128) * si e) * Ideal.ofBits .f32 0x3DB504F3#32)
  else D (2048 + 128 * hd + e.val)
/-- A lane's gate, from its projection. -/
def gtF (d c0 c1 : EReal) (l : ℕ) : EReal :=
  if l < 8 then (0 - Ideal.exp c0) * (max (d + c1) 0 + Ideal.log1p (Ideal.exp (0 - FloatOps.absf (F := Ideal) (φ := .f32) (d + c1)))) else Ideal.div 1 (1 + Ideal.exp (0 - d))
/-- A weighted sum of the three parts of the gates. -/
def cum3 (T gt : Fin 256 → EReal) : EReal := ∑ i, T i * gt i + ∑ i, T i * (gt i - gt i) + ∑ i, T i * (gt i - gt i - (gt i - gt i))
def resF (gt : Fin 256 → EReal) (T0 T1 : Fin 256 → EReal) (r : Fin 256) (l : ℕ) : EReal :=
  if l < 4 then cum3 T0 gt else if l < 8 then cum3 T1 gt else gt r

/-! ## The stages at the blocks -/

theorem sWin_at (P N : BitVec 1) (a : FVec Ideal S272x128 .f32) (r0 : ℕ) (r : Fin 256) (e : Fin 128) :
    sWin P N a r0 (ix3 0 r e) = gWin P N (fun p => a (ix2 p e)) (r0 + r.val) := by
  show winRow (fun s => pPrev P a (ix3 0 s e)) (fun s => pMid a (ix3 0 s e)) (fun s => pNext N a (ix3 0 s e)) (r0 + r.val) = _
  simp only [pPrev_at, pMid_at, pNext_at]
  rfl

theorem winRow_lt {α : Type} (pp : Fin 8 → α) (mid : Fin 256 → α) (pn pn' : Fin 8 → α) (r : ℕ) (h : r < 264) : winRow pp mid pn r = winRow pp mid pn' r := by
  unfold winRow
  split
  · rfl
  · rw [dif_pos (by omega), dif_pos (by omega)]
theorem sWin2_at (P N : BitVec 1) (a : FVec Ideal S272x128 .f32) (r0 : ℕ) (hr : r0 ≤ 8) (r : Fin 256) (e : Fin 128) :
    sWin2 P a r0 (ix3 0 r e) = gWin P N (fun p => a (ix2 p e)) (r0 + r.val) := by
  show winRow (fun s => pPrev P a (ix3 0 s e)) (fun s => pMid a (ix3 0 s e)) (fun s => 0) (r0 + r.val) = _
  simp only [pPrev_at, pMid_at]
  exact winRow_lt _ _ _ _ _ (by omega)
theorem pMid_win (P N : BitVec 1) (a : FVec Ideal S272x128 .f32) (r : Fin 256) (e : Fin 128) :
    pMid a (ix3 0 r e) = gWin P N (fun p => a (ix2 p e)) (8 + r.val) := by
  rw [pMid_at]
  unfold gWin winRow
  rw [dif_neg (by omega), dif_pos (by omega)]
  exact congrArg a (congrArg (fun p => ix2 p e) (Fin.ext (show r.val = 8 + r.val - 8 by omega)))

theorem sCv_at (P N : BitVec 1) (a : FVec Ideal S272x128 .f32) (c0 c1 c2 c3 c4 : Vec Ideal S1x128 .f32) (r : Fin 256) (e : Fin 128) :
    sCv P N a c0 c1 c2 c3 c4 (ix2 r e) = gCv (gWin P N (fun p => a (ix2 p e))) ![c0 (ix2 0 e), c1 (ix2 0 e), c2 (ix2 0 e), c3 (ix2 0 e), c4 (ix2 0 e)] r.val := by
  show sTap (sWin2 P a 6) c0 (ix2 r e) + sTap (sWin2 P a 7) c1 (ix2 r e) + sTap (pMid a) c2 (ix2 r e) + sTap (sWin P N a 9) c3 (ix2 r e) + sTap (sWin P N a 10) c4 (ix2 r e) = _
  simp only [sTap_at, sWin_at, sWin2_at P N a 6 (by decide), sWin2_at P N a 7 (by decide), pMid_win P N]
  rfl

theorem wc_ld {J n : ℕ} (b6 : Vec Ideal S1024x4224 .bf16) (i : ∀ a, ![0, J] a + ![1024, n] a ≤ S1024x4224.size a) (k : Fin 1024) (e : Fin n) :
    View.ld (S := S1024x4224) (e' := .bf16) (Val := Elt Ideal) b6 (Rect.unit ![0, J] ![1024, n] i) (ix2 k e) = wc b6 k (J + e.val) := by
  have h1 := i 1
  have h1' : J + n ≤ 4224 := h1
  refine ld_at b6 i _ (ix2 k ⟨(J + e.val) % 4224, Nat.mod_lt _ (by decide)⟩) fun a => ?_
  fin_cases a
  · show k.val = 0 + k.val; omega
  · show (J + e.val) % 4224 = J + e.val
    exact Nat.mod_eq_of_lt (by omega)
theorem cc_ld {J t : ℕ} (ht : t < 5) (b7 : Vec Ideal S5x1536 .f32) (i : ∀ a, ![t, J] a + ![1, 128] a ≤ S5x1536.size a) (e : Fin 128) :
    View.ld (S := S5x1536) (e' := .f32) (Val := Elt Ideal) b7 (Rect.unit ![t, J] ![1, 128] i) (ix2 0 e) = cc b7 ⟨t, ht⟩ (J + e.val) := by
  have h1 := i 1
  have h1' : J + 128 ≤ 1536 := h1
  refine ld_at b7 i _ (ix2 ⟨t, ht⟩ ⟨(J + e.val) % 1536, Nat.mod_lt _ (by decide)⟩) fun a => ?_
  fin_cases a
  · show t = t + 0; omega
  · show (J + e.val) % 1536 = J + e.val
    exact Nat.mod_eq_of_lt (by omega)

/-- The rows of a slot. -/
def hOf (H : Vec Ideal S1x272x1024 .bf16) (p : Fin 272) (k : Fin 1024) : EReal := H (ix3 0 p k)

section conv
variable (P N : BitVec 1) (H : Vec Ideal S1x272x1024 .bf16) (b6 : Vec Ideal S1024x4224 .bf16) (b7 : Vec Ideal S5x1536 .f32) (J : ℕ)
  (i : ∀ a, ![0, J] a + ![1024, 256] a ≤ S1024x4224.size a)
def kCv0 (i0 : ∀ a, ![0, J] a + ![1, 128] a ≤ S5x1536.size a) (i1 : ∀ a, ![1, J] a + ![1, 128] a ≤ S5x1536.size a) (i2 : ∀ a, ![2, J] a + ![1, 128] a ≤ S5x1536.size a)
    (i3 : ∀ a, ![3, J] a + ![1, 128] a ≤ S5x1536.size a) (i4 : ∀ a, ![4, J] a + ![1, 128] a ≤ S5x1536.size a) : VT :=
  sCv P N (sl0 (k0_pay13 H (View.ld (S := S1024x4224) (e' := .bf16) (Val := Elt Ideal) b6 (Rect.unit ![0, J] ![1024, 256] i))))
    (View.ld (S := S5x1536) (e' := .f32) (Val := Elt Ideal) b7 (Rect.unit ![0, J] ![1, 128] i0)) (View.ld (S := S5x1536) (e' := .f32) (Val := Elt Ideal) b7 (Rect.unit ![1, J] ![1, 128] i1))
    (View.ld (S := S5x1536) (e' := .f32) (Val := Elt Ideal) b7 (Rect.unit ![2, J] ![1, 128] i2)) (View.ld (S := S5x1536) (e' := .f32) (Val := Elt Ideal) b7 (Rect.unit ![3, J] ![1, 128] i3))
    (View.ld (S := S5x1536) (e' := .f32) (Val := Elt Ideal) b7 (Rect.unit ![4, J] ![1, 128] i4))
def kCv1 (K : ℕ) (i0 : ∀ a, ![0, K] a + ![1, 128] a ≤ S5x1536.size a) (i1 : ∀ a, ![1, K] a + ![1, 128] a ≤ S5x1536.size a) (i2 : ∀ a, ![2, K] a + ![1, 128] a ≤ S5x1536.size a)
    (i3 : ∀ a, ![3, K] a + ![1, 128] a ≤ S5x1536.size a) (i4 : ∀ a, ![4, K] a + ![1, 128] a ≤ S5x1536.size a) : VT :=
  sCv P N (sl1 (k0_pay13 H (View.ld (S := S1024x4224) (e' := .bf16) (Val := Elt Ideal) b6 (Rect.unit ![0, J] ![1024, 256] i))))
    (View.ld (S := S5x1536) (e' := .f32) (Val := Elt Ideal) b7 (Rect.unit ![0, K] ![1, 128] i0)) (View.ld (S := S5x1536) (e' := .f32) (Val := Elt Ideal) b7 (Rect.unit ![1, K] ![1, 128] i1))
    (View.ld (S := S5x1536) (e' := .f32) (Val := Elt Ideal) b7 (Rect.unit ![2, K] ![1, 128] i2)) (View.ld (S := S5x1536) (e' := .f32) (Val := Elt Ideal) b7 (Rect.unit ![3, K] ![1, 128] i3))
    (View.ld (S := S5x1536) (e' := .f32) (Val := Elt Ideal) b7 (Rect.unit ![4, K] ![1, 128] i4))
theorem kCv0_at (i0 i1 i2 i3 i4) (r : Fin 256) (e : Fin 128) :
    kCv0 P N H b6 b7 J i i0 i1 i2 i3 i4 (ix2 r e) = gC P N (hOf H) (wc b6) (cc b7) r.val (J + e.val) := by
  unfold kCv0
  rw [sCv_at]
  simp only [sl0_at, acc_at]
  rw [cc_ld (by decide), cc_ld (by decide), cc_ld (by decide), cc_ld (by decide), cc_ld (by decide)]
  have h : ∀ k : Fin 1024, View.ld (S := S1024x4224) (e' := .bf16) (Val := Elt Ideal) b6 (Rect.unit ![0, J] ![1024, 256] i) (ix2 k (⟨e.val, by omega⟩ : Fin 256)) = wc b6 k (J + e.val) :=
    fun k => wc_ld (n := 256) b6 i k ⟨e.val, by omega⟩
  simp only [h]
  rfl
theorem kCv1_at (K : ℕ) (hK : K = J + 128) (i0 i1 i2 i3 i4) (r : Fin 256) (e : Fin 128) :
    kCv1 P N H b6 b7 J i K i0 i1 i2 i3 i4 (ix2 r e) = gC P N (hOf H) (wc b6) (cc b7) r.val (K + e.val) := by
  unfold kCv1
  rw [sCv_at]
  simp only [sl1_at, acc_at]
  rw [cc_ld (by decide), cc_ld (by decide), cc_ld (by decide), cc_ld (by decide), cc_ld (by decide)]
  have h : ∀ k : Fin 1024, View.ld (S := S1024x4224) (e' := .bf16) (Val := Elt Ideal) b6 (Rect.unit ![0, J] ![1024, 256] i) (ix2 k (⟨128 + e.val, by omega⟩ : Fin 256)) = wc b6 k (K + e.val) :=
    fun k => (wc_ld (n := 256) b6 i k ⟨128 + e.val, by omega⟩).trans (by rw [hK]; show wc b6 k (J + (128 + e.val)) = _; rw [Nat.add_assoc])
  simp only [h]
  rfl
end conv

theorem finQ (y : VT) (C D : ℕ → EReal) (hd : ℕ) (hhd : hd < 4) (r : Fin 256) (hy : ∀ e : Fin 128, y (ix2 r e) = C (128 * hd + e.val)) (e : Fin 128) :
    sFin (sScale (sL2 (sSilu y))) (ix3 0 r e) = pgF C D hd e := by
  rw [sFin_at, sScale_at, sL2_at, pgF, if_pos hhd]
  simp only [sSilu_at, sSig_at, hy]
  rfl
theorem finK (y : VT) (C D : ℕ → EReal) (hd : ℕ) (h0 : ¬ hd < 4) (hhd : hd < 8) (r : Fin 256) (hy : ∀ e : Fin 128, y (ix2 r e) = C (128 * hd + e.val)) (e : Fin 128) :
    sFin (sL2 (sSilu y)) (ix3 0 r e) = pgF C D hd e := by
  rw [sFin_at, sL2_at, pgF, if_neg h0, if_pos hhd]
  simp only [sSilu_at, sSig_at, hy]
  rfl
theorem finV (y : VT) (C D : ℕ → EReal) (hd : ℕ) (h0 : ¬ hd < 4) (h1 : ¬ hd < 8) (hhd : hd < 12) (r : Fin 256) (hy : ∀ e : Fin 128, y (ix2 r e) = C (128 * hd + e.val)) (e : Fin 128) :
    sFin (sSilu y) (ix3 0 r e) = pgF C D hd e := by
  rw [sFin_at, pgF, if_neg h0, if_neg h1, if_pos hhd]
  simp only [sSilu_at, sSig_at, hy]
  rfl

theorem top_row (H : Vec Ideal S1x272x1024 .bf16) (r : Fin 256) (k : Fin 1024) : hTop H (ix3 0 r k) = hOf H ⟨r.val, by omega⟩ k := rfl

section plain
variable (H : Vec Ideal S1x272x1024 .bf16) (b6 : Vec Ideal S1024x4224 .bf16) (J : ℕ) (i : ∀ a, ![0, J] a + ![1024, 256] a ≤ S1024x4224.size a)
def kD0 : VT := tl0 (k0_pay14 (hTop H) (View.ld (S := S1024x4224) (e' := .bf16) (Val := Elt Ideal) b6 (Rect.unit ![0, J] ![1024, 256] i)))
def kD1 : VT := tl1 (k0_pay14 (hTop H) (View.ld (S := S1024x4224) (e' := .bf16) (Val := Elt Ideal) b6 (Rect.unit ![0, J] ![1024, 256] i)))
theorem kD0_at (r : Fin 256) (e : Fin 128) : kD0 H b6 J i (ix2 r e) = gDot (hOf H ⟨r.val, by omega⟩) (wc b6) (J + e.val) := by
  unfold kD0
  rw [tl0_at, act_at]
  have h : ∀ k : Fin 1024, View.ld (S := S1024x4224) (e' := .bf16) (Val := Elt Ideal) b6 (Rect.unit ![0, J] ![1024, 256] i) (ix2 k (⟨e.val, by omega⟩ : Fin 256)) = wc b6 k (J + e.val) :=
    fun k => wc_ld (n := 256) b6 i k ⟨e.val, by omega⟩
  simp only [h, top_row]
  rfl
theorem kD1_at (r : Fin 256) (e : Fin 128) : kD1 H b6 J i (ix2 r e) = gDot (hOf H ⟨r.val, by omega⟩) (wc b6) (J + 128 + e.val) := by
  unfold kD1
  rw [tl1_at, act_at]
  have h : ∀ k : Fin 1024, View.ld (S := S1024x4224) (e' := .bf16) (Val := Elt Ideal) b6 (Rect.unit ![0, J] ![1024, 256] i) (ix2 k (⟨128 + e.val, by omega⟩ : Fin 256)) = wc b6 k (J + 128 + e.val) :=
    fun k => (wc_ld (n := 256) b6 i k ⟨128 + e.val, by omega⟩).trans (by show wc b6 k (J + (128 + e.val)) = _; rw [Nat.add_assoc])
  simp only [h, top_row]
  rfl
end plain

theorem finD (y : VT) (C D : ℕ → EReal) (hd : ℕ) (h0 : ¬ hd < 12) (r : Fin 256) (hy : ∀ e : Fin 128, y (ix2 r e) = D (128 * hd + e.val)) (e : Fin 128) :
    sFin y (ix3 0 r e) = pgF C D hd e := by
  rw [sFin_at, pgF, if_neg (by omega), if_neg (by omega), if_neg h0, hy]
theorem finP (y : VT) (D : ℕ → EReal) (co si : Fin 128 → EReal) (hd : ℕ) (h0 : ¬ hd < 8) (r : Fin 256) (hy : ∀ e : Fin 128, y (ix2 r e) = D (2048 + 128 * hd + e.val)) (e : Fin 128) :
    sFin y (ix3 0 r e) = prF D co si hd e := by
  rw [sFin_at, prF, if_neg h0, hy]
theorem finR (y : VT) (D : ℕ → EReal) (co si : Vec Ideal S256x128 .f32) (hd : ℕ) (h0 : hd < 4) (r : Fin 256) (hy : ∀ e : Fin 128, y (ix2 r e) = D (2048 + 128 * hd + e.val)) (e : Fin 128) :
    sFin (sRot co si y) (ix3 0 r e) = prF D (fun e => co (ix2 r e)) (fun e => si (ix2 r e)) hd e := by
  rw [sFin_at, sRot_at, prF, if_pos (by omega), if_pos h0, hy, hy]
theorem finS (y : VT) (D : ℕ → EReal) (co si : Vec Ideal S256x128 .f32) (hd : ℕ) (h1 : ¬ hd < 4) (h0 : hd < 8) (r : Fin 256) (hy : ∀ e : Fin 128, y (ix2 r e) = D (2048 + 128 * hd + e.val)) (e : Fin 128) :
    sFin (sScale (sRot co si y)) (ix3 0 r e) = prF D (fun e => co (ix2 r e)) (fun e => si (ix2 r e)) hd e := by
  rw [sFin_at, sScale_at, sRot_at, prF, if_pos h0, if_neg h1, hy, hy]

section gates
variable (H : Vec Ideal S1x272x1024 .bf16) (b6 : Vec Ideal S1024x4224 .bf16) (b10 : Vec Ideal S8x128 .f32) (b11 : Vec Ideal S2x256x256 .bf16)
  (i : ∀ a, ![0, 4096] a + ![1024, 128] a ≤ S1024x4224.size a) (i0 : ∀ a, ![0, 0] a + ![1, 128] a ≤ S8x128.size a) (i1 : ∀ a, ![1, 0] a + ![1, 128] a ≤ S8x128.size a)
  (j0 : ∀ a, ![0, 0, 0] a + ![1, 256, 256] a ≤ S2x256x256.size a) (j1 : ∀ a, ![1, 0, 0] a + ![1, 256, 256] a ≤ S2x256x256.size a)
def kG : VT := sAll (hTop H) (View.ld (S := S1024x4224) (e' := .bf16) (Val := Elt Ideal) b6 (Rect.unit ![0, 4096] ![1024, 128] i))
  (View.ld (S := S8x128) (e' := .f32) (Val := Elt Ideal) b10 (Rect.unit ![0, 0] ![1, 128] i0)) (View.ld (S := S8x128) (e' := .f32) (Val := Elt Ideal) b10 (Rect.unit ![1, 0] ![1, 128] i1))
  (View.ld (S := S2x256x256) (e' := .bf16) (Val := Elt Ideal) b11 (Rect.unit ![0, 0, 0] ![1, 256, 256] j0)) (View.ld (S := S2x256x256) (e' := .bf16) (Val := Elt Ideal) b11 (Rect.unit ![1, 0, 0] ![1, 256, 256] j1))
theorem sRes_at (T0 T1 : FVec Ideal S1x256x256 .bf16) (gt : VT) (r : Fin 256) (l : Fin 128) :
    sRes T0 T1 gt (ix2 r l) = resF (fun i => gt (ix2 i l)) (fun i => T0 (ix3 0 r i)) (fun i => T1 (ix3 0 r i)) r l.val := by
  unfold sRes
  rw [sPick_at, sAdd3_at, sAdd3_at]
  simp only [sCum3_at, sCat_at0, sCat_at1, sCat_at2]
  rfl
theorem kG_at (r : Fin 256) (l : Fin 128) :
    kG H b6 b10 b11 i i0 i1 j0 j1 (ix2 r l)
      = resF (fun s => gtF (gDot (hOf H ⟨s.val, by omega⟩) (wc b6) (4096 + l.val)) (b10 (ix2 0 l)) (b10 (ix2 1 l)) l.val)
          (fun s => b11 (ix3 0 r s)) (fun s => b11 (ix3 1 r s)) r l.val := by
  unfold kG sAll
  rw [sRes_at]
  have h : ∀ k : Fin 1024, View.ld (S := S1024x4224) (e' := .bf16) (Val := Elt Ideal) b6 (Rect.unit ![0, 4096] ![1024, 128] i) (ix2 k l) = wc b6 k (4096 + l.val) :=
    fun k => wc_ld (n := 128) b6 i k l
  have g0 : View.ld (S := S8x128) (e' := .f32) (Val := Elt Ideal) b10 (Rect.unit ![0, 0] ![1, 128] i0) (ix2 0 l) = b10 (ix2 0 l) := by
    refine ld_at b10 i0 _ (ix2 0 l) fun a => ?_
    fin_cases a
    · rfl
    · show l.val = 0 + l.val; omega
  have g1 : View.ld (S := S8x128) (e' := .f32) (Val := Elt Ideal) b10 (Rect.unit ![1, 0] ![1, 128] i1) (ix2 0 l) = b10 (ix2 1 l) := by
    refine ld_at b10 i1 _ (ix2 1 l) fun a => ?_
    fin_cases a
    · rfl
    · show l.val = 0 + l.val; omega
  have t0 : ∀ s : Fin 256, View.ld (S := S2x256x256) (e' := .bf16) (Val := Elt Ideal) b11 (Rect.unit ![0, 0, 0] ![1, 256, 256] j0) (ix3 0 r s) = b11 (ix3 0 r s) := by
    intro s
    refine ld_at b11 j0 _ (ix3 0 r s) fun a => ?_
    fin_cases a
    · rfl
    · show r.val = 0 + r.val; omega
    · show s.val = 0 + s.val; omega
  have t1 : ∀ s : Fin 256, View.ld (S := S2x256x256) (e' := .bf16) (Val := Elt Ideal) b11 (Rect.unit ![1, 0, 0] ![1, 256, 256] j1) (ix3 0 r s) = b11 (ix3 1 r s) := by
    intro s
    refine ld_at b11 j1 _ (ix3 1 r s) fun a => ?_
    fin_cases a
    · rfl
    · show r.val = 0 + r.val; omega
    · show s.val = 0 + s.val; omega
  simp only [sGt_at, sG_at, sSig_at, acg_at, h, g0, g1, t0, t1, top_row]
  rfl
end gates

end Cert.Kernel3Ideal.Inp
end
-- ==== Proof.InpMath.lean ====
module

public import proofs.«01_k».proof.Proof.InpBlk

@[expose] public section
set_option maxRecDepth 16384
noncomputable section
namespace Cert.Kernel3Ideal.Inp
open Cert.Kernel3Ideal Cert.Kernel3Ideal.Gen Idealize.ShloMosaic Idealize.ShloMosaic.TcCoe Idealize.SL.Sem

/-! ## The four results as functions of the argument arrays -/

/-- The argument arrays. -/
structure Args where
  x : Fin 4 → Fin 4096 → Fin 1024 → EReal
  ctx : Fin 4 → Fin 256 → Fin 1024 → EReal
  md : Fin 8 → Fin 6 → Fin 1024 → EReal
  ng : Fin 1024 → EReal
  w : Fin 1024 → ℕ → EReal
  cw : Fin 5 → ℕ → EReal
  al : ℕ → EReal
  dt : ℕ → EReal
  co : ℕ → ℕ → EReal
  si : ℕ → ℕ → EReal

variable (A : Args)
/-- The normalised row at position `T` of the joined sequence. -/
def gH (b : Fin 4) (T : ℕ) : Fin 1024 → EReal :=
  if T < 256 then rowH (A.ctx b ⟨T % 256, Nat.mod_lt _ (by decide)⟩) A.ng (A.md 4 1) (A.md 4 0)
  else rowH (A.x b ⟨(T - 256) % 4096, Nat.mod_lt _ (by decide)⟩) A.ng (A.md ⟨b.val, by omega⟩ 1) (A.md ⟨b.val, by omega⟩ 0)
def gPrj (b : Fin 4) (T j : ℕ) : EReal := gDot (gH A b T) A.w j
/-- A tap's operand: zero outside the position's segment. -/
def gTap (b : Fin 4) (T j i : ℕ) : EReal :=
  if T < 256 then (if 2 ≤ T + i ∧ T + i < 258 then gPrj A b (T + i - 2) j else 0)
  else (if 258 ≤ T + i ∧ T + i < 4354 then gPrj A b (T + i - 2) j else 0)
def gConv (b : Fin 4) (T j : ℕ) : EReal :=
  gTap A b T j 0 * A.cw 0 j + gTap A b T j 1 * A.cw 1 j + gTap A b T j 2 * A.cw 2 j + gTap A b T j 3 * A.cw 3 j + gTap A b T j 4 * A.cw 4 j
def gPg (b : Fin 4) (T hd : ℕ) (e : Fin 128) : EReal := pgF (gConv A b T) (gPrj A b T) hd e
def gCo (T e : ℕ) : EReal := if e < 64 then A.co T e else A.co T (e - 64)
def gSi (T e : ℕ) : EReal := if e < 64 then -A.si T e else A.si T (e - 64)
def gPr (b : Fin 4) (T hd : ℕ) (e : Fin 128) : EReal := prF (gPrj A b T) (fun e => gCo A T e.val) (fun e => gSi A T e.val) hd e
def gC0 (l : ℕ) : EReal := if l < 8 then A.al l else 0
def gC1 (l : ℕ) : EReal := if l < 8 then A.dt l else 0
def gGt (b : Fin 4) (T l : ℕ) : EReal := gtF (gPrj A b T (4096 + l)) (gC0 A l) (gC1 A l) l
/-- The gates: sums within a chunk of 128 for the decay lanes. -/
def gGate (b : Fin 4) (T l : ℕ) : EReal :=
  if l < 4 then ∑ s : Fin 128, (if s.val ≤ T % 128 then 1 else 0) * gGt A b (T / 128 * 128 + s.val) l
  else if l < 8 then ∑ s : Fin 128, (if T % 128 ≤ s.val then 1 else 0) * gGt A b (T / 128 * 128 + s.val) l
  else gGt A b T l

/-! ## The tile's window is the taps' -/

theorem win_tap (P N : BitVec 1) (h : Fin 272 → Fin 1024 → EReal) (b : Fin 4) (t : ℕ) (ht : t < 17)
    (hP : P = 1#1 ↔ 2 ≤ t) (hN : N = 1#1 ↔ 1 ≤ t ∧ t ≤ 15)
    (h0 : ∀ r : Fin 256, h ⟨r.val, by omega⟩ = gH A b (256 * t + r.val))
    (h1 : 2 ≤ t → ∀ r : Fin 8, h ⟨256 + r.val, by omega⟩ = gH A b (256 * t + r.val - 8))
    (h2 : 1 ≤ t → t ≤ 15 → ∀ r : Fin 8, h ⟨264 + r.val, by omega⟩ = gH A b (256 * t + 256 + r.val))
    (j r i : ℕ) (hr : r < 256) (hi : i < 5) :
    gWin P N (fun p => gDot (h p) A.w j) (6 + i + r) = gTap A b (256 * t + r) j i := by
  unfold gWin winRow gTap gPrj
  by_cases c1 : 6 + i + r < 8
  · rw [dif_pos c1]
    beta_reduce
    by_cases p : 2 ≤ t
    · rw [if_pos (hP.2 p)]
      beta_reduce
      rw [h1 p ⟨6 + i + r, c1⟩, if_neg (by omega), if_pos (by omega)]
      exact congrArg (fun T => gDot (gH A b T) A.w j) (by show 256 * t + (6 + i + r) - 8 = _; omega)
    · rw [if_neg (fun q => p (hP.1 q))]
      by_cases z : 256 * t + r < 256
      · rw [if_pos z, if_neg (by omega)]
      · rw [if_neg z, if_neg (by omega)]
  · rw [dif_neg c1]
    beta_reduce
    by_cases c2 : 6 + i + r - 8 < 256
    · rw [dif_pos c2]
      beta_reduce
      rw [h0 ⟨6 + i + r - 8, c2⟩]
      have e : gDot (gH A b (256 * t + (6 + i + r - 8))) A.w j = gDot (gH A b (256 * t + r + i - 2)) A.w j :=
        congrArg (fun T => gDot (gH A b T) A.w j) (by omega)
      refine e.trans ?_
      by_cases z : 256 * t + r < 256
      · rw [if_pos z, if_pos (by omega)]
      · rw [if_neg z, if_pos (by omega)]
    · rw [dif_neg c2]
      beta_reduce
      by_cases n : 1 ≤ t ∧ t ≤ 15
      · rw [if_pos (hN.2 n)]
        beta_reduce
        rw [h2 n.1 n.2 ⟨(6 + i + r - 264) % 8, Nat.mod_lt _ (by decide)⟩, if_neg (by omega), if_pos (by omega)]
        exact congrArg (fun T => gDot (gH A b T) A.w j) (by show 256 * t + 256 + (6 + i + r - 264) % 8 = _; omega)
      · rw [if_neg (fun q => n (hN.1 q))]
        by_cases z : 256 * t + r < 256
        · rw [if_pos z, if_neg (by omega)]
        · rw [if_neg z, if_neg (by omega)]

/-! ## The gates' sums -/

theorem cum_term (w f : EReal) (hw : w = 0 ∨ w = 1) (hf : f ≠ ⊤) : w * f + w * (f - f) + w * (f - f - (f - f)) = w * f := by
  rcases hw with rfl | rfl
  · simp
  · rw [one_mul, one_mul, one_mul]
    induction f with
    | bot => simp
    | top => exact absurd rfl hf
    | coe a => rw [← EReal.coe_sub, sub_self]; simp

theorem cum3_eq (T g : Fin 256 → EReal) (hT : ∀ i, T i = 0 ∨ T i = 1) (hg : ∀ i, g i ≠ ⊤) : cum3 T g = ∑ i, T i * g i := by
  unfold cum3
  rw [← Finset.sum_add_distrib, ← Finset.sum_add_distrib]
  exact Finset.sum_congr rfl fun i _ => cum_term _ _ (hT i) (hg i)

theorem sum256 (f : ℕ → EReal) (p : ℕ → Prop) [DecidablePred p] (c : ℕ) (hc : c < 2) (q : ℕ → Prop) [DecidablePred q]
    (hp : ∀ s, s < 128 → (p (128 * c + s) ↔ q s)) (hn : ∀ i, i < 256 → p i → i / 128 = c) :
    (∑ i : Fin 256, (if p i.val then (1 : EReal) else 0) * f i.val) = ∑ s : Fin 128, (if q s.val then (1 : EReal) else 0) * f (128 * c + s.val) := by
  have e : (∑ i : Fin 256, (if p i.val then (1 : EReal) else 0) * f i.val)
      = ∑ s : Fin 128, (if p s.val then (1 : EReal) else 0) * f s.val + ∑ s : Fin 128, (if p (128 + s.val) then (1 : EReal) else 0) * f (128 + s.val) :=
    Fin.sum_univ_add (a := 128) (b := 128) (fun i : Fin (128 + 128) => (if p i.val then (1 : EReal) else 0) * f i.val)
  rw [e]
  have hcc : c = 0 ∨ c = 1 := by omega
  rcases hcc with rfl | rfl
  · have z : ∑ s : Fin 128, (if p (128 + s.val) then (1 : EReal) else 0) * f (128 + s.val) = 0 :=
      Finset.sum_eq_zero fun s _ => by
        rw [if_neg (fun h => by have := hn _ (by omega) h; omega), zero_mul]
    rw [z, add_zero]
    refine Finset.sum_congr rfl fun s _ => ?_
    have h := hp s.val s.isLt
    rw [Nat.mul_zero, Nat.zero_add] at h ⊢
    rw [if_congr h rfl rfl]
  · have z : ∑ s : Fin 128, (if p s.val then (1 : EReal) else 0) * f s.val = 0 :=
      Finset.sum_eq_zero fun s _ => by
        rw [if_neg (fun h => by have := hn _ (by omega) h; omega), zero_mul]
    rw [z, zero_add]
    refine Finset.sum_congr rfl fun s _ => ?_
    have h := hp s.val s.isLt
    rw [Nat.mul_one] at h ⊢
    rw [if_congr h rfl rfl]

theorem exp_nn (y : EReal) : 0 ≤ Ideal.exp y := by
  induction y using EReal.rec with
  | bot => exact le_rfl
  | coe r => exact EReal.coe_nonneg.mpr (Real.exp_pos r).le
  | top => exact le_top

theorem log1p_nn {y : EReal} (h : 0 ≤ y) : 0 ≤ Ideal.log1p y := by
  induction y using EReal.rec with
  | bot => simp at h
  | coe r =>
    have hr : 0 ≤ r := EReal.coe_nonneg.mp h
    have e : Ideal.log1p (r : EReal) = ((Real.log (1 + r) : ℝ) : EReal) := by
      unfold Ideal.log1p
      rw [← EReal.coe_one, ← EReal.coe_add]
      show (if 1 + r ≤ 0 then ⊥ else ((Real.log (1 + r) : ℝ) : EReal)) = _
      rw [if_neg (by linarith)]
    rw [e]
    exact EReal.coe_nonneg.mpr (Real.log_nonneg (by linarith))
  | top =>
    unfold Ideal.log1p
    rw [show (1 : EReal) + ⊤ = ⊤ from rfl]
    exact le_top

/-- A decay lane's value is never `⊤`. -/
theorem gtF_ne_top (d c0 c1 : EReal) (l : ℕ) (hl : l < 8) : gtF d c0 c1 l ≠ ⊤ := by
  unfold gtF
  rw [if_pos hl]
  have h1 : (0 : EReal) ≤ max (d + c1) 0 + Ideal.log1p (Ideal.exp (0 - FloatOps.absf (F := Ideal) (φ := .f32) (d + c1))) :=
    add_nonneg (le_max_right _ _) (log1p_nn (exp_nn _))
  have h2 : 0 - Ideal.exp c0 ≤ 0 := by
    rw [zero_sub, EReal.neg_le_zero]
    exact exp_nn _
  intro h
  have h3 := EReal.mul_nonpos_iff.mpr (Or.inr ⟨h2, h1⟩)
  rw [h] at h3
  simp at h3

/-- A tile's sums are its chunk's. -/
theorem res_gate (A : Args) (b : Fin 4) (t r l : ℕ) (hr : r < 256) (hl : l < 128) (g T0 T1 : Fin 256 → EReal)
    (hg : ∀ s, g s = gGt A b (256 * t + s.val) l)
    (h0 : ∀ i, T0 i = if i.val / 128 = r / 128 ∧ i.val ≤ r then 1 else 0)
    (h1 : ∀ i, T1 i = if i.val / 128 = r / 128 ∧ r ≤ i.val then 1 else 0) :
    resF g T0 T1 ⟨r, hr⟩ l = gGate A b (256 * t + r) l := by
  unfold resF gGate
  have hd : ∀ n, (256 * t + r) / 128 * 128 + n = 256 * t + (128 * (r / 128) + n) := fun n => by omega
  have hm : (256 * t + r) % 128 = r % 128 := by omega
  have hn : l < 8 → ∀ i, g i ≠ ⊤ := fun h i => by rw [hg i]; exact gtF_ne_top _ _ _ _ h
  by_cases c0 : l < 4
  · rw [if_pos c0, if_pos c0, cum3_eq _ _ (fun i => by rw [h0 i]; split <;> simp) (hn (by omega))]
    simp only [h0, hg, hm, hd]
    exact sum256 (fun s => gGt A b (256 * t + s) l) (fun i => i / 128 = r / 128 ∧ i ≤ r) (r / 128) (by omega) (fun s => s ≤ r % 128)
      (fun s hs => by constructor <;> intro h <;> omega) (fun i hi h => h.1)
  · rw [if_neg c0, if_neg c0]
    by_cases c1 : l < 8
    · rw [if_pos c1, if_pos c1, cum3_eq _ _ (fun i => by rw [h1 i]; split <;> simp) (hn c1)]
      simp only [h1, hg, hm, hd]
      exact sum256 (fun s => gGt A b (256 * t + s) l) (fun i => i / 128 = r / 128 ∧ r ≤ i) (r / 128) (by omega) (fun s => r % 128 ≤ s)
        (fun s hs => by constructor <;> intro h <;> omega) (fun i hi h => h.1)
    · rw [if_neg c1, if_neg c1, hg]

end Cert.Kernel3Ideal.Inp
end
-- ==== Proof.InpGoal.lean ====
module

public import proofs.«01_k».proof.Proof.InpBlk

@[expose] public section
set_option maxRecDepth 16384
noncomputable section
namespace Cert.Kernel3Ideal.Inp
open Cert.Kernel3Ideal Cert.Kernel3Ideal.Gen Idealize.ShloMosaic Idealize.ShloMosaic.TcCoe Idealize.SL.Sem

/-! ## The tile's results as formulas of its blocks -/

def cP (i : grid0.Coords) : BitVec 1 := Scalar.cmpi .sge (BitVec.ofNat 32 (i 0).val) 2#32
def cN (i : grid0.Coords) : BitVec 1 := Scalar.andi (Scalar.cmpi .sge (BitVec.ofNat 32 (i 0).val) 1#32) (Scalar.cmpi .sle (BitVec.ofNat 32 (i 0).val) 15#32)
theorem inbA {b : ℕ} (hb : b < 4) : ∀ a, ![b, 0, 0] a + ![1, 256, 1024] a ≤ S4x256x1024.size a := by
  intro a; fin_cases a
  · show b + 1 ≤ 4; omega
  · show 0 + 256 ≤ 256; omega
  · show 0 + 1024 ≤ 1024; omega
theorem inbB {b : ℕ} (hb : b < 4) : ∀ a, ![b, 0, 0] a + ![1, 8, 1024] a ≤ S4x8x1024.size a := by
  intro a; fin_cases a
  · show b + 1 ≤ 4; omega
  · show 0 + 8 ≤ 8; omega
  · show 0 + 1024 ≤ 1024; omega

section
variable (i : grid0.Coords) (b0 : Vec Ideal S4x256x1024 .f32) (b1 b2 : Vec Ideal S4x8x1024 .f32) (b3 : Vec Ideal S4x256x1024 .f32) (b4 : Vec Ideal S8x6x1024 .f32) (b5 : Vec Ideal S1x1024 .f32)

/-- The slot of batch `b`. -/
def HB (b : ℕ) (hb : b < 4) : Vec Ideal S1x272x1024 .bf16 :=
  sH (Scalar.cmpi .eq (BitVec.ofNat 32 (i 0).val) 0#32)
    (View.ld (S := S4x256x1024) (e' := .f32) (Val := Elt Ideal) b3 (Rect.unit ![b, 0, 0] ![1, 256, 1024] (inbA hb)))
    (View.ld (S := S4x256x1024) (e' := .f32) (Val := Elt Ideal) b0 (Rect.unit ![b, 0, 0] ![1, 256, 1024] (inbA hb)))
    (View.ld (S := S4x8x1024) (e' := .f32) (Val := Elt Ideal) b1 (Rect.unit ![b, 0, 0] ![1, 8, 1024] (inbB hb)))
    (View.ld (S := S4x8x1024) (e' := .f32) (Val := Elt Ideal) b2 (Rect.unit ![b, 0, 0] ![1, 8, 1024] (inbB hb)))
    (View.ld (S := S8x6x1024) (e' := .f32) (Val := Elt Ideal) b4 (Rect.unit (k0_off1 i (BitVec.ofNat 32 b)) S1x6x1024.size (k0_off1_inb i ⟨b, hb⟩))) b5
def bH (b : Fin 4) : Fin 272 → Fin 1024 → EReal := hOf (HB i b0 b1 b2 b3 b4 b5 b.val b.isLt)

variable (b6 : Vec Ideal S1024x4224 .bf16) (b7 : Vec Ideal S5x1536 .f32) (b8 b9 : Vec Ideal S256x128 .f32) (b10 : Vec Ideal S8x128 .f32) (b11 : Vec Ideal S2x256x256 .bf16)
def blkPg (y : S4x256x2048.Idx) : EReal :=
  pgF (gC (cP i) (cN i) (bH i b0 b1 b2 b3 b4 b5 (y 0)) (wc b6) (cc b7) (y 1).val)
    (gDot (bH i b0 b1 b2 b3 b4 b5 (y 0) ⟨(y 1).val, lt_trans (y 1).isLt (by decide)⟩) (wc b6)) ((y 2).val / 128) ⟨(y 2).val % 128, Nat.mod_lt _ (by decide)⟩
def blkPr (y : S4x256x2048.Idx) : EReal :=
  prF (gDot (bH i b0 b1 b2 b3 b4 b5 (y 0) ⟨(y 1).val, lt_trans (y 1).isLt (by decide)⟩) (wc b6)) (fun e => b8 (ix2 (y 1) e)) (fun e => b9 (ix2 (y 1) e)) ((y 2).val / 128) ⟨(y 2).val % 128, Nat.mod_lt _ (by decide)⟩
def blkG (b : Fin 4) (r : Fin 256) (l : Fin 128) : EReal :=
  resF (fun s => gtF (gDot (bH i b0 b1 b2 b3 b4 b5 b ⟨s.val, lt_trans s.isLt (by decide)⟩) (wc b6) (4096 + l.val)) (b10 (ix2 0 l)) (b10 (ix2 1 l)) l.val)
    (fun s => b11 (ix3 0 r s)) (fun s => b11 (ix3 1 r s)) r l.val

theorem ex3 (x : S1x256x128.Idx) : ∃ (r : Fin 256) (e : Fin 128), x = (ix3 (0 : Fin 1) r e : S1x256x128.Idx) :=
  ⟨x 1, x 2, (ix3_eta x).symm.trans (congrArg (fun z : Fin 1 => (ix3 z (x 1) (x 2) : S1x256x128.Idx)) (Fin.ext (by have h : (x 0).val < 1 := (x 0).isLt; show (x 0).val = 0; omega)))⟩
theorem exT (x : S1x8x256.Idx) : ∃ (l : Fin 8) (r : Fin 256), x = (ix3 (0 : Fin 1) l r : S1x8x256.Idx) :=
  ⟨x 1, x 2, (ix3_eta x).symm.trans (congrArg (fun z : Fin 1 => (ix3 z (x 1) (x 2) : S1x8x256.Idx)) (Fin.ext (by have h : (x 0).val < 1 := (x 0).isLt; show (x 0).val = 0; omega)))⟩
theorem blkPg_at (b : ℕ) (hb : b < 4) (hd : ℕ) (r : Fin 256) (e : Fin 128) (y : S4x256x2048.Idx) (h0 : (y 0).val = b) (h1 : (y 1).val = r.val) (h2 : (y 2).val = 128 * hd + e.val) :
    blkPg i b0 b1 b2 b3 b4 b5 b6 b7 y = pgF (gC (cP i) (cN i) (hOf (HB i b0 b1 b2 b3 b4 b5 b hb)) (wc b6) (cc b7) r.val)
      (gDot (hOf (HB i b0 b1 b2 b3 b4 b5 b hb) ⟨r.val, by omega⟩) (wc b6)) hd e := by
  have e0 : y 0 = (⟨b, hb⟩ : Fin 4) := Fin.ext h0
  have e1 : y 1 = r := Fin.ext h1
  have e2 : (y 2).val / 128 = hd := by omega
  have e3 : (⟨(y 2).val % 128, Nat.mod_lt _ (by decide)⟩ : Fin 128) = e := Fin.ext (show (y 2).val % 128 = e.val by omega)
  unfold blkPg
  rw [e2, e3]
  simp only [e0, e1]
  rfl
theorem blkPr_at (b : ℕ) (hb : b < 4) (hd : ℕ) (r : Fin 256) (e : Fin 128) (y : S4x256x2048.Idx) (h0 : (y 0).val = b) (h1 : (y 1).val = r.val) (h2 : (y 2).val = 128 * hd + e.val) :
    blkPr i b0 b1 b2 b3 b4 b5 b6 b8 b9 y = prF
      (gDot (hOf (HB i b0 b1 b2 b3 b4 b5 b hb) ⟨r.val, by omega⟩) (wc b6)) (fun e => b8 (ix2 r e)) (fun e => b9 (ix2 r e)) hd e := by
  have e0 : y 0 = (⟨b, hb⟩ : Fin 4) := Fin.ext h0
  have e1 : y 1 = r := Fin.ext h1
  have e2 : (y 2).val / 128 = hd := by omega
  have e3 : (⟨(y 2).val % 128, Nat.mod_lt _ (by decide)⟩ : Fin 128) = e := Fin.ext (show (y 2).val % 128 = e.val by omega)
  unfold blkPr
  rw [e2, e3]
  simp only [e0, e1]
  rfl

theorem gQ0 (b : ℕ) (hb : b < 4) (hd J c : ℕ) (hJ : J = c) (hc : c = 128 * hd) (hh0 : hd < 4) (j : ∀ a, ![0, c] a + ![1024, 256] a ≤ S1024x4224.size a) (j0 : ∀ a, ![0, c] a + ![1, 128] a ≤ S5x1536.size a) (j1 : ∀ a, ![1, c] a + ![1, 128] a ≤ S5x1536.size a) (j2 : ∀ a, ![2, c] a + ![1, 128] a ≤ S5x1536.size a) (j3 : ∀ a, ![3, c] a + ![1, 128] a ≤ S5x1536.size a) (j4 : ∀ a, ![4, c] a + ![1, 128] a ≤ S5x1536.size a)
    (x : S1x256x128.Idx) (y : S4x256x2048.Idx) (h0 : (y 0).val = b + (x 0).val) (h1 : (y 1).val = 0 + (x 1).val) (h2 : (y 2).val = c + (x 2).val) : sFin (sScale (sL2 (sSilu (kCv0 (cP i) (cN i) (HB i b0 b1 b2 b3 b4 b5 b hb) b6 b7 c j j0 j1 j2 j3 j4)))) x = blkPg i b0 b1 b2 b3 b4 b5 b6 b7 y := by
  obtain ⟨r, e, rfl⟩ := ex3 x
  have h0' : (y 0).val = b + 0 := h0
  have h1' : (y 1).val = 0 + r.val := h1
  have h2' : (y 2).val = c + e.val := h2
  refine Eq.trans ?_ (blkPg_at i b0 b1 b2 b3 b4 b5 b6 b7 b hb hd r e y (by omega) (by omega) (by omega)).symm
  refine finQ _ _ _ hd hh0 r (fun e => ?_) e
  rw [kCv0_at _ _ _ _ _ _ _ _ _ _ _ _ _, hc]
theorem gQ1 (b : ℕ) (hb : b < 4) (hd J c : ℕ) (hJ : c = J + 128) (hc : c = 128 * hd) (hh0 : hd < 4) (j : ∀ a, ![0, J] a + ![1024, 256] a ≤ S1024x4224.size a) (j0 : ∀ a, ![0, c] a + ![1, 128] a ≤ S5x1536.size a) (j1 : ∀ a, ![1, c] a + ![1, 128] a ≤ S5x1536.size a) (j2 : ∀ a, ![2, c] a + ![1, 128] a ≤ S5x1536.size a) (j3 : ∀ a, ![3, c] a + ![1, 128] a ≤ S5x1536.size a) (j4 : ∀ a, ![4, c] a + ![1, 128] a ≤ S5x1536.size a)
    (x : S1x256x128.Idx) (y : S4x256x2048.Idx) (h0 : (y 0).val = b + (x 0).val) (h1 : (y 1).val = 0 + (x 1).val) (h2 : (y 2).val = c + (x 2).val) : sFin (sScale (sL2 (sSilu (kCv1 (cP i) (cN i) (HB i b0 b1 b2 b3 b4 b5 b hb) b6 b7 J j c j0 j1 j2 j3 j4)))) x = blkPg i b0 b1 b2 b3 b4 b5 b6 b7 y := by
  obtain ⟨r, e, rfl⟩ := ex3 x
  have h0' : (y 0).val = b + 0 := h0
  have h1' : (y 1).val = 0 + r.val := h1
  have h2' : (y 2).val = c + e.val := h2
  refine Eq.trans ?_ (blkPg_at i b0 b1 b2 b3 b4 b5 b6 b7 b hb hd r e y (by omega) (by omega) (by omega)).symm
  refine finQ _ _ _ hd hh0 r (fun e => ?_) e
  rw [kCv1_at _ _ _ _ _ _ _ _ hJ _ _ _ _ _, hc]
theorem gK0 (b : ℕ) (hb : b < 4) (hd J c : ℕ) (hJ : J = c) (hc : c = 128 * hd) (hh0 : ¬ hd < 4) (hh1 : hd < 8) (j : ∀ a, ![0, c] a + ![1024, 256] a ≤ S1024x4224.size a) (j0 : ∀ a, ![0, c] a + ![1, 128] a ≤ S5x1536.size a) (j1 : ∀ a, ![1, c] a + ![1, 128] a ≤ S5x1536.size a) (j2 : ∀ a, ![2, c] a + ![1, 128] a ≤ S5x1536.size a) (j3 : ∀ a, ![3, c] a + ![1, 128] a ≤ S5x1536.size a) (j4 : ∀ a, ![4, c] a + ![1, 128] a ≤ S5x1536.size a)
    (x : S1x256x128.Idx) (y : S4x256x2048.Idx) (h0 : (y 0).val = b + (x 0).val) (h1 : (y 1).val = 0 + (x 1).val) (h2 : (y 2).val = c + (x 2).val) : sFin (sL2 (sSilu (kCv0 (cP i) (cN i) (HB i b0 b1 b2 b3 b4 b5 b hb) b6 b7 c j j0 j1 j2 j3 j4))) x = blkPg i b0 b1 b2 b3 b4 b5 b6 b7 y := by
  obtain ⟨r, e, rfl⟩ := ex3 x
  have h0' : (y 0).val = b + 0 := h0
  have h1' : (y 1).val = 0 + r.val := h1
  have h2' : (y 2).val = c + e.val := h2
  refine Eq.trans ?_ (blkPg_at i b0 b1 b2 b3 b4 b5 b6 b7 b hb hd r e y (by omega) (by omega) (by omega)).symm
  refine finK _ _ _ hd hh0 hh1 r (fun e => ?_) e
  rw [kCv0_at _ _ _ _ _ _ _ _ _ _ _ _ _, hc]
theorem gK1 (b : ℕ) (hb : b < 4) (hd J c : ℕ) (hJ : c = J + 128) (hc : c = 128 * hd) (hh0 : ¬ hd < 4) (hh1 : hd < 8) (j : ∀ a, ![0, J] a + ![1024, 256] a ≤ S1024x4224.size a) (j0 : ∀ a, ![0, c] a + ![1, 128] a ≤ S5x1536.size a) (j1 : ∀ a, ![1, c] a + ![1, 128] a ≤ S5x1536.size a) (j2 : ∀ a, ![2, c] a + ![1, 128] a ≤ S5x1536.size a) (j3 : ∀ a, ![3, c] a + ![1, 128] a ≤ S5x1536.size a) (j4 : ∀ a, ![4, c] a + ![1, 128] a ≤ S5x1536.size a)
    (x : S1x256x128.Idx) (y : S4x256x2048.Idx) (h0 : (y 0).val = b + (x 0).val) (h1 : (y 1).val = 0 + (x 1).val) (h2 : (y 2).val = c + (x 2).val) : sFin (sL2 (sSilu (kCv1 (cP i) (cN i) (HB i b0 b1 b2 b3 b4 b5 b hb) b6 b7 J j c j0 j1 j2 j3 j4))) x = blkPg i b0 b1 b2 b3 b4 b5 b6 b7 y := by
  obtain ⟨r, e, rfl⟩ := ex3 x
  have h0' : (y 0).val = b + 0 := h0
  have h1' : (y 1).val = 0 + r.val := h1
  have h2' : (y 2).val = c + e.val := h2
  refine Eq.trans ?_ (blkPg_at i b0 b1 b2 b3 b4 b5 b6 b7 b hb hd r e y (by omega) (by omega) (by omega)).symm
  refine finK _ _ _ hd hh0 hh1 r (fun e => ?_) e
  rw [kCv1_at _ _ _ _ _ _ _ _ hJ _ _ _ _ _, hc]
theorem gV0 (b : ℕ) (hb : b < 4) (hd J c : ℕ) (hJ : J = c) (hc : c = 128 * hd) (hh0 : ¬ hd < 4) (hh1 : ¬ hd < 8) (hh2 : hd < 12) (j : ∀ a, ![0, c] a + ![1024, 256] a ≤ S1024x4224.size a) (j0 : ∀ a, ![0, c] a + ![1, 128] a ≤ S5x1536.size a) (j1 : ∀ a, ![1, c] a + ![1, 128] a ≤ S5x1536.size a) (j2 : ∀ a, ![2, c] a + ![1, 128] a ≤ S5x1536.size a) (j3 : ∀ a, ![3, c] a + ![1, 128] a ≤ S5x1536.size a) (j4 : ∀ a, ![4, c] a + ![1, 128] a ≤ S5x1536.size a)
    (x : S1x256x128.Idx) (y : S4x256x2048.Idx) (h0 : (y 0).val = b + (x 0).val) (h1 : (y 1).val = 0 + (x 1).val) (h2 : (y 2).val = c + (x 2).val) : sFin (sSilu (kCv0 (cP i) (cN i) (HB i b0 b1 b2 b3 b4 b5 b hb) b6 b7 c j j0 j1 j2 j3 j4)) x = blkPg i b0 b1 b2 b3 b4 b5 b6 b7 y := by
  obtain ⟨r, e, rfl⟩ := ex3 x
  have h0' : (y 0).val = b + 0 := h0
  have h1' : (y 1).val = 0 + r.val := h1
  have h2' : (y 2).val = c + e.val := h2
  refine Eq.trans ?_ (blkPg_at i b0 b1 b2 b3 b4 b5 b6 b7 b hb hd r e y (by omega) (by omega) (by omega)).symm
  refine finV _ _ _ hd hh0 hh1 hh2 r (fun e => ?_) e
  rw [kCv0_at _ _ _ _ _ _ _ _ _ _ _ _ _, hc]
theorem gV1 (b : ℕ) (hb : b < 4) (hd J c : ℕ) (hJ : c = J + 128) (hc : c = 128 * hd) (hh0 : ¬ hd < 4) (hh1 : ¬ hd < 8) (hh2 : hd < 12) (j : ∀ a, ![0, J] a + ![1024, 256] a ≤ S1024x4224.size a) (j0 : ∀ a, ![0, c] a + ![1, 128] a ≤ S5x1536.size a) (j1 : ∀ a, ![1, c] a + ![1, 128] a ≤ S5x1536.size a) (j2 : ∀ a, ![2, c] a + ![1, 128] a ≤ S5x1536.size a) (j3 : ∀ a, ![3, c] a + ![1, 128] a ≤ S5x1536.size a) (j4 : ∀ a, ![4, c] a + ![1, 128] a ≤ S5x1536.size a)
    (x : S1x256x128.Idx) (y : S4x256x2048.Idx) (h0 : (y 0).val = b + (x 0).val) (h1 : (y 1).val = 0 + (x 1).val) (h2 : (y 2).val = c + (x 2).val) : sFin (sSilu (kCv1 (cP i) (cN i) (HB i b0 b1 b2 b3 b4 b5 b hb) b6 b7 J j c j0 j1 j2 j3 j4)) x = blkPg i b0 b1 b2 b3 b4 b5 b6 b7 y := by
  obtain ⟨r, e, rfl⟩ := ex3 x
  have h0' : (y 0).val = b + 0 := h0
  have h1' : (y 1).val = 0 + r.val := h1
  have h2' : (y 2).val = c + e.val := h2
  refine Eq.trans ?_ (blkPg_at i b0 b1 b2 b3 b4 b5 b6 b7 b hb hd r e y (by omega) (by omega) (by omega)).symm
  refine finV _ _ _ hd hh0 hh1 hh2 r (fun e => ?_) e
  rw [kCv1_at _ _ _ _ _ _ _ _ hJ _ _ _ _ _, hc]
theorem gD0 (b : ℕ) (hb : b < 4) (hd J c : ℕ) (hJ : J = c) (hc : c = 128 * hd) (hh0 : ¬ hd < 12) (j : ∀ a, ![0, c] a + ![1024, 256] a ≤ S1024x4224.size a)
    (x : S1x256x128.Idx) (y : S4x256x2048.Idx) (h0 : (y 0).val = b + (x 0).val) (h1 : (y 1).val = 0 + (x 1).val) (h2 : (y 2).val = c + (x 2).val) : sFin (kD0 (HB i b0 b1 b2 b3 b4 b5 b hb) b6 c j) x = blkPg i b0 b1 b2 b3 b4 b5 b6 b7 y := by
  obtain ⟨r, e, rfl⟩ := ex3 x
  have h0' : (y 0).val = b + 0 := h0
  have h1' : (y 1).val = 0 + r.val := h1
  have h2' : (y 2).val = c + e.val := h2
  refine Eq.trans ?_ (blkPg_at i b0 b1 b2 b3 b4 b5 b6 b7 b hb hd r e y (by omega) (by omega) (by omega)).symm
  refine finD _ _ _ hd hh0 r (fun e => ?_) e
  rw [kD0_at, ← hc]
theorem gD1 (b : ℕ) (hb : b < 4) (hd J c : ℕ) (hJ : c = J + 128) (hc : c = 128 * hd) (hh0 : ¬ hd < 12) (j : ∀ a, ![0, J] a + ![1024, 256] a ≤ S1024x4224.size a)
    (x : S1x256x128.Idx) (y : S4x256x2048.Idx) (h0 : (y 0).val = b + (x 0).val) (h1 : (y 1).val = 0 + (x 1).val) (h2 : (y 2).val = c + (x 2).val) : sFin (kD1 (HB i b0 b1 b2 b3 b4 b5 b hb) b6 J j) x = blkPg i b0 b1 b2 b3 b4 b5 b6 b7 y := by
  obtain ⟨r, e, rfl⟩ := ex3 x
  have h0' : (y 0).val = b + 0 := h0
  have h1' : (y 1).val = 0 + r.val := h1
  have h2' : (y 2).val = c + e.val := h2
  refine Eq.trans ?_ (blkPg_at i b0 b1 b2 b3 b4 b5 b6 b7 b hb hd r e y (by omega) (by omega) (by omega)).symm
  refine finD _ _ _ hd hh0 r (fun e => ?_) e
  rw [kD1_at, ← hc, hJ]
theorem gR0 (b : ℕ) (hb : b < 4) (hd J c : ℕ) (hJ : J = 2048 + c) (hc : c = 128 * hd) (hh0 : hd < 4) (j : ∀ a, ![0, J] a + ![1024, 256] a ≤ S1024x4224.size a)
    (x : S1x256x128.Idx) (y : S4x256x2048.Idx) (h0 : (y 0).val = b + (x 0).val) (h1 : (y 1).val = 0 + (x 1).val) (h2 : (y 2).val = c + (x 2).val) : sFin (sRot b8 b9 (kD0 (HB i b0 b1 b2 b3 b4 b5 b hb) b6 J j)) x = blkPr i b0 b1 b2 b3 b4 b5 b6 b8 b9 y := by
  obtain ⟨r, e, rfl⟩ := ex3 x
  have h0' : (y 0).val = b + 0 := h0
  have h1' : (y 1).val = 0 + r.val := h1
  have h2' : (y 2).val = c + e.val := h2
  refine Eq.trans ?_ (blkPr_at i b0 b1 b2 b3 b4 b5 b6 b8 b9 b hb hd r e y (by omega) (by omega) (by omega)).symm
  refine finR _ _ b8 b9 hd hh0 r (fun e => ?_) e
  rw [kD0_at, hJ, hc]
theorem gR1 (b : ℕ) (hb : b < 4) (hd J c : ℕ) (hJ : J + 128 = 2048 + c) (hc : c = 128 * hd) (hh0 : hd < 4) (j : ∀ a, ![0, J] a + ![1024, 256] a ≤ S1024x4224.size a)
    (x : S1x256x128.Idx) (y : S4x256x2048.Idx) (h0 : (y 0).val = b + (x 0).val) (h1 : (y 1).val = 0 + (x 1).val) (h2 : (y 2).val = c + (x 2).val) : sFin (sRot b8 b9 (kD1 (HB i b0 b1 b2 b3 b4 b5 b hb) b6 J j)) x = blkPr i b0 b1 b2 b3 b4 b5 b6 b8 b9 y := by
  obtain ⟨r, e, rfl⟩ := ex3 x
  have h0' : (y 0).val = b + 0 := h0
  have h1' : (y 1).val = 0 + r.val := h1
  have h2' : (y 2).val = c + e.val := h2
  refine Eq.trans ?_ (blkPr_at i b0 b1 b2 b3 b4 b5 b6 b8 b9 b hb hd r e y (by omega) (by omega) (by omega)).symm
  refine finR _ _ b8 b9 hd hh0 r (fun e => ?_) e
  rw [kD1_at, hJ, hc]
theorem gS0 (b : ℕ) (hb : b < 4) (hd J c : ℕ) (hJ : J = 2048 + c) (hc : c = 128 * hd) (hh0 : ¬ hd < 4) (hh1 : hd < 8) (j : ∀ a, ![0, J] a + ![1024, 256] a ≤ S1024x4224.size a)
    (x : S1x256x128.Idx) (y : S4x256x2048.Idx) (h0 : (y 0).val = b + (x 0).val) (h1 : (y 1).val = 0 + (x 1).val) (h2 : (y 2).val = c + (x 2).val) : sFin (sScale (sRot b8 b9 (kD0 (HB i b0 b1 b2 b3 b4 b5 b hb) b6 J j))) x = blkPr i b0 b1 b2 b3 b4 b5 b6 b8 b9 y := by
  obtain ⟨r, e, rfl⟩ := ex3 x
  have h0' : (y 0).val = b + 0 := h0
  have h1' : (y 1).val = 0 + r.val := h1
  have h2' : (y 2).val = c + e.val := h2
  refine Eq.trans ?_ (blkPr_at i b0 b1 b2 b3 b4 b5 b6 b8 b9 b hb hd r e y (by omega) (by omega) (by omega)).symm
  refine finS _ _ b8 b9 hd hh0 hh1 r (fun e => ?_) e
  rw [kD0_at, hJ, hc]
theorem gS1 (b : ℕ) (hb : b < 4) (hd J c : ℕ) (hJ : J + 128 = 2048 + c) (hc : c = 128 * hd) (hh0 : ¬ hd < 4) (hh1 : hd < 8) (j : ∀ a, ![0, J] a + ![1024, 256] a ≤ S1024x4224.size a)
    (x : S1x256x128.Idx) (y : S4x256x2048.Idx) (h0 : (y 0).val = b + (x 0).val) (h1 : (y 1).val = 0 + (x 1).val) (h2 : (y 2).val = c + (x 2).val) : sFin (sScale (sRot b8 b9 (kD1 (HB i b0 b1 b2 b3 b4 b5 b hb) b6 J j))) x = blkPr i b0 b1 b2 b3 b4 b5 b6 b8 b9 y := by
  obtain ⟨r, e, rfl⟩ := ex3 x
  have h0' : (y 0).val = b + 0 := h0
  have h1' : (y 1).val = 0 + r.val := h1
  have h2' : (y 2).val = c + e.val := h2
  refine Eq.trans ?_ (blkPr_at i b0 b1 b2 b3 b4 b5 b6 b8 b9 b hb hd r e y (by omega) (by omega) (by omega)).symm
  refine finS _ _ b8 b9 hd hh0 hh1 r (fun e => ?_) e
  rw [kD1_at, hJ, hc]
theorem gP0 (b : ℕ) (hb : b < 4) (hd J c : ℕ) (hJ : J = 2048 + c) (hc : c = 128 * hd) (hh0 : ¬ hd < 8) (j : ∀ a, ![0, J] a + ![1024, 256] a ≤ S1024x4224.size a)
    (x : S1x256x128.Idx) (y : S4x256x2048.Idx) (h0 : (y 0).val = b + (x 0).val) (h1 : (y 1).val = 0 + (x 1).val) (h2 : (y 2).val = c + (x 2).val) : sFin (kD0 (HB i b0 b1 b2 b3 b4 b5 b hb) b6 J j) x = blkPr i b0 b1 b2 b3 b4 b5 b6 b8 b9 y := by
  obtain ⟨r, e, rfl⟩ := ex3 x
  have h0' : (y 0).val = b + 0 := h0
  have h1' : (y 1).val = 0 + r.val := h1
  have h2' : (y 2).val = c + e.val := h2
  refine Eq.trans ?_ (blkPr_at i b0 b1 b2 b3 b4 b5 b6 b8 b9 b hb hd r e y (by omega) (by omega) (by omega)).symm
  refine finP _ _ _ _ hd hh0 r (fun e => ?_) e
  rw [kD0_at, hJ, hc]
theorem gP1 (b : ℕ) (hb : b < 4) (hd J c : ℕ) (hJ : J + 128 = 2048 + c) (hc : c = 128 * hd) (hh0 : ¬ hd < 8) (j : ∀ a, ![0, J] a + ![1024, 256] a ≤ S1024x4224.size a)
    (x : S1x256x128.Idx) (y : S4x256x2048.Idx) (h0 : (y 0).val = b + (x 0).val) (h1 : (y 1).val = 0 + (x 1).val) (h2 : (y 2).val = c + (x 2).val) : sFin (kD1 (HB i b0 b1 b2 b3 b4 b5 b hb) b6 J j) x = blkPr i b0 b1 b2 b3 b4 b5 b6 b8 b9 y := by
  obtain ⟨r, e, rfl⟩ := ex3 x
  have h0' : (y 0).val = b + 0 := h0
  have h1' : (y 1).val = 0 + r.val := h1
  have h2' : (y 2).val = c + e.val := h2
  refine Eq.trans ?_ (blkPr_at i b0 b1 b2 b3 b4 b5 b6 b8 b9 b hb hd r e y (by omega) (by omega) (by omega)).symm
  refine finP _ _ _ _ hd hh0 r (fun e => ?_) e
  rw [kD1_at, hJ, hc]
theorem gG (b : ℕ) (hb : b < 4) (j : ∀ a, ![0, 4096] a + ![1024, 128] a ≤ S1024x4224.size a) (i0 : ∀ a, ![0, 0] a + ![1, 128] a ≤ S8x128.size a) (i1 : ∀ a, ![1, 0] a + ![1, 128] a ≤ S8x128.size a) (j0 : ∀ a, ![0, 0, 0] a + ![1, 256, 256] a ≤ S2x256x256.size a) (j1 : ∀ a, ![1, 0, 0] a + ![1, 256, 256] a ≤ S2x256x256.size a)
    (x : S1x256x128.Idx) (y : S4x256x128.Idx) (h0 : (y 0).val = b + (x 0).val) (h1 : (y 1).val = 0 + (x 1).val) (h2 : (y 2).val = 0 + (x 2).val) :
    sGates (kG (HB i b0 b1 b2 b3 b4 b5 b hb) b6 b10 b11 j i0 i1 j0 j1) x = blkG i b0 b1 b2 b3 b4 b5 b6 b10 b11 (y 0) (y 1) (y 2) := by
  obtain ⟨r, e, rfl⟩ := ex3 x
  have h0' : (y 0).val = b + 0 := h0
  have h1' : (y 1).val = 0 + r.val := h1
  have h2' : (y 2).val = 0 + e.val := h2
  have e0 : y 0 = (⟨b, hb⟩ : Fin 4) := Fin.ext (by show (y 0).val = b; omega)
  have e1 : y 1 = r := Fin.ext (by omega)
  have e2 : y 2 = e := Fin.ext (by omega)
  rw [e0, e1, e2, sGates_at, kG_at]
  rfl
theorem gT (b : ℕ) (hb : b < 4) (j : ∀ a, ![0, 4096] a + ![1024, 128] a ≤ S1024x4224.size a) (i0 : ∀ a, ![0, 0] a + ![1, 128] a ≤ S8x128.size a) (i1 : ∀ a, ![1, 0] a + ![1, 128] a ≤ S8x128.size a) (j0 : ∀ a, ![0, 0, 0] a + ![1, 256, 256] a ≤ S2x256x256.size a) (j1 : ∀ a, ![1, 0, 0] a + ![1, 256, 256] a ≤ S2x256x256.size a)
    (x : S1x8x256.Idx) (y : S4x8x256.Idx) (h0 : (y 0).val = b + (x 0).val) (h1 : (y 1).val = 0 + (x 1).val) (h2 : (y 2).val = 0 + (x 2).val) :
    sGatesT (kG (HB i b0 b1 b2 b3 b4 b5 b hb) b6 b10 b11 j i0 i1 j0 j1) x = blkG i b0 b1 b2 b3 b4 b5 b6 b10 b11 (y 0) (y 2) ⟨(y 1).val, lt_trans (y 1).isLt (by decide)⟩ := by
  obtain ⟨l, r, rfl⟩ := exT x
  have h0' : (y 0).val = b + 0 := h0
  have h1' : (y 1).val = 0 + l.val := h1
  have h2' : (y 2).val = 0 + r.val := h2
  have e0 : y 0 = (⟨b, hb⟩ : Fin 4) := Fin.ext (by show (y 0).val = b; omega)
  have e1 : (⟨(y 1).val, lt_trans (y 1).isLt (by decide)⟩ : Fin 128) = ⟨l.val, by omega⟩ := Fin.ext (by show (y 1).val = l.val; omega)
  have e2 : y 2 = r := Fin.ext (by omega)
  rw [e0, e1, e2, sGatesT_at, kG_at]
  rfl
end

end Cert.Kernel3Ideal.Inp
end
-- ==== Proof.InpScat.lean ====
module

public import proofs.«01_k».proof.Proof.InpMath
public import Idealize.ShloMosaic.Lib.Routing.OpsOne

@[expose] public section
noncomputable section
namespace Cert.Kernel3Ideal.Inp
open Idealize.ShloMosaic hiding ix1 ix2 ix3 eq_ix1 eq_ix2
open Idealize.ShloMosaic.Routing Idealize.ShloMosaic.ValueIdx

/-! A row's leading entries set in a table. -/
theorem lands_row {R C U w : Nat} (d : ScatterDims (shape2 R C) (shape1 2) (shape1 U)) (hiw : d.insertedWindowDims = [0]) (hsd : d.scatterDimsToOperandDims = [0, 1])
    (hivd : d.indexVectorDim = 0) (idx : IVec (shape1 2) w) (k : Fin U) (r : Fin R) (c : Fin C) :
    d.resultIdx? (ix1 k) idx = some (ix2 r c) ↔ (idx (ix1 (0 : Fin 2))).toInt = r.val ∧ (idx (ix1 (1 : Fin 2))).toInt + (k.val : Int) = c.val := by
  have hwin1 : d.window (ix1 k) 1 = k.val := by
    have hk : d.sKept = [1] := by
      show (shape2 R C).kept d.insertedWindowDims = _
      rw [hiw]
      rfl
    unfold ScatterDims.window
    rw [dif_pos (by rw [hk]; simp)]
    exact congrArg (fun t => ((ix1 k : (shape1 U).Idx) t).val) (Subsingleton.elim (α := Fin 1) _ 0)
  have hwin0 : d.window (ix1 k) 0 = 0 := by
    unfold ScatterDims.window
    rw [dif_neg fun h => (of_decide_eq_true (List.mem_filter.1 h).2) (by rw [hiw]; simp)]
  rw [resultIdx?_ix2, start_pair d hsd hivd, start_pair d hsd hivd, hwin0, hwin1]
  omega

theorem scatter_row {α : Type} {R C U w : Nat} (d : ScatterDims (shape2 R C) (shape1 2) (shape1 U)) (hiw : d.insertedWindowDims = [0])
    (hsd : d.scatterDimsToOperandDims = [0, 1]) (hivd : d.indexVectorDim = 0) (x0 : (shape2 R C).Idx → α) (idx : IVec (shape1 2) w) (upd : (shape1 U).Idx → α)
    (R0 : ℕ) (h0 : (idx (ix1 (0 : Fin 2))).toInt = R0) (h1 : (idx (ix1 (1 : Fin 2))).toInt = 0) (r : Fin R) (c : Fin C) :
    Host.scatter d (fun _ b => b) x0 idx upd (ix2 r c) = if h : R0 = r.val ∧ c.val < U then upd (ix1 ⟨c.val, h.2⟩) else x0 (ix2 r c) := by
  have lands : ∀ k' : (shape1 U).Idx, d.resultIdx? k' idx = some (ix2 r c) → R0 = r.val ∧ (k' 0).val = c.val := fun k' hk' => by
    have h := (lands_row d hiw hsd hivd idx (k' 0) r c).1 ((congrArg (fun t => d.resultIdx? t idx) (eq_ix1 k').symm).trans hk')
    rw [h0, h1] at h
    omega
  by_cases h : R0 = r.val ∧ c.val < U
  · rw [dif_pos h]
    refine scatter_set_hit d x0 idx upd _ _ (fun k' hk' => ?_) (ix1 ⟨c.val, h.2⟩) ((lands_row d hiw hsd hivd idx _ r c).2 ⟨by rw [h0]; exact congrArg Nat.cast h.1, by rw [h1]; exact Int.zero_add _⟩)
    rw [eq_ix1 k']
    exact congrArg (fun e => upd (ix1 e)) (Fin.ext (lands k' hk').2)
  · rw [dif_neg h]
    refine scatter_set_miss d x0 idx upd _ fun k' hk' => h ?_
    obtain ⟨q0, q1⟩ := lands k' hk'
    have hlt : (k' 0).val < U := (k' 0).isLt
    exact ⟨q0, by omega⟩

theorem e1 {n : ℕ} (k : Fin n) : (Idealize.ShloMosaic.ix1 k : (⟨1, ![n]⟩ : Shape).Idx) = ix1 k := by funext a; fin_cases a; rfl
theorem e2 {n k : ℕ} (a : Fin n) (b : Fin k) : (Idealize.ShloMosaic.ix2 a b : (⟨2, ![n, k]⟩ : Shape).Idx) = ix2 a b := by funext i; fin_cases i <;> rfl
/-- A row's leading entries set in a table of zeros or of such rows. -/
theorem scatter_row' {α : Type} {R C U w : Nat} (d : ScatterDims (shape2 R C) (shape1 2) (shape1 U)) (hiw : d.insertedWindowDims = [0])
    (hsd : d.scatterDimsToOperandDims = [0, 1]) (hivd : d.indexVectorDim = 0) (x0 : (shape2 R C).Idx → α) (idx : IVec (shape1 2) w) (upd : (shape1 U).Idx → α)
    (R0 : ℕ) (h0 : (idx (Idealize.ShloMosaic.ix1 (0 : Fin 2))).toInt = R0) (h1 : (idx (Idealize.ShloMosaic.ix1 (1 : Fin 2))).toInt = 0) (r : Fin R) (c : Fin C) :
    Host.scatter d (fun _ b => b) x0 idx upd (Idealize.ShloMosaic.ix2 r c)
      = if h : R0 = r.val ∧ c.val < U then upd (Idealize.ShloMosaic.ix1 ⟨c.val, h.2⟩) else x0 (Idealize.ShloMosaic.ix2 r c) := by
  rw [e1] at h0 h1
  simp only [e1, e2]
  exact scatter_row d hiw hsd hivd x0 idx upd R0 h0 h1 r c
end Cert.Kernel3Ideal.Inp
end
-- ==== Proof.InpVal.lean ====
module

public import proofs.«01_k».proof.Proof.InpMath
public import proofs.«01_k».proof.Proof.InpGoal
public import proofs.«01_k».proof.Proof.Gen.Kernel3Ideal.Value
public import proofs.«01_k».proof.Proof.InpScat

@[expose] public section
set_option maxRecDepth 16384
noncomputable section
namespace Cert.Kernel3Ideal.Inp
open Cert.Kernel3Ideal Cert.Kernel3Ideal.Gen Idealize.ShloMosaic Idealize.ShloMosaic.TcCoe Idealize.SL.Sem
open Idealize.ShloMosaic.Pipeline (Dat)
variable (m : (ℓ : Loc nD τ sig) → Buf (Elt Ideal) ℓ)

/-! ## The blocks as the argument arrays -/

/-- The argument arrays a core finds in memory. -/
def argsOf (x : Vec Ideal S4x4096x1024 .f32) (ctx : Vec Ideal S4x256x1024 .f32) (md : Vec Ideal S8x6x1024 .f32) (ng : Vec Ideal S1x1024 .f32) (w : Vec Ideal S1024x4224 .bf16)
    (cw : Vec Ideal S1x5x1536 .f32) (al dt : Vec Ideal S1x2x4 .f32) (co si : Vec Ideal S4352x64 .f32) : Args where
  x b r d := x (ix3 b r d)
  ctx b r d := ctx (ix3 b r d)
  md r j d := md (ix3 r j d)
  ng d := ng (ix2 0 d)
  w := wc w
  cw i j := cw (ix3 0 i ⟨j % 1536, Nat.mod_lt _ (by decide)⟩)
  al l := al (ix3 0 ⟨l / 4 % 2, Nat.mod_lt _ (by decide)⟩ ⟨l % 4, Nat.mod_lt _ (by decide)⟩)
  dt l := dt (ix3 0 ⟨l / 4 % 2, Nat.mod_lt _ (by decide)⟩ ⟨l % 4, Nat.mod_lt _ (by decide)⟩)
  co T e := co (ix2 ⟨T % 4352, Nat.mod_lt _ (by decide)⟩ ⟨e % 64, Nat.mod_lt _ (by decide)⟩)
  si T e := si (ix2 ⟨T % 4352, Nat.mod_lt _ (by decide)⟩ ⟨e % 64, Nat.mod_lt _ (by decide)⟩)

def argsAt (c : Dev nD) : Args :=
  argsOf (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

theorem idxA : ∀ t : Fin grid0.N, (win0_0.index t 0 = 0 ∧ win0_0.index t 1 = t.val - 1 ∧ win0_0.index t 2 = 0)
    ∧ (win0_1.index t 0 = 0 ∧ win0_1.index t 1 = (t.val - 1) * 32 - 1 ∧ win0_1.index t 2 = 0)
    ∧ (win0_2.index t 0 = 0 ∧ win0_2.index t 1 = min (t.val * 32) 511 ∧ win0_2.index t 2 = 0)
    ∧ (win0_3.index t 0 = 0 ∧ win0_3.index t 1 = 0 ∧ win0_3.index t 2 = 0)
    ∧ (win0_4.index t 0 = 0 ∧ win0_4.index t 1 = 0 ∧ win0_4.index t 2 = 0) := by decide +kernel
theorem idxB : ∀ t : Fin grid0.N, (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = t.val ∧ win0_8.index t 1 = 0) ∧ (win0_9.index t 0 = t.val ∧ win0_9.index t 1 = 0)
    ∧ (win0_10.index t 0 = 0 ∧ win0_10.index t 1 = 0) ∧ (win0_11.index t 0 = 0 ∧ win0_11.index t 1 = 0 ∧ win0_11.index t 2 = 0) := by decide +kernel
theorem idxC : ∀ t : Fin grid0.N, (win0_12.index t 0 = 0 ∧ win0_12.index t 1 = t.val ∧ win0_12.index t 2 = 0) ∧ (win0_13.index t 0 = 0 ∧ win0_13.index t 1 = t.val ∧ win0_13.index t 2 = 0)
    ∧ (win0_14.index t 0 = 0 ∧ win0_14.index t 1 = t.val ∧ win0_14.index t 2 = 0) ∧ (win0_15.index t 0 = 0 ∧ win0_15.index t 1 = 0 ∧ win0_15.index t 2 = t.val) := by decide +kernel
theorem crd : ∀ t : Fin grid0.N, t.val < 17 ∧ ((grid0.coords t) 0).val = t.val ∧ (cP (grid0.coords t) = 1#1 ↔ 2 ≤ t.val) ∧ (cN (grid0.coords t) = 1#1 ↔ 1 ≤ t.val ∧ t.val ≤ 15)
    ∧ (Scalar.cmpi .eq (BitVec.ofNat 32 ((grid0.coords t) 0).val) 0#32 = 1 ↔ t.val = 0) := by decide +kernel

section blocks
variable (c : Dev nD) (t : Fin cfg0.N)

theorem blk0 (b : Fin 4) (r : Fin 256) (d : Fin 1024) (R : Fin 4096) (h : R.val = (t.val - 1) * 256 + r.val) : iblk m c 0 t (ix3 b r d) = m ((c : Thread nD τ).loc main_arg0) (ix3 b R d) := by
  obtain ⟨⟨a0, a1, a2⟩, -⟩ := idxA t
  blk_ext [iblk, V, a0, a1, a2]
theorem blk1 (b : Fin 4) (r : Fin 8) (d : Fin 1024) (R : Fin 4096) (h : R.val = ((t.val - 1) * 32 - 1) * 8 + r.val) : iblk m c 1 t (ix3 b r d) = m ((c : Thread nD τ).loc main_arg0) (ix3 b R d) := by
  obtain ⟨-, ⟨a0, a1, a2⟩, -⟩ := idxA t
  blk_ext [iblk, V, a0, a1, a2]
theorem blk2 (b : Fin 4) (r : Fin 8) (d : Fin 1024) (R : Fin 4096) (h : R.val = (min (t.val * 32) 511) * 8 + r.val) : iblk m c 2 t (ix3 b r d) = m ((c : Thread nD τ).loc main_arg0) (ix3 b R d) := by
  obtain ⟨-, -, ⟨a0, a1, a2⟩, -⟩ := idxA t
  blk_ext [iblk, V, a0, a1, a2]
theorem blk3 (b : Fin 4) (r : Fin 256) (d : Fin 1024) : iblk m c 3 t (ix3 b r d) = m ((c : Thread nD τ).loc main_arg1) (ix3 b r d) := by
  obtain ⟨-, -, -, ⟨a0, a1, a2⟩, -⟩ := idxA t
  blk_ext [iblk, V, a0, a1, a2]
theorem blk4 (b : Fin 8) (r : Fin 6) (d : Fin 1024) : iblk m c 4 t (ix3 b r d) = m ((c : Thread nD τ).loc main_arg2) (ix3 b r d) := by
  obtain ⟨-, -, -, -, a0, a1, a2⟩ := idxA t
  blk_ext [iblk, V, a0, a1, a2]
theorem blk5 (d : Fin 1024) : iblk m c 5 t (ix2 0 d) = m ((c : Thread nD τ).loc main_arg3) (ix2 0 d) := by
  obtain ⟨⟨a0, a1⟩, -⟩ := idxB t
  blk_ext [iblk, V, a0, a1]
theorem blk6 (k : Fin 1024) (d : Fin 4224) : iblk m c 6 t (ix2 k d) = m ((c : Thread nD τ).loc main_arg4) (ix2 k d) := by
  obtain ⟨-, ⟨a0, a1⟩, -⟩ := idxB t
  blk_ext [iblk, V, a0, a1]
theorem V16_at (i : Fin 5) (j : Fin 1536) : V m c main_v16 (ix2 i j) = m ((c : Thread nD τ).loc main_arg5) (ix3 0 i j) := by
  entry_read
  pointwise
theorem blk7 (i : Fin 5) (j : Fin 1536) : iblk m c 7 t (ix2 i j) = m ((c : Thread nD τ).loc main_arg5) (ix3 0 i j) := by
  obtain ⟨-, -, ⟨a0, a1⟩, -⟩ := idxB t
  rw [← V16_at m c]
  blk_ext [iblk, a0, a1]
theorem V13_at (T : Fin 4352) (e : Fin 128) : V m c main_v13 (ix2 T e) = gCo (argsAt m c) T.val e.val := by
  entry_read
  pointwise [gCo, argsAt, argsOf]
  have hT : (⟨T.val % 4352, Nat.mod_lt _ (by decide)⟩ : Fin 4352) = T := Fin.ext (Nat.mod_eq_of_lt T.isLt)
  rw [hT]
  by_cases h : e.val < 64
  · rw [dif_pos h, if_pos h]
    exact congrArg (fun z => m ((c : Thread nD τ).loc main_arg8) (ix2 T z)) (Fin.ext (by show e.val = e.val % 64; omega))
  · rw [dif_neg h, if_neg h]
    exact congrArg (fun z => m ((c : Thread nD τ).loc main_arg8) (ix2 T z)) (Fin.ext (by show e.val - 64 = (e.val - 64) % 64; omega))
theorem blk8 (r : Fin 256) (e : Fin 128) : iblk m c 8 t (ix2 r e) = gCo (argsAt m c) (256 * t.val + r.val) e.val := by
  obtain ⟨-, -, -, ⟨a0, a1⟩, -⟩ := idxB t
  have ht := (crd t).1
  rw [← V13_at m c ⟨256 * t.val + r.val, by omega⟩]
  blk_ext [iblk, a0, a1]
theorem V15_at (T : Fin 4352) (e : Fin 128) : V m c main_v15 (ix2 T e) = gSi (argsAt m c) T.val e.val := by
  entry_read
  pointwise [gSi, argsAt, argsOf]
  have hT : (⟨T.val % 4352, Nat.mod_lt _ (by decide)⟩ : Fin 4352) = T := Fin.ext (Nat.mod_eq_of_lt T.isLt)
  rw [hT]
  by_cases h : e.val < 64
  · rw [dif_pos h, if_pos h]
    exact congrArg (Neg.neg : EReal → EReal) (congrArg (fun z => m ((c : Thread nD τ).loc main_arg9) (ix2 T z)) (Fin.ext (by show e.val = e.val % 64; omega)))
  · rw [dif_neg h, if_neg h]
    exact congrArg (fun z => m ((c : Thread nD τ).loc main_arg9) (ix2 T z)) (Fin.ext (by show e.val - 64 = (e.val - 64) % 64; omega))
theorem blk9 (r : Fin 256) (e : Fin 128) : iblk m c 9 t (ix2 r e) = gSi (argsAt m c) (256 * t.val + r.val) e.val := by
  obtain ⟨-, -, -, -, ⟨a0, a1⟩, -⟩ := idxB t
  have ht := (crd t).1
  rw [← V15_at m c ⟨256 * t.val + r.val, by omega⟩]
  blk_ext [iblk, a0, a1]
theorem V12_at0 (l : Fin 128) : V m c main_v12 (ix2 0 l) = gC0 (argsAt m c) l.val := by
  entry_read
  pointwise [gC0, argsAt, argsOf]
  rw [scatter_row' scatter_S8x128_S2_S8_0_0_01_0 rfl rfl rfl _ _ _ 1 (by decide) (by decide), dif_neg (by simp),
    scatter_row' scatter_S8x128_S2_S8_0_0_01_0 rfl rfl rfl _ _ _ 0 (by decide) (by decide)]
  by_cases h : l.val < 8
  · rw [dif_pos ⟨rfl, h⟩, if_pos h]
    pointwise
    exact congrArg (fun z => m ((c : Thread nD τ).loc main_arg6) (ix3 0 z ⟨l.val % 4, Nat.mod_lt _ (by decide)⟩)) (Fin.ext (by show l.val / 4 = l.val / 4 % 2; omega))
  · rw [dif_neg (fun q => h q.2), if_neg h]
    pointwise
theorem V12_at1 (l : Fin 128) : V m c main_v12 (ix2 1 l) = gC1 (argsAt m c) l.val := by
  entry_read
  pointwise [gC1, argsAt, argsOf]
  rw [scatter_row' scatter_S8x128_S2_S8_0_0_01_0 rfl rfl rfl _ _ _ 1 (by decide) (by decide)]
  by_cases h : l.val < 8
  · rw [dif_pos ⟨rfl, h⟩, if_pos h]
    pointwise
    exact congrArg (fun z => m ((c : Thread nD τ).loc main_arg7) (ix3 0 z ⟨l.val % 4, Nat.mod_lt _ (by decide)⟩)) (Fin.ext (by show l.val / 4 = l.val / 4 % 2; omega))
  · rw [dif_neg (fun q => h q.2), if_neg h, scatter_row' scatter_S8x128_S2_S8_0_0_01_0 rfl rfl rfl _ _ _ 0 (by decide) (by decide), dif_neg (fun q => h q.2)]
    pointwise
theorem blk10a (l : Fin 128) : iblk m c 10 t (ix2 0 l) = gC0 (argsAt m c) l.val := by
  obtain ⟨-, -, -, -, -, ⟨a0, a1⟩, -⟩ := idxB t
  rw [← V12_at0 m c]
  blk_ext [iblk, a0, a1]
theorem blk10b (l : Fin 128) : iblk m c 10 t (ix2 1 l) = gC1 (argsAt m c) l.val := by
  obtain ⟨-, -, -, -, -, ⟨a0, a1⟩, -⟩ := idxB t
  rw [← V12_at1 m c]
  blk_ext [iblk, a0, a1]
theorem Vtri (p : Fin 2) (r i : Fin 256) : V m c main_cst (ix3 p r i) = FloatOps.ofBits (F := Ideal) .bf16 (lit0t (65536 * p.val + 256 * r.val + i.val)) := by
  entry_read
  pointwise
  have e : S2x256x256.rowMajor (ix3 p r i) = (⟨65536 * p.val + 256 * r.val + i.val, by show _ < 131072; omega⟩ : Fin 131072) := by
    refine Fin.ext ?_
    refine (rowMajor_val3 (d := ![2, 256, 256]) (ix3 p r i) 65536 256 rfl rfl).trans ?_
    show p.val * 65536 + r.val * 256 + i.val = 65536 * p.val + 256 * r.val + i.val
    omega
  rw [e]
theorem blk11 (p : Fin 2) (r i : Fin 256) : iblk m c 11 t (ix3 p r i) = FloatOps.ofBits (F := Ideal) .bf16 (lit0t (65536 * p.val + 256 * r.val + i.val)) := by
  obtain ⟨-, -, -, -, -, -, a0, a1, a2⟩ := idxB t
  rw [← Vtri m c]
  blk_ext [iblk, a0, a1, a2]
end blocks
end Cert.Kernel3Ideal.Inp
end
-- ==== Proof.InpPg.lean ====
module

public import proofs.«01_k».proof.Proof.InpGoal
public import proofs.«01_k».proof.Proof.Gen.Kernel3Ideal.Value

@[expose] public section
set_option maxRecDepth 16384
noncomputable section
namespace Cert.Kernel3Ideal.Inp
open Cert.Kernel3Ideal Cert.Kernel3Ideal.Gen Idealize.ShloMosaic Idealize.ShloMosaic.TcCoe Idealize.SL.Sem
variable (m : (ℓ : Loc nD τ sig) → Buf (Elt Ideal) ℓ)

set_option maxHeartbeats 4000000 in
theorem after12_at (c : Dev nD) (t : Fin cfg0.N) (y : S4x256x2048.Idx) :
    (dats m 0 c).after 12 t y = blkPg (grid0.coords t) (iblk m c 0 t) (iblk m c 1 t) (iblk m c 2 t) (iblk m c 3 t) (iblk m c 4 t) (iblk m c 5 t) (iblk m c 6 t) (iblk m c 7 t) y := by
  rw [after0_12]
  unfold outsAt0
  frame_open
  simp (disch := decide) only [↓ win_read, ↓ win_read2, ↓ top_read, ↓ View.readCov_skip, ↓ View.readCov_cons_toLoadRect, ↓ View.readCov_fill]
  frame_out
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  generalize iblk m c 9 t = b9
  generalize iblk m c 10 t = b10
  generalize iblk m c 11 t = b11
  generalize grid0.coords t = i
  canon_tiles x h
  · exact gV1 i b0 b1 b2 b3 b4 b5 b6 b7 3 (by decide) 11 1280 1408 rfl rfl (by decide) (by decide) (by decide) (by decide) (by decide) (by decide) (by decide) (by decide) (by decide) x y (by omega) (by omega) (by omega)
  · exact gV0 i b0 b1 b2 b3 b4 b5 b6 b7 3 (by decide) 10 1280 1280 rfl rfl (by decide) (by decide) (by decide) (by decide) (by decide) (by decide) (by decide) (by decide) (by decide) x y (by omega) (by omega) (by omega)
  · exact gV1 i b0 b1 b2 b3 b4 b5 b6 b7 3 (by decide) 9 1024 1152 rfl rfl (by decide) (by decide) (by decide) (by decide) (by decide) (by decide) (by decide) (by decide) (by decide) x y (by omega) (by omega) (by omega)
  · exact gV0 i b0 b1 b2 b3 b4 b5 b6 b7 3 (by decide) 8 1024 1024 rfl rfl (by decide) (by decide) (by decide) (by decide) (by decide) (by decide) (by decide) (by decide) (by decide) x y (by omega) (by omega) (by omega)
  · exact gV1 i b0 b1 b2 b3 b4 b5 b6 b7 2 (by decide) 11 1280 1408 rfl rfl (by decide) (by decide) (by decide) (by decide) (by decide) (by decide) (by decide) (by decide) (by decide) x y (by omega) (by omega) (by omega)
  · exact gK1 i b0 b1 b2 b3 b4 b5 b6 b7 3 (by decide) 7 768 896 rfl rfl (by decide) (by decide) (by decide) (by decide) (by decide) (by decide) (by decide) (by decide) x y (by omega) (by omega) (by omega)
  · exact gV0 i b0 b1 b2 b3 b4 b5 b6 b7 2 (by decide) 10 1280 1280 rfl rfl (by decide) (by decide) (by decide) (by decide) (by decide) (by decide) (by decide) (by decide) (by decide) x y (by omega) (by omega) (by omega)
  · exact gK0 i b0 b1 b2 b3 b4 b5 b6 b7 3 (by decide) 6 768 768 rfl rfl (by decide) (by decide) (by decide) (by decide) (by decide) (by decide) (by decide) (by decide) x y (by omega) (by omega) (by omega)
  · exact gV1 i b0 b1 b2 b3 b4 b5 b6 b7 2 (by decide) 9 1024 1152 rfl rfl (by decide) (by decide) (by decide) (by decide) (by decide) (by decide) (by decide) (by decide) (by decide) x y (by omega) (by omega) (by omega)
  · exact gK1 i b0 b1 b2 b3 b4 b5 b6 b7 3 (by decide) 5 512 640 rfl rfl (by decide) (by decide) (by decide) (by decide) (by decide) (by decide) (by decide) (by decide) x y (by omega) (by omega) (by omega)
  · exact gV0 i b0 b1 b2 b3 b4 b5 b6 b7 2 (by decide) 8 1024 1024 rfl rfl (by decide) (by decide) (by decide) (by decide) (by decide) (by decide) (by decide) (by decide) (by decide) x y (by omega) (by omega) (by omega)
  · exact gV1 i b0 b1 b2 b3 b4 b5 b6 b7 1 (by decide) 11 1280 1408 rfl rfl (by decide) (by decide) (by decide) (by decide) (by decide) (by decide) (by decide) (by decide) (by decide) x y (by omega) (by omega) (by omega)
  · exact gK0 i b0 b1 b2 b3 b4 b5 b6 b7 3 (by decide) 4 512 512 rfl rfl (by decide) (by decide) (by decide) (by decide) (by decide) (by decide) (by decide) (by decide) x y (by omega) (by omega) (by omega)
  · exact gD1 i b0 b1 b2 b3 b4 b5 b6 b7 3 (by decide) 15 1792 1920 rfl rfl (by decide) (by decide) x y (by omega) (by omega) (by omega)
  · exact gD0 i b0 b1 b2 b3 b4 b5 b6 b7 3 (by decide) 14 1792 1792 rfl rfl (by decide) (by decide) x y (by omega) (by omega) (by omega)
  · exact gK1 i b0 b1 b2 b3 b4 b5 b6 b7 2 (by decide) 7 768 896 rfl rfl (by decide) (by decide) (by decide) (by decide) (by decide) (by decide) (by decide) (by decide) x y (by omega) (by omega) (by omega)
  · exact gV0 i b0 b1 b2 b3 b4 b5 b6 b7 1 (by decide) 10 1280 1280 rfl rfl (by decide) (by decide) (by decide) (by decide) (by decide) (by decide) (by decide) (by decide) (by decide) x y (by omega) (by omega) (by omega)
  · exact gQ1 i b0 b1 b2 b3 b4 b5 b6 b7 3 (by decide) 3 256 384 rfl rfl (by decide) (by decide) (by decide) (by decide) (by decide) (by decide) (by decide) x y (by omega) (by omega) (by omega)
  · exact gK0 i b0 b1 b2 b3 b4 b5 b6 b7 2 (by decide) 6 768 768 rfl rfl (by decide) (by decide) (by decide) (by decide) (by decide) (by decide) (by decide) (by decide) x y (by omega) (by omega) (by omega)
  · exact gV1 i b0 b1 b2 b3 b4 b5 b6 b7 1 (by decide) 9 1024 1152 rfl rfl (by decide) (by decide) (by decide) (by decide) (by decide) (by decide) (by decide) (by decide) (by decide) x y (by omega) (by omega) (by omega)
  · exact gQ0 i b0 b1 b2 b3 b4 b5 b6 b7 3 (by decide) 2 256 256 rfl rfl (by decide) (by decide) (by decide) (by decide) (by decide) (by decide) (by decide) x y (by omega) (by omega) (by omega)
  · exact gD1 i b0 b1 b2 b3 b4 b5 b6 b7 3 (by decide) 13 1536 1664 rfl rfl (by decide) (by decide) x y (by omega) (by omega) (by omega)
  · exact gD0 i b0 b1 b2 b3 b4 b5 b6 b7 3 (by decide) 12 1536 1536 rfl rfl (by decide) (by decide) x y (by omega) (by omega) (by omega)
  · exact gK1 i b0 b1 b2 b3 b4 b5 b6 b7 2 (by decide) 5 512 640 rfl rfl (by decide) (by decide) (by decide) (by decide) (by decide) (by decide) (by decide) (by decide) x y (by omega) (by omega) (by omega)
  · exact gV0 i b0 b1 b2 b3 b4 b5 b6 b7 1 (by decide) 8 1024 1024 rfl rfl (by decide) (by decide) (by decide) (by decide) (by decide) (by decide) (by decide) (by decide) (by decide) x y (by omega) (by omega) (by omega)
  · exact gV1 i b0 b1 b2 b3 b4 b5 b6 b7 0 (by decide) 11 1280 1408 rfl rfl (by decide) (by decide) (by decide) (by decide) (by decide) (by decide) (by decide) (by decide) (by decide) x y (by omega) (by omega) (by omega)
  · exact gQ1 i b0 b1 b2 b3 b4 b5 b6 b7 3 (by decide) 1 0 128 rfl rfl (by decide) (by decide) (by decide) (by decide) (by decide) (by decide) (by decide) x y (by omega) (by omega) (by omega)
  · exact gK0 i b0 b1 b2 b3 b4 b5 b6 b7 2 (by decide) 4 512 512 rfl rfl (by decide) (by decide) (by decide) (by decide) (by decide) (by decide) (by decide) (by decide) x y (by omega) (by omega) (by omega)
  · exact gD1 i b0 b1 b2 b3 b4 b5 b6 b7 2 (by decide) 15 1792 1920 rfl rfl (by decide) (by decide) x y (by omega) (by omega) (by omega)
  · exact gD0 i b0 b1 b2 b3 b4 b5 b6 b7 2 (by decide) 14 1792 1792 rfl rfl (by decide) (by decide) x y (by omega) (by omega) (by omega)
  · exact gK1 i b0 b1 b2 b3 b4 b5 b6 b7 1 (by decide) 7 768 896 rfl rfl (by decide) (by decide) (by decide) (by decide) (by decide) (by decide) (by decide) (by decide) x y (by omega) (by omega) (by omega)
  · exact gV0 i b0 b1 b2 b3 b4 b5 b6 b7 0 (by decide) 10 1280 1280 rfl rfl (by decide) (by decide) (by decide) (by decide) (by decide) (by decide) (by decide) (by decide) (by decide) x y (by omega) (by omega) (by omega)
  · exact gQ0 i b0 b1 b2 b3 b4 b5 b6 b7 3 (by decide) 0 0 0 rfl rfl (by decide) (by decide) (by decide) (by decide) (by decide) (by decide) (by decide) x y (by omega) (by omega) (by omega)
  · exact gQ1 i b0 b1 b2 b3 b4 b5 b6 b7 2 (by decide) 3 256 384 rfl rfl (by decide) (by decide) (by decide) (by decide) (by decide) (by decide) (by decide) x y (by omega) (by omega) (by omega)
  · exact gK0 i b0 b1 b2 b3 b4 b5 b6 b7 1 (by decide) 6 768 768 rfl rfl (by decide) (by decide) (by decide) (by decide) (by decide) (by decide) (by decide) (by decide) x y (by omega) (by omega) (by omega)
  · exact gV1 i b0 b1 b2 b3 b4 b5 b6 b7 0 (by decide) 9 1024 1152 rfl rfl (by decide) (by decide) (by decide) (by decide) (by decide) (by decide) (by decide) (by decide) (by decide) x y (by omega) (by omega) (by omega)
  · exact gQ0 i b0 b1 b2 b3 b4 b5 b6 b7 2 (by decide) 2 256 256 rfl rfl (by decide) (by decide) (by decide) (by decide) (by decide) (by decide) (by decide) x y (by omega) (by omega) (by omega)
  · exact gD1 i b0 b1 b2 b3 b4 b5 b6 b7 2 (by decide) 13 1536 1664 rfl rfl (by decide) (by decide) x y (by omega) (by omega) (by omega)
  · exact gD0 i b0 b1 b2 b3 b4 b5 b6 b7 2 (by decide) 12 1536 1536 rfl rfl (by decide) (by decide) x y (by omega) (by omega) (by omega)
  · exact gK1 i b0 b1 b2 b3 b4 b5 b6 b7 1 (by decide) 5 512 640 rfl rfl (by decide) (by decide) (by decide) (by decide) (by decide) (by decide) (by decide) (by decide) x y (by omega) (by omega) (by omega)
  · exact gV0 i b0 b1 b2 b3 b4 b5 b6 b7 0 (by decide) 8 1024 1024 rfl rfl (by decide) (by decide) (by decide) (by decide) (by decide) (by decide) (by decide) (by decide) (by decide) x y (by omega) (by omega) (by omega)
  · exact gQ1 i b0 b1 b2 b3 b4 b5 b6 b7 2 (by decide) 1 0 128 rfl rfl (by decide) (by decide) (by decide) (by decide) (by decide) (by decide) (by decide) x y (by omega) (by omega) (by omega)
  · exact gK0 i b0 b1 b2 b3 b4 b5 b6 b7 1 (by decide) 4 512 512 rfl rfl (by decide) (by decide) (by decide) (by decide) (by decide) (by decide) (by decide) (by decide) x y (by omega) (by omega) (by omega)
  · exact gD1 i b0 b1 b2 b3 b4 b5 b6 b7 1 (by decide) 15 1792 1920 rfl rfl (by decide) (by decide) x y (by omega) (by omega) (by omega)
  · exact gD0 i b0 b1 b2 b3 b4 b5 b6 b7 1 (by decide) 14 1792 1792 rfl rfl (by decide) (by decide) x y (by omega) (by omega) (by omega)
  · exact gK1 i b0 b1 b2 b3 b4 b5 b6 b7 0 (by decide) 7 768 896 rfl rfl (by decide) (by decide) (by decide) (by decide) (by decide) (by decide) (by decide) (by decide) x y (by omega) (by omega) (by omega)
  · exact gQ0 i b0 b1 b2 b3 b4 b5 b6 b7 2 (by decide) 0 0 0 rfl rfl (by decide) (by decide) (by decide) (by decide) (by decide) (by decide) (by decide) x y (by omega) (by omega) (by omega)
  · exact gQ1 i b0 b1 b2 b3 b4 b5 b6 b7 1 (by decide) 3 256 384 rfl rfl (by decide) (by decide) (by decide) (by decide) (by decide) (by decide) (by decide) x y (by omega) (by omega) (by omega)
  · exact gK0 i b0 b1 b2 b3 b4 b5 b6 b7 0 (by decide) 6 768 768 rfl rfl (by decide) (by decide) (by decide) (by decide) (by decide) (by decide) (by decide) (by decide) x y (by omega) (by omega) (by omega)
  · exact gQ0 i b0 b1 b2 b3 b4 b5 b6 b7 1 (by decide) 2 256 256 rfl rfl (by decide) (by decide) (by decide) (by decide) (by decide) (by decide) (by decide) x y (by omega) (by omega) (by omega)
  · exact gD1 i b0 b1 b2 b3 b4 b5 b6 b7 1 (by decide) 13 1536 1664 rfl rfl (by decide) (by decide) x y (by omega) (by omega) (by omega)
  · exact gD0 i b0 b1 b2 b3 b4 b5 b6 b7 1 (by decide) 12 1536 1536 rfl rfl (by decide) (by decide) x y (by omega) (by omega) (by omega)
  · exact gK1 i b0 b1 b2 b3 b4 b5 b6 b7 0 (by decide) 5 512 640 rfl rfl (by decide) (by decide) (by decide) (by decide) (by decide) (by decide) (by decide) (by decide) x y (by omega) (by omega) (by omega)
  · exact gQ1 i b0 b1 b2 b3 b4 b5 b6 b7 1 (by decide) 1 0 128 rfl rfl (by decide) (by decide) (by decide) (by decide) (by decide) (by decide) (by decide) x y (by omega) (by omega) (by omega)
  · exact gK0 i b0 b1 b2 b3 b4 b5 b6 b7 0 (by decide) 4 512 512 rfl rfl (by decide) (by decide) (by decide) (by decide) (by decide) (by decide) (by decide) (by decide) x y (by omega) (by omega) (by omega)
  · exact gD1 i b0 b1 b2 b3 b4 b5 b6 b7 0 (by decide) 15 1792 1920 rfl rfl (by decide) (by decide) x y (by omega) (by omega) (by omega)
  · exact gD0 i b0 b1 b2 b3 b4 b5 b6 b7 0 (by decide) 14 1792 1792 rfl rfl (by decide) (by decide) x y (by omega) (by omega) (by omega)
  · exact gQ0 i b0 b1 b2 b3 b4 b5 b6 b7 1 (by decide) 0 0 0 rfl rfl (by decide) (by decide) (by decide) (by decide) (by decide) (by decide) (by decide) x y (by omega) (by omega) (by omega)
  · exact gQ1 i b0 b1 b2 b3 b4 b5 b6 b7 0 (by decide) 3 256 384 rfl rfl (by decide) (by decide) (by decide) (by decide) (by decide) (by decide) (by decide) x y (by omega) (by omega) (by omega)
  · exact gQ0 i b0 b1 b2 b3 b4 b5 b6 b7 0 (by decide) 2 256 256 rfl rfl (by decide) (by decide) (by decide) (by decide) (by decide) (by decide) (by decide) x y (by omega) (by omega) (by omega)
  · exact gD1 i b0 b1 b2 b3 b4 b5 b6 b7 0 (by decide) 13 1536 1664 rfl rfl (by decide) (by decide) x y (by omega) (by omega) (by omega)
  · exact gD0 i b0 b1 b2 b3 b4 b5 b6 b7 0 (by decide) 12 1536 1536 rfl rfl (by decide) (by decide) x y (by omega) (by omega) (by omega)
  · exact gQ1 i b0 b1 b2 b3 b4 b5 b6 b7 0 (by decide) 1 0 128 rfl rfl (by decide) (by decide) (by decide) (by decide) (by decide) (by decide) (by decide) x y (by omega) (by omega) (by omega)
  · exact gQ0 i b0 b1 b2 b3 b4 b5 b6 b7 0 (by decide) 0 0 0 rfl rfl (by decide) (by decide) (by decide) (by decide) (by decide) (by decide) (by decide) x y (by omega) (by omega) (by omega)

end Cert.Kernel3Ideal.Inp
end
-- ==== Proof.InpPr.lean ====
module

public import proofs.«01_k».proof.Proof.InpGoal
public import proofs.«01_k».proof.Proof.Gen.Kernel3Ideal.Value

@[expose] public section
set_option maxRecDepth 16384
noncomputable section
namespace Cert.Kernel3Ideal.Inp
open Cert.Kernel3Ideal Cert.Kernel3Ideal.Gen Idealize.ShloMosaic Idealize.ShloMosaic.TcCoe Idealize.SL.Sem
variable (m : (ℓ : Loc nD τ sig) → Buf (Elt Ideal) ℓ)

set_option maxHeartbeats 4000000 in
theorem after13_at (c : Dev nD) (t : Fin cfg0.N) (y : S4x256x2048.Idx) :
    (dats m 0 c).after 13 t y = blkPr (grid0.coords t) (iblk m c 0 t) (iblk m c 1 t) (iblk m c 2 t) (iblk m c 3 t) (iblk m c 4 t) (iblk m c 5 t) (iblk m c 6 t) (iblk m c 8 t) (iblk m c 9 t) y := by
  rw [after0_13]
  unfold outsAt0
  frame_open
  simp (disch := decide) only [↓ win_read, ↓ win_read2, ↓ top_read, ↓ View.readCov_skip, ↓ View.readCov_cons_toLoadRect, ↓ View.readCov_fill]
  frame_out
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  generalize iblk m c 9 t = b9
  generalize iblk m c 10 t = b10
  generalize iblk m c 11 t = b11
  generalize grid0.coords t = i
  canon_tiles x h
  · exact gP1 i b0 b1 b2 b3 b4 b5 b6 b8 b9 3 (by decide) 15 3840 1920 rfl rfl (by decide) (by decide) x y (by omega) (by omega) (by omega)
  · exact gP0 i b0 b1 b2 b3 b4 b5 b6 b8 b9 3 (by decide) 14 3840 1792 rfl rfl (by decide) (by decide) x y (by omega) (by omega) (by omega)
  · exact gP1 i b0 b1 b2 b3 b4 b5 b6 b8 b9 3 (by decide) 13 3584 1664 rfl rfl (by decide) (by decide) x y (by omega) (by omega) (by omega)
  · exact gP0 i b0 b1 b2 b3 b4 b5 b6 b8 b9 3 (by decide) 12 3584 1536 rfl rfl (by decide) (by decide) x y (by omega) (by omega) (by omega)
  · exact gP1 i b0 b1 b2 b3 b4 b5 b6 b8 b9 3 (by decide) 11 3328 1408 rfl rfl (by decide) (by decide) x y (by omega) (by omega) (by omega)
  · exact gP0 i b0 b1 b2 b3 b4 b5 b6 b8 b9 3 (by decide) 10 3328 1280 rfl rfl (by decide) (by decide) x y (by omega) (by omega) (by omega)
  · exact gP1 i b0 b1 b2 b3 b4 b5 b6 b8 b9 3 (by decide) 9 3072 1152 rfl rfl (by decide) (by decide) x y (by omega) (by omega) (by omega)
  · exact gP0 i b0 b1 b2 b3 b4 b5 b6 b8 b9 3 (by decide) 8 3072 1024 rfl rfl (by decide) (by decide) x y (by omega) (by omega) (by omega)
  · exact gS1 i b0 b1 b2 b3 b4 b5 b6 b8 b9 3 (by decide) 7 2816 896 rfl rfl (by decide) (by decide) (by decide) x y (by omega) (by omega) (by omega)
  · exact gS0 i b0 b1 b2 b3 b4 b5 b6 b8 b9 3 (by decide) 6 2816 768 rfl rfl (by decide) (by decide) (by decide) x y (by omega) (by omega) (by omega)
  · exact gP1 i b0 b1 b2 b3 b4 b5 b6 b8 b9 2 (by decide) 15 3840 1920 rfl rfl (by decide) (by decide) x y (by omega) (by omega) (by omega)
  · exact gP0 i b0 b1 b2 b3 b4 b5 b6 b8 b9 2 (by decide) 14 3840 1792 rfl rfl (by decide) (by decide) x y (by omega) (by omega) (by omega)
  · exact gP1 i b0 b1 b2 b3 b4 b5 b6 b8 b9 2 (by decide) 13 3584 1664 rfl rfl (by decide) (by decide) x y (by omega) (by omega) (by omega)
  · exact gP0 i b0 b1 b2 b3 b4 b5 b6 b8 b9 2 (by decide) 12 3584 1536 rfl rfl (by decide) (by decide) x y (by omega) (by omega) (by omega)
  · exact gS1 i b0 b1 b2 b3 b4 b5 b6 b8 b9 3 (by decide) 5 2560 640 rfl rfl (by decide) (by decide) (by decide) x y (by omega) (by omega) (by omega)
  · exact gS0 i b0 b1 b2 b3 b4 b5 b6 b8 b9 3 (by decide) 4 2560 512 rfl rfl (by decide) (by decide) (by decide) x y (by omega) (by omega) (by omega)
  · exact gP1 i b0 b1 b2 b3 b4 b5 b6 b8 b9 2 (by decide) 11 3328 1408 rfl rfl (by decide) (by decide) x y (by omega) (by omega) (by omega)
  · exact gP0 i b0 b1 b2 b3 b4 b5 b6 b8 b9 2 (by decide) 10 3328 1280 rfl rfl (by decide) (by decide) x y (by omega) (by omega) (by omega)
  · exact gP1 i b0 b1 b2 b3 b4 b5 b6 b8 b9 2 (by decide) 9 3072 1152 rfl rfl (by decide) (by decide) x y (by omega) (by omega) (by omega)
  · exact gP0 i b0 b1 b2 b3 b4 b5 b6 b8 b9 2 (by decide) 8 3072 1024 rfl rfl (by decide) (by decide) x y (by omega) (by omega) (by omega)
  · exact gS1 i b0 b1 b2 b3 b4 b5 b6 b8 b9 2 (by decide) 7 2816 896 rfl rfl (by decide) (by decide) (by decide) x y (by omega) (by omega) (by omega)
  · exact gS0 i b0 b1 b2 b3 b4 b5 b6 b8 b9 2 (by decide) 6 2816 768 rfl rfl (by decide) (by decide) (by decide) x y (by omega) (by omega) (by omega)
  · exact gP1 i b0 b1 b2 b3 b4 b5 b6 b8 b9 1 (by decide) 15 3840 1920 rfl rfl (by decide) (by decide) x y (by omega) (by omega) (by omega)
  · exact gP0 i b0 b1 b2 b3 b4 b5 b6 b8 b9 1 (by decide) 14 3840 1792 rfl rfl (by decide) (by decide) x y (by omega) (by omega) (by omega)
  · exact gR1 i b0 b1 b2 b3 b4 b5 b6 b8 b9 3 (by decide) 3 2304 384 rfl rfl (by decide) (by decide) x y (by omega) (by omega) (by omega)
  · exact gR0 i b0 b1 b2 b3 b4 b5 b6 b8 b9 3 (by decide) 2 2304 256 rfl rfl (by decide) (by decide) x y (by omega) (by omega) (by omega)
  · exact gP1 i b0 b1 b2 b3 b4 b5 b6 b8 b9 1 (by decide) 13 3584 1664 rfl rfl (by decide) (by decide) x y (by omega) (by omega) (by omega)
  · exact gP0 i b0 b1 b2 b3 b4 b5 b6 b8 b9 1 (by decide) 12 3584 1536 rfl rfl (by decide) (by decide) x y (by omega) (by omega) (by omega)
  · exact gS1 i b0 b1 b2 b3 b4 b5 b6 b8 b9 2 (by decide) 5 2560 640 rfl rfl (by decide) (by decide) (by decide) x y (by omega) (by omega) (by omega)
  · exact gS0 i b0 b1 b2 b3 b4 b5 b6 b8 b9 2 (by decide) 4 2560 512 rfl rfl (by decide) (by decide) (by decide) x y (by omega) (by omega) (by omega)
  · exact gP1 i b0 b1 b2 b3 b4 b5 b6 b8 b9 1 (by decide) 11 3328 1408 rfl rfl (by decide) (by decide) x y (by omega) (by omega) (by omega)
  · exact gP0 i b0 b1 b2 b3 b4 b5 b6 b8 b9 1 (by decide) 10 3328 1280 rfl rfl (by decide) (by decide) x y (by omega) (by omega) (by omega)
  · exact gR1 i b0 b1 b2 b3 b4 b5 b6 b8 b9 3 (by decide) 1 2048 128 rfl rfl (by decide) (by decide) x y (by omega) (by omega) (by omega)
  · exact gR0 i b0 b1 b2 b3 b4 b5 b6 b8 b9 3 (by decide) 0 2048 0 rfl rfl (by decide) (by decide) x y (by omega) (by omega) (by omega)
  · exact gP1 i b0 b1 b2 b3 b4 b5 b6 b8 b9 1 (by decide) 9 3072 1152 rfl rfl (by decide) (by decide) x y (by omega) (by omega) (by omega)
  · exact gP0 i b0 b1 b2 b3 b4 b5 b6 b8 b9 1 (by decide) 8 3072 1024 rfl rfl (by decide) (by decide) x y (by omega) (by omega) (by omega)
  · exact gS1 i b0 b1 b2 b3 b4 b5 b6 b8 b9 1 (by decide) 7 2816 896 rfl rfl (by decide) (by decide) (by decide) x y (by omega) (by omega) (by omega)
  · exact gS0 i b0 b1 b2 b3 b4 b5 b6 b8 b9 1 (by decide) 6 2816 768 rfl rfl (by decide) (by decide) (by decide) x y (by omega) (by omega) (by omega)
  · exact gP1 i b0 b1 b2 b3 b4 b5 b6 b8 b9 0 (by decide) 15 3840 1920 rfl rfl (by decide) (by decide) x y (by omega) (by omega) (by omega)
  · exact gP0 i b0 b1 b2 b3 b4 b5 b6 b8 b9 0 (by decide) 14 3840 1792 rfl rfl (by decide) (by decide) x y (by omega) (by omega) (by omega)
  · exact gR1 i b0 b1 b2 b3 b4 b5 b6 b8 b9 2 (by decide) 3 2304 384 rfl rfl (by decide) (by decide) x y (by omega) (by omega) (by omega)
  · exact gR0 i b0 b1 b2 b3 b4 b5 b6 b8 b9 2 (by decide) 2 2304 256 rfl rfl (by decide) (by decide) x y (by omega) (by omega) (by omega)
  · exact gP1 i b0 b1 b2 b3 b4 b5 b6 b8 b9 0 (by decide) 13 3584 1664 rfl rfl (by decide) (by decide) x y (by omega) (by omega) (by omega)
  · exact gP0 i b0 b1 b2 b3 b4 b5 b6 b8 b9 0 (by decide) 12 3584 1536 rfl rfl (by decide) (by decide) x y (by omega) (by omega) (by omega)
  · exact gS1 i b0 b1 b2 b3 b4 b5 b6 b8 b9 1 (by decide) 5 2560 640 rfl rfl (by decide) (by decide) (by decide) x y (by omega) (by omega) (by omega)
  · exact gS0 i b0 b1 b2 b3 b4 b5 b6 b8 b9 1 (by decide) 4 2560 512 rfl rfl (by decide) (by decide) (by decide) x y (by omega) (by omega) (by omega)
  · exact gP1 i b0 b1 b2 b3 b4 b5 b6 b8 b9 0 (by decide) 11 3328 1408 rfl rfl (by decide) (by decide) x y (by omega) (by omega) (by omega)
  · exact gP0 i b0 b1 b2 b3 b4 b5 b6 b8 b9 0 (by decide) 10 3328 1280 rfl rfl (by decide) (by decide) x y (by omega) (by omega) (by omega)
  · exact gR1 i b0 b1 b2 b3 b4 b5 b6 b8 b9 2 (by decide) 1 2048 128 rfl rfl (by decide) (by decide) x y (by omega) (by omega) (by omega)
  · exact gR0 i b0 b1 b2 b3 b4 b5 b6 b8 b9 2 (by decide) 0 2048 0 rfl rfl (by decide) (by decide) x y (by omega) (by omega) (by omega)
  · exact gP1 i b0 b1 b2 b3 b4 b5 b6 b8 b9 0 (by decide) 9 3072 1152 rfl rfl (by decide) (by decide) x y (by omega) (by omega) (by omega)
  · exact gP0 i b0 b1 b2 b3 b4 b5 b6 b8 b9 0 (by decide) 8 3072 1024 rfl rfl (by decide) (by decide) x y (by omega) (by omega) (by omega)
  · exact gS1 i b0 b1 b2 b3 b4 b5 b6 b8 b9 0 (by decide) 7 2816 896 rfl rfl (by decide) (by decide) (by decide) x y (by omega) (by omega) (by omega)
  · exact gS0 i b0 b1 b2 b3 b4 b5 b6 b8 b9 0 (by decide) 6 2816 768 rfl rfl (by decide) (by decide) (by decide) x y (by omega) (by omega) (by omega)
  · exact gR1 i b0 b1 b2 b3 b4 b5 b6 b8 b9 1 (by decide) 3 2304 384 rfl rfl (by decide) (by decide) x y (by omega) (by omega) (by omega)
  · exact gR0 i b0 b1 b2 b3 b4 b5 b6 b8 b9 1 (by decide) 2 2304 256 rfl rfl (by decide) (by decide) x y (by omega) (by omega) (by omega)
  · exact gS1 i b0 b1 b2 b3 b4 b5 b6 b8 b9 0 (by decide) 5 2560 640 rfl rfl (by decide) (by decide) (by decide) x y (by omega) (by omega) (by omega)
  · exact gS0 i b0 b1 b2 b3 b4 b5 b6 b8 b9 0 (by decide) 4 2560 512 rfl rfl (by decide) (by decide) (by decide) x y (by omega) (by omega) (by omega)
  · exact gR1 i b0 b1 b2 b3 b4 b5 b6 b8 b9 1 (by decide) 1 2048 128 rfl rfl (by decide) (by decide) x y (by omega) (by omega) (by omega)
  · exact gR0 i b0 b1 b2 b3 b4 b5 b6 b8 b9 1 (by decide) 0 2048 0 rfl rfl (by decide) (by decide) x y (by omega) (by omega) (by omega)
  · exact gR1 i b0 b1 b2 b3 b4 b5 b6 b8 b9 0 (by decide) 3 2304 384 rfl rfl (by decide) (by decide) x y (by omega) (by omega) (by omega)
  · exact gR0 i b0 b1 b2 b3 b4 b5 b6 b8 b9 0 (by decide) 2 2304 256 rfl rfl (by decide) (by decide) x y (by omega) (by omega) (by omega)
  · exact gR1 i b0 b1 b2 b3 b4 b5 b6 b8 b9 0 (by decide) 1 2048 128 rfl rfl (by decide) (by decide) x y (by omega) (by omega) (by omega)
  · exact gR0 i b0 b1 b2 b3 b4 b5 b6 b8 b9 0 (by decide) 0 2048 0 rfl rfl (by decide) (by decide) x y (by omega) (by omega) (by omega)

end Cert.Kernel3Ideal.Inp
end
-- ==== Proof.InpGate.lean ====
module

public import proofs.«01_k».proof.Proof.InpGoal
public import proofs.«01_k».proof.Proof.Gen.Kernel3Ideal.Value

@[expose] public section
set_option maxRecDepth 16384
noncomputable section
namespace Cert.Kernel3Ideal.Inp
open Cert.Kernel3Ideal Cert.Kernel3Ideal.Gen Idealize.ShloMosaic Idealize.ShloMosaic.TcCoe Idealize.SL.Sem
variable (m : (ℓ : Loc nD τ sig) → Buf (Elt Ideal) ℓ)

set_option maxHeartbeats 4000000 in
theorem after14_at (c : Dev nD) (t : Fin cfg0.N) (y : S4x256x128.Idx) :
    (dats m 0 c).after 14 t y = blkG (grid0.coords t) (iblk m c 0 t) (iblk m c 1 t) (iblk m c 2 t) (iblk m c 3 t) (iblk m c 4 t) (iblk m c 5 t) (iblk m c 6 t) (iblk m c 10 t) (iblk m c 11 t) (y 0) (y 1) (y 2) := by
  rw [after0_14]
  unfold outsAt0
  frame_open
  simp (disch := decide) only [↓ win_read, ↓ win_read2, ↓ top_read, ↓ View.readCov_skip, ↓ View.readCov_cons_toLoadRect, ↓ View.readCov_fill]
  frame_out
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  generalize iblk m c 9 t = b9
  generalize iblk m c 10 t = b10
  generalize iblk m c 11 t = b11
  generalize grid0.coords t = i
  canon_tiles x h
  · exact gG i b0 b1 b2 b3 b4 b5 b6 b10 b11 3 (by decide) (by decide) (by decide) (by decide) (by decide) (by decide) x y (by omega) (by omega) (by omega)
  · exact gG i b0 b1 b2 b3 b4 b5 b6 b10 b11 2 (by decide) (by decide) (by decide) (by decide) (by decide) (by decide) x y (by omega) (by omega) (by omega)
  · exact gG i b0 b1 b2 b3 b4 b5 b6 b10 b11 1 (by decide) (by decide) (by decide) (by decide) (by decide) (by decide) x y (by omega) (by omega) (by omega)
  · exact gG i b0 b1 b2 b3 b4 b5 b6 b10 b11 0 (by decide) (by decide) (by decide) (by decide) (by decide) (by decide) x y (by omega) (by omega) (by omega)
set_option maxHeartbeats 4000000 in
theorem after15_at (c : Dev nD) (t : Fin cfg0.N) (y : S4x8x256.Idx) :
    (dats m 0 c).after 15 t y = blkG (grid0.coords t) (iblk m c 0 t) (iblk m c 1 t) (iblk m c 2 t) (iblk m c 3 t) (iblk m c 4 t) (iblk m c 5 t) (iblk m c 6 t) (iblk m c 10 t) (iblk m c 11 t) (y 0) (y 2) ⟨(y 1).val, lt_trans (y 1).isLt (by decide)⟩ := by
  rw [after0_15]
  unfold outsAt0
  frame_open
  simp (disch := decide) only [↓ win_read, ↓ win_read2, ↓ top_read, ↓ View.readCov_skip, ↓ View.readCov_cons_toLoadRect, ↓ View.readCov_fill]
  frame_out
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  generalize iblk m c 9 t = b9
  generalize iblk m c 10 t = b10
  generalize iblk m c 11 t = b11
  generalize grid0.coords t = i
  canon_tiles x h
  · exact gT i b0 b1 b2 b3 b4 b5 b6 b10 b11 3 (by decide) (by decide) (by decide) (by decide) (by decide) (by decide) x y (by omega) (by omega) (by omega)
  · exact gT i b0 b1 b2 b3 b4 b5 b6 b10 b11 2 (by decide) (by decide) (by decide) (by decide) (by decide) (by decide) x y (by omega) (by omega) (by omega)
  · exact gT i b0 b1 b2 b3 b4 b5 b6 b10 b11 1 (by decide) (by decide) (by decide) (by decide) (by decide) (by decide) x y (by omega) (by omega) (by omega)
  · exact gT i b0 b1 b2 b3 b4 b5 b6 b10 b11 0 (by decide) (by decide) (by decide) (by decide) (by decide) (by decide) x y (by omega) (by omega) (by omega)

end Cert.Kernel3Ideal.Inp
end
-- ==== Proof.InpTri0.lean ====
module

public import proofs.«01_k».proof.Kernel3Ideal

@[expose] public section
set_option maxRecDepth 1000000
noncomputable section
namespace Cert.Kernel3Ideal.Inp
open Cert.Kernel3Ideal Idealize.ShloMosaic
/-! Rows of the constant table of the gates' sums: one on the entries summed, zero elsewhere. -/
theorem tri0_0 : ∀ j : Fin 4096, lit0t (0 + j.val) = if (j.val % 256) / 128 = 0 ∧ j.val % 256 ≤ 0 + j.val / 256 then 0x3F80#16 else 0#16 := by decide +kernel
theorem tri0_1 : ∀ j : Fin 4096, lit0t (4096 + j.val) = if (j.val % 256) / 128 = 0 ∧ j.val % 256 ≤ 16 + j.val / 256 then 0x3F80#16 else 0#16 := by decide +kernel
theorem tri0_2 : ∀ j : Fin 4096, lit0t (8192 + j.val) = if (j.val % 256) / 128 = 0 ∧ j.val % 256 ≤ 32 + j.val / 256 then 0x3F80#16 else 0#16 := by decide +kernel
theorem tri0_3 : ∀ j : Fin 4096, lit0t (12288 + j.val) = if (j.val % 256) / 128 = 0 ∧ j.val % 256 ≤ 48 + j.val / 256 then 0x3F80#16 else 0#16 := by decide +kernel
end Cert.Kernel3Ideal.Inp
end
-- ==== Proof.InpTri1.lean ====
module

public import proofs.«01_k».proof.Kernel3Ideal

@[expose] public section
set_option maxRecDepth 1000000
noncomputable section
namespace Cert.Kernel3Ideal.Inp
open Cert.Kernel3Ideal Idealize.ShloMosaic
/-! Rows of the constant table of the gates' sums: one on the entries summed, zero elsewhere. -/
theorem tri1_0 : ∀ j : Fin 4096, lit0t (16384 + j.val) = if (j.val % 256) / 128 = 0 ∧ j.val % 256 ≤ 64 + j.val / 256 then 0x3F80#16 else 0#16 := by decide +kernel
theorem tri1_1 : ∀ j : Fin 4096, lit0t (20480 + j.val) = if (j.val % 256) / 128 = 0 ∧ j.val % 256 ≤ 80 + j.val / 256 then 0x3F80#16 else 0#16 := by decide +kernel
theorem tri1_2 : ∀ j : Fin 4096, lit0t (24576 + j.val) = if (j.val % 256) / 128 = 0 ∧ j.val % 256 ≤ 96 + j.val / 256 then 0x3F80#16 else 0#16 := by decide +kernel
theorem tri1_3 : ∀ j : Fin 4096, lit0t (28672 + j.val) = if (j.val % 256) / 128 = 0 ∧ j.val % 256 ≤ 112 + j.val / 256 then 0x3F80#16 else 0#16 := by decide +kernel
end Cert.Kernel3Ideal.Inp
end
-- ==== Proof.InpTri2.lean ====
module

public import proofs.«01_k».proof.Kernel3Ideal

@[expose] public section
set_option maxRecDepth 1000000
noncomputable section
namespace Cert.Kernel3Ideal.Inp
open Cert.Kernel3Ideal Idealize.ShloMosaic
/-! Rows of the constant table of the gates' sums: one on the entries summed, zero elsewhere. -/
theorem tri2_0 : ∀ j : Fin 4096, lit0t (32768 + j.val) = if (j.val % 256) / 128 = 1 ∧ j.val % 256 ≤ 128 + j.val / 256 then 0x3F80#16 else 0#16 := by decide +kernel
theorem tri2_1 : ∀ j : Fin 4096, lit0t (36864 + j.val) = if (j.val % 256) / 128 = 1 ∧ j.val % 256 ≤ 144 + j.val / 256 then 0x3F80#16 else 0#16 := by decide +kernel
theorem tri2_2 : ∀ j : Fin 4096, lit0t (40960 + j.val) = if (j.val % 256) / 128 = 1 ∧ j.val % 256 ≤ 160 + j.val / 256 then 0x3F80#16 else 0#16 := by decide +kernel
theorem tri2_3 : ∀ j : Fin 4096, lit0t (45056 + j.val) = if (j.val % 256) / 128 = 1 ∧ j.val % 256 ≤ 176 + j.val / 256 then 0x3F80#16 else 0#16 := by decide +kernel
end Cert.Kernel3Ideal.Inp
end
-- ==== Proof.InpTri3.lean ====
module

public import proofs.«01_k».proof.Kernel3Ideal

@[expose] public section
set_option maxRecDepth 1000000
noncomputable section
namespace Cert.Kernel3Ideal.Inp
open Cert.Kernel3Ideal Idealize.ShloMosaic
/-! Rows of the constant table of the gates' sums: one on the entries summed, zero elsewhere. -/
theorem tri3_0 : ∀ j : Fin 4096, lit0t (49152 + j.val) = if (j.val % 256) / 128 = 1 ∧ j.val % 256 ≤ 192 + j.val / 256 then 0x3F80#16 else 0#16 := by decide +kernel
theorem tri3_1 : ∀ j : Fin 4096, lit0t (53248 + j.val) = if (j.val % 256) / 128 = 1 ∧ j.val % 256 ≤ 208 + j.val / 256 then 0x3F80#16 else 0#16 := by decide +kernel
theorem tri3_2 : ∀ j : Fin 4096, lit0t (57344 + j.val) = if (j.val % 256) / 128 = 1 ∧ j.val % 256 ≤ 224 + j.val / 256 then 0x3F80#16 else 0#16 := by decide +kernel
theorem tri3_3 : ∀ j : Fin 4096, lit0t (61440 + j.val) = if (j.val % 256) / 128 = 1 ∧ j.val % 256 ≤ 240 + j.val / 256 then 0x3F80#16 else 0#16 := by decide +kernel
end Cert.Kernel3Ideal.Inp
end
-- ==== Proof.InpTri4.lean ====
module

public import proofs.«01_k».proof.Kernel3Ideal

@[expose] public section
set_option maxRecDepth 1000000
noncomputable section
namespace Cert.Kernel3Ideal.Inp
open Cert.Kernel3Ideal Idealize.ShloMosaic
/-! Rows of the constant table of the gates' sums: one on the entries summed, zero elsewhere. -/
theorem tri4_0 : ∀ j : Fin 4096, lit0t (65536 + j.val) = if (j.val % 256) / 128 = 0 ∧ 0 + j.val / 256 ≤ j.val % 256 then 0x3F80#16 else 0#16 := by decide +kernel
theorem tri4_1 : ∀ j : Fin 4096, lit0t (69632 + j.val) = if (j.val % 256) / 128 = 0 ∧ 16 + j.val / 256 ≤ j.val % 256 then 0x3F80#16 else 0#16 := by decide +kernel
theorem tri4_2 : ∀ j : Fin 4096, lit0t (73728 + j.val) = if (j.val % 256) / 128 = 0 ∧ 32 + j.val / 256 ≤ j.val % 256 then 0x3F80#16 else 0#16 := by decide +kernel
theorem tri4_3 : ∀ j : Fin 4096, lit0t (77824 + j.val) = if (j.val % 256) / 128 = 0 ∧ 48 + j.val / 256 ≤ j.val % 256 then 0x3F80#16 else 0#16 := by decide +kernel
end Cert.Kernel3Ideal.Inp
end
-- ==== Proof.InpTri5.lean ====
module

public import proofs.«01_k».proof.Kernel3Ideal

@[expose] public section
set_option maxRecDepth 1000000
noncomputable section
namespace Cert.Kernel3Ideal.Inp
open Cert.Kernel3Ideal Idealize.ShloMosaic
/-! Rows of the constant table of the gates' sums: one on the entries summed, zero elsewhere. -/
theorem tri5_0 : ∀ j : Fin 4096, lit0t (81920 + j.val) = if (j.val % 256) / 128 = 0 ∧ 64 + j.val / 256 ≤ j.val % 256 then 0x3F80#16 else 0#16 := by decide +kernel
theorem tri5_1 : ∀ j : Fin 4096, lit0t (86016 + j.val) = if (j.val % 256) / 128 = 0 ∧ 80 + j.val / 256 ≤ j.val % 256 then 0x3F80#16 else 0#16 := by decide +kernel
theorem tri5_2 : ∀ j : Fin 4096, lit0t (90112 + j.val) = if (j.val % 256) / 128 = 0 ∧ 96 + j.val / 256 ≤ j.val % 256 then 0x3F80#16 else 0#16 := by decide +kernel
theorem tri5_3 : ∀ j : Fin 4096, lit0t (94208 + j.val) = if (j.val % 256) / 128 = 0 ∧ 112 + j.val / 256 ≤ j.val % 256 then 0x3F80#16 else 0#16 := by decide +kernel
end Cert.Kernel3Ideal.Inp
end
-- ==== Proof.InpTri6.lean ====
module

public import proofs.«01_k».proof.Kernel3Ideal

@[expose] public section
set_option maxRecDepth 1000000
noncomputable section
namespace Cert.Kernel3Ideal.Inp
open Cert.Kernel3Ideal Idealize.ShloMosaic
/-! Rows of the constant table of the gates' sums: one on the entries summed, zero elsewhere. -/
theorem tri6_0 : ∀ j : Fin 4096, lit0t (98304 + j.val) = if (j.val % 256) / 128 = 1 ∧ 128 + j.val / 256 ≤ j.val % 256 then 0x3F80#16 else 0#16 := by decide +kernel
theorem tri6_1 : ∀ j : Fin 4096, lit0t (102400 + j.val) = if (j.val % 256) / 128 = 1 ∧ 144 + j.val / 256 ≤ j.val % 256 then 0x3F80#16 else 0#16 := by decide +kernel
theorem tri6_2 : ∀ j : Fin 4096, lit0t (106496 + j.val) = if (j.val % 256) / 128 = 1 ∧ 160 + j.val / 256 ≤ j.val % 256 then 0x3F80#16 else 0#16 := by decide +kernel
theorem tri6_3 : ∀ j : Fin 4096, lit0t (110592 + j.val) = if (j.val % 256) / 128 = 1 ∧ 176 + j.val / 256 ≤ j.val % 256 then 0x3F80#16 else 0#16 := by decide +kernel
end Cert.Kernel3Ideal.Inp
end
-- ==== Proof.InpTri7.lean ====
module

public import proofs.«01_k».proof.Kernel3Ideal

@[expose] public section
set_option maxRecDepth 1000000
noncomputable section
namespace Cert.Kernel3Ideal.Inp
open Cert.Kernel3Ideal Idealize.ShloMosaic
/-! Rows of the constant table of the gates' sums: one on the entries summed, zero elsewhere. -/
theorem tri7_0 : ∀ j : Fin 4096, lit0t (114688 + j.val) = if (j.val % 256) / 128 = 1 ∧ 192 + j.val / 256 ≤ j.val % 256 then 0x3F80#16 else 0#16 := by decide +kernel
theorem tri7_1 : ∀ j : Fin 4096, lit0t (118784 + j.val) = if (j.val % 256) / 128 = 1 ∧ 208 + j.val / 256 ≤ j.val % 256 then 0x3F80#16 else 0#16 := by decide +kernel
theorem tri7_2 : ∀ j : Fin 4096, lit0t (122880 + j.val) = if (j.val % 256) / 128 = 1 ∧ 224 + j.val / 256 ≤ j.val % 256 then 0x3F80#16 else 0#16 := by decide +kernel
theorem tri7_3 : ∀ j : Fin 4096, lit0t (126976 + j.val) = if (j.val % 256) / 128 = 1 ∧ 240 + j.val / 256 ≤ j.val % 256 then 0x3F80#16 else 0#16 := by decide +kernel
end Cert.Kernel3Ideal.Inp
end
-- ==== Proof.InpTriR.lean ====
module

public import proofs.«01_k».proof.Proof.InpMath
public import proofs.«01_k».proof.Proof.InpTri0
public import proofs.«01_k».proof.Proof.InpTri1
public import proofs.«01_k».proof.Proof.InpTri2
public import proofs.«01_k».proof.Proof.InpTri3
public import proofs.«01_k».proof.Proof.InpTri4
public import proofs.«01_k».proof.Proof.InpTri5
public import proofs.«01_k».proof.Proof.InpTri6
public import proofs.«01_k».proof.Proof.InpTri7

@[expose] public section
set_option maxRecDepth 16384
noncomputable section
namespace Cert.Kernel3Ideal.Inp
open Cert.Kernel3Ideal Idealize.ShloMosaic

/-! ## The table of the sums -/

theorem one_bf : Ideal.ofBits .bf16 0x3F80#16 = 1 := by simp
theorem zero_bf : Ideal.ofBits .bf16 0#16 = 0 := by simp

theorem tri_row (p : Prop) [Decidable p] (q : Prop) [Decidable q] (n : ℕ) (h : lit0t n = if p then 0x3F80#16 else 0#16) (hpq : p ↔ q) :
    FloatOps.ofBits (F := Ideal) .bf16 (lit0t n) = if q then 1 else 0 := by
  rw [h]
  show Ideal.ofBits .bf16 _ = _
  by_cases hp : p
  · rw [if_pos hp, if_pos (hpq.1 hp), one_bf]
  · rw [if_neg hp, if_neg (fun z => hp (hpq.2 z)), zero_bf]

theorem triP0 (r i : Fin 256) : FloatOps.ofBits (F := Ideal) .bf16 (lit0t (65536 * 0 + 256 * r.val + i.val)) = if i.val / 128 = r.val / 128 ∧ i.val ≤ r.val then 1 else 0 := by
  have hr := r.isLt
  have hi := i.isLt
  have hc : (0 ≤ r.val ∧ r.val < 16) ∨ (16 ≤ r.val ∧ r.val < 32) ∨ (32 ≤ r.val ∧ r.val < 48) ∨ (48 ≤ r.val ∧ r.val < 64) ∨ (64 ≤ r.val ∧ r.val < 80) ∨ (80 ≤ r.val ∧ r.val < 96) ∨ (96 ≤ r.val ∧ r.val < 112) ∨ (112 ≤ r.val ∧ r.val < 128) ∨ (128 ≤ r.val ∧ r.val < 144) ∨ (144 ≤ r.val ∧ r.val < 160) ∨ (160 ≤ r.val ∧ r.val < 176) ∨ (176 ≤ r.val ∧ r.val < 192) ∨ (192 ≤ r.val ∧ r.val < 208) ∨ (208 ≤ r.val ∧ r.val < 224) ∨ (224 ≤ r.val ∧ r.val < 240) ∨ (240 ≤ r.val ∧ r.val < 256) := by omega
  rcases hc with h | h | h | h | h | h | h | h | h | h | h | h | h | h | h | h
  · have e : 65536 * 0 + 256 * r.val + i.val = 0 + (256 * (r.val - 0) + i.val) := by omega
    rw [e]
    refine tri_row _ _ _ (tri0_0 ⟨256 * (r.val - 0) + i.val, by omega⟩) ?_
    show ((256 * (r.val - 0) + i.val) % 256) / 128 = 0 ∧ _ ↔ _
    have a : (256 * (r.val - 0) + i.val) % 256 = i.val := by omega
    have b : (256 * (r.val - 0) + i.val) / 256 = r.val - 0 := by omega
    simp only [a, b]
    omega
  · have e : 65536 * 0 + 256 * r.val + i.val = 4096 + (256 * (r.val - 16) + i.val) := by omega
    rw [e]
    refine tri_row _ _ _ (tri0_1 ⟨256 * (r.val - 16) + i.val, by omega⟩) ?_
    show ((256 * (r.val - 16) + i.val) % 256) / 128 = 0 ∧ _ ↔ _
    have a : (256 * (r.val - 16) + i.val) % 256 = i.val := by omega
    have b : (256 * (r.val - 16) + i.val) / 256 = r.val - 16 := by omega
    simp only [a, b]
    omega
  · have e : 65536 * 0 + 256 * r.val + i.val = 8192 + (256 * (r.val - 32) + i.val) := by omega
    rw [e]
    refine tri_row _ _ _ (tri0_2 ⟨256 * (r.val - 32) + i.val, by omega⟩) ?_
    show ((256 * (r.val - 32) + i.val) % 256) / 128 = 0 ∧ _ ↔ _
    have a : (256 * (r.val - 32) + i.val) % 256 = i.val := by omega
    have b : (256 * (r.val - 32) + i.val) / 256 = r.val - 32 := by omega
    simp only [a, b]
    omega
  · have e : 65536 * 0 + 256 * r.val + i.val = 12288 + (256 * (r.val - 48) + i.val) := by omega
    rw [e]
    refine tri_row _ _ _ (tri0_3 ⟨256 * (r.val - 48) + i.val, by omega⟩) ?_
    show ((256 * (r.val - 48) + i.val) % 256) / 128 = 0 ∧ _ ↔ _
    have a : (256 * (r.val - 48) + i.val) % 256 = i.val := by omega
    have b : (256 * (r.val - 48) + i.val) / 256 = r.val - 48 := by omega
    simp only [a, b]
    omega
  · have e : 65536 * 0 + 256 * r.val + i.val = 16384 + (256 * (r.val - 64) + i.val) := by omega
    rw [e]
    refine tri_row _ _ _ (tri1_0 ⟨256 * (r.val - 64) + i.val, by omega⟩) ?_
    show ((256 * (r.val - 64) + i.val) % 256) / 128 = 0 ∧ _ ↔ _
    have a : (256 * (r.val - 64) + i.val) % 256 = i.val := by omega
    have b : (256 * (r.val - 64) + i.val) / 256 = r.val - 64 := by omega
    simp only [a, b]
    omega
  · have e : 65536 * 0 + 256 * r.val + i.val = 20480 + (256 * (r.val - 80) + i.val) := by omega
    rw [e]
    refine tri_row _ _ _ (tri1_1 ⟨256 * (r.val - 80) + i.val, by omega⟩) ?_
    show ((256 * (r.val - 80) + i.val) % 256) / 128 = 0 ∧ _ ↔ _
    have a : (256 * (r.val - 80) + i.val) % 256 = i.val := by omega
    have b : (256 * (r.val - 80) + i.val) / 256 = r.val - 80 := by omega
    simp only [a, b]
    omega
  · have e : 65536 * 0 + 256 * r.val + i.val = 24576 + (256 * (r.val - 96) + i.val) := by omega
    rw [e]
    refine tri_row _ _ _ (tri1_2 ⟨256 * (r.val - 96) + i.val, by omega⟩) ?_
    show ((256 * (r.val - 96) + i.val) % 256) / 128 = 0 ∧ _ ↔ _
    have a : (256 * (r.val - 96) + i.val) % 256 = i.val := by omega
    have b : (256 * (r.val - 96) + i.val) / 256 = r.val - 96 := by omega
    simp only [a, b]
    omega
  · have e : 65536 * 0 + 256 * r.val + i.val = 28672 + (256 * (r.val - 112) + i.val) := by omega
    rw [e]
    refine tri_row _ _ _ (tri1_3 ⟨256 * (r.val - 112) + i.val, by omega⟩) ?_
    show ((256 * (r.val - 112) + i.val) % 256) / 128 = 0 ∧ _ ↔ _
    have a : (256 * (r.val - 112) + i.val) % 256 = i.val := by omega
    have b : (256 * (r.val - 112) + i.val) / 256 = r.val - 112 := by omega
    simp only [a, b]
    omega
  · have e : 65536 * 0 + 256 * r.val + i.val = 32768 + (256 * (r.val - 128) + i.val) := by omega
    rw [e]
    refine tri_row _ _ _ (tri2_0 ⟨256 * (r.val - 128) + i.val, by omega⟩) ?_
    show ((256 * (r.val - 128) + i.val) % 256) / 128 = 1 ∧ _ ↔ _
    have a : (256 * (r.val - 128) + i.val) % 256 = i.val := by omega
    have b : (256 * (r.val - 128) + i.val) / 256 = r.val - 128 := by omega
    simp only [a, b]
    omega
  · have e : 65536 * 0 + 256 * r.val + i.val = 36864 + (256 * (r.val - 144) + i.val) := by omega
    rw [e]
    refine tri_row _ _ _ (tri2_1 ⟨256 * (r.val - 144) + i.val, by omega⟩) ?_
    show ((256 * (r.val - 144) + i.val) % 256) / 128 = 1 ∧ _ ↔ _
    have a : (256 * (r.val - 144) + i.val) % 256 = i.val := by omega
    have b : (256 * (r.val - 144) + i.val) / 256 = r.val - 144 := by omega
    simp only [a, b]
    omega
  · have e : 65536 * 0 + 256 * r.val + i.val = 40960 + (256 * (r.val - 160) + i.val) := by omega
    rw [e]
    refine tri_row _ _ _ (tri2_2 ⟨256 * (r.val - 160) + i.val, by omega⟩) ?_
    show ((256 * (r.val - 160) + i.val) % 256) / 128 = 1 ∧ _ ↔ _
    have a : (256 * (r.val - 160) + i.val) % 256 = i.val := by omega
    have b : (256 * (r.val - 160) + i.val) / 256 = r.val - 160 := by omega
    simp only [a, b]
    omega
  · have e : 65536 * 0 + 256 * r.val + i.val = 45056 + (256 * (r.val - 176) + i.val) := by omega
    rw [e]
    refine tri_row _ _ _ (tri2_3 ⟨256 * (r.val - 176) + i.val, by omega⟩) ?_
    show ((256 * (r.val - 176) + i.val) % 256) / 128 = 1 ∧ _ ↔ _
    have a : (256 * (r.val - 176) + i.val) % 256 = i.val := by omega
    have b : (256 * (r.val - 176) + i.val) / 256 = r.val - 176 := by omega
    simp only [a, b]
    omega
  · have e : 65536 * 0 + 256 * r.val + i.val = 49152 + (256 * (r.val - 192) + i.val) := by omega
    rw [e]
    refine tri_row _ _ _ (tri3_0 ⟨256 * (r.val - 192) + i.val, by omega⟩) ?_
    show ((256 * (r.val - 192) + i.val) % 256) / 128 = 1 ∧ _ ↔ _
    have a : (256 * (r.val - 192) + i.val) % 256 = i.val := by omega
    have b : (256 * (r.val - 192) + i.val) / 256 = r.val - 192 := by omega
    simp only [a, b]
    omega
  · have e : 65536 * 0 + 256 * r.val + i.val = 53248 + (256 * (r.val - 208) + i.val) := by omega
    rw [e]
    refine tri_row _ _ _ (tri3_1 ⟨256 * (r.val - 208) + i.val, by omega⟩) ?_
    show ((256 * (r.val - 208) + i.val) % 256) / 128 = 1 ∧ _ ↔ _
    have a : (256 * (r.val - 208) + i.val) % 256 = i.val := by omega
    have b : (256 * (r.val - 208) + i.val) / 256 = r.val - 208 := by omega
    simp only [a, b]
    omega
  · have e : 65536 * 0 + 256 * r.val + i.val = 57344 + (256 * (r.val - 224) + i.val) := by omega
    rw [e]
    refine tri_row _ _ _ (tri3_2 ⟨256 * (r.val - 224) + i.val, by omega⟩) ?_
    show ((256 * (r.val - 224) + i.val) % 256) / 128 = 1 ∧ _ ↔ _
    have a : (256 * (r.val - 224) + i.val) % 256 = i.val := by omega
    have b : (256 * (r.val - 224) + i.val) / 256 = r.val - 224 := by omega
    simp only [a, b]
    omega
  · have e : 65536 * 0 + 256 * r.val + i.val = 61440 + (256 * (r.val - 240) + i.val) := by omega
    rw [e]
    refine tri_row _ _ _ (tri3_3 ⟨256 * (r.val - 240) + i.val, by omega⟩) ?_
    show ((256 * (r.val - 240) + i.val) % 256) / 128 = 1 ∧ _ ↔ _
    have a : (256 * (r.val - 240) + i.val) % 256 = i.val := by omega
    have b : (256 * (r.val - 240) + i.val) / 256 = r.val - 240 := by omega
    simp only [a, b]
    omega
theorem triP1 (r i : Fin 256) : FloatOps.ofBits (F := Ideal) .bf16 (lit0t (65536 * 1 + 256 * r.val + i.val)) = if i.val / 128 = r.val / 128 ∧ r.val ≤ i.val then 1 else 0 := by
  have hr := r.isLt
  have hi := i.isLt
  have hc : (0 ≤ r.val ∧ r.val < 16) ∨ (16 ≤ r.val ∧ r.val < 32) ∨ (32 ≤ r.val ∧ r.val < 48) ∨ (48 ≤ r.val ∧ r.val < 64) ∨ (64 ≤ r.val ∧ r.val < 80) ∨ (80 ≤ r.val ∧ r.val < 96) ∨ (96 ≤ r.val ∧ r.val < 112) ∨ (112 ≤ r.val ∧ r.val < 128) ∨ (128 ≤ r.val ∧ r.val < 144) ∨ (144 ≤ r.val ∧ r.val < 160) ∨ (160 ≤ r.val ∧ r.val < 176) ∨ (176 ≤ r.val ∧ r.val < 192) ∨ (192 ≤ r.val ∧ r.val < 208) ∨ (208 ≤ r.val ∧ r.val < 224) ∨ (224 ≤ r.val ∧ r.val < 240) ∨ (240 ≤ r.val ∧ r.val < 256) := by omega
  rcases hc with h | h | h | h | h | h | h | h | h | h | h | h | h | h | h | h
  · have e : 65536 * 1 + 256 * r.val + i.val = 65536 + (256 * (r.val - 0) + i.val) := by omega
    rw [e]
    refine tri_row _ _ _ (tri4_0 ⟨256 * (r.val - 0) + i.val, by omega⟩) ?_
    show ((256 * (r.val - 0) + i.val) % 256) / 128 = 0 ∧ _ ↔ _
    have a : (256 * (r.val - 0) + i.val) % 256 = i.val := by omega
    have b : (256 * (r.val - 0) + i.val) / 256 = r.val - 0 := by omega
    simp only [a, b]
    omega
  · have e : 65536 * 1 + 256 * r.val + i.val = 69632 + (256 * (r.val - 16) + i.val) := by omega
    rw [e]
    refine tri_row _ _ _ (tri4_1 ⟨256 * (r.val - 16) + i.val, by omega⟩) ?_
    show ((256 * (r.val - 16) + i.val) % 256) / 128 = 0 ∧ _ ↔ _
    have a : (256 * (r.val - 16) + i.val) % 256 = i.val := by omega
    have b : (256 * (r.val - 16) + i.val) / 256 = r.val - 16 := by omega
    simp only [a, b]
    omega
  · have e : 65536 * 1 + 256 * r.val + i.val = 73728 + (256 * (r.val - 32) + i.val) := by omega
    rw [e]
    refine tri_row _ _ _ (tri4_2 ⟨256 * (r.val - 32) + i.val, by omega⟩) ?_
    show ((256 * (r.val - 32) + i.val) % 256) / 128 = 0 ∧ _ ↔ _
    have a : (256 * (r.val - 32) + i.val) % 256 = i.val := by omega
    have b : (256 * (r.val - 32) + i.val) / 256 = r.val - 32 := by omega
    simp only [a, b]
    omega
  · have e : 65536 * 1 + 256 * r.val + i.val = 77824 + (256 * (r.val - 48) + i.val) := by omega
    rw [e]
    refine tri_row _ _ _ (tri4_3 ⟨256 * (r.val - 48) + i.val, by omega⟩) ?_
    show ((256 * (r.val - 48) + i.val) % 256) / 128 = 0 ∧ _ ↔ _
    have a : (256 * (r.val - 48) + i.val) % 256 = i.val := by omega
    have b : (256 * (r.val - 48) + i.val) / 256 = r.val - 48 := by omega
    simp only [a, b]
    omega
  · have e : 65536 * 1 + 256 * r.val + i.val = 81920 + (256 * (r.val - 64) + i.val) := by omega
    rw [e]
    refine tri_row _ _ _ (tri5_0 ⟨256 * (r.val - 64) + i.val, by omega⟩) ?_
    show ((256 * (r.val - 64) + i.val) % 256) / 128 = 0 ∧ _ ↔ _
    have a : (256 * (r.val - 64) + i.val) % 256 = i.val := by omega
    have b : (256 * (r.val - 64) + i.val) / 256 = r.val - 64 := by omega
    simp only [a, b]
    omega
  · have e : 65536 * 1 + 256 * r.val + i.val = 86016 + (256 * (r.val - 80) + i.val) := by omega
    rw [e]
    refine tri_row _ _ _ (tri5_1 ⟨256 * (r.val - 80) + i.val, by omega⟩) ?_
    show ((256 * (r.val - 80) + i.val) % 256) / 128 = 0 ∧ _ ↔ _
    have a : (256 * (r.val - 80) + i.val) % 256 = i.val := by omega
    have b : (256 * (r.val - 80) + i.val) / 256 = r.val - 80 := by omega
    simp only [a, b]
    omega
  · have e : 65536 * 1 + 256 * r.val + i.val = 90112 + (256 * (r.val - 96) + i.val) := by omega
    rw [e]
    refine tri_row _ _ _ (tri5_2 ⟨256 * (r.val - 96) + i.val, by omega⟩) ?_
    show ((256 * (r.val - 96) + i.val) % 256) / 128 = 0 ∧ _ ↔ _
    have a : (256 * (r.val - 96) + i.val) % 256 = i.val := by omega
    have b : (256 * (r.val - 96) + i.val) / 256 = r.val - 96 := by omega
    simp only [a, b]
    omega
  · have e : 65536 * 1 + 256 * r.val + i.val = 94208 + (256 * (r.val - 112) + i.val) := by omega
    rw [e]
    refine tri_row _ _ _ (tri5_3 ⟨256 * (r.val - 112) + i.val, by omega⟩) ?_
    show ((256 * (r.val - 112) + i.val) % 256) / 128 = 0 ∧ _ ↔ _
    have a : (256 * (r.val - 112) + i.val) % 256 = i.val := by omega
    have b : (256 * (r.val - 112) + i.val) / 256 = r.val - 112 := by omega
    simp only [a, b]
    omega
  · have e : 65536 * 1 + 256 * r.val + i.val = 98304 + (256 * (r.val - 128) + i.val) := by omega
    rw [e]
    refine tri_row _ _ _ (tri6_0 ⟨256 * (r.val - 128) + i.val, by omega⟩) ?_
    show ((256 * (r.val - 128) + i.val) % 256) / 128 = 1 ∧ _ ↔ _
    have a : (256 * (r.val - 128) + i.val) % 256 = i.val := by omega
    have b : (256 * (r.val - 128) + i.val) / 256 = r.val - 128 := by omega
    simp only [a, b]
    omega
  · have e : 65536 * 1 + 256 * r.val + i.val = 102400 + (256 * (r.val - 144) + i.val) := by omega
    rw [e]
    refine tri_row _ _ _ (tri6_1 ⟨256 * (r.val - 144) + i.val, by omega⟩) ?_
    show ((256 * (r.val - 144) + i.val) % 256) / 128 = 1 ∧ _ ↔ _
    have a : (256 * (r.val - 144) + i.val) % 256 = i.val := by omega
    have b : (256 * (r.val - 144) + i.val) / 256 = r.val - 144 := by omega
    simp only [a, b]
    omega
  · have e : 65536 * 1 + 256 * r.val + i.val = 106496 + (256 * (r.val - 160) + i.val) := by omega
    rw [e]
    refine tri_row _ _ _ (tri6_2 ⟨256 * (r.val - 160) + i.val, by omega⟩) ?_
    show ((256 * (r.val - 160) + i.val) % 256) / 128 = 1 ∧ _ ↔ _
    have a : (256 * (r.val - 160) + i.val) % 256 = i.val := by omega
    have b : (256 * (r.val - 160) + i.val) / 256 = r.val - 160 := by omega
    simp only [a, b]
    omega
  · have e : 65536 * 1 + 256 * r.val + i.val = 110592 + (256 * (r.val - 176) + i.val) := by omega
    rw [e]
    refine tri_row _ _ _ (tri6_3 ⟨256 * (r.val - 176) + i.val, by omega⟩) ?_
    show ((256 * (r.val - 176) + i.val) % 256) / 128 = 1 ∧ _ ↔ _
    have a : (256 * (r.val - 176) + i.val) % 256 = i.val := by omega
    have b : (256 * (r.val - 176) + i.val) / 256 = r.val - 176 := by omega
    simp only [a, b]
    omega
  · have e : 65536 * 1 + 256 * r.val + i.val = 114688 + (256 * (r.val - 192) + i.val) := by omega
    rw [e]
    refine tri_row _ _ _ (tri7_0 ⟨256 * (r.val - 192) + i.val, by omega⟩) ?_
    show ((256 * (r.val - 192) + i.val) % 256) / 128 = 1 ∧ _ ↔ _
    have a : (256 * (r.val - 192) + i.val) % 256 = i.val := by omega
    have b : (256 * (r.val - 192) + i.val) / 256 = r.val - 192 := by omega
    simp only [a, b]
    omega
  · have e : 65536 * 1 + 256 * r.val + i.val = 118784 + (256 * (r.val - 208) + i.val) := by omega
    rw [e]
    refine tri_row _ _ _ (tri7_1 ⟨256 * (r.val - 208) + i.val, by omega⟩) ?_
    show ((256 * (r.val - 208) + i.val) % 256) / 128 = 1 ∧ _ ↔ _
    have a : (256 * (r.val - 208) + i.val) % 256 = i.val := by omega
    have b : (256 * (r.val - 208) + i.val) / 256 = r.val - 208 := by omega
    simp only [a, b]
    omega
  · have e : 65536 * 1 + 256 * r.val + i.val = 122880 + (256 * (r.val - 224) + i.val) := by omega
    rw [e]
    refine tri_row _ _ _ (tri7_2 ⟨256 * (r.val - 224) + i.val, by omega⟩) ?_
    show ((256 * (r.val - 224) + i.val) % 256) / 128 = 1 ∧ _ ↔ _
    have a : (256 * (r.val - 224) + i.val) % 256 = i.val := by omega
    have b : (256 * (r.val - 224) + i.val) / 256 = r.val - 224 := by omega
    simp only [a, b]
    omega
  · have e : 65536 * 1 + 256 * r.val + i.val = 126976 + (256 * (r.val - 240) + i.val) := by omega
    rw [e]
    refine tri_row _ _ _ (tri7_3 ⟨256 * (r.val - 240) + i.val, by omega⟩) ?_
    show ((256 * (r.val - 240) + i.val) % 256) / 128 = 1 ∧ _ ↔ _
    have a : (256 * (r.val - 240) + i.val) % 256 = i.val := by omega
    have b : (256 * (r.val - 240) + i.val) / 256 = r.val - 240 := by omega
    simp only [a, b]
    omega

end Cert.Kernel3Ideal.Inp
end
-- ==== Proof.InpArr.lean ====
module

public import proofs.«01_k».proof.Proof.InpVal
public import proofs.«01_k».proof.Proof.InpPg
public import proofs.«01_k».proof.Proof.InpPr
public import proofs.«01_k».proof.Proof.InpGate
public import proofs.«01_k».proof.Proof.InpTriR

@[expose] public section
set_option maxRecDepth 16384
noncomputable section
namespace Cert.Kernel3Ideal.Inp
open Cert.Kernel3Ideal Cert.Kernel3Ideal.Gen Idealize.ShloMosaic Idealize.ShloMosaic.TcCoe Idealize.SL.Sem
open Idealize.ShloMosaic.Pipeline (Dat)

section ld
theorem ldA (X : Vec Ideal S4x256x1024 .f32) (b : Fin 4) (r : Fin 256) (d : Fin 1024) :
    View.ld (S := S4x256x1024) (e' := .f32) (Val := Elt Ideal) X (Rect.unit ![b.val, 0, 0] ![1, 256, 1024] (inbA b.isLt)) (ix3 (0 : Fin 1) r d : S1x256x1024.Idx) = X (ix3 b r d) :=
  ld_at X (inbA b.isLt) (ix3 (0 : Fin 1) r d : S1x256x1024.Idx) (ix3 b r d) (by
    intro a; fin_cases a
    · show b.val = b.val + 0; omega
    · show r.val = 0 + r.val; omega
    · show d.val = 0 + d.val; omega)
theorem ldB (X : Vec Ideal S4x8x1024 .f32) (b : Fin 4) (r : Fin 8) (d : Fin 1024) :
    View.ld (S := S4x8x1024) (e' := .f32) (Val := Elt Ideal) X (Rect.unit ![b.val, 0, 0] ![1, 8, 1024] (inbB b.isLt)) (ix3 (0 : Fin 1) r d : S1x8x1024.Idx) = X (ix3 b r d) :=
  ld_at X (inbB b.isLt) (ix3 (0 : Fin 1) r d : S1x8x1024.Idx) (ix3 b r d) (by
    intro a; fin_cases a
    · show b.val = b.val + 0; omega
    · show r.val = 0 + r.val; omega
    · show d.val = 0 + d.val; omega)
theorem ldM (X : Vec Ideal S8x6x1024 .f32) (i : grid0.Coords) (b : Fin 4) (j : Fin 6) (d : Fin 1024) (R : Fin 8) (h : R.val = if (i 0).val = 0 then 4 else b.val) :
    View.ld (S := S8x6x1024) (e' := .f32) (Val := Elt Ideal) X (Rect.unit (k0_off1 i (BitVec.ofNat 32 b.val)) S1x6x1024.size (k0_off1_inb i b)) (ix3 (0 : Fin 1) j d : S1x6x1024.Idx) = X (ix3 R j d) :=
  ld_at X (k0_off1_inb i b) (ix3 (0 : Fin 1) j d : S1x6x1024.Idx) (ix3 R j d) (by
    have e := k0_off1_eq i b
    intro a
    refine Eq.trans ?_ (congrArg (· + ((ix3 (0 : Fin 1) j d : S1x6x1024.Idx) a).val) (congrFun e a)).symm
    fin_cases a
    · show R.val = (if (i 0).val = 0 then 4 else b.val) + 0; omega
    · show j.val = 0 + j.val; omega
    · show d.val = 0 + d.val; omega)
end ld

variable (m : (ℓ : Loc nD τ sig) → Buf (Elt Ideal) ℓ) (c : Dev nD) (t : Fin cfg0.N)

/-- The tile's row `p` of batch `b`. -/
def tH (b : Fin 4) : Fin 272 → Fin 1024 → EReal :=
  bH (grid0.coords t) (iblk m c 0 t) (iblk m c 1 t) (iblk m c 2 t) (iblk m c 3 t) (iblk m c 4 t) (iblk m c 5 t) b

theorem row_c (x x' ng sc sh ng' sc' sh' : Fin 1024 → EReal) (h : ∀ d, x d = x' d) (h1 : ∀ d, ng d = ng' d) (h2 : ∀ d, sc d = sc' d) (h3 : ∀ d, sh d = sh' d) (d : Fin 1024) :
    rowH x ng sc sh d = rowH x' ng' sc' sh' d := by
  rw [funext h, funext h1, funext h2, funext h3]

theorem tH0 (b : Fin 4) (r : Fin 256) : tH m c t b ⟨r.val, by omega⟩ = gH (argsAt m c) b (256 * t.val + r.val) := by
  obtain ⟨ht, h0, -, -, hq⟩ := crd t
  funext d
  unfold tH bH hOf HB
  rw [sH_at0]
  unfold gH
  by_cases z : t.val = 0
  · rw [if_pos (by omega)]
    refine row_c _ _ _ _ _ _ _ _ (fun d => ?_) (fun d => blk5 m c t d) (fun d => ?_) (fun d => ?_) d
    · rw [if_pos (hq.2 z), ldA, blk3]
      exact congrArg (fun z => m ((c : Thread nD τ).loc main_arg1) (ix3 b z d)) (Fin.ext (by show r.val = (256 * t.val + r.val) % 256; omega))
    · rw [ldM _ _ b 1 d 4 (by rw [h0, if_pos z]; rfl), blk4]; rfl
    · rw [ldM _ _ b 0 d 4 (by rw [h0, if_pos z]; rfl), blk4]; rfl
  · rw [if_neg (by omega)]
    refine row_c _ _ _ _ _ _ _ _ (fun d => ?_) (fun d => blk5 m c t d) (fun d => ?_) (fun d => ?_) d
    · rw [if_neg (fun q => z (hq.1 q)), ldA, blk0 m c t b r d ⟨(256 * t.val + r.val - 256) % 4096, Nat.mod_lt _ (by decide)⟩ (by show (256 * t.val + r.val - 256) % 4096 = _; omega)]
      rfl
    · rw [ldM _ _ b 1 d ⟨b.val, by omega⟩ (by rw [h0, if_neg z]), blk4]; rfl
    · rw [ldM _ _ b 0 d ⟨b.val, by omega⟩ (by rw [h0, if_neg z]), blk4]; rfl

theorem tH1 (h2 : 2 ≤ t.val) (b : Fin 4) (r : Fin 8) : tH m c t b ⟨256 + r.val, by omega⟩ = gH (argsAt m c) b (256 * t.val + r.val - 8) := by
  obtain ⟨ht, h0, -, -, hq⟩ := crd t
  funext d
  unfold tH bH hOf HB
  rw [sH_at1]
  unfold gH
  have z : ¬ t.val = 0 := by omega
  rw [if_neg (by omega)]
  refine row_c _ _ _ _ _ _ _ _ (fun d => ?_) (fun d => blk5 m c t d) (fun d => ?_) (fun d => ?_) d
  · rw [ldB, blk1 m c t b r d ⟨(256 * t.val + r.val - 8 - 256) % 4096, Nat.mod_lt _ (by decide)⟩ (by show (256 * t.val + r.val - 8 - 256) % 4096 = _; omega)]
    rfl
  · rw [ldM _ _ b 1 d ⟨b.val, by omega⟩ (by rw [h0, if_neg z]), blk4]; rfl
  · rw [ldM _ _ b 0 d ⟨b.val, by omega⟩ (by rw [h0, if_neg z]), blk4]; rfl

theorem tH2 (h1 : 1 ≤ t.val) (h2 : t.val ≤ 15) (b : Fin 4) (r : Fin 8) : tH m c t b ⟨264 + r.val, by omega⟩ = gH (argsAt m c) b (256 * t.val + 256 + r.val) := by
  obtain ⟨ht, h0, -, -, hq⟩ := crd t
  funext d
  unfold tH bH hOf HB
  rw [sH_at2]
  unfold gH
  have z : ¬ t.val = 0 := by omega
  rw [if_neg (by omega)]
  refine row_c _ _ _ _ _ _ _ _ (fun d => ?_) (fun d => blk5 m c t d) (fun d => ?_) (fun d => ?_) d
  · rw [ldB, blk2 m c t b r d ⟨(256 * t.val + 256 + r.val - 256) % 4096, Nat.mod_lt _ (by decide)⟩ (by show (256 * t.val + 256 + r.val - 256) % 4096 = _; omega)]
    rfl
  · rw [ldM _ _ b 1 d ⟨b.val, by omega⟩ (by rw [h0, if_neg z]), blk4]; rfl
  · rw [ldM _ _ b 0 d ⟨b.val, by omega⟩ (by rw [h0, if_neg z]), blk4]; rfl

theorem wc_blk : wc (iblk m c 6 t) = (argsAt m c).w := by
  funext k j
  exact blk6 m c t k _

theorem conv_blk (b : Fin 4) (r : Fin 256) :
    gC (cP (grid0.coords t)) (cN (grid0.coords t)) (tH m c t b) (argsAt m c).w (cc (iblk m c 7 t)) r.val = gConv (argsAt m c) b (256 * t.val + r.val) := by
  obtain ⟨ht, h0, hP, hN, -⟩ := crd t
  funext j
  have W : ∀ i, i < 5 → gWin (cP (grid0.coords t)) (cN (grid0.coords t)) (fun p => gDot (tH m c t b p) (argsAt m c).w j) (6 + i + r.val) = gTap (argsAt m c) b (256 * t.val + r.val) j i :=
    fun i hi => win_tap (argsAt m c) _ _ (tH m c t b) b t.val ht hP hN (fun r => tH0 m c t b r) (fun h r => tH1 m c t h b r) (fun h h' r => tH2 m c t h h' b r) j r.val i r.isLt hi
  have C : ∀ i, cc (iblk m c 7 t) i j = (argsAt m c).cw i j := fun i => blk7 m c t i _
  unfold gC gCv gConv
  simp only [C]
  rw [← W 0 (by decide), ← W 1 (by decide), ← W 2 (by decide), ← W 3 (by decide), ← W 4 (by decide)]

theorem prj_blk (b : Fin 4) (r : Fin 256) (h : r.val < 272) : gDot (tH m c t b ⟨r.val, h⟩) (argsAt m c).w = gPrj (argsAt m c) b (256 * t.val + r.val) := by
  funext j
  exact congrArg (fun x => gDot x (argsAt m c).w j) (tH0 m c t b r)

def outPg (i : S4x4352x2048.Idx) : EReal := gPg (argsAt m c) (i 0) (i 1).val ((i 2).val / 128) ⟨(i 2).val % 128, Nat.mod_lt _ (by decide)⟩
def outPr (i : S4x4352x2048.Idx) : EReal := gPr (argsAt m c) (i 0) (i 1).val ((i 2).val / 128) ⟨(i 2).val % 128, Nat.mod_lt _ (by decide)⟩
def outG (i : S4x4352x128.Idx) : EReal := gGate (argsAt m c) (i 0) (i 1).val (i 2).val
def outGT (i : S4x8x4352.Idx) : EReal := gGate (argsAt m c) (i 0) (i 2).val (i 1).val

theorem key12 (y : S4x256x2048.Idx) (z : S4x4352x2048.Idx) (h0 : (z 0).val = (y 0).val) (h1 : (z 1).val = 256 * t.val + (y 1).val) (h2 : (z 2).val = (y 2).val) :
    blkPg (grid0.coords t) (iblk m c 0 t) (iblk m c 1 t) (iblk m c 2 t) (iblk m c 3 t) (iblk m c 4 t) (iblk m c 5 t) (iblk m c 6 t) (iblk m c 7 t) y = outPg m c z := by
  have e0 : z 0 = (y 0 : Fin 4) := Fin.ext h0
  unfold outPg gPg blkPg
  simp only [h1, h2]
  rw [e0, wc_blk]
  have E1 := conv_blk m c t (y 0) (y 1)
  have E2 := prj_blk m c t (y 0) (y 1) (lt_trans (y 1).isLt (by decide))
  unfold tH at E1 E2
  rw [E1, E2]

theorem key13 (y : S4x256x2048.Idx) (z : S4x4352x2048.Idx) (h0 : (z 0).val = (y 0).val) (h1 : (z 1).val = 256 * t.val + (y 1).val) (h2 : (z 2).val = (y 2).val) :
    blkPr (grid0.coords t) (iblk m c 0 t) (iblk m c 1 t) (iblk m c 2 t) (iblk m c 3 t) (iblk m c 4 t) (iblk m c 5 t) (iblk m c 6 t) (iblk m c 8 t) (iblk m c 9 t) y = outPr m c z := by
  have e0 : z 0 = (y 0 : Fin 4) := Fin.ext h0
  unfold outPr gPr blkPr
  simp only [h1, h2]
  rw [e0, wc_blk, funext (fun e => blk8 m c t (y 1) e), funext (fun e => blk9 m c t (y 1) e)]
  have E2 := prj_blk m c t (y 0) (y 1) (lt_trans (y 1).isLt (by decide))
  unfold tH at E2
  rw [E2]

theorem g_blk (b : Fin 4) (r : Fin 256) (l : Fin 128) :
    blkG (grid0.coords t) (iblk m c 0 t) (iblk m c 1 t) (iblk m c 2 t) (iblk m c 3 t) (iblk m c 4 t) (iblk m c 5 t) (iblk m c 6 t) (iblk m c 10 t) (iblk m c 11 t) b r l
      = gGate (argsAt m c) b (256 * t.val + r.val) l.val := by
  unfold blkG
  refine res_gate (argsAt m c) b t.val r.val l.val r.isLt l.isLt _ _ _ (fun s => ?_) (fun i => ?_) (fun i => ?_)
  · unfold gGt
    have E2 := prj_blk m c t b s (lt_trans s.isLt (by decide))
    unfold tH at E2
    rw [blk10a, blk10b, wc_blk, E2]
  · rw [blk11, show ((0 : Fin 2) : ℕ) = 0 from rfl, triP0]
  · rw [blk11, show ((1 : Fin 2) : ℕ) = 1 from rfl, triP1]

theorem key14 (y : S4x256x128.Idx) (z : S4x4352x128.Idx) (h0 : (z 0).val = (y 0).val) (h1 : (z 1).val = 256 * t.val + (y 1).val) (h2 : (z 2).val = (y 2).val) :
    gGate (argsAt m c) (y 0) (256 * t.val + (y 1).val) (y 2).val = outG m c z := by
  have e0 : z 0 = (y 0 : Fin 4) := Fin.ext h0
  unfold outG
  rw [h1, h2, e0]
theorem key15 (y : S4x8x256.Idx) (z : S4x8x4352.Idx) (h0 : (z 0).val = (y 0).val) (h1 : (z 1).val = (y 1).val) (h2 : (z 2).val = 256 * t.val + (y 2).val) :
    gGate (argsAt m c) (y 0) (256 * t.val + (y 2).val) (y 1).val = outGT m c z := by
  have e0 : z 0 = (y 0 : Fin 4) := Fin.ext h0
  unfold outGT
  rw [h1, h2, e0]

theorem arr12 : (dats m 0 c).arrAt 12 cfg0.N = outPg m c := by
  refine (dats m 0 c).arrAt_eq_of_covers 12 _ (by decide +kernel) fun t hf y => ?_
  obtain ⟨⟨a0, a1, a2⟩, -⟩ := idxC t
  have e0 : (((win0_12.blk t).view.emb y) 0).val = (y 0).val := by blk_simp [a0]
  have e1 : (((win0_12.blk t).view.emb y) 1).val = 256 * t.val + (y 1).val := by blk_simp [a1]; omega
  have e2 : (((win0_12.blk t).view.emb y) 2).val = (y 2).val := by blk_simp [a2]
  blk_simp
  exact (after12_at m c t y).trans (key12 m c t y _ e0 e1 e2)

theorem arr13 : (dats m 0 c).arrAt 13 cfg0.N = outPr m c := by
  refine (dats m 0 c).arrAt_eq_of_covers 13 _ (by decide +kernel) fun t hf y => ?_
  obtain ⟨-, ⟨a0, a1, a2⟩, -⟩ := idxC t
  have e0 : (((win0_13.blk t).view.emb y) 0).val = (y 0).val := by blk_simp [a0]
  have e1 : (((win0_13.blk t).view.emb y) 1).val = 256 * t.val + (y 1).val := by blk_simp [a1]; omega
  have e2 : (((win0_13.blk t).view.emb y) 2).val = (y 2).val := by blk_simp [a2]
  blk_simp
  exact (after13_at m c t y).trans (key13 m c t y _ e0 e1 e2)

theorem arr14 : (dats m 0 c).arrAt 14 cfg0.N = outG m c := by
  refine (dats m 0 c).arrAt_eq_of_covers 14 _ (by decide +kernel) fun t hf y => ?_
  obtain ⟨-, -, ⟨a0, a1, a2⟩, -⟩ := idxC t
  have e0 : (((win0_14.blk t).view.emb y) 0).val = (y 0).val := by blk_simp [a0]
  have e1 : (((win0_14.blk t).view.emb y) 1).val = 256 * t.val + (y 1).val := by blk_simp [a1]; omega
  have e2 : (((win0_14.blk t).view.emb y) 2).val = (y 2).val := by blk_simp [a2]
  blk_simp
  exact (after14_at m c t y).trans ((g_blk m c t (y 0) (y 1) (y 2)).trans (key14 m c t y _ e0 e1 e2))

theorem arr15 : (dats m 0 c).arrAt 15 cfg0.N = outGT m c := by
  refine (dats m 0 c).arrAt_eq_of_covers 15 _ (by decide +kernel) fun t hf y => ?_
  obtain ⟨-, -, -, ⟨a0, a1, a2⟩⟩ := idxC t
  have e0 : (((win0_15.blk t).view.emb y) 0).val = (y 0).val := by blk_simp [a0]
  have e1 : (((win0_15.blk t).view.emb y) 1).val = (y 1).val := by blk_simp [a1]
  have e2 : (((win0_15.blk t).view.emb y) 2).val = 256 * t.val + (y 2).val := by blk_simp [a2]; omega
  blk_simp
  exact (after15_at m c t y).trans ((g_blk m c t (y 0) (y 2) ⟨(y 1).val, lt_trans (show (y 1).val < 8 from (y 1).isLt) (by decide)⟩).trans (key15 m c t y _ e0 e1 e2))

end Cert.Kernel3Ideal.Inp
end
-- ==== Proof.InpRefA.lean ====
module

public import proofs.«01_k».proof.Proof.InpMath
public import proofs.«01_k».proof.Proof.Gen.Reference3Ideal.Read
public import proofs.«01_k».proof.Proof.InpVal

@[expose] public section
set_option maxRecDepth 16384
noncomputable section
namespace Cert.Reference3Ideal.Inp
open Cert.Reference3Ideal Cert.Reference3Ideal.Read Idealize.ShloMosaic Idealize.ShloMosaic.TcCoe Idealize.SL.Sem
open Cert.Kernel3Ideal.Inp (rsf rowH gH gDot gPrj gTap gConv Args argsOf wc)

/-! ## The reference's normalised rows and projection -/

variable (x0 : (⟨S4x4096x1024, .f32⟩ : BufTy).Contents (Elt Ideal)) (x1 : (⟨S4x256x1024, .f32⟩ : BufTy).Contents (Elt Ideal))
  (x2 : (⟨S8x6x1024, .f32⟩ : BufTy).Contents (Elt Ideal)) (x3 : (⟨S1x1024, .f32⟩ : BufTy).Contents (Elt Ideal))
  (x4 : (⟨S1024x4224, .bf16⟩ : BufTy).Contents (Elt Ideal)) (x5 : (⟨S1x5x1536, .f32⟩ : BufTy).Contents (Elt Ideal))
  (x6 x7 : (⟨S1x2x4, .f32⟩ : BufTy).Contents (Elt Ideal)) (x8 x9 : (⟨S4352x64, .f32⟩ : BufTy).Contents (Elt Ideal))
  (b : Fin 4)

theorem v8_at (l : Fin 4096) : val_main_v8 x0 (ix3 b l 0) = rsf fun d => x0 (ix3 b l d) := by
  pointwise [val_main_v8, val_main_v7, val_main_v5, val_main_v3, val_main_v2, val_main_v1, val_main_v4, val_main_v6, val_main_cst, val_main_cst_0, val_main_cst_1]
  rfl
theorem v34_at (l : Fin 256) : val_main_v34 x1 (ix3 b l 0) = rsf fun d => x1 (ix3 b l d) := by
  pointwise [val_main_v34, val_main_v33, val_main_v31, val_main_v29, val_main_v28, val_main_v27, val_main_v30, val_main_v32, val_main_cst_3, val_main_cst_4, val_main_cst_5]
  rfl
theorem v25_at (l : Fin 4096) (d : Fin 1024) : val_main_v25 x0 x2 x3 (ix3 b l d)
    = rowH (fun d => x0 (ix3 b l d)) (fun d => x3 (ix2 0 d)) (fun d => x2 (ix3 ⟨b.val, by omega⟩ 1 d)) (fun d => x2 (ix3 ⟨b.val, by omega⟩ 0 d)) d := by
  unfold rowH
  rw [← v8_at]
  unfold val_main_v25 val_main_v23 val_main_v13 val_main_v10 val_main_v9
  generalize val_main_v8 x0 = z
  pointwise [val_main_v24, val_main_v22, val_main_v21, val_main_v20, val_main_v19, val_main_v18, val_main_v17, val_main_v16, val_main_v15, val_main_v14, val_main_v12, val_main_v11, val_main_v0, val_main_cst_2]
theorem v51_at (l : Fin 256) (d : Fin 1024) : val_main_v51 x1 x2 x3 (ix3 b l d)
    = rowH (fun d => x1 (ix3 b l d)) (fun d => x3 (ix2 0 d)) (fun d => x2 (ix3 4 1 d)) (fun d => x2 (ix3 4 0 d)) d := by
  unfold rowH
  rw [← v34_at]
  unfold val_main_v51 val_main_v48 val_main_v39 val_main_v36 val_main_v35
  generalize val_main_v34 x1 = z
  pointwise [val_main_v50, val_main_v49, val_main_v47, val_main_v46, val_main_v45, val_main_v44, val_main_v43, val_main_v42, val_main_v41, val_main_v40, val_main_v38, val_main_v37, val_main_v26, val_main_cst_6]
theorem v52_at (T : Fin 4352) (d : Fin 1024) : val_main_v52 x0 x1 x2 x3 (ix3 b T d) = gH (argsOf x0 x1 x2 x3 x4 x5 x6 x7 x8 x9) b T.val d := by
  have h1 := v25_at x0 x2 x3 b
  have h2 := v51_at x1 x2 x3 b
  unfold val_main_v52
  generalize val_main_v25 x0 x2 x3 = y at h1
  generalize val_main_v51 x1 x2 x3 = z at h2
  pointwise
  unfold gH
  by_cases h : T.val < 256
  · rw [dif_pos h, if_pos h, h2]
    have e : (⟨T.val, h⟩ : Fin 256) = ⟨T.val % 256, Nat.mod_lt _ (by decide)⟩ := Fin.ext (Nat.mod_eq_of_lt h).symm
    rw [e]
    rfl
  · rw [dif_neg h, if_neg h, h1]
    have e : (⟨T.val - 256, by omega⟩ : Fin 4096) = ⟨(T.val - 256) % 4096, Nat.mod_lt _ (by decide)⟩ := Fin.ext (Nat.mod_eq_of_lt (by omega)).symm
    rw [e]
    rfl
theorem v54_at (T : Fin 4352) (j : Fin 4224) : val_main_v54 x0 x1 x2 x3 x4 (ix3 b T j) = gPrj (argsOf x0 x1 x2 x3 x4 x5 x6 x7 x8 x9) b T.val j.val := by
  have h := v52_at x0 x1 x2 x3 x4 x5 x6 x7 x8 x9 b T
  unfold val_main_v54 gPrj gDot
  rw [← funext h]
  generalize val_main_v52 x0 x1 x2 x3 = y
  pointwise [val_main_v53]
  refine Finset.sum_congr rfl fun k _ => congrArg (y (ix3 b T k) * ·) ?_
  exact congrArg (fun z => x4 (ix2 k z)) (Fin.ext (Nat.mod_eq_of_lt j.isLt).symm)
end Cert.Reference3Ideal.Inp
end
-- ==== Proof.InpRefB.lean ====
module

public import proofs.«01_k».proof.Proof.InpRefA

@[expose] public section
set_option maxRecDepth 16384
noncomputable section
namespace Cert.Reference3Ideal.Inp
open Cert.Reference3Ideal Cert.Reference3Ideal.Read Idealize.ShloMosaic Idealize.ShloMosaic.TcCoe Idealize.SL.Sem
open Cert.Kernel3Ideal.Inp

variable (x0 : (⟨S4x4096x1024, .f32⟩ : BufTy).Contents (Elt Ideal)) (x1 : (⟨S4x256x1024, .f32⟩ : BufTy).Contents (Elt Ideal))
  (x2 : (⟨S8x6x1024, .f32⟩ : BufTy).Contents (Elt Ideal)) (x3 : (⟨S1x1024, .f32⟩ : BufTy).Contents (Elt Ideal))
  (x4 : (⟨S1024x4224, .bf16⟩ : BufTy).Contents (Elt Ideal)) (x5 : (⟨S1x5x1536, .f32⟩ : BufTy).Contents (Elt Ideal))
  (x6 x7 : (⟨S1x2x4, .f32⟩ : BufTy).Contents (Elt Ideal)) (x8 x9 : (⟨S4352x64, .f32⟩ : BufTy).Contents (Elt Ideal))
  (b : Fin 4)

/-! ## The reference's convolution -/

theorem sit0 : FloatOps.sitofp (F := Ideal) FTy.f32 0#32 = 0 := by
  show ((((0#32 : BitVec 32).toInt : ℤ) : ℝ) : EReal) = 0
  simp
theorem v65_at (r : Fin 260) (j : Fin 1536) : val_main_v65 x0 x1 x2 x3 x4 (ix3 b r j)
    = if 2 ≤ r.val ∧ r.val < 258 then gPrj (argsOf x0 x1 x2 x3 x4 x5 x6 x7 x8 x9) b (r.val - 2) j.val else 0 := by
  have h := v54_at x0 x1 x2 x3 x4 x5 x6 x7 x8 x9 b
  unfold val_main_v65 val_main_v64 val_main_v55
  generalize val_main_v54 x0 x1 x2 x3 x4 = y at h
  pointwise [val_main_call0_v0, val_main_c]
  by_cases hh : 2 ≤ r.val ∧ r.val < 258
  · rw [if_pos hh, dif_pos ⟨hh.1, by omega⟩, h]
  · rw [if_neg hh, dif_neg (fun h' => hh ⟨h'.1, by omega⟩)]
    exact sit0
theorem v102_at (r : Fin 4100) (j : Fin 1536) : val_main_v102 x0 x1 x2 x3 x4 (ix3 b r j)
    = if 2 ≤ r.val ∧ r.val < 4098 then gPrj (argsOf x0 x1 x2 x3 x4 x5 x6 x7 x8 x9) b (256 + (r.val - 2)) j.val else 0 := by
  have h := v54_at x0 x1 x2 x3 x4 x5 x6 x7 x8 x9 b
  unfold val_main_v102 val_main_v101 val_main_v55
  generalize val_main_v54 x0 x1 x2 x3 x4 = y at h
  pointwise [val_main_call2_v0, val_main_c_7]
  by_cases hh : 2 ≤ r.val ∧ r.val < 4098
  · rw [if_pos hh, dif_pos ⟨hh.1, by omega⟩, h]
  · rw [if_neg hh, dif_neg (fun h' => hh ⟨h'.1, by omega⟩)]
    exact sit0

theorem v99_at (r : Fin 256) (j : Fin 1536) : val_main_v99 x0 x1 x2 x3 x4 x5 (ix3 b r j)
    = gConv (argsOf x0 x1 x2 x3 x4 x5 x6 x7 x8 x9) b r.val j.val := by
  have h := v65_at x0 x1 x2 x3 x4 x5 x6 x7 x8 x9 b
  unfold val_main_v99 val_main_v92 val_main_v85 val_main_v78 val_main_v71 val_main_v77 val_main_v84 val_main_v91 val_main_v98 val_main_v66 val_main_v72 val_main_v79 val_main_v86 val_main_v93
  generalize val_main_v65 x0 x1 x2 x3 x4 = y at h
  pointwise [val_main_v70, val_main_v69, val_main_v68, val_main_v67, val_main_v76, val_main_v75, val_main_v74, val_main_v73, val_main_v83, val_main_v82, val_main_v81, val_main_v80, val_main_v90, val_main_v89, val_main_v88, val_main_v87, val_main_v97, val_main_v96, val_main_v95, val_main_v94, val_main_v63]
  have key : ∀ i : ℕ, gTap (argsOf x0 x1 x2 x3 x4 x5 x6 x7 x8 x9) b r.val j.val i
      = if 2 ≤ i + r.val ∧ i + r.val < 258 then gPrj (argsOf x0 x1 x2 x3 x4 x5 x6 x7 x8 x9) b (i + r.val - 2) j.val else 0 := by
    intro i
    unfold gTap
    rw [if_pos r.isLt, Nat.add_comm r.val i]
  have key0 := key 0
  rw [Nat.zero_add] at key0
  have cwE : ∀ i : Fin 5, (argsOf x0 x1 x2 x3 x4 x5 x6 x7 x8 x9).cw i j.val = x5 (ix3 0 i j) := fun i =>
    congrArg (fun z => x5 (ix3 0 i z)) (Fin.ext (Nat.mod_eq_of_lt j.isLt))
  unfold gConv
  rw [key0, key, key, key, key, cwE, cwE, cwE, cwE, cwE, h, h, h, h, h]

theorem v136_at (r : Fin 4096) (j : Fin 1536) : val_main_v136 x0 x1 x2 x3 x4 x5 (ix3 b r j)
    = gConv (argsOf x0 x1 x2 x3 x4 x5 x6 x7 x8 x9) b (256 + r.val) j.val := by
  have h := v102_at x0 x1 x2 x3 x4 x5 x6 x7 x8 x9 b
  unfold val_main_v136 val_main_v129 val_main_v122 val_main_v115 val_main_v108 val_main_v114 val_main_v121 val_main_v128 val_main_v135 val_main_v103 val_main_v109 val_main_v116 val_main_v123 val_main_v130
  generalize val_main_v102 x0 x1 x2 x3 x4 = y at h
  pointwise [val_main_v107, val_main_v106, val_main_v105, val_main_v104, val_main_v113, val_main_v112, val_main_v111, val_main_v110, val_main_v120, val_main_v119, val_main_v118, val_main_v117, val_main_v127, val_main_v126, val_main_v125, val_main_v124, val_main_v134, val_main_v133, val_main_v132, val_main_v131, val_main_v63]
  have key : ∀ i : ℕ, gTap (argsOf x0 x1 x2 x3 x4 x5 x6 x7 x8 x9) b (256 + r.val) j.val i
      = if 2 ≤ i + r.val ∧ i + r.val < 4098 then gPrj (argsOf x0 x1 x2 x3 x4 x5 x6 x7 x8 x9) b (256 + (i + r.val - 2)) j.val else 0 := by
    intro i
    unfold gTap
    rw [if_neg (show ¬ 256 + r.val < 256 by omega)]
    by_cases hh : 2 ≤ i + r.val ∧ i + r.val < 4098
    · rw [if_pos hh, if_pos (by omega), show 256 + r.val + i - 2 = 256 + (i + r.val - 2) by omega]
    · rw [if_neg hh, if_neg (by omega)]
  have key0 := key 0
  rw [Nat.zero_add] at key0
  have cwE : ∀ i : Fin 5, (argsOf x0 x1 x2 x3 x4 x5 x6 x7 x8 x9).cw i j.val = x5 (ix3 0 i j) := fun i =>
    congrArg (fun z => x5 (ix3 0 i z)) (Fin.ext (Nat.mod_eq_of_lt j.isLt))
  unfold gConv
  rw [key0, key, key, key, key, cwE, cwE, cwE, cwE, cwE, h, h, h, h, h]

theorem v138_at (T : Fin 4352) (j : Fin 1536) : val_main_v138 x0 x1 x2 x3 x4 x5 (ix3 b T j)
    = gSilu (gConv (argsOf x0 x1 x2 x3 x4 x5 x6 x7 x8 x9) b T.val j.val) := by
  have h1 := v99_at x0 x1 x2 x3 x4 x5 x6 x7 x8 x9 b
  have h2 := v136_at x0 x1 x2 x3 x4 x5 x6 x7 x8 x9 b
  unfold gSilu val_main_v138 val_main_v100 val_main_call1_v5 val_main_call1_v3 val_main_call1_v1 val_main_call1_v0 val_main_v137 val_main_call3_v5 val_main_call3_v3 val_main_call3_v1 val_main_call3_v0
  generalize val_main_v99 x0 x1 x2 x3 x4 x5 = y at h1
  generalize val_main_v136 x0 x1 x2 x3 x4 x5 = z at h2
  pointwise [val_main_call1_v2, val_main_call1_cst, val_main_call1_v4, val_main_call1_cst_0, val_main_call3_v2, val_main_call3_cst, val_main_call3_v4, val_main_call3_cst_0]
  by_cases h : T.val < 256
  · rw [dif_pos h, h1, zero_sub]
  · rw [dif_neg h, h2, zero_sub, show 256 + (T.val - 256) = T.val by omega]
end Cert.Reference3Ideal.Inp
end
-- ==== Proof.InpRefC.lean ====
module

public import proofs.«01_k».proof.Proof.InpRefA

@[expose] public section
set_option maxRecDepth 16384
noncomputable section
namespace Cert.Reference3Ideal.Inp
open Cert.Reference3Ideal Cert.Reference3Ideal.Read Idealize.ShloMosaic Idealize.ShloMosaic.TcCoe Idealize.SL.Sem
open Cert.Kernel3Ideal.Inp

variable (x0 : (⟨S4x4096x1024, .f32⟩ : BufTy).Contents (Elt Ideal)) (x1 : (⟨S4x256x1024, .f32⟩ : BufTy).Contents (Elt Ideal))
  (x2 : (⟨S8x6x1024, .f32⟩ : BufTy).Contents (Elt Ideal)) (x3 : (⟨S1x1024, .f32⟩ : BufTy).Contents (Elt Ideal))
  (x4 : (⟨S1024x4224, .bf16⟩ : BufTy).Contents (Elt Ideal)) (x5 : (⟨S1x5x1536, .f32⟩ : BufTy).Contents (Elt Ideal))
  (x6 x7 : (⟨S1x2x4, .f32⟩ : BufTy).Contents (Elt Ideal)) (x8 x9 : (⟨S4352x64, .f32⟩ : BufTy).Contents (Elt Ideal))
  (b : Fin 4)

/-! ## The reference's heads after the convolution -/

theorem v142_at (T : Fin 4352) (h : Fin 4) (e : Fin 128) : val_main_v142 x0 x1 x2 x3 x4 x5 (ix4 b T h e)
    = val_main_v138 x0 x1 x2 x3 x4 x5 (ix3 b T ⟨128 * h.val + e.val, by omega⟩) := by
  unfold val_main_v142 val_main_v139
  generalize val_main_v138 x0 x1 x2 x3 x4 x5 = y
  pointwise
  refine congrArg (fun z => y (ix3 b T z)) (Fin.ext ?_)
  show h.val * 128 + e.val = 128 * h.val + e.val
  omega
theorem v143_at (T : Fin 4352) (h : Fin 4) (e : Fin 128) : val_main_v143 x0 x1 x2 x3 x4 x5 (ix4 b T h e)
    = val_main_v138 x0 x1 x2 x3 x4 x5 (ix3 b T ⟨512 + 128 * h.val + e.val, by omega⟩) := by
  unfold val_main_v143 val_main_v140
  generalize val_main_v138 x0 x1 x2 x3 x4 x5 = y
  pointwise
  refine congrArg (fun z => y (ix3 b T z)) (Fin.ext ?_)
  show 512 + (h.val * 128 + e.val) = 512 + 128 * h.val + e.val
  omega
theorem v144_at (T : Fin 4352) (h : Fin 4) (e : Fin 128) : val_main_v144 x0 x1 x2 x3 x4 x5 (ix4 b T h e)
    = val_main_v138 x0 x1 x2 x3 x4 x5 (ix3 b T ⟨1024 + 128 * h.val + e.val, by omega⟩) := by
  unfold val_main_v144 val_main_v141
  generalize val_main_v138 x0 x1 x2 x3 x4 x5 = y
  pointwise
  refine congrArg (fun z => y (ix3 b T z)) (Fin.ext ?_)
  show 1024 + (h.val * 128 + e.val) = 1024 + 128 * h.val + e.val
  omega
theorem v154_at (T : Fin 4352) (h : Fin 4) (e : Fin 128) : val_main_v154 x0 x1 x2 x3 x4 x5 (ix4 b T h e)
    = gL2 (fun d => val_main_v142 x0 x1 x2 x3 x4 x5 (ix4 b T h d)) e * Ideal.ofBits .f32 0x3DB504F3#32 := by
  have he : ∀ k : Fin 128, idx_main_v146 (idx_main_v147 (idx_main_v151 (ix4 b T h e))) k = ix4 b T h k := fun k =>
    funext fun a => match a with | ⟨0, _⟩ => rfl | ⟨1, _⟩ => rfl | ⟨2, _⟩ => rfl | ⟨3, _⟩ => rfl
  rw [val_main_v154_apply, val_main_v152_apply, val_main_v153_apply, val_main_cst_10_apply, val_main_v151_apply, val_main_v150_apply, val_main_v149_apply, val_main_v147_apply, val_main_v146_apply, val_main_v148_apply, val_main_cst_8_apply, val_main_cst_9_apply]
  have hs : (∑ k : Fin 128, val_main_v145 (F := Ideal) x0 x1 x2 x3 x4 x5 (idx_main_v146 (idx_main_v147 (idx_main_v151 (ix4 b T h e))) k) : EReal)
      = ∑ k : Fin 128, (val_main_v142 (F := Ideal) x0 x1 x2 x3 x4 x5 (ix4 b T h k) * val_main_v142 (F := Ideal) x0 x1 x2 x3 x4 x5 (ix4 b T h k) : EReal) :=
    Finset.sum_congr rfl fun k _ => (congrArg (val_main_v145 (F := Ideal) x0 x1 x2 x3 x4 x5) (he k)).trans (val_main_v145_apply (F := Ideal) x0 x1 x2 x3 x4 x5 (ix4 b T h k))
  rw [hs]
  unfold gL2
  generalize val_main_v142 (F := Ideal) x0 x1 x2 x3 x4 x5 = y
  show y (ix4 b T h e) * Ideal.rsqrt (Ideal.ofBits .f32 0x00000000#32 + ∑ d : Fin 128, y (ix4 b T h d) * y (ix4 b T h d) + Ideal.ofBits .f32 0x358637BD#32) * Ideal.ofBits .f32 0x3DB504F3#32 = _
  rw [Ideal.ofBits_zero_f32, zero_add]
theorem v162_at (T : Fin 4352) (h : Fin 4) (e : Fin 128) : val_main_v162 x0 x1 x2 x3 x4 x5 (ix4 b T h e)
    = gL2 (fun d => val_main_v143 x0 x1 x2 x3 x4 x5 (ix4 b T h d)) e := by
  have he : ∀ k : Fin 128, idx_main_v156 (idx_main_v157 (idx_main_v161 (ix4 b T h e))) k = ix4 b T h k := fun k =>
    funext fun a => match a with | ⟨0, _⟩ => rfl | ⟨1, _⟩ => rfl | ⟨2, _⟩ => rfl | ⟨3, _⟩ => rfl
  rw [val_main_v162_apply, val_main_v161_apply, val_main_v160_apply, val_main_v159_apply, val_main_v157_apply, val_main_v156_apply, val_main_v158_apply, val_main_cst_11_apply, val_main_cst_12_apply]
  have hs : (∑ k : Fin 128, val_main_v155 (F := Ideal) x0 x1 x2 x3 x4 x5 (idx_main_v156 (idx_main_v157 (idx_main_v161 (ix4 b T h e))) k) : EReal)
      = ∑ k : Fin 128, (val_main_v143 (F := Ideal) x0 x1 x2 x3 x4 x5 (ix4 b T h k) * val_main_v143 (F := Ideal) x0 x1 x2 x3 x4 x5 (ix4 b T h k) : EReal) :=
    Finset.sum_congr rfl fun k _ => (congrArg (val_main_v155 (F := Ideal) x0 x1 x2 x3 x4 x5) (he k)).trans (val_main_v155_apply (F := Ideal) x0 x1 x2 x3 x4 x5 (ix4 b T h k))
  rw [hs]
  unfold gL2
  generalize val_main_v143 (F := Ideal) x0 x1 x2 x3 x4 x5 = y
  show y (ix4 b T h e) * Ideal.rsqrt (Ideal.ofBits .f32 0x00000000#32 + ∑ d : Fin 128, y (ix4 b T h d) * y (ix4 b T h d) + Ideal.ofBits .f32 0x358637BD#32) = _
  rw [Ideal.ofBits_zero_f32, zero_add]
theorem v166_at (T : Fin 4352) (c : Fin 2048) : val_main_v166 x0 x1 x2 x3 x4 x5 (ix3 b T c)
    = if c.val < 512 then val_main_v154 x0 x1 x2 x3 x4 x5 (ix4 b T ⟨c.val / 128 % 4, by omega⟩ ⟨c.val % 128, by omega⟩)
      else if c.val < 1024 then val_main_v162 x0 x1 x2 x3 x4 x5 (ix4 b T ⟨c.val / 128 % 4, by omega⟩ ⟨c.val % 128, by omega⟩)
      else if c.val < 1536 then val_main_v144 x0 x1 x2 x3 x4 x5 (ix4 b T ⟨c.val / 128 % 4, by omega⟩ ⟨c.val % 128, by omega⟩)
      else val_main_v54 x0 x1 x2 x3 x4 (ix3 b T ⟨c.val, by omega⟩) := by
  unfold val_main_v166 val_main_v163 val_main_v164 val_main_v165 val_main_v56
  generalize val_main_v154 x0 x1 x2 x3 x4 x5 = y1
  generalize val_main_v162 x0 x1 x2 x3 x4 x5 = y2
  generalize val_main_v144 x0 x1 x2 x3 x4 x5 = y3
  generalize val_main_v54 x0 x1 x2 x3 x4 = y4
  pointwise
  by_cases h1 : c.val < 512
  · rw [dif_pos h1, if_pos h1]
    exact congrArg (fun z => y1 (ix4 b T z ⟨c.val % 128, by omega⟩)) (Fin.ext (show c.val / 128 = c.val / 128 % 4 by omega))
  · rw [dif_neg h1, if_neg h1]
    by_cases h2 : c.val < 1024
    · rw [dif_pos (show c.val - 512 < 512 by omega), if_pos h2]
      exact congrArg₂ (fun p q => y2 (ix4 b T p q)) (Fin.ext (show (c.val - 512) / 128 = c.val / 128 % 4 by omega)) (Fin.ext (show (c.val - 512) % 128 = c.val % 128 by omega))
    · rw [dif_neg (show ¬ c.val - 512 < 512 by omega), if_neg h2]
      by_cases h3 : c.val < 1536
      · rw [dif_pos (show c.val - 512 - 512 < 512 by omega), if_pos h3]
        exact congrArg₂ (fun p q => y3 (ix4 b T p q)) (Fin.ext (show (c.val - 512 - 512) / 128 = c.val / 128 % 4 by omega)) (Fin.ext (show (c.val - 512 - 512) % 128 = c.val % 128 by omega))
      · rw [dif_neg (show ¬ c.val - 512 - 512 < 512 by omega), if_neg h3]
        exact congrArg (fun z => y4 (ix3 b T z)) (Fin.ext (show 1536 + (c.val - 512 - 512 - 512) = c.val by omega))
end Cert.Reference3Ideal.Inp
end
-- ==== Proof.InpRefD.lean ====
module

public import proofs.«01_k».proof.Proof.InpRefA

@[expose] public section
set_option maxRecDepth 16384
noncomputable section
namespace Cert.Reference3Ideal.Inp
open Cert.Reference3Ideal Cert.Reference3Ideal.Read Idealize.ShloMosaic Idealize.ShloMosaic.TcCoe Idealize.SL.Sem
open Cert.Kernel3Ideal.Inp

variable (x0 : (⟨S4x4096x1024, .f32⟩ : BufTy).Contents (Elt Ideal)) (x1 : (⟨S4x256x1024, .f32⟩ : BufTy).Contents (Elt Ideal))
  (x2 : (⟨S8x6x1024, .f32⟩ : BufTy).Contents (Elt Ideal)) (x3 : (⟨S1x1024, .f32⟩ : BufTy).Contents (Elt Ideal))
  (x4 : (⟨S1024x4224, .bf16⟩ : BufTy).Contents (Elt Ideal)) (x5 : (⟨S1x5x1536, .f32⟩ : BufTy).Contents (Elt Ideal))
  (x6 x7 : (⟨S1x2x4, .f32⟩ : BufTy).Contents (Elt Ideal)) (x8 x9 : (⟨S4352x64, .f32⟩ : BufTy).Contents (Elt Ideal))
  (b : Fin 4)

/-! ## The reference's rotary block -/

/-- One head rotated in halves. -/
def ropeR (f : Fin 128 → EReal) (c s : Fin 64 → EReal) (e : Fin 128) : EReal :=
  if h : e.val < 64 then f ⟨e.val, by omega⟩ * c ⟨e.val, h⟩ - f ⟨64 + e.val, by omega⟩ * s ⟨e.val, h⟩
  else f ⟨e.val - 64, by omega⟩ * s ⟨e.val - 64, by omega⟩ + f ⟨64 + (e.val - 64), by omega⟩ * c ⟨e.val - 64, by omega⟩
theorem v167_at (T : Fin 4352) (h : Fin 4) (e : Fin 128) : val_main_v167 x0 x1 x2 x3 x4 (ix4 b T h e)
    = val_main_v54 x0 x1 x2 x3 x4 (ix3 b T ⟨2048 + 128 * h.val + e.val, by omega⟩) := by
  unfold val_main_v167 val_main_v57
  generalize val_main_v54 x0 x1 x2 x3 x4 = y
  pointwise
  refine congrArg (fun z => y (ix3 b T z)) (Fin.ext ?_)
  show 2048 + (h.val * 128 + e.val) = 2048 + 128 * h.val + e.val
  omega
theorem v183_at (T : Fin 4352) (h : Fin 4) (e : Fin 128) : val_main_v183 x0 x1 x2 x3 x4 (ix4 b T h e)
    = val_main_v54 x0 x1 x2 x3 x4 (ix3 b T ⟨2560 + 128 * h.val + e.val, by omega⟩) := by
  unfold val_main_v183 val_main_v58
  generalize val_main_v54 x0 x1 x2 x3 x4 = y
  pointwise
  refine congrArg (fun z => y (ix3 b T z)) (Fin.ext ?_)
  show 2560 + (h.val * 128 + e.val) = 2560 + 128 * h.val + e.val
  omega
theorem v176_at (T : Fin 4352) (h : Fin 4) (e : Fin 64) : val_main_v176 x0 x1 x2 x3 x4 x8 x9 (ix4 b T h e)
    = val_main_v167 x0 x1 x2 x3 x4 (ix4 b T h ⟨e.val, by omega⟩) * x8 (ix2 T e) - val_main_v167 x0 x1 x2 x3 x4 (ix4 b T h ⟨64 + e.val, by omega⟩) * x9 (ix2 T e) := by
  have e1 : idx_main_v170 (ix4 b T h e) = ix4 b T h ⟨e.val, by omega⟩ := funext fun a => match a with | ⟨0, _⟩ => rfl | ⟨1, _⟩ => rfl | ⟨2, _⟩ => rfl | ⟨3, _⟩ => rfl
  have e2 : idx_main_v171 (ix4 b T h e) = ix4 b T h ⟨64 + e.val, by omega⟩ := funext fun a => match a with | ⟨0, _⟩ => rfl | ⟨1, _⟩ => rfl | ⟨2, _⟩ => rfl | ⟨3, _⟩ => rfl
  have e3 : idx_main_v168 (idx_main_v172 (ix4 b T h e)) = ix2 T e := funext fun a => match a with | ⟨0, _⟩ => rfl | ⟨1, _⟩ => rfl
  have e4 : idx_main_v169 (idx_main_v174 (ix4 b T h e)) = ix2 T e := funext fun a => match a with | ⟨0, _⟩ => rfl | ⟨1, _⟩ => rfl
  rw [val_main_v176_apply, val_main_v173_apply, val_main_v175_apply, val_main_v170_apply, val_main_v171_apply, val_main_v172_apply, val_main_v174_apply, val_main_v168_apply, val_main_v169_apply, e1, e2, e3, e4]
  generalize val_main_v167 x0 x1 x2 x3 x4 = y
  rfl
theorem v181_at (T : Fin 4352) (h : Fin 4) (e : Fin 64) : val_main_v181 x0 x1 x2 x3 x4 x8 x9 (ix4 b T h e)
    = val_main_v167 x0 x1 x2 x3 x4 (ix4 b T h ⟨e.val, by omega⟩) * x9 (ix2 T e) + val_main_v167 x0 x1 x2 x3 x4 (ix4 b T h ⟨64 + e.val, by omega⟩) * x8 (ix2 T e) := by
  have e1 : idx_main_v170 (ix4 b T h e) = ix4 b T h ⟨e.val, by omega⟩ := funext fun a => match a with | ⟨0, _⟩ => rfl | ⟨1, _⟩ => rfl | ⟨2, _⟩ => rfl | ⟨3, _⟩ => rfl
  have e2 : idx_main_v171 (ix4 b T h e) = ix4 b T h ⟨64 + e.val, by omega⟩ := funext fun a => match a with | ⟨0, _⟩ => rfl | ⟨1, _⟩ => rfl | ⟨2, _⟩ => rfl | ⟨3, _⟩ => rfl
  have e3 : idx_main_v169 (idx_main_v177 (ix4 b T h e)) = ix2 T e := funext fun a => match a with | ⟨0, _⟩ => rfl | ⟨1, _⟩ => rfl
  have e4 : idx_main_v168 (idx_main_v179 (ix4 b T h e)) = ix2 T e := funext fun a => match a with | ⟨0, _⟩ => rfl | ⟨1, _⟩ => rfl
  rw [val_main_v181_apply, val_main_v178_apply, val_main_v180_apply, val_main_v170_apply, val_main_v171_apply, val_main_v177_apply, val_main_v179_apply, val_main_v169_apply, val_main_v168_apply, e1, e2, e3, e4]
  generalize val_main_v167 x0 x1 x2 x3 x4 = y
  rfl
theorem v182_at (T : Fin 4352) (h : Fin 4) (e : Fin 128) : val_main_v182 x0 x1 x2 x3 x4 x8 x9 (ix4 b T h e)
    = ropeR (fun e => val_main_v167 x0 x1 x2 x3 x4 (ix4 b T h e)) (fun e => x8 (ix2 T e)) (fun e => x9 (ix2 T e)) e := by
  have h1 := v176_at x0 x1 x2 x3 x4 x8 x9 b T h
  have h2 := v181_at x0 x1 x2 x3 x4 x8 x9 b T h
  unfold ropeR val_main_v182
  generalize val_main_v176 x0 x1 x2 x3 x4 x8 x9 = y1 at h1
  generalize val_main_v181 x0 x1 x2 x3 x4 x8 x9 = y2 at h2
  generalize val_main_v167 x0 x1 x2 x3 x4 = y at h1 h2
  pointwise
  by_cases hh : e.val < 64
  · rw [dif_pos hh, dif_pos hh, h1]
  · rw [dif_neg hh, dif_neg hh, h2]
theorem v192_at (T : Fin 4352) (h : Fin 4) (e : Fin 64) : val_main_v192 x0 x1 x2 x3 x4 x8 x9 (ix4 b T h e)
    = val_main_v183 x0 x1 x2 x3 x4 (ix4 b T h ⟨e.val, by omega⟩) * x8 (ix2 T e) - val_main_v183 x0 x1 x2 x3 x4 (ix4 b T h ⟨64 + e.val, by omega⟩) * x9 (ix2 T e) := by
  have e1 : idx_main_v186 (ix4 b T h e) = ix4 b T h ⟨e.val, by omega⟩ := funext fun a => match a with | ⟨0, _⟩ => rfl | ⟨1, _⟩ => rfl | ⟨2, _⟩ => rfl | ⟨3, _⟩ => rfl
  have e2 : idx_main_v187 (ix4 b T h e) = ix4 b T h ⟨64 + e.val, by omega⟩ := funext fun a => match a with | ⟨0, _⟩ => rfl | ⟨1, _⟩ => rfl | ⟨2, _⟩ => rfl | ⟨3, _⟩ => rfl
  have e3 : idx_main_v184 (idx_main_v188 (ix4 b T h e)) = ix2 T e := funext fun a => match a with | ⟨0, _⟩ => rfl | ⟨1, _⟩ => rfl
  have e4 : idx_main_v185 (idx_main_v190 (ix4 b T h e)) = ix2 T e := funext fun a => match a with | ⟨0, _⟩ => rfl | ⟨1, _⟩ => rfl
  rw [val_main_v192_apply, val_main_v189_apply, val_main_v191_apply, val_main_v186_apply, val_main_v187_apply, val_main_v188_apply, val_main_v190_apply, val_main_v184_apply, val_main_v185_apply, e1, e2, e3, e4]
  generalize val_main_v183 x0 x1 x2 x3 x4 = y
  rfl
theorem v197_at (T : Fin 4352) (h : Fin 4) (e : Fin 64) : val_main_v197 x0 x1 x2 x3 x4 x8 x9 (ix4 b T h e)
    = val_main_v183 x0 x1 x2 x3 x4 (ix4 b T h ⟨e.val, by omega⟩) * x9 (ix2 T e) + val_main_v183 x0 x1 x2 x3 x4 (ix4 b T h ⟨64 + e.val, by omega⟩) * x8 (ix2 T e) := by
  have e1 : idx_main_v186 (ix4 b T h e) = ix4 b T h ⟨e.val, by omega⟩ := funext fun a => match a with | ⟨0, _⟩ => rfl | ⟨1, _⟩ => rfl | ⟨2, _⟩ => rfl | ⟨3, _⟩ => rfl
  have e2 : idx_main_v187 (ix4 b T h e) = ix4 b T h ⟨64 + e.val, by omega⟩ := funext fun a => match a with | ⟨0, _⟩ => rfl | ⟨1, _⟩ => rfl | ⟨2, _⟩ => rfl | ⟨3, _⟩ => rfl
  have e3 : idx_main_v185 (idx_main_v193 (ix4 b T h e)) = ix2 T e := funext fun a => match a with | ⟨0, _⟩ => rfl | ⟨1, _⟩ => rfl
  have e4 : idx_main_v184 (idx_main_v195 (ix4 b T h e)) = ix2 T e := funext fun a => match a with | ⟨0, _⟩ => rfl | ⟨1, _⟩ => rfl
  rw [val_main_v197_apply, val_main_v194_apply, val_main_v196_apply, val_main_v186_apply, val_main_v187_apply, val_main_v193_apply, val_main_v195_apply, val_main_v185_apply, val_main_v184_apply, e1, e2, e3, e4]
  generalize val_main_v183 x0 x1 x2 x3 x4 = y
  rfl
theorem v198_at (T : Fin 4352) (h : Fin 4) (e : Fin 128) : val_main_v198 x0 x1 x2 x3 x4 x8 x9 (ix4 b T h e)
    = ropeR (fun e => val_main_v183 x0 x1 x2 x3 x4 (ix4 b T h e)) (fun e => x8 (ix2 T e)) (fun e => x9 (ix2 T e)) e := by
  have h1 := v192_at x0 x1 x2 x3 x4 x8 x9 b T h
  have h2 := v197_at x0 x1 x2 x3 x4 x8 x9 b T h
  unfold ropeR val_main_v198
  generalize val_main_v192 x0 x1 x2 x3 x4 x8 x9 = y1 at h1
  generalize val_main_v197 x0 x1 x2 x3 x4 x8 x9 = y2 at h2
  generalize val_main_v183 x0 x1 x2 x3 x4 = y at h1 h2
  pointwise
  by_cases hh : e.val < 64
  · rw [dif_pos hh, dif_pos hh, h1]
  · rw [dif_neg hh, dif_neg hh, h2]
theorem v203_at (T : Fin 4352) (c : Fin 2048) : val_main_v203 x0 x1 x2 x3 x4 x8 x9 (ix3 b T c)
    = if c.val < 512 then val_main_v182 x0 x1 x2 x3 x4 x8 x9 (ix4 b T ⟨c.val / 128 % 4, by omega⟩ ⟨c.val % 128, by omega⟩)
      else if c.val < 1024 then val_main_v198 x0 x1 x2 x3 x4 x8 x9 (ix4 b T ⟨c.val / 128 % 4, by omega⟩ ⟨c.val % 128, by omega⟩) * Ideal.ofBits .f32 0x3DB504F3#32
      else val_main_v54 x0 x1 x2 x3 x4 (ix3 b T ⟨2048 + c.val, by omega⟩) := by
  unfold val_main_v203 val_main_v201 val_main_v202 val_main_v200 val_main_v59 val_main_v60
  generalize val_main_v182 x0 x1 x2 x3 x4 x8 x9 = y1
  generalize val_main_v198 x0 x1 x2 x3 x4 x8 x9 = y2
  generalize val_main_v54 x0 x1 x2 x3 x4 = y4
  pointwise [val_main_v199, val_main_cst_13]
  by_cases h1 : c.val < 512
  · rw [dif_pos h1, if_pos h1]
    exact congrArg (fun z => y1 (ix4 b T z ⟨c.val % 128, by omega⟩)) (Fin.ext (show c.val / 128 = c.val / 128 % 4 by omega))
  · rw [dif_neg h1, if_neg h1]
    by_cases h2 : c.val < 1024
    · rw [dif_pos (show c.val - 512 < 512 by omega), if_pos h2]
      exact congrArg₂ (fun p q => y2 (ix4 b T p q) * Ideal.ofBits .f32 0x3DB504F3#32) (Fin.ext (show (c.val - 512) / 128 = c.val / 128 % 4 by omega)) (Fin.ext (show (c.val - 512) % 128 = c.val % 128 by omega))
    · rw [dif_neg (show ¬ c.val - 512 < 512 by omega), if_neg h2]
      by_cases h3 : c.val < 1536
      · rw [dif_pos (show c.val - 512 - 512 < 512 by omega)]
        exact congrArg (fun z => y4 (ix3 b T z)) (Fin.ext (show 3072 + (c.val - 512 - 512) = 2048 + c.val by omega))
      · rw [dif_neg (show ¬ c.val - 512 - 512 < 512 by omega)]
        exact congrArg (fun z => y4 (ix3 b T z)) (Fin.ext (show 3584 + (c.val - 512 - 512 - 512) = 2048 + c.val by omega))
end Cert.Reference3Ideal.Inp
end
-- ==== Proof.InpRefE.lean ====
module

public import proofs.«01_k».proof.Proof.InpRefA

@[expose] public section
set_option maxRecDepth 16384
noncomputable section
namespace Cert.Reference3Ideal.Inp
open Cert.Reference3Ideal Cert.Reference3Ideal.Read Idealize.ShloMosaic Idealize.ShloMosaic.TcCoe Idealize.SL.Sem
open Cert.Kernel3Ideal.Inp

variable (x0 : (⟨S4x4096x1024, .f32⟩ : BufTy).Contents (Elt Ideal)) (x1 : (⟨S4x256x1024, .f32⟩ : BufTy).Contents (Elt Ideal))
  (x2 : (⟨S8x6x1024, .f32⟩ : BufTy).Contents (Elt Ideal)) (x3 : (⟨S1x1024, .f32⟩ : BufTy).Contents (Elt Ideal))
  (x4 : (⟨S1024x4224, .bf16⟩ : BufTy).Contents (Elt Ideal)) (x5 : (⟨S1x5x1536, .f32⟩ : BufTy).Contents (Elt Ideal))
  (x6 x7 : (⟨S1x2x4, .f32⟩ : BufTy).Contents (Elt Ideal)) (x8 x9 : (⟨S4352x64, .f32⟩ : BufTy).Contents (Elt Ideal))
  (b : Fin 4)

/-! ## The reference's gates -/

theorem v212_at (T : Fin 4352) (l : Fin 8) : val_main_v212 x0 x1 x2 x3 x4 x7 (ix3 b T l)
    = val_main_v54 x0 x1 x2 x3 x4 (ix3 b T ⟨4096 + l.val, by omega⟩) + x7 (ix3 0 ⟨l.val / 4 % 2, by omega⟩ ⟨l.val % 4, by omega⟩) := by
  unfold val_main_v212 val_main_v61
  generalize val_main_v54 x0 x1 x2 x3 x4 = y
  pointwise [val_main_v211, val_main_v210, val_main_v209, val_main_v208]
  exact congrArg (fun z => y (ix3 b T ⟨4096 + l.val, by omega⟩) + x7 (ix3 0 z ⟨l.val % 4, by omega⟩)) (Fin.ext (show l.val / 4 = l.val / 4 % 2 by omega))
theorem v215_at (T : Fin 4352) (l : Fin 8) : val_main_v215 x6 (ix3 b T l)
    = -Ideal.exp (x6 (ix3 0 ⟨l.val / 4 % 2, by omega⟩ ⟨l.val % 4, by omega⟩)) := by
  pointwise [val_main_v215, val_main_v214, val_main_v207, val_main_v206, val_main_v205, val_main_v204]
  exact congrArg (fun z => -Ideal.exp (x6 (ix3 0 z ⟨l.val % 4, by omega⟩))) (Fin.ext (show l.val / 4 = l.val / 4 % 2 by omega))
theorem v213_at (T : Fin 4352) (l : Fin 8) : val_main_v213 x0 x1 x2 x3 x4 x7 (ix3 b T l)
    = max (val_main_v212 x0 x1 x2 x3 x4 x7 (ix3 b T l)) 0 + Ideal.log1p (Ideal.exp (0 - FloatOps.absf (F := Ideal) (φ := .f32) (val_main_v212 x0 x1 x2 x3 x4 x7 (ix3 b T l)))) := by
  unfold val_main_v213 val_main_call4_v11 val_main_call4_v10 val_main_call4_v9 val_main_call4_v8 val_main_call4_v7 val_main_call4_v6 val_main_call4_v4 val_main_call4_v3 val_main_call4_v1
  generalize val_main_v212 x0 x1 x2 x3 x4 x7 = y
  pointwise [val_main_call4_v0, val_main_call4_v2, val_main_call4_v5, val_main_call4_cst]
  rw [if_neg (fun h => h rfl), zero_sub]
theorem v217_at (ch : Fin 34) (s : Fin 128) (l : Fin 8) : val_main_v217 x0 x1 x2 x3 x4 x6 x7 (ix4 b ch s l)
    = val_main_v216 x0 x1 x2 x3 x4 x6 x7 (ix3 b ⟨128 * ch.val + s.val, by omega⟩ l) := by
  unfold val_main_v217
  generalize val_main_v216 x0 x1 x2 x3 x4 x6 x7 = y
  pointwise
  exact congrArg (fun z => y (ix3 b z l)) (Fin.ext (show ch.val * 128 + s.val = 128 * ch.val + s.val by omega))
theorem v219_at (r c : Fin 128) : val_main_v219 (F := Ideal) (ix2 r c) = if c.val ≤ r.val then 1 else 0 := by
  pointwise [val_main_v219, val_main_v218, val_main_cst_14, val_main_call5_v5, val_main_call5_cst, val_main_call5_v4, val_main_call5_v3, val_main_call5_v2, val_main_call5_v1, val_main_call5_v0, val_main_call5_c]
  have hm : IntOp.cmpi CmpIPredicate.sge (IntOp.addi (BitVec.ofNat 32 r.val) 0#32) (BitVec.ofNat 32 c.val) = BitVec.ofBool (decide (c.val ≤ r.val)) := by
    revert r c
    decide +kernel
  rw [hm]
  by_cases h : c.val ≤ r.val
  · rw [if_pos h, decide_eq_true h]
    rfl
  · rw [if_neg h, decide_eq_false h]
    rfl
theorem v223_at (T : Fin 4352) (l : Fin 4) : val_main_v223 x0 x1 x2 x3 x4 x6 x7 (ix3 b T l)
    = ∑ s : Fin 128, val_main_v217 x0 x1 x2 x3 x4 x6 x7 (ix4 b ⟨T.val / 128, by omega⟩ s ⟨l.val, by omega⟩) * (if s.val ≤ T.val % 128 then 1 else 0) := by
  have h := v219_at
  unfold val_main_v223 val_main_v222 val_main_v221 val_main_v220
  generalize val_main_v217 x0 x1 x2 x3 x4 x6 x7 = y
  generalize val_main_v219 (F := Ideal) = z at h
  pointwise
  simp only [h]
theorem v227_at (T : Fin 4352) (l : Fin 4) : val_main_v227 x0 x1 x2 x3 x4 x6 x7 (ix3 b T l)
    = ∑ s : Fin 128, val_main_v217 x0 x1 x2 x3 x4 x6 x7 (ix4 b ⟨T.val / 128, by omega⟩ s ⟨4 + l.val, by omega⟩) * (if T.val % 128 ≤ s.val then 1 else 0) := by
  have h := v219_at
  unfold val_main_v227 val_main_v226 val_main_v225 val_main_v224
  generalize val_main_v217 x0 x1 x2 x3 x4 x6 x7 = y
  generalize val_main_v219 (F := Ideal) = z at h
  pointwise
  simp only [h]
theorem v233_at (T : Fin 4352) (l : Fin 120) : val_main_v233 x0 x1 x2 x3 x4 (ix3 b T l)
    = Ideal.div 1 (1 + Ideal.exp (0 - val_main_v54 x0 x1 x2 x3 x4 (ix3 b T ⟨4104 + l.val, by omega⟩))) := by
  unfold val_main_v233 val_main_v231 val_main_v229 val_main_v228 val_main_v62
  generalize val_main_v54 x0 x1 x2 x3 x4 = y
  pointwise [val_main_v230, val_main_v232, val_main_cst_15, val_main_cst_16]
  rw [zero_sub]
theorem v234_at (T : Fin 4352) (l : Fin 128) : val_main_v234 x0 x1 x2 x3 x4 x6 x7 (ix3 b T l)
    = if h : l.val < 4 then val_main_v223 x0 x1 x2 x3 x4 x6 x7 (ix3 b T ⟨l.val, h⟩)
      else if h : l.val < 8 then val_main_v227 x0 x1 x2 x3 x4 x6 x7 (ix3 b T ⟨l.val - 4, by omega⟩)
      else val_main_v233 x0 x1 x2 x3 x4 (ix3 b T ⟨l.val - 8, by omega⟩) := by
  unfold val_main_v234
  generalize val_main_v223 x0 x1 x2 x3 x4 x6 x7 = y1
  generalize val_main_v227 x0 x1 x2 x3 x4 x6 x7 = y2
  generalize val_main_v233 x0 x1 x2 x3 x4 = y3
  pointwise
  by_cases h1 : l.val < 4
  · rw [dif_pos h1, dif_pos h1]
  · rw [dif_neg h1, dif_neg h1]
    by_cases h2 : l.val < 8
    · rw [dif_pos (show l.val - 4 < 4 by omega), dif_pos h2]
    · rw [dif_neg (show ¬ l.val - 4 < 4 by omega), dif_neg h2]
      exact congrArg (fun z => y3 (ix3 b T z)) (Fin.ext (show l.val - 4 - 4 = l.val - 8 by omega))
theorem v238_at (T : Fin 4352) (l : Fin 8) : val_main_v238 x0 x1 x2 x3 x4 x6 x7 (ix3 b l T) = val_main_v234 x0 x1 x2 x3 x4 x6 x7 (ix3 b T ⟨l.val, by omega⟩) := by
  unfold val_main_v238 val_main_v237
  generalize val_main_v234 x0 x1 x2 x3 x4 x6 x7 = y1
  pointwise
end Cert.Reference3Ideal.Inp
end
-- ==== Proof.InpRef.lean ====
module

public import proofs.«01_k».proof.Proof.InpRefB
public import proofs.«01_k».proof.Proof.InpRefC
public import proofs.«01_k».proof.Proof.InpRefD
public import proofs.«01_k».proof.Proof.InpRefE

@[expose] public section
set_option maxRecDepth 16384
noncomputable section
namespace Cert.Reference3Ideal.Inp
open Cert.Reference3Ideal Cert.Reference3Ideal.Read Idealize.ShloMosaic Idealize.ShloMosaic.TcCoe Idealize.SL.Sem
open Cert.Kernel3Ideal.Inp

variable (x0 : (⟨S4x4096x1024, .f32⟩ : BufTy).Contents (Elt Ideal)) (x1 : (⟨S4x256x1024, .f32⟩ : BufTy).Contents (Elt Ideal))
  (x2 : (⟨S8x6x1024, .f32⟩ : BufTy).Contents (Elt Ideal)) (x3 : (⟨S1x1024, .f32⟩ : BufTy).Contents (Elt Ideal))
  (x4 : (⟨S1024x4224, .bf16⟩ : BufTy).Contents (Elt Ideal)) (x5 : (⟨S1x5x1536, .f32⟩ : BufTy).Contents (Elt Ideal))
  (x6 x7 : (⟨S1x2x4, .f32⟩ : BufTy).Contents (Elt Ideal)) (x8 x9 : (⟨S4352x64, .f32⟩ : BufTy).Contents (Elt Ideal))
  (b : Fin 4)

/-! ## The reference's four results -/

theorem pg_at (T : Fin 4352) (c : Fin 2048) : val_main_v235 x0 x1 x2 x3 x4 x5 (ix3 b T c)
    = gPg (argsOf x0 x1 x2 x3 x4 x5 x6 x7 x8 x9) b T.val (c.val / 128) ⟨c.val % 128, Nat.mod_lt _ (by decide)⟩ := by
  have hs := v138_at x0 x1 x2 x3 x4 x5 x6 x7 x8 x9 b T
  have hp := v54_at x0 x1 x2 x3 x4 x5 x6 x7 x8 x9 b T
  refine Eq.trans (show _ = val_main_v166 x0 x1 x2 x3 x4 x5 (ix3 b T c) from rfl) ?_
  rw [v166_at]
  unfold gPg pgF
  by_cases h1 : c.val < 512
  · rw [if_pos h1, if_pos (show c.val / 128 < 4 by omega), v154_at]
    refine congrArg (fun f : Fin 128 → EReal => gL2 f ⟨c.val % 128, Nat.mod_lt _ (by decide)⟩ * Ideal.ofBits .f32 0x3DB504F3#32) (funext fun d => ?_)
    rw [v142_at, hs]
    exact congrArg (fun z => gSilu (gConv (argsOf x0 x1 x2 x3 x4 x5 x6 x7 x8 x9) b T.val z)) (show 128 * (c.val / 128 % 4) + d.val = 128 * (c.val / 128) + d.val by omega)
  · rw [if_neg h1, if_neg (show ¬ c.val / 128 < 4 by omega)]
    by_cases h2 : c.val < 1024
    · rw [if_pos h2, if_pos (show c.val / 128 < 8 by omega), v162_at]
      refine congrArg (fun f : Fin 128 → EReal => gL2 f ⟨c.val % 128, Nat.mod_lt _ (by decide)⟩) (funext fun d => ?_)
      rw [v143_at, hs]
      exact congrArg (fun z => gSilu (gConv (argsOf x0 x1 x2 x3 x4 x5 x6 x7 x8 x9) b T.val z)) (show 512 + 128 * (c.val / 128 % 4) + d.val = 128 * (c.val / 128) + d.val by omega)
    · rw [if_neg h2, if_neg (show ¬ c.val / 128 < 8 by omega)]
      by_cases h3 : c.val < 1536
      · rw [if_pos h3, if_pos (show c.val / 128 < 12 by omega), v144_at, hs]
        exact congrArg (fun z => gSilu (gConv (argsOf x0 x1 x2 x3 x4 x5 x6 x7 x8 x9) b T.val z)) (show 1024 + 128 * (c.val / 128 % 4) + c.val % 128 = 128 * (c.val / 128) + c.val % 128 by omega)
      · rw [if_neg h3, if_neg (show ¬ c.val / 128 < 12 by omega), hp]
        exact congrArg (gPrj (argsOf x0 x1 x2 x3 x4 x5 x6 x7 x8 x9) b T.val) (show c.val = 128 * (c.val / 128) + c.val % 128 by omega)

theorem rope_eq (T : Fin 4352) (f : Fin 128 → EReal) (e : Fin 128) :
    ropeR f (fun e => x8 (ix2 T e)) (fun e => x9 (ix2 T e)) e
    = f e * gCo (argsOf x0 x1 x2 x3 x4 x5 x6 x7 x8 x9) T.val e.val + f ⟨(e.val + 128 - 64) % 128, Nat.mod_lt _ (by decide)⟩ * gSi (argsOf x0 x1 x2 x3 x4 x5 x6 x7 x8 x9) T.val e.val := by
  have coE : ∀ e : Fin 64, (argsOf x0 x1 x2 x3 x4 x5 x6 x7 x8 x9).co T.val e.val = x8 (ix2 T e) := fun e =>
    congrArg₂ (fun p q => x8 (ix2 p q)) (Fin.ext (Nat.mod_eq_of_lt T.isLt)) (Fin.ext (Nat.mod_eq_of_lt e.isLt))
  have siE : ∀ e : Fin 64, (argsOf x0 x1 x2 x3 x4 x5 x6 x7 x8 x9).si T.val e.val = x9 (ix2 T e) := fun e =>
    congrArg₂ (fun p q => x9 (ix2 p q)) (Fin.ext (Nat.mod_eq_of_lt T.isLt)) (Fin.ext (Nat.mod_eq_of_lt e.isLt))
  unfold ropeR gCo gSi
  by_cases h : e.val < 64
  · have c1 : (argsOf x0 x1 x2 x3 x4 x5 x6 x7 x8 x9).co T.val e.val = x8 (ix2 T ⟨e.val, h⟩) := coE ⟨e.val, h⟩
    have s1 : (argsOf x0 x1 x2 x3 x4 x5 x6 x7 x8 x9).si T.val e.val = x9 (ix2 T ⟨e.val, h⟩) := siE ⟨e.val, h⟩
    have i1 : (⟨(e.val + 128 - 64) % 128, Nat.mod_lt _ (by decide)⟩ : Fin 128) = ⟨64 + e.val, by omega⟩ := Fin.ext (show (e.val + 128 - 64) % 128 = 64 + e.val by omega)
    rw [dif_pos h, if_pos h, if_pos h, c1, s1, i1, mul_neg, sub_eq_add_neg]
  · have c1 : (argsOf x0 x1 x2 x3 x4 x5 x6 x7 x8 x9).co T.val (e.val - 64) = x8 (ix2 T ⟨e.val - 64, by omega⟩) := coE ⟨e.val - 64, by omega⟩
    have s1 : (argsOf x0 x1 x2 x3 x4 x5 x6 x7 x8 x9).si T.val (e.val - 64) = x9 (ix2 T ⟨e.val - 64, by omega⟩) := siE ⟨e.val - 64, by omega⟩
    have i1 : (⟨(e.val + 128 - 64) % 128, Nat.mod_lt _ (by decide)⟩ : Fin 128) = ⟨e.val - 64, by omega⟩ := Fin.ext (show (e.val + 128 - 64) % 128 = e.val - 64 by omega)
    have i2 : (⟨64 + (e.val - 64), by omega⟩ : Fin 128) = e := Fin.ext (show 64 + (e.val - 64) = e.val by omega)
    rw [dif_neg h, if_neg h, if_neg h, c1, s1, i1, i2, add_comm]

theorem pr_at (T : Fin 4352) (c : Fin 2048) : val_main_v236 x0 x1 x2 x3 x4 x8 x9 (ix3 b T c)
    = gPr (argsOf x0 x1 x2 x3 x4 x5 x6 x7 x8 x9) b T.val (c.val / 128) ⟨c.val % 128, Nat.mod_lt _ (by decide)⟩ := by
  have hp := v54_at x0 x1 x2 x3 x4 x5 x6 x7 x8 x9 b T
  have hr := rope_eq x0 x1 x2 x3 x4 x5 x6 x7 x8 x9 T
  refine Eq.trans (show _ = val_main_v203 x0 x1 x2 x3 x4 x8 x9 (ix3 b T c) from rfl) ?_
  rw [v203_at]
  unfold gPr prF
  by_cases h1 : c.val < 512
  · rw [if_pos h1, if_pos (show c.val / 128 < 8 by omega), if_pos (show c.val / 128 < 4 by omega), v182_at, hr, v167_at, v167_at, hp, hp]
    have i0 : c.val / 128 % 4 = c.val / 128 := by omega
    beta_reduce
    dsimp only
    rw [i0]
  · rw [if_neg h1]
    by_cases h2 : c.val < 1024
    · rw [if_pos h2, if_pos (show c.val / 128 < 8 by omega), if_neg (show ¬ c.val / 128 < 4 by omega), v198_at, hr, v183_at, v183_at, hp, hp]
      have i0 : ∀ k : ℕ, 2560 + 128 * (c.val / 128 % 4) + k = 2048 + 128 * (c.val / 128) + k := fun k => by omega
      dsimp only
      rw [i0, i0]
    · rw [if_neg h2, if_neg (show ¬ c.val / 128 < 8 by omega), hp]
      exact congrArg (gPrj (argsOf x0 x1 x2 x3 x4 x5 x6 x7 x8 x9) b T.val) (show 2048 + c.val = 2048 + 128 * (c.val / 128) + c.val % 128 by omega)

theorem v216_at (T : Fin 4352) (l : Fin 8) : val_main_v216 x0 x1 x2 x3 x4 x6 x7 (ix3 b T l) = gGt (argsOf x0 x1 x2 x3 x4 x5 x6 x7 x8 x9) b T.val l.val := by
  have hp := v54_at x0 x1 x2 x3 x4 x5 x6 x7 x8 x9 b T
  refine (val_main_v216_apply x0 x1 x2 x3 x4 x6 x7 (ix3 b T l)).trans ?_
  rw [v215_at, v213_at, v212_at, hp]
  unfold gGt gtF gC0 gC1
  rw [if_pos l.isLt, if_pos l.isLt, if_pos l.isLt, zero_sub (Ideal.exp ((argsOf x0 x1 x2 x3 x4 x5 x6 x7 x8 x9).al l.val))]
  rfl

theorem g_at (T : Fin 4352) (l : Fin 128) : val_main_v234 x0 x1 x2 x3 x4 x6 x7 (ix3 b T l) = gGate (argsOf x0 x1 x2 x3 x4 x5 x6 x7 x8 x9) b T.val l.val := by
  have hp := v54_at x0 x1 x2 x3 x4 x5 x6 x7 x8 x9 b T
  rw [v234_at]
  unfold gGate
  by_cases h1 : l.val < 4
  · rw [dif_pos h1, if_pos h1, v223_at]
    refine Finset.sum_congr rfl fun s _ => ?_
    rw [v217_at, v216_at x0 x1 x2 x3 x4 x5 x6 x7 x8 x9, mul_comm]
    exact congrArg (fun z => (if s.val ≤ T.val % 128 then (1 : EReal) else 0) * gGt (argsOf x0 x1 x2 x3 x4 x5 x6 x7 x8 x9) b (z + s.val) l.val) (Nat.mul_comm 128 (T.val / 128))
  · rw [dif_neg h1, if_neg h1]
    by_cases h2 : l.val < 8
    · rw [dif_pos h2, if_pos h2, v227_at]
      refine Finset.sum_congr rfl fun s _ => ?_
      rw [v217_at, v216_at x0 x1 x2 x3 x4 x5 x6 x7 x8 x9, mul_comm]
      exact congrArg₂ (fun z w => (if T.val % 128 ≤ s.val then (1 : EReal) else 0) * gGt (argsOf x0 x1 x2 x3 x4 x5 x6 x7 x8 x9) b (z + s.val) w) (Nat.mul_comm 128 (T.val / 128)) (show 4 + (l.val - 4) = l.val by omega)
    · rw [dif_neg h2, if_neg h2, v233_at, hp]
      unfold gGt gtF
      rw [if_neg h2]
      exact congrArg (fun z => Ideal.div 1 (1 + Ideal.exp (0 - gPrj (argsOf x0 x1 x2 x3 x4 x5 x6 x7 x8 x9) b T.val z))) (show 4104 + (l.val - 8) = 4096 + l.val by omega)

theorem gt_at (T : Fin 4352) (l : Fin 8) : val_main_v238 x0 x1 x2 x3 x4 x6 x7 (ix3 b l T) = gGate (argsOf x0 x1 x2 x3 x4 x5 x6 x7 x8 x9) b T.val l.val :=
  (v238_at _ _ _ _ _ _ _ b T l).trans (g_at x0 x1 x2 x3 x4 x5 x6 x7 x8 x9 b T ⟨l.val, by omega⟩)

end Cert.Reference3Ideal.Inp
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.RetFrame
public import proofs.«01_k».proof.Proof.RetArr
public import proofs.«01_k».proof.Proof.RetRefVal
public import proofs.«01_k».proof.Proof.RetPre
public import proofs.«01_k».proof.Proof.FfnVal
public import proofs.«01_k».proof.Proof.FfnRef
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.InpArr
public import proofs.«01_k».proof.Proof.InpRef
public import Idealize.ShloMosaic.Adequacy
public import Idealize.ShloMosaic.Init
public import Idealize.ShloMosaic.Lib.Claim

@[expose] public section

noncomputable section

namespace Cert.Proof

open Idealize.ShloMosaic Idealize.SL.Sem

/-- The two feed-forward programs compute the same array over the extended reals. -/
theorem ffn_algebraic : Cert.algebraic_Kernel2Ideal_Reference2Ideal := by
  intro m g m' g' _ hag
  refine ⟨fun c => Cert.Kernel2Ideal.Ffn.outG m c, ?_, ?_⟩
  · refine (θ_run Cert.Kernel2Ideal.defs _ _).mono (fun r h c => ?_) (Cert.Kernel2Ideal.Value.run_blocks m g)
    obtain ⟨h1, h2⟩ := h c
    exact ⟨h1.trans (Cert.Kernel2Ideal.Ffn.arr_eq m c), h2⟩
  · refine (θ_run Cert.Reference2Ideal.defs _ _).mono (fun r h c => ?_) (Cert.Reference2Ideal.Value.run m' g')
    obtain ⟨h1, h2⟩ := h c
    refine ⟨h1.trans ?_, h2⟩
    rw [Cert.Reference2Ideal.Read.val_main_v62_eq]
    obtain ⟨e0, e1, e2, e3, e4, e5, e6, e7, e8⟩ := hag c
    rw [e0, e1, e2, e3, e4, e5, e6, e7, e8]
    funext i
    rw [← ix3_eta i]
    exact Cert.Reference2Ideal.Ffn.out_at _ _ _ _ _ _ _ _ _ (i 0) (i 1) (i 2)

/-- The two in-projection programs start from the same arguments. -/
abbrev InpSame (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD) : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0) ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1) ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2) ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3) ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4) ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5) ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6) ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7) ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8) ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)

section
variable (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD) (h : InpSame m m' c)
include h
theorem ref_pg : Cert.Reference3Ideal.Read.val_main_v235 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) = Cert.Kernel3Ideal.Inp.outPg m c := by
  obtain ⟨e0, e1, e2, e3, e4, e5, e6, e7, e8, e9⟩ := h
  rw [e0, e1, e2, e3, e4, e5]
  funext i
  rw [← ix3_eta i]
  exact Cert.Reference3Ideal.Inp.pg_at (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (i 0) (i 1) (i 2)
theorem ref_pr : Cert.Reference3Ideal.Read.val_main_v236 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) = Cert.Kernel3Ideal.Inp.outPr m c := by
  obtain ⟨e0, e1, e2, e3, e4, e5, e6, e7, e8, e9⟩ := h
  rw [e0, e1, e2, e3, e4, e8, e9]
  funext i
  rw [← ix3_eta i]
  exact Cert.Reference3Ideal.Inp.pr_at (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (i 0) (i 1) (i 2)
theorem ref_g : Cert.Reference3Ideal.Read.val_main_v234 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) = Cert.Kernel3Ideal.Inp.outG m c := by
  obtain ⟨e0, e1, e2, e3, e4, e5, e6, e7, e8, e9⟩ := h
  rw [e0, e1, e2, e3, e4, e6, e7]
  funext i
  rw [← ix3_eta i]
  exact Cert.Reference3Ideal.Inp.g_at (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (i 0) (i 1) (i 2)
theorem ref_gt : Cert.Reference3Ideal.Read.val_main_v238 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) = Cert.Kernel3Ideal.Inp.outGT m c := by
  obtain ⟨e0, e1, e2, e3, e4, e5, e6, e7, e8, e9⟩ := h
  rw [e0, e1, e2, e3, e4, e6, e7]
  funext i
  rw [← ix3_eta i]
  exact Cert.Reference3Ideal.Inp.gt_at (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (i 0) (i 2) (i 1)
end

/-- The two in-projection programs compute the same four arrays over the extended reals. -/
theorem inp_algebraic : Cert.algebraic_Kernel3Ideal_Reference3Ideal := by
  intro m g m' g' _ hag
  refine ⟨fun c => Cert.Kernel3Ideal.Inp.outPg m c, fun c => Cert.Kernel3Ideal.Inp.outPr m c, fun c => Cert.Kernel3Ideal.Inp.outG m c, fun c => Cert.Kernel3Ideal.Inp.outGT m c, ?_, ?_⟩
  · refine (θ_run Cert.Kernel3Ideal.defs _ _).mono (fun r h c => ?_) (Cert.Kernel3Ideal.Value.run_blocks m g)
    obtain ⟨h1, h2, h3, h4, h5⟩ := h c
    exact ⟨h1.trans (Cert.Kernel3Ideal.Inp.arr12 m c), h2.trans (Cert.Kernel3Ideal.Inp.arr13 m c), h3.trans (Cert.Kernel3Ideal.Inp.arr14 m c), h4.trans (Cert.Kernel3Ideal.Inp.arr15 m c), h5⟩
  · refine (θ_run Cert.Reference3Ideal.defs _ _).mono (fun r h c => ?_) (Cert.Reference3Ideal.Value.run m' g')
    obtain ⟨h1, h2, h3, h4, h5⟩ := h c
    refine ⟨h1.trans ?_, h2.trans ?_, h3.trans ?_, h4.trans ?_, h5⟩
    · exact ref_pg m m' c (hag c)
    · exact ref_pr m m' c (hag c)
    · exact ref_g m m' c (hag c)
    · exact ref_gt m m' c (hag c)

instance : Cert.Pre_qkv_finite.Facts := Cert.Pre_qkv_finite.holds

/-- The two retention programs compute the same array over the extended reals, from query, key and value columns that are real numbers. -/
theorem ret_algebraic : Cert.algebraic_KernelIdeal_ReferenceIdeal_pre_qkv_finite := by
  intro m g m' g' hpre hag
  have hp : ∀ c, Cert.RetMath.Fin3 (Cert.KernelIdeal.Ret.aP m c) := fun c => Cert.Pre_qkv_finite.fin3_of _ _ _ (hpre c)
  have e : ∀ c, Cert.ReferenceIdeal.Ret.A0 m' c = m ((c.tc : Thread Cert.KernelIdeal.nD Cert.KernelIdeal.τ).loc Cert.KernelIdeal.main_arg0)
      ∧ Cert.ReferenceIdeal.Ret.A1 m' c = m ((c.tc : Thread Cert.KernelIdeal.nD Cert.KernelIdeal.τ).loc Cert.KernelIdeal.main_arg1)
      ∧ Cert.ReferenceIdeal.Ret.A2 m' c = m ((c.tc : Thread Cert.KernelIdeal.nD Cert.KernelIdeal.τ).loc Cert.KernelIdeal.main_arg2) := fun c => hag c
  have hp' : ∀ c, Cert.RetMath.Fin3 (Cert.ReferenceIdeal.Ret.rP (Cert.ReferenceIdeal.Ret.A0 m' c)) := fun c => by
    rw [(e c).1]
    exact hp c
  refine ⟨fun c => Cert.KernelIdeal.Ret.outG m c, Cert.KernelIdeal.Ret.run_value m g hp, ?_⟩
  refine (θ_run Cert.ReferenceIdeal.defs _ _).mono (fun r h c => ?_) (Cert.ReferenceIdeal.Ret.run_value m' g' hp')
  obtain ⟨h1, h2⟩ := h c
  refine ⟨h1.trans ?_, h2⟩
  rw [(e c).1, (e c).2.1, (e c).2.2]
  rfl

/-- The two prints of the retention kernel have one body table. -/
theorem ret_defs : Cert.Kernel.defs (F := Bits) = Cert.KernelIdeal.defs (F := Bits) := by
  have h : Cert.Kernel.defs₀ (F := Bits) = Cert.KernelIdeal.defs₀ (F := Bits) := by
    unfold Cert.Kernel.defs₀ Cert.KernelIdeal.defs₀
    refine congrArg Defs.onTc ?_
    funext l x
    match l, x with
    | 0, (t, s) => rfl
  unfold Cert.Kernel.defs
  rw [h]
  rfl

/-- The two prints of the feed-forward kernel have one body table. -/
theorem ffn_defs : Cert.Kernel2.defs (F := Bits) = Cert.Kernel2Ideal.defs (F := Bits) := by
  have h : Cert.Kernel2.defs₀ (F := Bits) = Cert.Kernel2Ideal.defs₀ (F := Bits) := by
    unfold Cert.Kernel2.defs₀ Cert.Kernel2Ideal.defs₀
    refine congrArg Defs.onTc ?_
    funext l x
    match l, x with
    | 0, (t, s) => rfl
  unfold Cert.Kernel2.defs
  rw [h]
  rfl

set_option maxHeartbeats 4000000 in
/-- The two prints of the in-projection kernel have one body table. -/
theorem inp_defs : Cert.Kernel3.defs (F := Bits) = Cert.Kernel3Ideal.defs (F := Bits) := by
  have h : Cert.Kernel3.defs₀ (F := Bits) = Cert.Kernel3Ideal.defs₀ (F := Bits) := by
    unfold Cert.Kernel3.defs₀ Cert.Kernel3Ideal.defs₀
    refine congrArg Defs.onTc ?_
    funext l x
    match l, x with
    | 0, (t, s) => rfl
  unfold Cert.Kernel3.defs
  rw [h]
  rfl

theorem ret_frame : Cert.quiescent_Kernel := fun m ρ _ => by
  rw [ret_defs]
  exact Cert.KernelIdeal.Ret.frame (F := Bits) m ρ

theorem ffn_frame : Cert.quiescent_Kernel2 := fun m ρ _ => by
  rw [ffn_defs]
  exact Cert.Kernel2Ideal.Gen.frame (F := Bits) m ρ

set_option maxHeartbeats 8000000 in
theorem inp_frame : Cert.quiescent_Kernel3 := fun m ρ _ => by
  rw [inp_defs]
  exact Cert.Kernel3Ideal.Gen.frame (F := Bits) m ρ

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_qkv_finite.holds,
  ret_frame,
  fun m ρ _ => Cert.KernelIdeal.Ret.frame m ρ,
  fun m ρ _ => Cert.KernelIdeal.Ret.frame m ρ,
  fun m ρ _ => Cert.ReferenceIdeal.Ret.frame m ρ,
  fun m ρ _ => Cert.ReferenceIdeal.Ret.frame m ρ,
  ffn_frame,
  fun m ρ _ => Cert.Kernel2Ideal.Gen.frame m ρ,
  fun m ρ _ => (θ_run Cert.Reference2Ideal.defs _ _).mono (fun r h => ⟨fun c => (h c).2, sem_eq_zero_of_no_sems (by decide) r.2⟩) (Cert.Reference2Ideal.Value.run m ρ),
  inp_frame,
  fun m ρ _ => Cert.Kernel3Ideal.Gen.frame m ρ,
  fun m ρ _ => (θ_run Cert.Reference3Ideal.defs _ _).mono (fun r h => ⟨fun c => (h c).2.2.2.2, sem_eq_zero_of_no_sems (by decide) r.2⟩) (Cert.Reference3Ideal.Value.run m ρ),
  trivial, ret_algebraic, trivial, ffn_algebraic, trivial, inp_algebraic⟩

end Cert.Proof

end
